-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite [hPre_finite : Cert.Pre_finite.Facts] (m : (ℓ : Loc Cert.MixIdeal.nD Cert.MixIdeal.τ Cert.MixIdeal.sig) → Buf (Elt Ideal) ℓ) : Prop :=
  ∀ c : Dev Cert.MixIdeal.nD,
    (Cert.Pre_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite [hPre_finite : Cert.Pre_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14))) = (fun _ => 1#1)

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_CastIn (m : (ℓ : Loc Cert.CastIn.nD Cert.CastIn.τ Cert.CastIn.sig) → Buf (Elt Bits) ℓ) : Prop :=
  True

def Pre_CastInIdeal (m : (ℓ : Loc Cert.CastInIdeal.nD Cert.CastInIdeal.τ Cert.CastInIdeal.sig) → Buf (Elt Ideal) ℓ) : Prop :=
  True

def Pre_CastInRefIdeal (m : (ℓ : Loc Cert.CastInRefIdeal.nD Cert.CastInRefIdeal.τ Cert.CastInRefIdeal.sig) → Buf (Elt Ideal) ℓ) : Prop :=
  True

def Pre_CastOut (m : (ℓ : Loc Cert.CastOut.nD Cert.CastOut.τ Cert.CastOut.sig) → Buf (Elt Bits) ℓ) : Prop :=
  True

def Pre_CastOutIdeal (m : (ℓ : Loc Cert.CastOutIdeal.nD Cert.CastOutIdeal.τ Cert.CastOutIdeal.sig) → Buf (Elt Ideal) ℓ) : Prop :=
  True

def Pre_CastOutRefIdeal (m : (ℓ : Loc Cert.CastOutRefIdeal.nD Cert.CastOutRefIdeal.τ Cert.CastOutRefIdeal.sig) → Buf (Elt Ideal) ℓ) : Prop :=
  True

def Pre_AddIn0 [hPre_half_addin0 : Cert.Pre_half_addin0.Facts] (m : (ℓ : Loc Cert.AddIn0.nD Cert.AddIn0.τ Cert.AddIn0.sig) → Buf (Elt Bits) ℓ) : Prop :=
  ∀ c : Dev Cert.AddIn0.nD,
    (Cert.Pre_half_addin0.fn (F := Bits) (m ((c.tc : Thread Cert.AddIn0.nD Cert.AddIn0.τ).loc Cert.AddIn0.main_arg0)) (m ((c.tc : Thread Cert.AddIn0.nD Cert.AddIn0.τ).loc Cert.AddIn0.main_arg1)) (m ((c.tc : Thread Cert.AddIn0.nD Cert.AddIn0.τ).loc Cert.AddIn0.main_arg2))) = (fun _ => 1#1)

def Pre_AddIn0Ideal [hPre_half_addin0 : Cert.Pre_half_addin0.Facts] (m : (ℓ : Loc Cert.AddIn0Ideal.nD Cert.AddIn0Ideal.τ Cert.AddIn0Ideal.sig) → Buf (Elt Ideal) ℓ) : Prop :=
  ∀ c : Dev Cert.AddIn0Ideal.nD,
    (Cert.Pre_half_addin0.fn (F := Ideal) (m ((c.tc : Thread Cert.AddIn0Ideal.nD Cert.AddIn0Ideal.τ).loc Cert.AddIn0Ideal.main_arg0)) (m ((c.tc : Thread Cert.AddIn0Ideal.nD Cert.AddIn0Ideal.τ).loc Cert.AddIn0Ideal.main_arg1)) (m ((c.tc : Thread Cert.AddIn0Ideal.nD Cert.AddIn0Ideal.τ).loc Cert.AddIn0Ideal.main_arg2))) = (fun _ => 1#1)

def Pre_AddIn0RefIdeal (m : (ℓ : Loc Cert.AddIn0RefIdeal.nD Cert.AddIn0RefIdeal.τ Cert.AddIn0RefIdeal.sig) → Buf (Elt Ideal) ℓ) : Prop :=
  True

def Pre_AddIn0RefIdeal_half_addin0 [hPre_half_addin0 : Cert.Pre_half_addin0.Facts] (m : (ℓ : Loc Cert.AddIn0RefIdeal.nD Cert.AddIn0RefIdeal.τ Cert.AddIn0RefIdeal.sig) → Buf (Elt Ideal) ℓ) : Prop :=
  ∀ c : Dev Cert.AddIn0RefIdeal.nD,
    (Cert.Pre_half_addin0.fn (F := Ideal) (m ((c.tc : Thread Cert.AddIn0RefIdeal.nD Cert.AddIn0RefIdeal.τ).loc Cert.AddIn0RefIdeal.main_arg0)) (m ((c.tc : Thread Cert.AddIn0RefIdeal.nD Cert.AddIn0RefIdeal.τ).loc Cert.AddIn0RefIdeal.main_arg1)) (m ((c.tc : Thread Cert.AddIn0RefIdeal.nD Cert.AddIn0RefIdeal.τ).loc Cert.AddIn0RefIdeal.main_arg2))) = (fun _ => 1#1)

def Pre_AddIn1 [hPre_half_addin1 : Cert.Pre_half_addin1.Facts] (m : (ℓ : Loc Cert.AddIn1.nD Cert.AddIn1.τ Cert.AddIn1.sig) → Buf (Elt Bits) ℓ) : Prop :=
  ∀ c : Dev Cert.AddIn1.nD,
    (Cert.Pre_half_addin1.fn (F := Bits) (m ((c.tc : Thread Cert.AddIn1.nD Cert.AddIn1.τ).loc Cert.AddIn1.main_arg0)) (m ((c.tc : Thread Cert.AddIn1.nD Cert.AddIn1.τ).loc Cert.AddIn1.main_arg1)) (m ((c.tc : Thread Cert.AddIn1.nD Cert.AddIn1.τ).loc Cert.AddIn1.main_arg2))) = (fun _ => 1#1)

def Pre_AddIn1Ideal [hPre_half_addin1 : Cert.Pre_half_addin1.Facts] (m : (ℓ : Loc Cert.AddIn1Ideal.nD Cert.AddIn1Ideal.τ Cert.AddIn1Ideal.sig) → Buf (Elt Ideal) ℓ) : Prop :=
  ∀ c : Dev Cert.AddIn1Ideal.nD,
    (Cert.Pre_half_addin1.fn (F := Ideal) (m ((c.tc : Thread Cert.AddIn1Ideal.nD Cert.AddIn1Ideal.τ).loc Cert.AddIn1Ideal.main_arg0)) (m ((c.tc : Thread Cert.AddIn1Ideal.nD Cert.AddIn1Ideal.τ).loc Cert.AddIn1Ideal.main_arg1)) (m ((c.tc : Thread Cert.AddIn1Ideal.nD Cert.AddIn1Ideal.τ).loc Cert.AddIn1Ideal.main_arg2))) = (fun _ => 1#1)

def Pre_AddIn1RefIdeal (m : (ℓ : Loc Cert.AddIn1RefIdeal.nD Cert.AddIn1RefIdeal.τ Cert.AddIn1RefIdeal.sig) → Buf (Elt Ideal) ℓ) : Prop :=
  True

def Pre_AddIn1RefIdeal_half_addin1 [hPre_half_addin1 : Cert.Pre_half_addin1.Facts] (m : (ℓ : Loc Cert.AddIn1RefIdeal.nD Cert.AddIn1RefIdeal.τ Cert.AddIn1RefIdeal.sig) → Buf (Elt Ideal) ℓ) : Prop :=
  ∀ c : Dev Cert.AddIn1RefIdeal.nD,
    (Cert.Pre_half_addin1.fn (F := Ideal) (m ((c.tc : Thread Cert.AddIn1RefIdeal.nD Cert.AddIn1RefIdeal.τ).loc Cert.AddIn1RefIdeal.main_arg0)) (m ((c.tc : Thread Cert.AddIn1RefIdeal.nD Cert.AddIn1RefIdeal.τ).loc Cert.AddIn1RefIdeal.main_arg1)) (m ((c.tc : Thread Cert.AddIn1RefIdeal.nD Cert.AddIn1RefIdeal.τ).loc Cert.AddIn1RefIdeal.main_arg2))) = (fun _ => 1#1)

def Pre_AddIn2 [hPre_half_addin2 : Cert.Pre_half_addin2.Facts] (m : (ℓ : Loc Cert.AddIn2.nD Cert.AddIn2.τ Cert.AddIn2.sig) → Buf (Elt Bits) ℓ) : Prop :=
  ∀ c : Dev Cert.AddIn2.nD,
    (Cert.Pre_half_addin2.fn (F := Bits) (m ((c.tc : Thread Cert.AddIn2.nD Cert.AddIn2.τ).loc Cert.AddIn2.main_arg0)) (m ((c.tc : Thread Cert.AddIn2.nD Cert.AddIn2.τ).loc Cert.AddIn2.main_arg1)) (m ((c.tc : Thread Cert.AddIn2.nD Cert.AddIn2.τ).loc Cert.AddIn2.main_arg2))) = (fun _ => 1#1)

def Pre_AddIn2Ideal [hPre_half_addin2 : Cert.Pre_half_addin2.Facts] (m : (ℓ : Loc Cert.AddIn2Ideal.nD Cert.AddIn2Ideal.τ Cert.AddIn2Ideal.sig) → Buf (Elt Ideal) ℓ) : Prop :=
  ∀ c : Dev Cert.AddIn2Ideal.nD,
    (Cert.Pre_half_addin2.fn (F := Ideal) (m ((c.tc : Thread Cert.AddIn2Ideal.nD Cert.AddIn2Ideal.τ).loc Cert.AddIn2Ideal.main_arg0)) (m ((c.tc : Thread Cert.AddIn2Ideal.nD Cert.AddIn2Ideal.τ).loc Cert.AddIn2Ideal.main_arg1)) (m ((c.tc : Thread Cert.AddIn2Ideal.nD Cert.AddIn2Ideal.τ).loc Cert.AddIn2Ideal.main_arg2))) = (fun _ => 1#1)

def Pre_AddIn2RefIdeal (m : (ℓ : Loc Cert.AddIn2RefIdeal.nD Cert.AddIn2RefIdeal.τ Cert.AddIn2RefIdeal.sig) → Buf (Elt Ideal) ℓ) : Prop :=
  True

def Pre_AddIn2RefIdeal_half_addin2 [hPre_half_addin2 : Cert.Pre_half_addin2.Facts] (m : (ℓ : Loc Cert.AddIn2RefIdeal.nD Cert.AddIn2RefIdeal.τ Cert.AddIn2RefIdeal.sig) → Buf (Elt Ideal) ℓ) : Prop :=
  ∀ c : Dev Cert.AddIn2RefIdeal.nD,
    (Cert.Pre_half_addin2.fn (F := Ideal) (m ((c.tc : Thread Cert.AddIn2RefIdeal.nD Cert.AddIn2RefIdeal.τ).loc Cert.AddIn2RefIdeal.main_arg0)) (m ((c.tc : Thread Cert.AddIn2RefIdeal.nD Cert.AddIn2RefIdeal.τ).loc Cert.AddIn2RefIdeal.main_arg1)) (m ((c.tc : Thread Cert.AddIn2RefIdeal.nD Cert.AddIn2RefIdeal.τ).loc Cert.AddIn2RefIdeal.main_arg2))) = (fun _ => 1#1)

def Pre_AddOut0 [hPre_half_addout0 : Cert.Pre_half_addout0.Facts] (m : (ℓ : Loc Cert.AddOut0.nD Cert.AddOut0.τ Cert.AddOut0.sig) → Buf (Elt Bits) ℓ) : Prop :=
  ∀ c : Dev Cert.AddOut0.nD,
    (Cert.Pre_half_addout0.fn (F := Bits) (m ((c.tc : Thread Cert.AddOut0.nD Cert.AddOut0.τ).loc Cert.AddOut0.main_arg0)) (m ((c.tc : Thread Cert.AddOut0.nD Cert.AddOut0.τ).loc Cert.AddOut0.main_arg1)) (m ((c.tc : Thread Cert.AddOut0.nD Cert.AddOut0.τ).loc Cert.AddOut0.main_arg2))) = (fun _ => 1#1)

def Pre_AddOut0Ideal [hPre_half_addout0 : Cert.Pre_half_addout0.Facts] (m : (ℓ : Loc Cert.AddOut0Ideal.nD Cert.AddOut0Ideal.τ Cert.AddOut0Ideal.sig) → Buf (Elt Ideal) ℓ) : Prop :=
  ∀ c : Dev Cert.AddOut0Ideal.nD,
    (Cert.Pre_half_addout0.fn (F := Ideal) (m ((c.tc : Thread Cert.AddOut0Ideal.nD Cert.AddOut0Ideal.τ).loc Cert.AddOut0Ideal.main_arg0)) (m ((c.tc : Thread Cert.AddOut0Ideal.nD Cert.AddOut0Ideal.τ).loc Cert.AddOut0Ideal.main_arg1)) (m ((c.tc : Thread Cert.AddOut0Ideal.nD Cert.AddOut0Ideal.τ).loc Cert.AddOut0Ideal.main_arg2))) = (fun _ => 1#1)

def Pre_AddOut0RefIdeal (m : (ℓ : Loc Cert.AddOut0RefIdeal.nD Cert.AddOut0RefIdeal.τ Cert.AddOut0RefIdeal.sig) → Buf (Elt Ideal) ℓ) : Prop :=
  True

def Pre_AddOut0RefIdeal_half_addout0 [hPre_half_addout0 : Cert.Pre_half_addout0.Facts] (m : (ℓ : Loc Cert.AddOut0RefIdeal.nD Cert.AddOut0RefIdeal.τ Cert.AddOut0RefIdeal.sig) → Buf (Elt Ideal) ℓ) : Prop :=
  ∀ c : Dev Cert.AddOut0RefIdeal.nD,
    (Cert.Pre_half_addout0.fn (F := Ideal) (m ((c.tc : Thread Cert.AddOut0RefIdeal.nD Cert.AddOut0RefIdeal.τ).loc Cert.AddOut0RefIdeal.main_arg0)) (m ((c.tc : Thread Cert.AddOut0RefIdeal.nD Cert.AddOut0RefIdeal.τ).loc Cert.AddOut0RefIdeal.main_arg1)) (m ((c.tc : Thread Cert.AddOut0RefIdeal.nD Cert.AddOut0RefIdeal.τ).loc Cert.AddOut0RefIdeal.main_arg2))) = (fun _ => 1#1)

def Pre_AddOut1 [hPre_half_addout1 : Cert.Pre_half_addout1.Facts] (m : (ℓ : Loc Cert.AddOut1.nD Cert.AddOut1.τ Cert.AddOut1.sig) → Buf (Elt Bits) ℓ) : Prop :=
  ∀ c : Dev Cert.AddOut1.nD,
    (Cert.Pre_half_addout1.fn (F := Bits) (m ((c.tc : Thread Cert.AddOut1.nD Cert.AddOut1.τ).loc Cert.AddOut1.main_arg0)) (m ((c.tc : Thread Cert.AddOut1.nD Cert.AddOut1.τ).loc Cert.AddOut1.main_arg1)) (m ((c.tc : Thread Cert.AddOut1.nD Cert.AddOut1.τ).loc Cert.AddOut1.main_arg2))) = (fun _ => 1#1)

def Pre_AddOut1Ideal [hPre_half_addout1 : Cert.Pre_half_addout1.Facts] (m : (ℓ : Loc Cert.AddOut1Ideal.nD Cert.AddOut1Ideal.τ Cert.AddOut1Ideal.sig) → Buf (Elt Ideal) ℓ) : Prop :=
  ∀ c : Dev Cert.AddOut1Ideal.nD,
    (Cert.Pre_half_addout1.fn (F := Ideal) (m ((c.tc : Thread Cert.AddOut1Ideal.nD Cert.AddOut1Ideal.τ).loc Cert.AddOut1Ideal.main_arg0)) (m ((c.tc : Thread Cert.AddOut1Ideal.nD Cert.AddOut1Ideal.τ).loc Cert.AddOut1Ideal.main_arg1)) (m ((c.tc : Thread Cert.AddOut1Ideal.nD Cert.AddOut1Ideal.τ).loc Cert.AddOut1Ideal.main_arg2))) = (fun _ => 1#1)

def Pre_AddOut1RefIdeal (m : (ℓ : Loc Cert.AddOut1RefIdeal.nD Cert.AddOut1RefIdeal.τ Cert.AddOut1RefIdeal.sig) → Buf (Elt Ideal) ℓ) : Prop :=
  True

def Pre_AddOut1RefIdeal_half_addout1 [hPre_half_addout1 : Cert.Pre_half_addout1.Facts] (m : (ℓ : Loc Cert.AddOut1RefIdeal.nD Cert.AddOut1RefIdeal.τ Cert.AddOut1RefIdeal.sig) → Buf (Elt Ideal) ℓ) : Prop :=
  ∀ c : Dev Cert.AddOut1RefIdeal.nD,
    (Cert.Pre_half_addout1.fn (F := Ideal) (m ((c.tc : Thread Cert.AddOut1RefIdeal.nD Cert.AddOut1RefIdeal.τ).loc Cert.AddOut1RefIdeal.main_arg0)) (m ((c.tc : Thread Cert.AddOut1RefIdeal.nD Cert.AddOut1RefIdeal.τ).loc Cert.AddOut1RefIdeal.main_arg1)) (m ((c.tc : Thread Cert.AddOut1RefIdeal.nD Cert.AddOut1RefIdeal.τ).loc Cert.AddOut1RefIdeal.main_arg2))) = (fun _ => 1#1)

def Pre_AddOut2 [hPre_half_addout2 : Cert.Pre_half_addout2.Facts] (m : (ℓ : Loc Cert.AddOut2.nD Cert.AddOut2.τ Cert.AddOut2.sig) → Buf (Elt Bits) ℓ) : Prop :=
  ∀ c : Dev Cert.AddOut2.nD,
    (Cert.Pre_half_addout2.fn (F := Bits) (m ((c.tc : Thread Cert.AddOut2.nD Cert.AddOut2.τ).loc Cert.AddOut2.main_arg0)) (m ((c.tc : Thread Cert.AddOut2.nD Cert.AddOut2.τ).loc Cert.AddOut2.main_arg1)) (m ((c.tc : Thread Cert.AddOut2.nD Cert.AddOut2.τ).loc Cert.AddOut2.main_arg2))) = (fun _ => 1#1)

def Pre_AddOut2Ideal [hPre_half_addout2 : Cert.Pre_half_addout2.Facts] (m : (ℓ : Loc Cert.AddOut2Ideal.nD Cert.AddOut2Ideal.τ Cert.AddOut2Ideal.sig) → Buf (Elt Ideal) ℓ) : Prop :=
  ∀ c : Dev Cert.AddOut2Ideal.nD,
    (Cert.Pre_half_addout2.fn (F := Ideal) (m ((c.tc : Thread Cert.AddOut2Ideal.nD Cert.AddOut2Ideal.τ).loc Cert.AddOut2Ideal.main_arg0)) (m ((c.tc : Thread Cert.AddOut2Ideal.nD Cert.AddOut2Ideal.τ).loc Cert.AddOut2Ideal.main_arg1)) (m ((c.tc : Thread Cert.AddOut2Ideal.nD Cert.AddOut2Ideal.τ).loc Cert.AddOut2Ideal.main_arg2))) = (fun _ => 1#1)

def Pre_AddOut2RefIdeal (m : (ℓ : Loc Cert.AddOut2RefIdeal.nD Cert.AddOut2RefIdeal.τ Cert.AddOut2RefIdeal.sig) → Buf (Elt Ideal) ℓ) : Prop :=
  True

def Pre_AddOut2RefIdeal_half_addout2 [hPre_half_addout2 : Cert.Pre_half_addout2.Facts] (m : (ℓ : Loc Cert.AddOut2RefIdeal.nD Cert.AddOut2RefIdeal.τ Cert.AddOut2RefIdeal.sig) → Buf (Elt Ideal) ℓ) : Prop :=
  ∀ c : Dev Cert.AddOut2RefIdeal.nD,
    (Cert.Pre_half_addout2.fn (F := Ideal) (m ((c.tc : Thread Cert.AddOut2RefIdeal.nD Cert.AddOut2RefIdeal.τ).loc Cert.AddOut2RefIdeal.main_arg0)) (m ((c.tc : Thread Cert.AddOut2RefIdeal.nD Cert.AddOut2RefIdeal.τ).loc Cert.AddOut2RefIdeal.main_arg1)) (m ((c.tc : Thread Cert.AddOut2RefIdeal.nD Cert.AddOut2RefIdeal.τ).loc Cert.AddOut2RefIdeal.main_arg2))) = (fun _ => 1#1)

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamTaps (m : (ℓ : Loc Cert.AdamTaps.nD Cert.AdamTaps.τ Cert.AdamTaps.sig) → Buf (Elt Bits) ℓ) : Prop :=
  True

def Pre_AdamTapsIdeal (m : (ℓ : Loc Cert.AdamTapsIdeal.nD Cert.AdamTapsIdeal.τ Cert.AdamTapsIdeal.sig) → Buf (Elt Ideal) ℓ) : Prop :=
  True

def Pre_AdamTapsRefIdeal (m : (ℓ : Loc Cert.AdamTapsRefIdeal.nD Cert.AdamTapsRefIdeal.τ Cert.AdamTapsRefIdeal.sig) → Buf (Elt Ideal) ℓ) : Prop :=
  True

def Pre_AdamTaps4 (m : (ℓ : Loc Cert.AdamTaps4.nD Cert.AdamTaps4.τ Cert.AdamTaps4.sig) → Buf (Elt Bits) ℓ) : Prop :=
  True

def Pre_AdamTaps4Ideal (m : (ℓ : Loc Cert.AdamTaps4Ideal.nD Cert.AdamTaps4Ideal.τ Cert.AdamTaps4Ideal.sig) → Buf (Elt Ideal) ℓ) : Prop :=
  True

def Pre_AdamTaps4RefIdeal (m : (ℓ : Loc Cert.AdamTaps4RefIdeal.nD Cert.AdamTaps4RefIdeal.τ Cert.AdamTaps4RefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_AdamFinal (m : (ℓ : Loc Cert.AdamFinal.nD Cert.AdamFinal.τ Cert.AdamFinal.sig) → Buf (Elt Bits) ℓ) : Prop :=
  True

def Pre_AdamFinalIdeal (m : (ℓ : Loc Cert.AdamFinalIdeal.nD Cert.AdamFinalIdeal.τ Cert.AdamFinalIdeal.sig) → Buf (Elt Ideal) ℓ) : Prop :=
  True

def Pre_AdamFinalRefIdeal (m : (ℓ : Loc Cert.AdamFinalRefIdeal.nD Cert.AdamFinalRefIdeal.τ Cert.AdamFinalRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixIdeal_pre_finite [hMixIdeal : Cert.MixIdeal.Facts] [hPre_finite : Cert.Pre_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_MixRefIdeal_pre_finite [hMixRefIdeal : Cert.MixRefIdeal.Facts] [hPre_finite : Cert.Pre_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0))
      ∧ r.2.sem = fun _ => 0)

def quiescent_CastIn [hCastIn : Cert.CastIn.Facts] : Prop :=
  ∀ (m : (ℓ : Loc Cert.CastIn.nD Cert.CastIn.τ Cert.CastIn.sig) → Buf (Elt Bits) ℓ) (g : Dev Cert.CastIn.nD → PrngReg), Pre_CastIn m →
    θ_run (Cert.CastIn.defs (F := Bits)) (onTc (τ := Cert.CastIn.τ) (Cert.CastIn.main (F := Bits))) ⟨m, fun _ => 0, g⟩ (fun r => (∀ c : Dev Cert.CastIn.nD,
      r.2.mem ((c.tc : Thread Cert.CastIn.nD Cert.CastIn.τ).loc Cert.CastIn.main_arg0) = m ((c.tc : Thread Cert.CastIn.nD Cert.CastIn.τ).loc Cert.CastIn.main_arg0))
      ∧ r.2.sem = fun _ => 0)

def quiescent_CastInIdeal [hCastInIdeal : Cert.CastInIdeal.Facts] : Prop :=
  ∀ (m : (ℓ : Loc Cert.CastInIdeal.nD Cert.CastInIdeal.τ Cert.CastInIdeal.sig) → Buf (Elt Ideal) ℓ) (g : Dev Cert.CastInIdeal.nD → PrngReg), Pre_CastInIdeal m →
    θ_run (Cert.CastInIdeal.defs (F := Ideal)) (onTc (τ := Cert.CastInIdeal.τ) (Cert.CastInIdeal.main (F := Ideal))) ⟨m, fun _ => 0, g⟩ (fun r => (∀ c : Dev Cert.CastInIdeal.nD,
      r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ r.2.sem = fun _ => 0)

def quiescent_CastInRefIdeal [hCastInRefIdeal : Cert.CastInRefIdeal.Facts] : Prop :=
  ∀ (m : (ℓ : Loc Cert.CastInRefIdeal.nD Cert.CastInRefIdeal.τ Cert.CastInRefIdeal.sig) → Buf (Elt Ideal) ℓ) (g : Dev Cert.CastInRefIdeal.nD → PrngReg), Pre_CastInRefIdeal m →
    θ_run (Cert.CastInRefIdeal.defs (F := Ideal)) (onTc (τ := Cert.CastInRefIdeal.τ) (Cert.CastInRefIdeal.main (F := Ideal))) ⟨m, fun _ => 0, g⟩ (fun r => (∀ c : Dev Cert.CastInRefIdeal.nD,
      r.2.mem ((c.tc : Thread Cert.CastInRefIdeal.nD Cert.CastInRefIdeal.τ).loc Cert.CastInRefIdeal.main_arg0) = m ((c.tc : Thread Cert.CastInRefIdeal.nD Cert.CastInRefIdeal.τ).loc Cert.CastInRefIdeal.main_arg0))
      ∧ r.2.sem = fun _ => 0)

def quiescent_CastOut [hCastOut : Cert.CastOut.Facts] : Prop :=
  ∀ (m : (ℓ : Loc Cert.CastOut.nD Cert.CastOut.τ Cert.CastOut.sig) → Buf (Elt Bits) ℓ) (g : Dev Cert.CastOut.nD → PrngReg), Pre_CastOut m →
    θ_run (Cert.CastOut.defs (F := Bits)) (onTc (τ := Cert.CastOut.τ) (Cert.CastOut.main (F := Bits))) ⟨m, fun _ => 0, g⟩ (fun r => (∀ c : Dev Cert.CastOut.nD,
      r.2.mem ((c.tc : Thread Cert.CastOut.nD Cert.CastOut.τ).loc Cert.CastOut.main_arg0) = m ((c.tc : Thread Cert.CastOut.nD Cert.CastOut.τ).loc Cert.CastOut.main_arg0))
      ∧ r.2.sem = fun _ => 0)

def quiescent_CastOutIdeal [hCastOutIdeal : Cert.CastOutIdeal.Facts] : Prop :=
  ∀ (m : (ℓ : Loc Cert.CastOutIdeal.nD Cert.CastOutIdeal.τ Cert.CastOutIdeal.sig) → Buf (Elt Ideal) ℓ) (g : Dev Cert.CastOutIdeal.nD → PrngReg), Pre_CastOutIdeal m →
    θ_run (Cert.CastOutIdeal.defs (F := Ideal)) (onTc (τ := Cert.CastOutIdeal.τ) (Cert.CastOutIdeal.main (F := Ideal))) ⟨m, fun _ => 0, g⟩ (fun r => (∀ c : Dev Cert.CastOutIdeal.nD,
      r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ r.2.sem = fun _ => 0)

def quiescent_CastOutRefIdeal [hCastOutRefIdeal : Cert.CastOutRefIdeal.Facts] : Prop :=
  ∀ (m : (ℓ : Loc Cert.CastOutRefIdeal.nD Cert.CastOutRefIdeal.τ Cert.CastOutRefIdeal.sig) → Buf (Elt Ideal) ℓ) (g : Dev Cert.CastOutRefIdeal.nD → PrngReg), Pre_CastOutRefIdeal m →
    θ_run (Cert.CastOutRefIdeal.defs (F := Ideal)) (onTc (τ := Cert.CastOutRefIdeal.τ) (Cert.CastOutRefIdeal.main (F := Ideal))) ⟨m, fun _ => 0, g⟩ (fun r => (∀ c : Dev Cert.CastOutRefIdeal.nD,
      r.2.mem ((c.tc : Thread Cert.CastOutRefIdeal.nD Cert.CastOutRefIdeal.τ).loc Cert.CastOutRefIdeal.main_arg0) = m ((c.tc : Thread Cert.CastOutRefIdeal.nD Cert.CastOutRefIdeal.τ).loc Cert.CastOutRefIdeal.main_arg0))
      ∧ r.2.sem = fun _ => 0)

def quiescent_AddIn0 [hAddIn0 : Cert.AddIn0.Facts] [hPre_half_addin0 : Cert.Pre_half_addin0.Facts] : Prop :=
  ∀ (m : (ℓ : Loc Cert.AddIn0.nD Cert.AddIn0.τ Cert.AddIn0.sig) → Buf (Elt Bits) ℓ) (g : Dev Cert.AddIn0.nD → PrngReg), Pre_AddIn0 m →
    θ_run (Cert.AddIn0.defs (F := Bits)) (onTc (τ := Cert.AddIn0.τ) (Cert.AddIn0.main (F := Bits))) ⟨m, fun _ => 0, g⟩ (fun r => (∀ c : Dev Cert.AddIn0.nD,
      r.2.mem ((c.tc : Thread Cert.AddIn0.nD Cert.AddIn0.τ).loc Cert.AddIn0.main_arg0) = m ((c.tc : Thread Cert.AddIn0.nD Cert.AddIn0.τ).loc Cert.AddIn0.main_arg0)
      ∧ r.2.mem ((c.tc : Thread Cert.AddIn0.nD Cert.AddIn0.τ).loc Cert.AddIn0.main_arg1) = m ((c.tc : Thread Cert.AddIn0.nD Cert.AddIn0.τ).loc Cert.AddIn0.main_arg1)
      ∧ r.2.mem ((c.tc : Thread Cert.AddIn0.nD Cert.AddIn0.τ).loc Cert.AddIn0.main_arg2) = m ((c.tc : Thread Cert.AddIn0.nD Cert.AddIn0.τ).loc Cert.AddIn0.main_arg2))
      ∧ r.2.sem = fun _ => 0)

def quiescent_AddIn0Ideal [hAddIn0Ideal : Cert.AddIn0Ideal.Facts] [hPre_half_addin0 : Cert.Pre_half_addin0.Facts] : Prop :=
  ∀ (m : (ℓ : Loc Cert.AddIn0Ideal.nD Cert.AddIn0Ideal.τ Cert.AddIn0Ideal.sig) → Buf (Elt Ideal) ℓ) (g : Dev Cert.AddIn0Ideal.nD → PrngReg), Pre_AddIn0Ideal m →
    θ_run (Cert.AddIn0Ideal.defs (F := Ideal)) (onTc (τ := Cert.AddIn0Ideal.τ) (Cert.AddIn0Ideal.main (F := Ideal))) ⟨m, fun _ => 0, g⟩ (fun r => (∀ c : Dev Cert.AddIn0Ideal.nD,
      r.2.mem ((c.tc : Thread Cert.AddIn0Ideal.nD Cert.AddIn0Ideal.τ).loc Cert.AddIn0Ideal.main_arg0) = m ((c.tc : Thread Cert.AddIn0Ideal.nD Cert.AddIn0Ideal.τ).loc Cert.AddIn0Ideal.main_arg0)
      ∧ r.2.mem ((c.tc : Thread Cert.AddIn0Ideal.nD Cert.AddIn0Ideal.τ).loc Cert.AddIn0Ideal.main_arg1) = m ((c.tc : Thread Cert.AddIn0Ideal.nD Cert.AddIn0Ideal.τ).loc Cert.AddIn0Ideal.main_arg1)
      ∧ r.2.mem ((c.tc : Thread Cert.AddIn0Ideal.nD Cert.AddIn0Ideal.τ).loc Cert.AddIn0Ideal.main_arg2) = m ((c.tc : Thread Cert.AddIn0Ideal.nD Cert.AddIn0Ideal.τ).loc Cert.AddIn0Ideal.main_arg2))
      ∧ r.2.sem = fun _ => 0)

def quiescent_AddIn0RefIdeal [hAddIn0RefIdeal : Cert.AddIn0RefIdeal.Facts] : Prop :=
  ∀ (m : (ℓ : Loc Cert.AddIn0RefIdeal.nD Cert.AddIn0RefIdeal.τ Cert.AddIn0RefIdeal.sig) → Buf (Elt Ideal) ℓ) (g : Dev Cert.AddIn0RefIdeal.nD → PrngReg), Pre_AddIn0RefIdeal m →
    θ_run (Cert.AddIn0RefIdeal.defs (F := Ideal)) (onTc (τ := Cert.AddIn0RefIdeal.τ) (Cert.AddIn0RefIdeal.main (F := Ideal))) ⟨m, fun _ => 0, g⟩ (fun r => (∀ c : Dev Cert.AddIn0RefIdeal.nD,
      r.2.mem ((c.tc : Thread Cert.AddIn0RefIdeal.nD Cert.AddIn0RefIdeal.τ).loc Cert.AddIn0RefIdeal.main_arg0) = m ((c.tc : Thread Cert.AddIn0RefIdeal.nD Cert.AddIn0RefIdeal.τ).loc Cert.AddIn0RefIdeal.main_arg0)
      ∧ r.2.mem ((c.tc : Thread Cert.AddIn0RefIdeal.nD Cert.AddIn0RefIdeal.τ).loc Cert.AddIn0RefIdeal.main_arg1) = m ((c.tc : Thread Cert.AddIn0RefIdeal.nD Cert.AddIn0RefIdeal.τ).loc Cert.AddIn0RefIdeal.main_arg1)
      ∧ r.2.mem ((c.tc : Thread Cert.AddIn0RefIdeal.nD Cert.AddIn0RefIdeal.τ).loc Cert.AddIn0RefIdeal.main_arg2) = m ((c.tc : Thread Cert.AddIn0RefIdeal.nD Cert.AddIn0RefIdeal.τ).loc Cert.AddIn0RefIdeal.main_arg2))
      ∧ r.2.sem = fun _ => 0)

def quiescent_AddIn0RefIdeal_pre_half_addin0 [hAddIn0RefIdeal : Cert.AddIn0RefIdeal.Facts] [hPre_half_addin0 : Cert.Pre_half_addin0.Facts] : Prop :=
  ∀ (m : (ℓ : Loc Cert.AddIn0RefIdeal.nD Cert.AddIn0RefIdeal.τ Cert.AddIn0RefIdeal.sig) → Buf (Elt Ideal) ℓ) (g : Dev Cert.AddIn0RefIdeal.nD → PrngReg), Pre_AddIn0RefIdeal_half_addin0 m →
    θ_run (Cert.AddIn0RefIdeal.defs (F := Ideal)) (onTc (τ := Cert.AddIn0RefIdeal.τ) (Cert.AddIn0RefIdeal.main (F := Ideal))) ⟨m, fun _ => 0, g⟩ (fun r => (∀ c : Dev Cert.AddIn0RefIdeal.nD,
      r.2.mem ((c.tc : Thread Cert.AddIn0RefIdeal.nD Cert.AddIn0RefIdeal.τ).loc Cert.AddIn0RefIdeal.main_arg0) = m ((c.tc : Thread Cert.AddIn0RefIdeal.nD Cert.AddIn0RefIdeal.τ).loc Cert.AddIn0RefIdeal.main_arg0)
      ∧ r.2.mem ((c.tc : Thread Cert.AddIn0RefIdeal.nD Cert.AddIn0RefIdeal.τ).loc Cert.AddIn0RefIdeal.main_arg1) = m ((c.tc : Thread Cert.AddIn0RefIdeal.nD Cert.AddIn0RefIdeal.τ).loc Cert.AddIn0RefIdeal.main_arg1)
      ∧ r.2.mem ((c.tc : Thread Cert.AddIn0RefIdeal.nD Cert.AddIn0RefIdeal.τ).loc Cert.AddIn0RefIdeal.main_arg2) = m ((c.tc : Thread Cert.AddIn0RefIdeal.nD Cert.AddIn0RefIdeal.τ).loc Cert.AddIn0RefIdeal.main_arg2))
      ∧ r.2.sem = fun _ => 0)

def quiescent_AddIn1 [hAddIn1 : Cert.AddIn1.Facts] [hPre_half_addin1 : Cert.Pre_half_addin1.Facts] : Prop :=
  ∀ (m : (ℓ : Loc Cert.AddIn1.nD Cert.AddIn1.τ Cert.AddIn1.sig) → Buf (Elt Bits) ℓ) (g : Dev Cert.AddIn1.nD → PrngReg), Pre_AddIn1 m →
    θ_run (Cert.AddIn1.defs (F := Bits)) (onTc (τ := Cert.AddIn1.τ) (Cert.AddIn1.main (F := Bits))) ⟨m, fun _ => 0, g⟩ (fun r => (∀ c : Dev Cert.AddIn1.nD,
      r.2.mem ((c.tc : Thread Cert.AddIn1.nD Cert.AddIn1.τ).loc Cert.AddIn1.main_arg0) = m ((c.tc : Thread Cert.AddIn1.nD Cert.AddIn1.τ).loc Cert.AddIn1.main_arg0)
      ∧ r.2.mem ((c.tc : Thread Cert.AddIn1.nD Cert.AddIn1.τ).loc Cert.AddIn1.main_arg1) = m ((c.tc : Thread Cert.AddIn1.nD Cert.AddIn1.τ).loc Cert.AddIn1.main_arg1)
      ∧ r.2.mem ((c.tc : Thread Cert.AddIn1.nD Cert.AddIn1.τ).loc Cert.AddIn1.main_arg2) = m ((c.tc : Thread Cert.AddIn1.nD Cert.AddIn1.τ).loc Cert.AddIn1.main_arg2))
      ∧ r.2.sem = fun _ => 0)

def quiescent_AddIn1Ideal [hAddIn1Ideal : Cert.AddIn1Ideal.Facts] [hPre_half_addin1 : Cert.Pre_half_addin1.Facts] : Prop :=
  ∀ (m : (ℓ : Loc Cert.AddIn1Ideal.nD Cert.AddIn1Ideal.τ Cert.AddIn1Ideal.sig) → Buf (Elt Ideal) ℓ) (g : Dev Cert.AddIn1Ideal.nD → PrngReg), Pre_AddIn1Ideal m →
    θ_run (Cert.AddIn1Ideal.defs (F := Ideal)) (onTc (τ := Cert.AddIn1Ideal.τ) (Cert.AddIn1Ideal.main (F := Ideal))) ⟨m, fun _ => 0, g⟩ (fun r => (∀ c : Dev Cert.AddIn1Ideal.nD,
      r.2.mem ((c.tc : Thread Cert.AddIn1Ideal.nD Cert.AddIn1Ideal.τ).loc Cert.AddIn1Ideal.main_arg0) = m ((c.tc : Thread Cert.AddIn1Ideal.nD Cert.AddIn1Ideal.τ).loc Cert.AddIn1Ideal.main_arg0)
      ∧ r.2.mem ((c.tc : Thread Cert.AddIn1Ideal.nD Cert.AddIn1Ideal.τ).loc Cert.AddIn1Ideal.main_arg1) = m ((c.tc : Thread Cert.AddIn1Ideal.nD Cert.AddIn1Ideal.τ).loc Cert.AddIn1Ideal.main_arg1)
      ∧ r.2.mem ((c.tc : Thread Cert.AddIn1Ideal.nD Cert.AddIn1Ideal.τ).loc Cert.AddIn1Ideal.main_arg2) = m ((c.tc : Thread Cert.AddIn1Ideal.nD Cert.AddIn1Ideal.τ).loc Cert.AddIn1Ideal.main_arg2))
      ∧ r.2.sem = fun _ => 0)

def quiescent_AddIn1RefIdeal [hAddIn1RefIdeal : Cert.AddIn1RefIdeal.Facts] : Prop :=
  ∀ (m : (ℓ : Loc Cert.AddIn1RefIdeal.nD Cert.AddIn1RefIdeal.τ Cert.AddIn1RefIdeal.sig) → Buf (Elt Ideal) ℓ) (g : Dev Cert.AddIn1RefIdeal.nD → PrngReg), Pre_AddIn1RefIdeal m →
    θ_run (Cert.AddIn1RefIdeal.defs (F := Ideal)) (onTc (τ := Cert.AddIn1RefIdeal.τ) (Cert.AddIn1RefIdeal.main (F := Ideal))) ⟨m, fun _ => 0, g⟩ (fun r => (∀ c : Dev Cert.AddIn1RefIdeal.nD,
      r.2.mem ((c.tc : Thread Cert.AddIn1RefIdeal.nD Cert.AddIn1RefIdeal.τ).loc Cert.AddIn1RefIdeal.main_arg0) = m ((c.tc : Thread Cert.AddIn1RefIdeal.nD Cert.AddIn1RefIdeal.τ).loc Cert.AddIn1RefIdeal.main_arg0)
      ∧ r.2.mem ((c.tc : Thread Cert.AddIn1RefIdeal.nD Cert.AddIn1RefIdeal.τ).loc Cert.AddIn1RefIdeal.main_arg1) = m ((c.tc : Thread Cert.AddIn1RefIdeal.nD Cert.AddIn1RefIdeal.τ).loc Cert.AddIn1RefIdeal.main_arg1)
      ∧ r.2.mem ((c.tc : Thread Cert.AddIn1RefIdeal.nD Cert.AddIn1RefIdeal.τ).loc Cert.AddIn1RefIdeal.main_arg2) = m ((c.tc : Thread Cert.AddIn1RefIdeal.nD Cert.AddIn1RefIdeal.τ).loc Cert.AddIn1RefIdeal.main_arg2))
      ∧ r.2.sem = fun _ => 0)

def quiescent_AddIn1RefIdeal_pre_half_addin1 [hAddIn1RefIdeal : Cert.AddIn1RefIdeal.Facts] [hPre_half_addin1 : Cert.Pre_half_addin1.Facts] : Prop :=
  ∀ (m : (ℓ : Loc Cert.AddIn1RefIdeal.nD Cert.AddIn1RefIdeal.τ Cert.AddIn1RefIdeal.sig) → Buf (Elt Ideal) ℓ) (g : Dev Cert.AddIn1RefIdeal.nD → PrngReg), Pre_AddIn1RefIdeal_half_addin1 m →
    θ_run (Cert.AddIn1RefIdeal.defs (F := Ideal)) (onTc (τ := Cert.AddIn1RefIdeal.τ) (Cert.AddIn1RefIdeal.main (F := Ideal))) ⟨m, fun _ => 0, g⟩ (fun r => (∀ c : Dev Cert.AddIn1RefIdeal.nD,
      r.2.mem ((c.tc : Thread Cert.AddIn1RefIdeal.nD Cert.AddIn1RefIdeal.τ).loc Cert.AddIn1RefIdeal.main_arg0) = m ((c.tc : Thread Cert.AddIn1RefIdeal.nD Cert.AddIn1RefIdeal.τ).loc Cert.AddIn1RefIdeal.main_arg0)
      ∧ r.2.mem ((c.tc : Thread Cert.AddIn1RefIdeal.nD Cert.AddIn1RefIdeal.τ).loc Cert.AddIn1RefIdeal.main_arg1) = m ((c.tc : Thread Cert.AddIn1RefIdeal.nD Cert.AddIn1RefIdeal.τ).loc Cert.AddIn1RefIdeal.main_arg1)
      ∧ r.2.mem ((c.tc : Thread Cert.AddIn1RefIdeal.nD Cert.AddIn1RefIdeal.τ).loc Cert.AddIn1RefIdeal.main_arg2) = m ((c.tc : Thread Cert.AddIn1RefIdeal.nD Cert.AddIn1RefIdeal.τ).loc Cert.AddIn1RefIdeal.main_arg2))
      ∧ r.2.sem = fun _ => 0)

def quiescent_AddIn2 [hAddIn2 : Cert.AddIn2.Facts] [hPre_half_addin2 : Cert.Pre_half_addin2.Facts] : Prop :=
  ∀ (m : (ℓ : Loc Cert.AddIn2.nD Cert.AddIn2.τ Cert.AddIn2.sig) → Buf (Elt Bits) ℓ) (g : Dev Cert.AddIn2.nD → PrngReg), Pre_AddIn2 m →
    θ_run (Cert.AddIn2.defs (F := Bits)) (onTc (τ := Cert.AddIn2.τ) (Cert.AddIn2.main (F := Bits))) ⟨m, fun _ => 0, g⟩ (fun r => (∀ c : Dev Cert.AddIn2.nD,
      r.2.mem ((c.tc : Thread Cert.AddIn2.nD Cert.AddIn2.τ).loc Cert.AddIn2.main_arg0) = m ((c.tc : Thread Cert.AddIn2.nD Cert.AddIn2.τ).loc Cert.AddIn2.main_arg0)
      ∧ r.2.mem ((c.tc : Thread Cert.AddIn2.nD Cert.AddIn2.τ).loc Cert.AddIn2.main_arg1) = m ((c.tc : Thread Cert.AddIn2.nD Cert.AddIn2.τ).loc Cert.AddIn2.main_arg1)
      ∧ r.2.mem ((c.tc : Thread Cert.AddIn2.nD Cert.AddIn2.τ).loc Cert.AddIn2.main_arg2) = m ((c.tc : Thread Cert.AddIn2.nD Cert.AddIn2.τ).loc Cert.AddIn2.main_arg2))
      ∧ r.2.sem = fun _ => 0)

def quiescent_AddIn2Ideal [hAddIn2Ideal : Cert.AddIn2Ideal.Facts] [hPre_half_addin2 : Cert.Pre_half_addin2.Facts] : Prop :=
  ∀ (m : (ℓ : Loc Cert.AddIn2Ideal.nD Cert.AddIn2Ideal.τ Cert.AddIn2Ideal.sig) → Buf (Elt Ideal) ℓ) (g : Dev Cert.AddIn2Ideal.nD → PrngReg), Pre_AddIn2Ideal m →
    θ_run (Cert.AddIn2Ideal.defs (F := Ideal)) (onTc (τ := Cert.AddIn2Ideal.τ) (Cert.AddIn2Ideal.main (F := Ideal))) ⟨m, fun _ => 0, g⟩ (fun r => (∀ c : Dev Cert.AddIn2Ideal.nD,
      r.2.mem ((c.tc : Thread Cert.AddIn2Ideal.nD Cert.AddIn2Ideal.τ).loc Cert.AddIn2Ideal.main_arg0) = m ((c.tc : Thread Cert.AddIn2Ideal.nD Cert.AddIn2Ideal.τ).loc Cert.AddIn2Ideal.main_arg0)
      ∧ r.2.mem ((c.tc : Thread Cert.AddIn2Ideal.nD Cert.AddIn2Ideal.τ).loc Cert.AddIn2Ideal.main_arg1) = m ((c.tc : Thread Cert.AddIn2Ideal.nD Cert.AddIn2Ideal.τ).loc Cert.AddIn2Ideal.main_arg1)
      ∧ r.2.mem ((c.tc : Thread Cert.AddIn2Ideal.nD Cert.AddIn2Ideal.τ).loc Cert.AddIn2Ideal.main_arg2) = m ((c.tc : Thread Cert.AddIn2Ideal.nD Cert.AddIn2Ideal.τ).loc Cert.AddIn2Ideal.main_arg2))
      ∧ r.2.sem = fun _ => 0)

def quiescent_AddIn2RefIdeal [hAddIn2RefIdeal : Cert.AddIn2RefIdeal.Facts] : Prop :=
  ∀ (m : (ℓ : Loc Cert.AddIn2RefIdeal.nD Cert.AddIn2RefIdeal.τ Cert.AddIn2RefIdeal.sig) → Buf (Elt Ideal) ℓ) (g : Dev Cert.AddIn2RefIdeal.nD → PrngReg), Pre_AddIn2RefIdeal m →
    θ_run (Cert.AddIn2RefIdeal.defs (F := Ideal)) (onTc (τ := Cert.AddIn2RefIdeal.τ) (Cert.AddIn2RefIdeal.main (F := Ideal))) ⟨m, fun _ => 0, g⟩ (fun r => (∀ c : Dev Cert.AddIn2RefIdeal.nD,
      r.2.mem ((c.tc : Thread Cert.AddIn2RefIdeal.nD Cert.AddIn2RefIdeal.τ).loc Cert.AddIn2RefIdeal.main_arg0) = m ((c.tc : Thread Cert.AddIn2RefIdeal.nD Cert.AddIn2RefIdeal.τ).loc Cert.AddIn2RefIdeal.main_arg0)
      ∧ r.2.mem ((c.tc : Thread Cert.AddIn2RefIdeal.nD Cert.AddIn2RefIdeal.τ).loc Cert.AddIn2RefIdeal.main_arg1) = m ((c.tc : Thread Cert.AddIn2RefIdeal.nD Cert.AddIn2RefIdeal.τ).loc Cert.AddIn2RefIdeal.main_arg1)
      ∧ r.2.mem ((c.tc : Thread Cert.AddIn2RefIdeal.nD Cert.AddIn2RefIdeal.τ).loc Cert.AddIn2RefIdeal.main_arg2) = m ((c.tc : Thread Cert.AddIn2RefIdeal.nD Cert.AddIn2RefIdeal.τ).loc Cert.AddIn2RefIdeal.main_arg2))
      ∧ r.2.sem = fun _ => 0)

def quiescent_AddIn2RefIdeal_pre_half_addin2 [hAddIn2RefIdeal : Cert.AddIn2RefIdeal.Facts] [hPre_half_addin2 : Cert.Pre_half_addin2.Facts] : Prop :=
  ∀ (m : (ℓ : Loc Cert.AddIn2RefIdeal.nD Cert.AddIn2RefIdeal.τ Cert.AddIn2RefIdeal.sig) → Buf (Elt Ideal) ℓ) (g : Dev Cert.AddIn2RefIdeal.nD → PrngReg), Pre_AddIn2RefIdeal_half_addin2 m →
    θ_run (Cert.AddIn2RefIdeal.defs (F := Ideal)) (onTc (τ := Cert.AddIn2RefIdeal.τ) (Cert.AddIn2RefIdeal.main (F := Ideal))) ⟨m, fun _ => 0, g⟩ (fun r => (∀ c : Dev Cert.AddIn2RefIdeal.nD,
      r.2.mem ((c.tc : Thread Cert.AddIn2RefIdeal.nD Cert.AddIn2RefIdeal.τ).loc Cert.AddIn2RefIdeal.main_arg0) = m ((c.tc : Thread Cert.AddIn2RefIdeal.nD Cert.AddIn2RefIdeal.τ).loc Cert.AddIn2RefIdeal.main_arg0)
      ∧ r.2.mem ((c.tc : Thread Cert.AddIn2RefIdeal.nD Cert.AddIn2RefIdeal.τ).loc Cert.AddIn2RefIdeal.main_arg1) = m ((c.tc : Thread Cert.AddIn2RefIdeal.nD Cert.AddIn2RefIdeal.τ).loc Cert.AddIn2RefIdeal.main_arg1)
      ∧ r.2.mem ((c.tc : Thread Cert.AddIn2RefIdeal.nD Cert.AddIn2RefIdeal.τ).loc Cert.AddIn2RefIdeal.main_arg2) = m ((c.tc : Thread Cert.AddIn2RefIdeal.nD Cert.AddIn2RefIdeal.τ).loc Cert.AddIn2RefIdeal.main_arg2))
      ∧ r.2.sem = fun _ => 0)

def quiescent_AddOut0 [hAddOut0 : Cert.AddOut0.Facts] [hPre_half_addout0 : Cert.Pre_half_addout0.Facts] : Prop :=
  ∀ (m : (ℓ : Loc Cert.AddOut0.nD Cert.AddOut0.τ Cert.AddOut0.sig) → Buf (Elt Bits) ℓ) (g : Dev Cert.AddOut0.nD → PrngReg), Pre_AddOut0 m →
    θ_run (Cert.AddOut0.defs (F := Bits)) (onTc (τ := Cert.AddOut0.τ) (Cert.AddOut0.main (F := Bits))) ⟨m, fun _ => 0, g⟩ (fun r => (∀ c : Dev Cert.AddOut0.nD,
      r.2.mem ((c.tc : Thread Cert.AddOut0.nD Cert.AddOut0.τ).loc Cert.AddOut0.main_arg0) = m ((c.tc : Thread Cert.AddOut0.nD Cert.AddOut0.τ).loc Cert.AddOut0.main_arg0)
      ∧ r.2.mem ((c.tc : Thread Cert.AddOut0.nD Cert.AddOut0.τ).loc Cert.AddOut0.main_arg1) = m ((c.tc : Thread Cert.AddOut0.nD Cert.AddOut0.τ).loc Cert.AddOut0.main_arg1)
      ∧ r.2.mem ((c.tc : Thread Cert.AddOut0.nD Cert.AddOut0.τ).loc Cert.AddOut0.main_arg2) = m ((c.tc : Thread Cert.AddOut0.nD Cert.AddOut0.τ).loc Cert.AddOut0.main_arg2))
      ∧ r.2.sem = fun _ => 0)

def quiescent_AddOut0Ideal [hAddOut0Ideal : Cert.AddOut0Ideal.Facts] [hPre_half_addout0 : Cert.Pre_half_addout0.Facts] : Prop :=
  ∀ (m : (ℓ : Loc Cert.AddOut0Ideal.nD Cert.AddOut0Ideal.τ Cert.AddOut0Ideal.sig) → Buf (Elt Ideal) ℓ) (g : Dev Cert.AddOut0Ideal.nD → PrngReg), Pre_AddOut0Ideal m →
    θ_run (Cert.AddOut0Ideal.defs (F := Ideal)) (onTc (τ := Cert.AddOut0Ideal.τ) (Cert.AddOut0Ideal.main (F := Ideal))) ⟨m, fun _ => 0, g⟩ (fun r => (∀ c : Dev Cert.AddOut0Ideal.nD,
      r.2.mem ((c.tc : Thread Cert.AddOut0Ideal.nD Cert.AddOut0Ideal.τ).loc Cert.AddOut0Ideal.main_arg0) = m ((c.tc : Thread Cert.AddOut0Ideal.nD Cert.AddOut0Ideal.τ).loc Cert.AddOut0Ideal.main_arg0)
      ∧ r.2.mem ((c.tc : Thread Cert.AddOut0Ideal.nD Cert.AddOut0Ideal.τ).loc Cert.AddOut0Ideal.main_arg1) = m ((c.tc : Thread Cert.AddOut0Ideal.nD Cert.AddOut0Ideal.τ).loc Cert.AddOut0Ideal.main_arg1)
      ∧ r.2.mem ((c.tc : Thread Cert.AddOut0Ideal.nD Cert.AddOut0Ideal.τ).loc Cert.AddOut0Ideal.main_arg2) = m ((c.tc : Thread Cert.AddOut0Ideal.nD Cert.AddOut0Ideal.τ).loc Cert.AddOut0Ideal.main_arg2))
      ∧ r.2.sem = fun _ => 0)

def quiescent_AddOut0RefIdeal [hAddOut0RefIdeal : Cert.AddOut0RefIdeal.Facts] : Prop :=
  ∀ (m : (ℓ : Loc Cert.AddOut0RefIdeal.nD Cert.AddOut0RefIdeal.τ Cert.AddOut0RefIdeal.sig) → Buf (Elt Ideal) ℓ) (g : Dev Cert.AddOut0RefIdeal.nD → PrngReg), Pre_AddOut0RefIdeal m →
    θ_run (Cert.AddOut0RefIdeal.defs (F := Ideal)) (onTc (τ := Cert.AddOut0RefIdeal.τ) (Cert.AddOut0RefIdeal.main (F := Ideal))) ⟨m, fun _ => 0, g⟩ (fun r => (∀ c : Dev Cert.AddOut0RefIdeal.nD,
      r.2.mem ((c.tc : Thread Cert.AddOut0RefIdeal.nD Cert.AddOut0RefIdeal.τ).loc Cert.AddOut0RefIdeal.main_arg0) = m ((c.tc : Thread Cert.AddOut0RefIdeal.nD Cert.AddOut0RefIdeal.τ).loc Cert.AddOut0RefIdeal.main_arg0)
      ∧ r.2.mem ((c.tc : Thread Cert.AddOut0RefIdeal.nD Cert.AddOut0RefIdeal.τ).loc Cert.AddOut0RefIdeal.main_arg1) = m ((c.tc : Thread Cert.AddOut0RefIdeal.nD Cert.AddOut0RefIdeal.τ).loc Cert.AddOut0RefIdeal.main_arg1)
      ∧ r.2.mem ((c.tc : Thread Cert.AddOut0RefIdeal.nD Cert.AddOut0RefIdeal.τ).loc Cert.AddOut0RefIdeal.main_arg2) = m ((c.tc : Thread Cert.AddOut0RefIdeal.nD Cert.AddOut0RefIdeal.τ).loc Cert.AddOut0RefIdeal.main_arg2))
      ∧ r.2.sem = fun _ => 0)

def quiescent_AddOut0RefIdeal_pre_half_addout0 [hAddOut0RefIdeal : Cert.AddOut0RefIdeal.Facts] [hPre_half_addout0 : Cert.Pre_half_addout0.Facts] : Prop :=
  ∀ (m : (ℓ : Loc Cert.AddOut0RefIdeal.nD Cert.AddOut0RefIdeal.τ Cert.AddOut0RefIdeal.sig) → Buf (Elt Ideal) ℓ) (g : Dev Cert.AddOut0RefIdeal.nD → PrngReg), Pre_AddOut0RefIdeal_half_addout0 m →
    θ_run (Cert.AddOut0RefIdeal.defs (F := Ideal)) (onTc (τ := Cert.AddOut0RefIdeal.τ) (Cert.AddOut0RefIdeal.main (F := Ideal))) ⟨m, fun _ => 0, g⟩ (fun r => (∀ c : Dev Cert.AddOut0RefIdeal.nD,
      r.2.mem ((c.tc : Thread Cert.AddOut0RefIdeal.nD Cert.AddOut0RefIdeal.τ).loc Cert.AddOut0RefIdeal.main_arg0) = m ((c.tc : Thread Cert.AddOut0RefIdeal.nD Cert.AddOut0RefIdeal.τ).loc Cert.AddOut0RefIdeal.main_arg0)
      ∧ r.2.mem ((c.tc : Thread Cert.AddOut0RefIdeal.nD Cert.AddOut0RefIdeal.τ).loc Cert.AddOut0RefIdeal.main_arg1) = m ((c.tc : Thread Cert.AddOut0RefIdeal.nD Cert.AddOut0RefIdeal.τ).loc Cert.AddOut0RefIdeal.main_arg1)
      ∧ r.2.mem ((c.tc : Thread Cert.AddOut0RefIdeal.nD Cert.AddOut0RefIdeal.τ).loc Cert.AddOut0RefIdeal.main_arg2) = m ((c.tc : Thread Cert.AddOut0RefIdeal.nD Cert.AddOut0RefIdeal.τ).loc Cert.AddOut0RefIdeal.main_arg2))
      ∧ r.2.sem = fun _ => 0)

def quiescent_AddOut1 [hAddOut1 : Cert.AddOut1.Facts] [hPre_half_addout1 : Cert.Pre_half_addout1.Facts] : Prop :=
  ∀ (m : (ℓ : Loc Cert.AddOut1.nD Cert.AddOut1.τ Cert.AddOut1.sig) → Buf (Elt Bits) ℓ) (g : Dev Cert.AddOut1.nD → PrngReg), Pre_AddOut1 m →
    θ_run (Cert.AddOut1.defs (F := Bits)) (onTc (τ := Cert.AddOut1.τ) (Cert.AddOut1.main (F := Bits))) ⟨m, fun _ => 0, g⟩ (fun r => (∀ c : Dev Cert.AddOut1.nD,
      r.2.mem ((c.tc : Thread Cert.AddOut1.nD Cert.AddOut1.τ).loc Cert.AddOut1.main_arg0) = m ((c.tc : Thread Cert.AddOut1.nD Cert.AddOut1.τ).loc Cert.AddOut1.main_arg0)
      ∧ r.2.mem ((c.tc : Thread Cert.AddOut1.nD Cert.AddOut1.τ).loc Cert.AddOut1.main_arg1) = m ((c.tc : Thread Cert.AddOut1.nD Cert.AddOut1.τ).loc Cert.AddOut1.main_arg1)
      ∧ r.2.mem ((c.tc : Thread Cert.AddOut1.nD Cert.AddOut1.τ).loc Cert.AddOut1.main_arg2) = m ((c.tc : Thread Cert.AddOut1.nD Cert.AddOut1.τ).loc Cert.AddOut1.main_arg2))
      ∧ r.2.sem = fun _ => 0)

def quiescent_AddOut1Ideal [hAddOut1Ideal : Cert.AddOut1Ideal.Facts] [hPre_half_addout1 : Cert.Pre_half_addout1.Facts] : Prop :=
  ∀ (m : (ℓ : Loc Cert.AddOut1Ideal.nD Cert.AddOut1Ideal.τ Cert.AddOut1Ideal.sig) → Buf (Elt Ideal) ℓ) (g : Dev Cert.AddOut1Ideal.nD → PrngReg), Pre_AddOut1Ideal m →
    θ_run (Cert.AddOut1Ideal.defs (F := Ideal)) (onTc (τ := Cert.AddOut1Ideal.τ) (Cert.AddOut1Ideal.main (F := Ideal))) ⟨m, fun _ => 0, g⟩ (fun r => (∀ c : Dev Cert.AddOut1Ideal.nD,
      r.2.mem ((c.tc : Thread Cert.AddOut1Ideal.nD Cert.AddOut1Ideal.τ).loc Cert.AddOut1Ideal.main_arg0) = m ((c.tc : Thread Cert.AddOut1Ideal.nD Cert.AddOut1Ideal.τ).loc Cert.AddOut1Ideal.main_arg0)
      ∧ r.2.mem ((c.tc : Thread Cert.AddOut1Ideal.nD Cert.AddOut1Ideal.τ).loc Cert.AddOut1Ideal.main_arg1) = m ((c.tc : Thread Cert.AddOut1Ideal.nD Cert.AddOut1Ideal.τ).loc Cert.AddOut1Ideal.main_arg1)
      ∧ r.2.mem ((c.tc : Thread Cert.AddOut1Ideal.nD Cert.AddOut1Ideal.τ).loc Cert.AddOut1Ideal.main_arg2) = m ((c.tc : Thread Cert.AddOut1Ideal.nD Cert.AddOut1Ideal.τ).loc Cert.AddOut1Ideal.main_arg2))
      ∧ r.2.sem = fun _ => 0)

def quiescent_AddOut1RefIdeal [hAddOut1RefIdeal : Cert.AddOut1RefIdeal.Facts] : Prop :=
  ∀ (m : (ℓ : Loc Cert.AddOut1RefIdeal.nD Cert.AddOut1RefIdeal.τ Cert.AddOut1RefIdeal.sig) → Buf (Elt Ideal) ℓ) (g : Dev Cert.AddOut1RefIdeal.nD → PrngReg), Pre_AddOut1RefIdeal m →
    θ_run (Cert.AddOut1RefIdeal.defs (F := Ideal)) (onTc (τ := Cert.AddOut1RefIdeal.τ) (Cert.AddOut1RefIdeal.main (F := Ideal))) ⟨m, fun _ => 0, g⟩ (fun r => (∀ c : Dev Cert.AddOut1RefIdeal.nD,
      r.2.mem ((c.tc : Thread Cert.AddOut1RefIdeal.nD Cert.AddOut1RefIdeal.τ).loc Cert.AddOut1RefIdeal.main_arg0) = m ((c.tc : Thread Cert.AddOut1RefIdeal.nD Cert.AddOut1RefIdeal.τ).loc Cert.AddOut1RefIdeal.main_arg0)
      ∧ r.2.mem ((c.tc : Thread Cert.AddOut1RefIdeal.nD Cert.AddOut1RefIdeal.τ).loc Cert.AddOut1RefIdeal.main_arg1) = m ((c.tc : Thread Cert.AddOut1RefIdeal.nD Cert.AddOut1RefIdeal.τ).loc Cert.AddOut1RefIdeal.main_arg1)
      ∧ r.2.mem ((c.tc : Thread Cert.AddOut1RefIdeal.nD Cert.AddOut1RefIdeal.τ).loc Cert.AddOut1RefIdeal.main_arg2) = m ((c.tc : Thread Cert.AddOut1RefIdeal.nD Cert.AddOut1RefIdeal.τ).loc Cert.AddOut1RefIdeal.main_arg2))
      ∧ r.2.sem = fun _ => 0)

def quiescent_AddOut1RefIdeal_pre_half_addout1 [hAddOut1RefIdeal : Cert.AddOut1RefIdeal.Facts] [hPre_half_addout1 : Cert.Pre_half_addout1.Facts] : Prop :=
  ∀ (m : (ℓ : Loc Cert.AddOut1RefIdeal.nD Cert.AddOut1RefIdeal.τ Cert.AddOut1RefIdeal.sig) → Buf (Elt Ideal) ℓ) (g : Dev Cert.AddOut1RefIdeal.nD → PrngReg), Pre_AddOut1RefIdeal_half_addout1 m →
    θ_run (Cert.AddOut1RefIdeal.defs (F := Ideal)) (onTc (τ := Cert.AddOut1RefIdeal.τ) (Cert.AddOut1RefIdeal.main (F := Ideal))) ⟨m, fun _ => 0, g⟩ (fun r => (∀ c : Dev Cert.AddOut1RefIdeal.nD,
      r.2.mem ((c.tc : Thread Cert.AddOut1RefIdeal.nD Cert.AddOut1RefIdeal.τ).loc Cert.AddOut1RefIdeal.main_arg0) = m ((c.tc : Thread Cert.AddOut1RefIdeal.nD Cert.AddOut1RefIdeal.τ).loc Cert.AddOut1RefIdeal.main_arg0)
      ∧ r.2.mem ((c.tc : Thread Cert.AddOut1RefIdeal.nD Cert.AddOut1RefIdeal.τ).loc Cert.AddOut1RefIdeal.main_arg1) = m ((c.tc : Thread Cert.AddOut1RefIdeal.nD Cert.AddOut1RefIdeal.τ).loc Cert.AddOut1RefIdeal.main_arg1)
      ∧ r.2.mem ((c.tc : Thread Cert.AddOut1RefIdeal.nD Cert.AddOut1RefIdeal.τ).loc Cert.AddOut1RefIdeal.main_arg2) = m ((c.tc : Thread Cert.AddOut1RefIdeal.nD Cert.AddOut1RefIdeal.τ).loc Cert.AddOut1RefIdeal.main_arg2))
      ∧ r.2.sem = fun _ => 0)

def quiescent_AddOut2 [hAddOut2 : Cert.AddOut2.Facts] [hPre_half_addout2 : Cert.Pre_half_addout2.Facts] : Prop :=
  ∀ (m : (ℓ : Loc Cert.AddOut2.nD Cert.AddOut2.τ Cert.AddOut2.sig) → Buf (Elt Bits) ℓ) (g : Dev Cert.AddOut2.nD → PrngReg), Pre_AddOut2 m →
    θ_run (Cert.AddOut2.defs (F := Bits)) (onTc (τ := Cert.AddOut2.τ) (Cert.AddOut2.main (F := Bits))) ⟨m, fun _ => 0, g⟩ (fun r => (∀ c : Dev Cert.AddOut2.nD,
      r.2.mem ((c.tc : Thread Cert.AddOut2.nD Cert.AddOut2.τ).loc Cert.AddOut2.main_arg0) = m ((c.tc : Thread Cert.AddOut2.nD Cert.AddOut2.τ).loc Cert.AddOut2.main_arg0)
      ∧ r.2.mem ((c.tc : Thread Cert.AddOut2.nD Cert.AddOut2.τ).loc Cert.AddOut2.main_arg1) = m ((c.tc : Thread Cert.AddOut2.nD Cert.AddOut2.τ).loc Cert.AddOut2.main_arg1)
      ∧ r.2.mem ((c.tc : Thread Cert.AddOut2.nD Cert.AddOut2.τ).loc Cert.AddOut2.main_arg2) = m ((c.tc : Thread Cert.AddOut2.nD Cert.AddOut2.τ).loc Cert.AddOut2.main_arg2))
      ∧ r.2.sem = fun _ => 0)

def quiescent_AddOut2Ideal [hAddOut2Ideal : Cert.AddOut2Ideal.Facts] [hPre_half_addout2 : Cert.Pre_half_addout2.Facts] : Prop :=
  ∀ (m : (ℓ : Loc Cert.AddOut2Ideal.nD Cert.AddOut2Ideal.τ Cert.AddOut2Ideal.sig) → Buf (Elt Ideal) ℓ) (g : Dev Cert.AddOut2Ideal.nD → PrngReg), Pre_AddOut2Ideal m →
    θ_run (Cert.AddOut2Ideal.defs (F := Ideal)) (onTc (τ := Cert.AddOut2Ideal.τ) (Cert.AddOut2Ideal.main (F := Ideal))) ⟨m, fun _ => 0, g⟩ (fun r => (∀ c : Dev Cert.AddOut2Ideal.nD,
      r.2.mem ((c.tc : Thread Cert.AddOut2Ideal.nD Cert.AddOut2Ideal.τ).loc Cert.AddOut2Ideal.main_arg0) = m ((c.tc : Thread Cert.AddOut2Ideal.nD Cert.AddOut2Ideal.τ).loc Cert.AddOut2Ideal.main_arg0)
      ∧ r.2.mem ((c.tc : Thread Cert.AddOut2Ideal.nD Cert.AddOut2Ideal.τ).loc Cert.AddOut2Ideal.main_arg1) = m ((c.tc : Thread Cert.AddOut2Ideal.nD Cert.AddOut2Ideal.τ).loc Cert.AddOut2Ideal.main_arg1)
      ∧ r.2.mem ((c.tc : Thread Cert.AddOut2Ideal.nD Cert.AddOut2Ideal.τ).loc Cert.AddOut2Ideal.main_arg2) = m ((c.tc : Thread Cert.AddOut2Ideal.nD Cert.AddOut2Ideal.τ).loc Cert.AddOut2Ideal.main_arg2))
      ∧ r.2.sem = fun _ => 0)

def quiescent_AddOut2RefIdeal [hAddOut2RefIdeal : Cert.AddOut2RefIdeal.Facts] : Prop :=
  ∀ (m : (ℓ : Loc Cert.AddOut2RefIdeal.nD Cert.AddOut2RefIdeal.τ Cert.AddOut2RefIdeal.sig) → Buf (Elt Ideal) ℓ) (g : Dev Cert.AddOut2RefIdeal.nD → PrngReg), Pre_AddOut2RefIdeal m →
    θ_run (Cert.AddOut2RefIdeal.defs (F := Ideal)) (onTc (τ := Cert.AddOut2RefIdeal.τ) (Cert.AddOut2RefIdeal.main (F := Ideal))) ⟨m, fun _ => 0, g⟩ (fun r => (∀ c : Dev Cert.AddOut2RefIdeal.nD,
      r.2.mem ((c.tc : Thread Cert.AddOut2RefIdeal.nD Cert.AddOut2RefIdeal.τ).loc Cert.AddOut2RefIdeal.main_arg0) = m ((c.tc : Thread Cert.AddOut2RefIdeal.nD Cert.AddOut2RefIdeal.τ).loc Cert.AddOut2RefIdeal.main_arg0)
      ∧ r.2.mem ((c.tc : Thread Cert.AddOut2RefIdeal.nD Cert.AddOut2RefIdeal.τ).loc Cert.AddOut2RefIdeal.main_arg1) = m ((c.tc : Thread Cert.AddOut2RefIdeal.nD Cert.AddOut2RefIdeal.τ).loc Cert.AddOut2RefIdeal.main_arg1)
      ∧ r.2.mem ((c.tc : Thread Cert.AddOut2RefIdeal.nD Cert.AddOut2RefIdeal.τ).loc Cert.AddOut2RefIdeal.main_arg2) = m ((c.tc : Thread Cert.AddOut2RefIdeal.nD Cert.AddOut2RefIdeal.τ).loc Cert.AddOut2RefIdeal.main_arg2))
      ∧ r.2.sem = fun _ => 0)

def quiescent_AddOut2RefIdeal_pre_half_addout2 [hAddOut2RefIdeal : Cert.AddOut2RefIdeal.Facts] [hPre_half_addout2 : Cert.Pre_half_addout2.Facts] : Prop :=
  ∀ (m : (ℓ : Loc Cert.AddOut2RefIdeal.nD Cert.AddOut2RefIdeal.τ Cert.AddOut2RefIdeal.sig) → Buf (Elt Ideal) ℓ) (g : Dev Cert.AddOut2RefIdeal.nD → PrngReg), Pre_AddOut2RefIdeal_half_addout2 m →
    θ_run (Cert.AddOut2RefIdeal.defs (F := Ideal)) (onTc (τ := Cert.AddOut2RefIdeal.τ) (Cert.AddOut2RefIdeal.main (F := Ideal))) ⟨m, fun _ => 0, g⟩ (fun r => (∀ c : Dev Cert.AddOut2RefIdeal.nD,
      r.2.mem ((c.tc : Thread Cert.AddOut2RefIdeal.nD Cert.AddOut2RefIdeal.τ).loc Cert.AddOut2RefIdeal.main_arg0) = m ((c.tc : Thread Cert.AddOut2RefIdeal.nD Cert.AddOut2RefIdeal.τ).loc Cert.AddOut2RefIdeal.main_arg0)
      ∧ r.2.mem ((c.tc : Thread Cert.AddOut2RefIdeal.nD Cert.AddOut2RefIdeal.τ).loc Cert.AddOut2RefIdeal.main_arg1) = m ((c.tc : Thread Cert.AddOut2RefIdeal.nD Cert.AddOut2RefIdeal.τ).loc Cert.AddOut2RefIdeal.main_arg1)
      ∧ r.2.mem ((c.tc : Thread Cert.AddOut2RefIdeal.nD Cert.AddOut2RefIdeal.τ).loc Cert.AddOut2RefIdeal.main_arg2) = m ((c.tc : Thread Cert.AddOut2RefIdeal.nD Cert.AddOut2RefIdeal.τ).loc Cert.AddOut2RefIdeal.main_arg2))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamTaps [hAdamTaps : Cert.AdamTaps.Facts] : Prop :=
  ∀ (m : (ℓ : Loc Cert.AdamTaps.nD Cert.AdamTaps.τ Cert.AdamTaps.sig) → Buf (Elt Bits) ℓ) (g : Dev Cert.AdamTaps.nD → PrngReg), Pre_AdamTaps m →
    θ_run (Cert.AdamTaps.defs (F := Bits)) (onTc (τ := Cert.AdamTaps.τ) (Cert.AdamTaps.main (F := Bits))) ⟨m, fun _ => 0, g⟩ (fun r => (∀ c : Dev Cert.AdamTaps.nD,
      r.2.mem ((c.tc : Thread Cert.AdamTaps.nD Cert.AdamTaps.τ).loc Cert.AdamTaps.main_arg0) = m ((c.tc : Thread Cert.AdamTaps.nD Cert.AdamTaps.τ).loc Cert.AdamTaps.main_arg0)
      ∧ r.2.mem ((c.tc : Thread Cert.AdamTaps.nD Cert.AdamTaps.τ).loc Cert.AdamTaps.main_arg1) = m ((c.tc : Thread Cert.AdamTaps.nD Cert.AdamTaps.τ).loc Cert.AdamTaps.main_arg1)
      ∧ r.2.mem ((c.tc : Thread Cert.AdamTaps.nD Cert.AdamTaps.τ).loc Cert.AdamTaps.main_arg2) = m ((c.tc : Thread Cert.AdamTaps.nD Cert.AdamTaps.τ).loc Cert.AdamTaps.main_arg2)
      ∧ r.2.mem ((c.tc : Thread Cert.AdamTaps.nD Cert.AdamTaps.τ).loc Cert.AdamTaps.main_arg3) = m ((c.tc : Thread Cert.AdamTaps.nD Cert.AdamTaps.τ).loc Cert.AdamTaps.main_arg3))
      ∧ r.2.sem = fun _ => 0)

def quiescent_AdamTapsIdeal [hAdamTapsIdeal : Cert.AdamTapsIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg), Pre_AdamTapsIdeal m →
    θ_run (Cert.AdamTapsIdeal.defs (F := Ideal)) (onTc (τ := Cert.AdamTapsIdeal.τ) (Cert.AdamTapsIdeal.main (F := Ideal))) ⟨m, fun _ => 0, g⟩ (fun r => (∀ c : Dev Cert.AdamTapsIdeal.nD,
      r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
      ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
      ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
      ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ r.2.sem = fun _ => 0)

def quiescent_AdamTapsRefIdeal [hAdamTapsRefIdeal : Cert.AdamTapsRefIdeal.Facts] : Prop :=
  ∀ (m : (ℓ : Loc Cert.AdamTapsRefIdeal.nD Cert.AdamTapsRefIdeal.τ Cert.AdamTapsRefIdeal.sig) → Buf (Elt Ideal) ℓ) (g : Dev Cert.AdamTapsRefIdeal.nD → PrngReg), Pre_AdamTapsRefIdeal m →
    θ_run (Cert.AdamTapsRefIdeal.defs (F := Ideal)) (onTc (τ := Cert.AdamTapsRefIdeal.τ) (Cert.AdamTapsRefIdeal.main (F := Ideal))) ⟨m, fun _ => 0, g⟩ (fun r => (∀ c : Dev Cert.AdamTapsRefIdeal.nD,
      r.2.mem ((c.tc : Thread Cert.AdamTapsRefIdeal.nD Cert.AdamTapsRefIdeal.τ).loc Cert.AdamTapsRefIdeal.main_arg0) = m ((c.tc : Thread Cert.AdamTapsRefIdeal.nD Cert.AdamTapsRefIdeal.τ).loc Cert.AdamTapsRefIdeal.main_arg0)
      ∧ r.2.mem ((c.tc : Thread Cert.AdamTapsRefIdeal.nD Cert.AdamTapsRefIdeal.τ).loc Cert.AdamTapsRefIdeal.main_arg1) = m ((c.tc : Thread Cert.AdamTapsRefIdeal.nD Cert.AdamTapsRefIdeal.τ).loc Cert.AdamTapsRefIdeal.main_arg1)
      ∧ r.2.mem ((c.tc : Thread Cert.AdamTapsRefIdeal.nD Cert.AdamTapsRefIdeal.τ).loc Cert.AdamTapsRefIdeal.main_arg2) = m ((c.tc : Thread Cert.AdamTapsRefIdeal.nD Cert.AdamTapsRefIdeal.τ).loc Cert.AdamTapsRefIdeal.main_arg2)
      ∧ r.2.mem ((c.tc : Thread Cert.AdamTapsRefIdeal.nD Cert.AdamTapsRefIdeal.τ).loc Cert.AdamTapsRefIdeal.main_arg3) = m ((c.tc : Thread Cert.AdamTapsRefIdeal.nD Cert.AdamTapsRefIdeal.τ).loc Cert.AdamTapsRefIdeal.main_arg3))
      ∧ r.2.sem = fun _ => 0)

def quiescent_AdamTaps4 [hAdamTaps4 : Cert.AdamTaps4.Facts] : Prop :=
  ∀ (m : (ℓ : Loc Cert.AdamTaps4.nD Cert.AdamTaps4.τ Cert.AdamTaps4.sig) → Buf (Elt Bits) ℓ) (g : Dev Cert.AdamTaps4.nD → PrngReg), Pre_AdamTaps4 m →
    θ_run (Cert.AdamTaps4.defs (F := Bits)) (onTc (τ := Cert.AdamTaps4.τ) (Cert.AdamTaps4.main (F := Bits))) ⟨m, fun _ => 0, g⟩ (fun r => (∀ c : Dev Cert.AdamTaps4.nD,
      r.2.mem ((c.tc : Thread Cert.AdamTaps4.nD Cert.AdamTaps4.τ).loc Cert.AdamTaps4.main_arg0) = m ((c.tc : Thread Cert.AdamTaps4.nD Cert.AdamTaps4.τ).loc Cert.AdamTaps4.main_arg0)
      ∧ r.2.mem ((c.tc : Thread Cert.AdamTaps4.nD Cert.AdamTaps4.τ).loc Cert.AdamTaps4.main_arg1) = m ((c.tc : Thread Cert.AdamTaps4.nD Cert.AdamTaps4.τ).loc Cert.AdamTaps4.main_arg1)
      ∧ r.2.mem ((c.tc : Thread Cert.AdamTaps4.nD Cert.AdamTaps4.τ).loc Cert.AdamTaps4.main_arg2) = m ((c.tc : Thread Cert.AdamTaps4.nD Cert.AdamTaps4.τ).loc Cert.AdamTaps4.main_arg2)
      ∧ r.2.mem ((c.tc : Thread Cert.AdamTaps4.nD Cert.AdamTaps4.τ).loc Cert.AdamTaps4.main_arg3) = m ((c.tc : Thread Cert.AdamTaps4.nD Cert.AdamTaps4.τ).loc Cert.AdamTaps4.main_arg3))
      ∧ r.2.sem = fun _ => 0)

def quiescent_AdamTaps4Ideal [hAdamTaps4Ideal : Cert.AdamTaps4Ideal.Facts] : Prop :=
  ∀ (m : (ℓ : Loc Cert.AdamTaps4Ideal.nD Cert.AdamTaps4Ideal.τ Cert.AdamTaps4Ideal.sig) → Buf (Elt Ideal) ℓ) (g : Dev Cert.AdamTaps4Ideal.nD → PrngReg), Pre_AdamTaps4Ideal m →
    θ_run (Cert.AdamTaps4Ideal.defs (F := Ideal)) (onTc (τ := Cert.AdamTaps4Ideal.τ) (Cert.AdamTaps4Ideal.main (F := Ideal))) ⟨m, fun _ => 0, g⟩ (fun r => (∀ c : Dev Cert.AdamTaps4Ideal.nD,
      r.2.mem ((c.tc : Thread Cert.AdamTaps4Ideal.nD Cert.AdamTaps4Ideal.τ).loc Cert.AdamTaps4Ideal.main_arg0) = m ((c.tc : Thread Cert.AdamTaps4Ideal.nD Cert.AdamTaps4Ideal.τ).loc Cert.AdamTaps4Ideal.main_arg0)
      ∧ r.2.mem ((c.tc : Thread Cert.AdamTaps4Ideal.nD Cert.AdamTaps4Ideal.τ).loc Cert.AdamTaps4Ideal.main_arg1) = m ((c.tc : Thread Cert.AdamTaps4Ideal.nD Cert.AdamTaps4Ideal.τ).loc Cert.AdamTaps4Ideal.main_arg1)
      ∧ r.2.mem ((c.tc : Thread Cert.AdamTaps4Ideal.nD Cert.AdamTaps4Ideal.τ).loc Cert.AdamTaps4Ideal.main_arg2) = m ((c.tc : Thread Cert.AdamTaps4Ideal.nD Cert.AdamTaps4Ideal.τ).loc Cert.AdamTaps4Ideal.main_arg2)
      ∧ r.2.mem ((c.tc : Thread Cert.AdamTaps4Ideal.nD Cert.AdamTaps4Ideal.τ).loc Cert.AdamTaps4Ideal.main_arg3) = m ((c.tc : Thread Cert.AdamTaps4Ideal.nD Cert.AdamTaps4Ideal.τ).loc Cert.AdamTaps4Ideal.main_arg3))
      ∧ r.2.sem = fun _ => 0)

def quiescent_AdamTaps4RefIdeal [hAdamTaps4RefIdeal : Cert.AdamTaps4RefIdeal.Facts] : Prop :=
  ∀ (m : (ℓ : Loc Cert.AdamTaps4RefIdeal.nD Cert.AdamTaps4RefIdeal.τ Cert.AdamTaps4RefIdeal.sig) → Buf (Elt Ideal) ℓ) (g : Dev Cert.AdamTaps4RefIdeal.nD → PrngReg), Pre_AdamTaps4RefIdeal m →
    θ_run (Cert.AdamTaps4RefIdeal.defs (F := Ideal)) (onTc (τ := Cert.AdamTaps4RefIdeal.τ) (Cert.AdamTaps4RefIdeal.main (F := Ideal))) ⟨m, fun _ => 0, g⟩ (fun r => (∀ c : Dev Cert.AdamTaps4RefIdeal.nD,
      r.2.mem ((c.tc : Thread Cert.AdamTaps4RefIdeal.nD Cert.AdamTaps4RefIdeal.τ).loc Cert.AdamTaps4RefIdeal.main_arg0) = m ((c.tc : Thread Cert.AdamTaps4RefIdeal.nD Cert.AdamTaps4RefIdeal.τ).loc Cert.AdamTaps4RefIdeal.main_arg0)
      ∧ r.2.mem ((c.tc : Thread Cert.AdamTaps4RefIdeal.nD Cert.AdamTaps4RefIdeal.τ).loc Cert.AdamTaps4RefIdeal.main_arg1) = m ((c.tc : Thread Cert.AdamTaps4RefIdeal.nD Cert.AdamTaps4RefIdeal.τ).loc Cert.AdamTaps4RefIdeal.main_arg1)
      ∧ r.2.mem ((c.tc : Thread Cert.AdamTaps4RefIdeal.nD Cert.AdamTaps4RefIdeal.τ).loc Cert.AdamTaps4RefIdeal.main_arg2) = m ((c.tc : Thread Cert.AdamTaps4RefIdeal.nD Cert.AdamTaps4RefIdeal.τ).loc Cert.AdamTaps4RefIdeal.main_arg2)
      ∧ r.2.mem ((c.tc : Thread Cert.AdamTaps4RefIdeal.nD Cert.AdamTaps4RefIdeal.τ).loc Cert.AdamTaps4RefIdeal.main_arg3) = m ((c.tc : Thread Cert.AdamTaps4RefIdeal.nD Cert.AdamTaps4RefIdeal.τ).loc Cert.AdamTaps4RefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3))
      ∧ r.2.sem = fun _ => 0)

def quiescent_AdamFinal [hAdamFinal : Cert.AdamFinal.Facts] : Prop :=
  ∀ (m : (ℓ : Loc Cert.AdamFinal.nD Cert.AdamFinal.τ Cert.AdamFinal.sig) → Buf (Elt Bits) ℓ) (g : Dev Cert.AdamFinal.nD → PrngReg), Pre_AdamFinal m →
    θ_run (Cert.AdamFinal.defs (F := Bits)) (onTc (τ := Cert.AdamFinal.τ) (Cert.AdamFinal.main (F := Bits))) ⟨m, fun _ => 0, g⟩ (fun r => (∀ c : Dev Cert.AdamFinal.nD,
      r.2.mem ((c.tc : Thread Cert.AdamFinal.nD Cert.AdamFinal.τ).loc Cert.AdamFinal.main_arg0) = m ((c.tc : Thread Cert.AdamFinal.nD Cert.AdamFinal.τ).loc Cert.AdamFinal.main_arg0)
      ∧ r.2.mem ((c.tc : Thread Cert.AdamFinal.nD Cert.AdamFinal.τ).loc Cert.AdamFinal.main_arg1) = m ((c.tc : Thread Cert.AdamFinal.nD Cert.AdamFinal.τ).loc Cert.AdamFinal.main_arg1)
      ∧ r.2.mem ((c.tc : Thread Cert.AdamFinal.nD Cert.AdamFinal.τ).loc Cert.AdamFinal.main_arg2) = m ((c.tc : Thread Cert.AdamFinal.nD Cert.AdamFinal.τ).loc Cert.AdamFinal.main_arg2)
      ∧ r.2.mem ((c.tc : Thread Cert.AdamFinal.nD Cert.AdamFinal.τ).loc Cert.AdamFinal.main_arg3) = m ((c.tc : Thread Cert.AdamFinal.nD Cert.AdamFinal.τ).loc Cert.AdamFinal.main_arg3))
      ∧ r.2.sem = fun _ => 0)

def quiescent_AdamFinalIdeal [hAdamFinalIdeal : Cert.AdamFinalIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg), Pre_AdamFinalIdeal m →
    θ_run (Cert.AdamFinalIdeal.defs (F := Ideal)) (onTc (τ := Cert.AdamFinalIdeal.τ) (Cert.AdamFinalIdeal.main (F := Ideal))) ⟨m, fun _ => 0, g⟩ (fun r => (∀ c : Dev Cert.AdamFinalIdeal.nD,
      r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
      ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
      ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
      ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ r.2.sem = fun _ => 0)

def quiescent_AdamFinalRefIdeal [hAdamFinalRefIdeal : Cert.AdamFinalRefIdeal.Facts] : Prop :=
  ∀ (m : (ℓ : Loc Cert.AdamFinalRefIdeal.nD Cert.AdamFinalRefIdeal.τ Cert.AdamFinalRefIdeal.sig) → Buf (Elt Ideal) ℓ) (g : Dev Cert.AdamFinalRefIdeal.nD → PrngReg), Pre_AdamFinalRefIdeal m →
    θ_run (Cert.AdamFinalRefIdeal.defs (F := Ideal)) (onTc (τ := Cert.AdamFinalRefIdeal.τ) (Cert.AdamFinalRefIdeal.main (F := Ideal))) ⟨m, fun _ => 0, g⟩ (fun r => (∀ c : Dev Cert.AdamFinalRefIdeal.nD,
      r.2.mem ((c.tc : Thread Cert.AdamFinalRefIdeal.nD Cert.AdamFinalRefIdeal.τ).loc Cert.AdamFinalRefIdeal.main_arg0) = m ((c.tc : Thread Cert.AdamFinalRefIdeal.nD Cert.AdamFinalRefIdeal.τ).loc Cert.AdamFinalRefIdeal.main_arg0)
      ∧ r.2.mem ((c.tc : Thread Cert.AdamFinalRefIdeal.nD Cert.AdamFinalRefIdeal.τ).loc Cert.AdamFinalRefIdeal.main_arg1) = m ((c.tc : Thread Cert.AdamFinalRefIdeal.nD Cert.AdamFinalRefIdeal.τ).loc Cert.AdamFinalRefIdeal.main_arg1)
      ∧ r.2.mem ((c.tc : Thread Cert.AdamFinalRefIdeal.nD Cert.AdamFinalRefIdeal.τ).loc Cert.AdamFinalRefIdeal.main_arg2) = m ((c.tc : Thread Cert.AdamFinalRefIdeal.nD Cert.AdamFinalRefIdeal.τ).loc Cert.AdamFinalRefIdeal.main_arg2)
      ∧ r.2.mem ((c.tc : Thread Cert.AdamFinalRefIdeal.nD Cert.AdamFinalRefIdeal.τ).loc Cert.AdamFinalRefIdeal.main_arg3) = m ((c.tc : Thread Cert.AdamFinalRefIdeal.nD Cert.AdamFinalRefIdeal.τ).loc Cert.AdamFinalRefIdeal.main_arg3))
      ∧ r.2.sem = fun _ => 0)

def preserves_Mix_MixIdeal : Prop :=
  True

def algebraic_MixIdeal_MixRefIdeal_on_gates_pre_finite [hMixIdeal : Cert.MixIdeal.Facts] [hMixRefIdeal : Cert.MixRefIdeal.Facts] [hPre_finite : Cert.Pre_finite.Facts] [hOn_gates : Cert.On_gates.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v151_0)) (v1 : (c : Dev Cert.MixIdeal.nD) → Buf (Elt Ideal) ((c.tc : Thread Cert.MixIdeal.nD Cert.MixIdeal.τ).loc Cert.MixIdeal.main_v151_1)) (v2 : (c : Dev Cert.MixIdeal.nD) → Buf (Elt Ideal) ((c.tc : Thread Cert.MixIdeal.nD Cert.MixIdeal.τ).loc Cert.MixIdeal.main_v151_2)) (v3 : (c : Dev Cert.MixIdeal.nD) → Buf (Elt Ideal) ((c.tc : Thread Cert.MixIdeal.nD Cert.MixIdeal.τ).loc Cert.MixIdeal.main_v151_3)) (v4 : (c : Dev Cert.MixIdeal.nD) → Buf (Elt Ideal) ((c.tc : Thread Cert.MixIdeal.nD Cert.MixIdeal.τ).loc Cert.MixIdeal.main_v151_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          (∀ i : (⟨2, ![8192, 5120]⟩ : Shape).Idx, (Cert.On_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))).1 i = 1#1 → r.2.mem ((c.tc : Thread Cert.MixIdeal.nD Cert.MixIdeal.τ).loc Cert.MixIdeal.main_v151_0) i = v0 c i)
          ∧ (∀ i : (⟨2, ![16, 1024]⟩ : Shape).Idx, (Cert.On_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))).2.1 i = 1#1 → r.2.mem ((c.tc : Thread Cert.MixIdeal.nD Cert.MixIdeal.τ).loc Cert.MixIdeal.main_v151_1) i = v1 c i)
          ∧ (∀ i : (⟨2, ![32, 1024]⟩ : Shape).Idx, (Cert.On_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))).2.2.1 i = 1#1 → r.2.mem ((c.tc : Thread Cert.MixIdeal.nD Cert.MixIdeal.τ).loc Cert.MixIdeal.main_v151_2) i = v2 c i)
          ∧ (∀ i : (⟨3, ![8, 128, 128]⟩ : Shape).Idx, (Cert.On_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))).2.2.2.1 i = 1#1 → r.2.mem ((c.tc : Thread Cert.MixIdeal.nD Cert.MixIdeal.τ).loc Cert.MixIdeal.main_v151_3) i = v3 c i)
          ∧ (∀ i : (⟨3, ![8, 128, 128]⟩ : Shape).Idx, (Cert.On_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))).2.2.2.2 i = 1#1 → r.2.mem ((c.tc : Thread Cert.MixIdeal.nD Cert.MixIdeal.τ).loc Cert.MixIdeal.main_v151_4) i = v4 c i)
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          (∀ i : (⟨2, ![8192, 5120]⟩ : Shape).Idx, (Cert.On_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))).1 i = 1#1 → r.2.mem ((c.tc : Thread Cert.MixRefIdeal.nD Cert.MixRefIdeal.τ).loc Cert.MixRefIdeal.main_v120) i = v0 c i)
          ∧ (∀ i : (⟨2, ![16, 1024]⟩ : Shape).Idx, (Cert.On_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))).2.1 i = 1#1 → r.2.mem ((c.tc : Thread Cert.MixRefIdeal.nD Cert.MixRefIdeal.τ).loc Cert.MixRefIdeal.main_v118) i = v1 c i)
          ∧ (∀ i : (⟨2, ![32, 1024]⟩ : Shape).Idx, (Cert.On_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))).2.2.1 i = 1#1 → r.2.mem ((c.tc : Thread Cert.MixRefIdeal.nD Cert.MixRefIdeal.τ).loc Cert.MixRefIdeal.main_v121) i = v2 c i)
          ∧ (∀ i : (⟨3, ![8, 128, 128]⟩ : Shape).Idx, (Cert.On_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))).2.2.2.1 i = 1#1 → r.2.mem ((c.tc : Thread Cert.MixRefIdeal.nD Cert.MixRefIdeal.τ).loc Cert.MixRefIdeal.main_v119) i = v3 c i)
          ∧ (∀ i : (⟨3, ![8, 128, 128]⟩ : Shape).Idx, (Cert.On_gates.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))).2.2.2.2 i = 1#1 → r.2.mem ((c.tc : Thread Cert.MixRefIdeal.nD Cert.MixRefIdeal.τ).loc Cert.MixRefIdeal.main_v119) i = v4 c i)
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v8) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v9) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0_0)) (v1 : (c : Dev Cert.OutBwdIdeal.nD) → Buf (Elt Ideal) ((c.tc : Thread Cert.OutBwdIdeal.nD Cert.OutBwdIdeal.τ).loc Cert.OutBwdIdeal.main_v0_1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0_0) = v0 c
          ∧ r.2.mem ((c.tc : Thread Cert.OutBwdIdeal.nD Cert.OutBwdIdeal.τ).loc Cert.OutBwdIdeal.main_v0_1) = v1 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v5) = v0 c
          ∧ r.2.mem ((c.tc : Thread Cert.OutBwdRefIdeal.nD Cert.OutBwdRefIdeal.τ).loc Cert.OutBwdRefIdeal.main_v0) = v1 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v38) = v0 c
          ∧ r.2.mem ((c.tc : Thread Cert.NormBwdRefIdeal.nD Cert.NormBwdRefIdeal.τ).loc Cert.NormBwdRefIdeal.main_v21) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v0)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v0) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v12) = v0 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)) →
    ∃ (v0 : (c : Dev Cert.RowsIdeal.nD) → Buf (Elt Ideal) ((c.tc : Thread Cert.RowsIdeal.nD Cert.RowsIdeal.τ).loc Cert.RowsIdeal.main_v0)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v1) = v0 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0))

def preserves_CastIn_CastInIdeal : Prop :=
  True

def algebraic_CastInIdeal_CastInRefIdeal [hCastInIdeal : Cert.CastInIdeal.Facts] [hCastInRefIdeal : Cert.CastInRefIdeal.Facts] : Prop :=
  ∀ (m : (ℓ : Loc Cert.CastInIdeal.nD Cert.CastInIdeal.τ Cert.CastInIdeal.sig) → Buf (Elt Ideal) ℓ) (g : Dev Cert.CastInIdeal.nD → PrngReg)
    (m' : (ℓ : Loc Cert.CastInRefIdeal.nD Cert.CastInRefIdeal.τ Cert.CastInRefIdeal.sig) → Buf (Elt Ideal) ℓ) (g' : Dev Cert.CastInRefIdeal.nD → PrngReg), Pre_CastInIdeal m →
    (∀ c : Dev Cert.CastInIdeal.nD,
      m' ((c.tc : Thread Cert.CastInRefIdeal.nD Cert.CastInRefIdeal.τ).loc Cert.CastInRefIdeal.main_arg0) = m ((c.tc : Thread Cert.CastInIdeal.nD Cert.CastInIdeal.τ).loc Cert.CastInIdeal.main_arg0)) →
    ∃ (v0 : (c : Dev Cert.CastInIdeal.nD) → Buf (Elt Ideal) ((c.tc : Thread Cert.CastInIdeal.nD Cert.CastInIdeal.τ).loc Cert.CastInIdeal.main_v0)),
      θ_run (Cert.CastInIdeal.defs (F := Ideal)) (onTc (τ := Cert.CastInIdeal.τ) (Cert.CastInIdeal.main (F := Ideal))) ⟨m, fun _ => 0, g⟩ (fun r => ∀ c : Dev Cert.CastInIdeal.nD,
          r.2.mem ((c.tc : Thread Cert.CastInIdeal.nD Cert.CastInIdeal.τ).loc Cert.CastInIdeal.main_v0) = v0 c
          ∧ r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ θ_run (Cert.CastInRefIdeal.defs (F := Ideal)) (onTc (τ := Cert.CastInRefIdeal.τ) (Cert.CastInRefIdeal.main (F := Ideal))) ⟨m', fun _ => 0, g'⟩ (fun r => ∀ c : Dev Cert.CastInRefIdeal.nD,
          r.2.mem ((c.tc : Thread Cert.CastInRefIdeal.nD Cert.CastInRefIdeal.τ).loc Cert.CastInRefIdeal.main_v0) = v0 c
          ∧ r.2.mem ((c.tc : Thread Cert.CastInRefIdeal.nD Cert.CastInRefIdeal.τ).loc Cert.CastInRefIdeal.main_arg0) = m' ((c.tc : Thread Cert.CastInRefIdeal.nD Cert.CastInRefIdeal.τ).loc Cert.CastInRefIdeal.main_arg0))

def preserves_CastOut_CastOutIdeal : Prop :=
  True

def algebraic_CastOutIdeal_CastOutRefIdeal [hCastOutIdeal : Cert.CastOutIdeal.Facts] [hCastOutRefIdeal : Cert.CastOutRefIdeal.Facts] : Prop :=
  ∀ (m : (ℓ : Loc Cert.CastOutIdeal.nD Cert.CastOutIdeal.τ Cert.CastOutIdeal.sig) → Buf (Elt Ideal) ℓ) (g : Dev Cert.CastOutIdeal.nD → PrngReg)
    (m' : (ℓ : Loc Cert.CastOutRefIdeal.nD Cert.CastOutRefIdeal.τ Cert.CastOutRefIdeal.sig) → Buf (Elt Ideal) ℓ) (g' : Dev Cert.CastOutRefIdeal.nD → PrngReg), Pre_CastOutIdeal m →
    (∀ c : Dev Cert.CastOutIdeal.nD,
      m' ((c.tc : Thread Cert.CastOutRefIdeal.nD Cert.CastOutRefIdeal.τ).loc Cert.CastOutRefIdeal.main_arg0) = m ((c.tc : Thread Cert.CastOutIdeal.nD Cert.CastOutIdeal.τ).loc Cert.CastOutIdeal.main_arg0)) →
    ∃ (v0 : (c : Dev Cert.CastOutIdeal.nD) → Buf (Elt Ideal) ((c.tc : Thread Cert.CastOutIdeal.nD Cert.CastOutIdeal.τ).loc Cert.CastOutIdeal.main_v0)),
      θ_run (Cert.CastOutIdeal.defs (F := Ideal)) (onTc (τ := Cert.CastOutIdeal.τ) (Cert.CastOutIdeal.main (F := Ideal))) ⟨m, fun _ => 0, g⟩ (fun r => ∀ c : Dev Cert.CastOutIdeal.nD,
          r.2.mem ((c.tc : Thread Cert.CastOutIdeal.nD Cert.CastOutIdeal.τ).loc Cert.CastOutIdeal.main_v0) = v0 c
          ∧ r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ θ_run (Cert.CastOutRefIdeal.defs (F := Ideal)) (onTc (τ := Cert.CastOutRefIdeal.τ) (Cert.CastOutRefIdeal.main (F := Ideal))) ⟨m', fun _ => 0, g'⟩ (fun r => ∀ c : Dev Cert.CastOutRefIdeal.nD,
          r.2.mem ((c.tc : Thread Cert.CastOutRefIdeal.nD Cert.CastOutRefIdeal.τ).loc Cert.CastOutRefIdeal.main_v0) = v0 c
          ∧ r.2.mem ((c.tc : Thread Cert.CastOutRefIdeal.nD Cert.CastOutRefIdeal.τ).loc Cert.CastOutRefIdeal.main_arg0) = m' ((c.tc : Thread Cert.CastOutRefIdeal.nD Cert.CastOutRefIdeal.τ).loc Cert.CastOutRefIdeal.main_arg0))

def preserves_AddIn0_AddIn0Ideal : Prop :=
  True

def algebraic_AddIn0Ideal_AddIn0RefIdeal [hAddIn0Ideal : Cert.AddIn0Ideal.Facts] [hAddIn0RefIdeal : Cert.AddIn0RefIdeal.Facts] [hPre_half_addin0 : Cert.Pre_half_addin0.Facts] : Prop :=
  ∀ (m : (ℓ : Loc Cert.AddIn0Ideal.nD Cert.AddIn0Ideal.τ Cert.AddIn0Ideal.sig) → Buf (Elt Ideal) ℓ) (g : Dev Cert.AddIn0Ideal.nD → PrngReg)
    (m' : (ℓ : Loc Cert.AddIn0RefIdeal.nD Cert.AddIn0RefIdeal.τ Cert.AddIn0RefIdeal.sig) → Buf (Elt Ideal) ℓ) (g' : Dev Cert.AddIn0RefIdeal.nD → PrngReg), Pre_AddIn0Ideal m →
    (∀ c : Dev Cert.AddIn0Ideal.nD,
      m' ((c.tc : Thread Cert.AddIn0RefIdeal.nD Cert.AddIn0RefIdeal.τ).loc Cert.AddIn0RefIdeal.main_arg0) = m ((c.tc : Thread Cert.AddIn0Ideal.nD Cert.AddIn0Ideal.τ).loc Cert.AddIn0Ideal.main_arg0)
      ∧ m' ((c.tc : Thread Cert.AddIn0RefIdeal.nD Cert.AddIn0RefIdeal.τ).loc Cert.AddIn0RefIdeal.main_arg1) = m ((c.tc : Thread Cert.AddIn0Ideal.nD Cert.AddIn0Ideal.τ).loc Cert.AddIn0Ideal.main_arg1)
      ∧ m' ((c.tc : Thread Cert.AddIn0RefIdeal.nD Cert.AddIn0RefIdeal.τ).loc Cert.AddIn0RefIdeal.main_arg2) = m ((c.tc : Thread Cert.AddIn0Ideal.nD Cert.AddIn0Ideal.τ).loc Cert.AddIn0Ideal.main_arg2)) →
    ∃ (v0 : (c : Dev Cert.AddIn0Ideal.nD) → Buf (Elt Ideal) ((c.tc : Thread Cert.AddIn0Ideal.nD Cert.AddIn0Ideal.τ).loc Cert.AddIn0Ideal.main_v0)),
      θ_run (Cert.AddIn0Ideal.defs (F := Ideal)) (onTc (τ := Cert.AddIn0Ideal.τ) (Cert.AddIn0Ideal.main (F := Ideal))) ⟨m, fun _ => 0, g⟩ (fun r => ∀ c : Dev Cert.AddIn0Ideal.nD,
          r.2.mem ((c.tc : Thread Cert.AddIn0Ideal.nD Cert.AddIn0Ideal.τ).loc Cert.AddIn0Ideal.main_v0) = v0 c
          ∧ r.2.mem ((c.tc : Thread Cert.AddIn0Ideal.nD Cert.AddIn0Ideal.τ).loc Cert.AddIn0Ideal.main_arg0) = m ((c.tc : Thread Cert.AddIn0Ideal.nD Cert.AddIn0Ideal.τ).loc Cert.AddIn0Ideal.main_arg0)
          ∧ r.2.mem ((c.tc : Thread Cert.AddIn0Ideal.nD Cert.AddIn0Ideal.τ).loc Cert.AddIn0Ideal.main_arg1) = m ((c.tc : Thread Cert.AddIn0Ideal.nD Cert.AddIn0Ideal.τ).loc Cert.AddIn0Ideal.main_arg1)
          ∧ r.2.mem ((c.tc : Thread Cert.AddIn0Ideal.nD Cert.AddIn0Ideal.τ).loc Cert.AddIn0Ideal.main_arg2) = m ((c.tc : Thread Cert.AddIn0Ideal.nD Cert.AddIn0Ideal.τ).loc Cert.AddIn0Ideal.main_arg2))
      ∧ θ_run (Cert.AddIn0RefIdeal.defs (F := Ideal)) (onTc (τ := Cert.AddIn0RefIdeal.τ) (Cert.AddIn0RefIdeal.main (F := Ideal))) ⟨m', fun _ => 0, g'⟩ (fun r => ∀ c : Dev Cert.AddIn0RefIdeal.nD,
          r.2.mem ((c.tc : Thread Cert.AddIn0RefIdeal.nD Cert.AddIn0RefIdeal.τ).loc Cert.AddIn0RefIdeal.main_v9) = v0 c
          ∧ r.2.mem ((c.tc : Thread Cert.AddIn0RefIdeal.nD Cert.AddIn0RefIdeal.τ).loc Cert.AddIn0RefIdeal.main_arg0) = m' ((c.tc : Thread Cert.AddIn0RefIdeal.nD Cert.AddIn0RefIdeal.τ).loc Cert.AddIn0RefIdeal.main_arg0)
          ∧ r.2.mem ((c.tc : Thread Cert.AddIn0RefIdeal.nD Cert.AddIn0RefIdeal.τ).loc Cert.AddIn0RefIdeal.main_arg1) = m' ((c.tc : Thread Cert.AddIn0RefIdeal.nD Cert.AddIn0RefIdeal.τ).loc Cert.AddIn0RefIdeal.main_arg1)
          ∧ r.2.mem ((c.tc : Thread Cert.AddIn0RefIdeal.nD Cert.AddIn0RefIdeal.τ).loc Cert.AddIn0RefIdeal.main_arg2) = m' ((c.tc : Thread Cert.AddIn0RefIdeal.nD Cert.AddIn0RefIdeal.τ).loc Cert.AddIn0RefIdeal.main_arg2))

def preserves_AddIn1_AddIn1Ideal : Prop :=
  True

def algebraic_AddIn1Ideal_AddIn1RefIdeal [hAddIn1Ideal : Cert.AddIn1Ideal.Facts] [hAddIn1RefIdeal : Cert.AddIn1RefIdeal.Facts] [hPre_half_addin1 : Cert.Pre_half_addin1.Facts] : Prop :=
  ∀ (m : (ℓ : Loc Cert.AddIn1Ideal.nD Cert.AddIn1Ideal.τ Cert.AddIn1Ideal.sig) → Buf (Elt Ideal) ℓ) (g : Dev Cert.AddIn1Ideal.nD → PrngReg)
    (m' : (ℓ : Loc Cert.AddIn1RefIdeal.nD Cert.AddIn1RefIdeal.τ Cert.AddIn1RefIdeal.sig) → Buf (Elt Ideal) ℓ) (g' : Dev Cert.AddIn1RefIdeal.nD → PrngReg), Pre_AddIn1Ideal m →
    (∀ c : Dev Cert.AddIn1Ideal.nD,
      m' ((c.tc : Thread Cert.AddIn1RefIdeal.nD Cert.AddIn1RefIdeal.τ).loc Cert.AddIn1RefIdeal.main_arg0) = m ((c.tc : Thread Cert.AddIn1Ideal.nD Cert.AddIn1Ideal.τ).loc Cert.AddIn1Ideal.main_arg0)
      ∧ m' ((c.tc : Thread Cert.AddIn1RefIdeal.nD Cert.AddIn1RefIdeal.τ).loc Cert.AddIn1RefIdeal.main_arg1) = m ((c.tc : Thread Cert.AddIn1Ideal.nD Cert.AddIn1Ideal.τ).loc Cert.AddIn1Ideal.main_arg1)
      ∧ m' ((c.tc : Thread Cert.AddIn1RefIdeal.nD Cert.AddIn1RefIdeal.τ).loc Cert.AddIn1RefIdeal.main_arg2) = m ((c.tc : Thread Cert.AddIn1Ideal.nD Cert.AddIn1Ideal.τ).loc Cert.AddIn1Ideal.main_arg2)) →
    ∃ (v0 : (c : Dev Cert.AddIn1Ideal.nD) → Buf (Elt Ideal) ((c.tc : Thread Cert.AddIn1Ideal.nD Cert.AddIn1Ideal.τ).loc Cert.AddIn1Ideal.main_v0)),
      θ_run (Cert.AddIn1Ideal.defs (F := Ideal)) (onTc (τ := Cert.AddIn1Ideal.τ) (Cert.AddIn1Ideal.main (F := Ideal))) ⟨m, fun _ => 0, g⟩ (fun r => ∀ c : Dev Cert.AddIn1Ideal.nD,
          r.2.mem ((c.tc : Thread Cert.AddIn1Ideal.nD Cert.AddIn1Ideal.τ).loc Cert.AddIn1Ideal.main_v0) = v0 c
          ∧ r.2.mem ((c.tc : Thread Cert.AddIn1Ideal.nD Cert.AddIn1Ideal.τ).loc Cert.AddIn1Ideal.main_arg0) = m ((c.tc : Thread Cert.AddIn1Ideal.nD Cert.AddIn1Ideal.τ).loc Cert.AddIn1Ideal.main_arg0)
          ∧ r.2.mem ((c.tc : Thread Cert.AddIn1Ideal.nD Cert.AddIn1Ideal.τ).loc Cert.AddIn1Ideal.main_arg1) = m ((c.tc : Thread Cert.AddIn1Ideal.nD Cert.AddIn1Ideal.τ).loc Cert.AddIn1Ideal.main_arg1)
          ∧ r.2.mem ((c.tc : Thread Cert.AddIn1Ideal.nD Cert.AddIn1Ideal.τ).loc Cert.AddIn1Ideal.main_arg2) = m ((c.tc : Thread Cert.AddIn1Ideal.nD Cert.AddIn1Ideal.τ).loc Cert.AddIn1Ideal.main_arg2))
      ∧ θ_run (Cert.AddIn1RefIdeal.defs (F := Ideal)) (onTc (τ := Cert.AddIn1RefIdeal.τ) (Cert.AddIn1RefIdeal.main (F := Ideal))) ⟨m', fun _ => 0, g'⟩ (fun r => ∀ c : Dev Cert.AddIn1RefIdeal.nD,
          r.2.mem ((c.tc : Thread Cert.AddIn1RefIdeal.nD Cert.AddIn1RefIdeal.τ).loc Cert.AddIn1RefIdeal.main_v9) = v0 c
          ∧ r.2.mem ((c.tc : Thread Cert.AddIn1RefIdeal.nD Cert.AddIn1RefIdeal.τ).loc Cert.AddIn1RefIdeal.main_arg0) = m' ((c.tc : Thread Cert.AddIn1RefIdeal.nD Cert.AddIn1RefIdeal.τ).loc Cert.AddIn1RefIdeal.main_arg0)
          ∧ r.2.mem ((c.tc : Thread Cert.AddIn1RefIdeal.nD Cert.AddIn1RefIdeal.τ).loc Cert.AddIn1RefIdeal.main_arg1) = m' ((c.tc : Thread Cert.AddIn1RefIdeal.nD Cert.AddIn1RefIdeal.τ).loc Cert.AddIn1RefIdeal.main_arg1)
          ∧ r.2.mem ((c.tc : Thread Cert.AddIn1RefIdeal.nD Cert.AddIn1RefIdeal.τ).loc Cert.AddIn1RefIdeal.main_arg2) = m' ((c.tc : Thread Cert.AddIn1RefIdeal.nD Cert.AddIn1RefIdeal.τ).loc Cert.AddIn1RefIdeal.main_arg2))

def preserves_AddIn2_AddIn2Ideal : Prop :=
  True

def algebraic_AddIn2Ideal_AddIn2RefIdeal [hAddIn2Ideal : Cert.AddIn2Ideal.Facts] [hAddIn2RefIdeal : Cert.AddIn2RefIdeal.Facts] [hPre_half_addin2 : Cert.Pre_half_addin2.Facts] : Prop :=
  ∀ (m : (ℓ : Loc Cert.AddIn2Ideal.nD Cert.AddIn2Ideal.τ Cert.AddIn2Ideal.sig) → Buf (Elt Ideal) ℓ) (g : Dev Cert.AddIn2Ideal.nD → PrngReg)
    (m' : (ℓ : Loc Cert.AddIn2RefIdeal.nD Cert.AddIn2RefIdeal.τ Cert.AddIn2RefIdeal.sig) → Buf (Elt Ideal) ℓ) (g' : Dev Cert.AddIn2RefIdeal.nD → PrngReg), Pre_AddIn2Ideal m →
    (∀ c : Dev Cert.AddIn2Ideal.nD,
      m' ((c.tc : Thread Cert.AddIn2RefIdeal.nD Cert.AddIn2RefIdeal.τ).loc Cert.AddIn2RefIdeal.main_arg0) = m ((c.tc : Thread Cert.AddIn2Ideal.nD Cert.AddIn2Ideal.τ).loc Cert.AddIn2Ideal.main_arg0)
      ∧ m' ((c.tc : Thread Cert.AddIn2RefIdeal.nD Cert.AddIn2RefIdeal.τ).loc Cert.AddIn2RefIdeal.main_arg1) = m ((c.tc : Thread Cert.AddIn2Ideal.nD Cert.AddIn2Ideal.τ).loc Cert.AddIn2Ideal.main_arg1)
      ∧ m' ((c.tc : Thread Cert.AddIn2RefIdeal.nD Cert.AddIn2RefIdeal.τ).loc Cert.AddIn2RefIdeal.main_arg2) = m ((c.tc : Thread Cert.AddIn2Ideal.nD Cert.AddIn2Ideal.τ).loc Cert.AddIn2Ideal.main_arg2)) →
    ∃ (v0 : (c : Dev Cert.AddIn2Ideal.nD) → Buf (Elt Ideal) ((c.tc : Thread Cert.AddIn2Ideal.nD Cert.AddIn2Ideal.τ).loc Cert.AddIn2Ideal.main_v0)),
      θ_run (Cert.AddIn2Ideal.defs (F := Ideal)) (onTc (τ := Cert.AddIn2Ideal.τ) (Cert.AddIn2Ideal.main (F := Ideal))) ⟨m, fun _ => 0, g⟩ (fun r => ∀ c : Dev Cert.AddIn2Ideal.nD,
          r.2.mem ((c.tc : Thread Cert.AddIn2Ideal.nD Cert.AddIn2Ideal.τ).loc Cert.AddIn2Ideal.main_v0) = v0 c
          ∧ r.2.mem ((c.tc : Thread Cert.AddIn2Ideal.nD Cert.AddIn2Ideal.τ).loc Cert.AddIn2Ideal.main_arg0) = m ((c.tc : Thread Cert.AddIn2Ideal.nD Cert.AddIn2Ideal.τ).loc Cert.AddIn2Ideal.main_arg0)
          ∧ r.2.mem ((c.tc : Thread Cert.AddIn2Ideal.nD Cert.AddIn2Ideal.τ).loc Cert.AddIn2Ideal.main_arg1) = m ((c.tc : Thread Cert.AddIn2Ideal.nD Cert.AddIn2Ideal.τ).loc Cert.AddIn2Ideal.main_arg1)
          ∧ r.2.mem ((c.tc : Thread Cert.AddIn2Ideal.nD Cert.AddIn2Ideal.τ).loc Cert.AddIn2Ideal.main_arg2) = m ((c.tc : Thread Cert.AddIn2Ideal.nD Cert.AddIn2Ideal.τ).loc Cert.AddIn2Ideal.main_arg2))
      ∧ θ_run (Cert.AddIn2RefIdeal.defs (F := Ideal)) (onTc (τ := Cert.AddIn2RefIdeal.τ) (Cert.AddIn2RefIdeal.main (F := Ideal))) ⟨m', fun _ => 0, g'⟩ (fun r => ∀ c : Dev Cert.AddIn2RefIdeal.nD,
          r.2.mem ((c.tc : Thread Cert.AddIn2RefIdeal.nD Cert.AddIn2RefIdeal.τ).loc Cert.AddIn2RefIdeal.main_v8) = v0 c
          ∧ r.2.mem ((c.tc : Thread Cert.AddIn2RefIdeal.nD Cert.AddIn2RefIdeal.τ).loc Cert.AddIn2RefIdeal.main_arg0) = m' ((c.tc : Thread Cert.AddIn2RefIdeal.nD Cert.AddIn2RefIdeal.τ).loc Cert.AddIn2RefIdeal.main_arg0)
          ∧ r.2.mem ((c.tc : Thread Cert.AddIn2RefIdeal.nD Cert.AddIn2RefIdeal.τ).loc Cert.AddIn2RefIdeal.main_arg1) = m' ((c.tc : Thread Cert.AddIn2RefIdeal.nD Cert.AddIn2RefIdeal.τ).loc Cert.AddIn2RefIdeal.main_arg1)
          ∧ r.2.mem ((c.tc : Thread Cert.AddIn2RefIdeal.nD Cert.AddIn2RefIdeal.τ).loc Cert.AddIn2RefIdeal.main_arg2) = m' ((c.tc : Thread Cert.AddIn2RefIdeal.nD Cert.AddIn2RefIdeal.τ).loc Cert.AddIn2RefIdeal.main_arg2))

def preserves_AddOut0_AddOut0Ideal : Prop :=
  True

def algebraic_AddOut0Ideal_AddOut0RefIdeal [hAddOut0Ideal : Cert.AddOut0Ideal.Facts] [hAddOut0RefIdeal : Cert.AddOut0RefIdeal.Facts] [hPre_half_addout0 : Cert.Pre_half_addout0.Facts] : Prop :=
  ∀ (m : (ℓ : Loc Cert.AddOut0Ideal.nD Cert.AddOut0Ideal.τ Cert.AddOut0Ideal.sig) → Buf (Elt Ideal) ℓ) (g : Dev Cert.AddOut0Ideal.nD → PrngReg)
    (m' : (ℓ : Loc Cert.AddOut0RefIdeal.nD Cert.AddOut0RefIdeal.τ Cert.AddOut0RefIdeal.sig) → Buf (Elt Ideal) ℓ) (g' : Dev Cert.AddOut0RefIdeal.nD → PrngReg), Pre_AddOut0Ideal m →
    (∀ c : Dev Cert.AddOut0Ideal.nD,
      m' ((c.tc : Thread Cert.AddOut0RefIdeal.nD Cert.AddOut0RefIdeal.τ).loc Cert.AddOut0RefIdeal.main_arg0) = m ((c.tc : Thread Cert.AddOut0Ideal.nD Cert.AddOut0Ideal.τ).loc Cert.AddOut0Ideal.main_arg0)
      ∧ m' ((c.tc : Thread Cert.AddOut0RefIdeal.nD Cert.AddOut0RefIdeal.τ).loc Cert.AddOut0RefIdeal.main_arg1) = m ((c.tc : Thread Cert.AddOut0Ideal.nD Cert.AddOut0Ideal.τ).loc Cert.AddOut0Ideal.main_arg1)
      ∧ m' ((c.tc : Thread Cert.AddOut0RefIdeal.nD Cert.AddOut0RefIdeal.τ).loc Cert.AddOut0RefIdeal.main_arg2) = m ((c.tc : Thread Cert.AddOut0Ideal.nD Cert.AddOut0Ideal.τ).loc Cert.AddOut0Ideal.main_arg2)) →
    ∃ (v0 : (c : Dev Cert.AddOut0Ideal.nD) → Buf (Elt Ideal) ((c.tc : Thread Cert.AddOut0Ideal.nD Cert.AddOut0Ideal.τ).loc Cert.AddOut0Ideal.main_v0)),
      θ_run (Cert.AddOut0Ideal.defs (F := Ideal)) (onTc (τ := Cert.AddOut0Ideal.τ) (Cert.AddOut0Ideal.main (F := Ideal))) ⟨m, fun _ => 0, g⟩ (fun r => ∀ c : Dev Cert.AddOut0Ideal.nD,
          r.2.mem ((c.tc : Thread Cert.AddOut0Ideal.nD Cert.AddOut0Ideal.τ).loc Cert.AddOut0Ideal.main_v0) = v0 c
          ∧ r.2.mem ((c.tc : Thread Cert.AddOut0Ideal.nD Cert.AddOut0Ideal.τ).loc Cert.AddOut0Ideal.main_arg0) = m ((c.tc : Thread Cert.AddOut0Ideal.nD Cert.AddOut0Ideal.τ).loc Cert.AddOut0Ideal.main_arg0)
          ∧ r.2.mem ((c.tc : Thread Cert.AddOut0Ideal.nD Cert.AddOut0Ideal.τ).loc Cert.AddOut0Ideal.main_arg1) = m ((c.tc : Thread Cert.AddOut0Ideal.nD Cert.AddOut0Ideal.τ).loc Cert.AddOut0Ideal.main_arg1)
          ∧ r.2.mem ((c.tc : Thread Cert.AddOut0Ideal.nD Cert.AddOut0Ideal.τ).loc Cert.AddOut0Ideal.main_arg2) = m ((c.tc : Thread Cert.AddOut0Ideal.nD Cert.AddOut0Ideal.τ).loc Cert.AddOut0Ideal.main_arg2))
      ∧ θ_run (Cert.AddOut0RefIdeal.defs (F := Ideal)) (onTc (τ := Cert.AddOut0RefIdeal.τ) (Cert.AddOut0RefIdeal.main (F := Ideal))) ⟨m', fun _ => 0, g'⟩ (fun r => ∀ c : Dev Cert.AddOut0RefIdeal.nD,
          r.2.mem ((c.tc : Thread Cert.AddOut0RefIdeal.nD Cert.AddOut0RefIdeal.τ).loc Cert.AddOut0RefIdeal.main_v9) = v0 c
          ∧ r.2.mem ((c.tc : Thread Cert.AddOut0RefIdeal.nD Cert.AddOut0RefIdeal.τ).loc Cert.AddOut0RefIdeal.main_arg0) = m' ((c.tc : Thread Cert.AddOut0RefIdeal.nD Cert.AddOut0RefIdeal.τ).loc Cert.AddOut0RefIdeal.main_arg0)
          ∧ r.2.mem ((c.tc : Thread Cert.AddOut0RefIdeal.nD Cert.AddOut0RefIdeal.τ).loc Cert.AddOut0RefIdeal.main_arg1) = m' ((c.tc : Thread Cert.AddOut0RefIdeal.nD Cert.AddOut0RefIdeal.τ).loc Cert.AddOut0RefIdeal.main_arg1)
          ∧ r.2.mem ((c.tc : Thread Cert.AddOut0RefIdeal.nD Cert.AddOut0RefIdeal.τ).loc Cert.AddOut0RefIdeal.main_arg2) = m' ((c.tc : Thread Cert.AddOut0RefIdeal.nD Cert.AddOut0RefIdeal.τ).loc Cert.AddOut0RefIdeal.main_arg2))

def preserves_AddOut1_AddOut1Ideal : Prop :=
  True

def algebraic_AddOut1Ideal_AddOut1RefIdeal [hAddOut1Ideal : Cert.AddOut1Ideal.Facts] [hAddOut1RefIdeal : Cert.AddOut1RefIdeal.Facts] [hPre_half_addout1 : Cert.Pre_half_addout1.Facts] : Prop :=
  ∀ (m : (ℓ : Loc Cert.AddOut1Ideal.nD Cert.AddOut1Ideal.τ Cert.AddOut1Ideal.sig) → Buf (Elt Ideal) ℓ) (g : Dev Cert.AddOut1Ideal.nD → PrngReg)
    (m' : (ℓ : Loc Cert.AddOut1RefIdeal.nD Cert.AddOut1RefIdeal.τ Cert.AddOut1RefIdeal.sig) → Buf (Elt Ideal) ℓ) (g' : Dev Cert.AddOut1RefIdeal.nD → PrngReg), Pre_AddOut1Ideal m →
    (∀ c : Dev Cert.AddOut1Ideal.nD,
      m' ((c.tc : Thread Cert.AddOut1RefIdeal.nD Cert.AddOut1RefIdeal.τ).loc Cert.AddOut1RefIdeal.main_arg0) = m ((c.tc : Thread Cert.AddOut1Ideal.nD Cert.AddOut1Ideal.τ).loc Cert.AddOut1Ideal.main_arg0)
      ∧ m' ((c.tc : Thread Cert.AddOut1RefIdeal.nD Cert.AddOut1RefIdeal.τ).loc Cert.AddOut1RefIdeal.main_arg1) = m ((c.tc : Thread Cert.AddOut1Ideal.nD Cert.AddOut1Ideal.τ).loc Cert.AddOut1Ideal.main_arg1)
      ∧ m' ((c.tc : Thread Cert.AddOut1RefIdeal.nD Cert.AddOut1RefIdeal.τ).loc Cert.AddOut1RefIdeal.main_arg2) = m ((c.tc : Thread Cert.AddOut1Ideal.nD Cert.AddOut1Ideal.τ).loc Cert.AddOut1Ideal.main_arg2)) →
    ∃ (v0 : (c : Dev Cert.AddOut1Ideal.nD) → Buf (Elt Ideal) ((c.tc : Thread Cert.AddOut1Ideal.nD Cert.AddOut1Ideal.τ).loc Cert.AddOut1Ideal.main_v0)),
      θ_run (Cert.AddOut1Ideal.defs (F := Ideal)) (onTc (τ := Cert.AddOut1Ideal.τ) (Cert.AddOut1Ideal.main (F := Ideal))) ⟨m, fun _ => 0, g⟩ (fun r => ∀ c : Dev Cert.AddOut1Ideal.nD,
          r.2.mem ((c.tc : Thread Cert.AddOut1Ideal.nD Cert.AddOut1Ideal.τ).loc Cert.AddOut1Ideal.main_v0) = v0 c
          ∧ r.2.mem ((c.tc : Thread Cert.AddOut1Ideal.nD Cert.AddOut1Ideal.τ).loc Cert.AddOut1Ideal.main_arg0) = m ((c.tc : Thread Cert.AddOut1Ideal.nD Cert.AddOut1Ideal.τ).loc Cert.AddOut1Ideal.main_arg0)
          ∧ r.2.mem ((c.tc : Thread Cert.AddOut1Ideal.nD Cert.AddOut1Ideal.τ).loc Cert.AddOut1Ideal.main_arg1) = m ((c.tc : Thread Cert.AddOut1Ideal.nD Cert.AddOut1Ideal.τ).loc Cert.AddOut1Ideal.main_arg1)
          ∧ r.2.mem ((c.tc : Thread Cert.AddOut1Ideal.nD Cert.AddOut1Ideal.τ).loc Cert.AddOut1Ideal.main_arg2) = m ((c.tc : Thread Cert.AddOut1Ideal.nD Cert.AddOut1Ideal.τ).loc Cert.AddOut1Ideal.main_arg2))
      ∧ θ_run (Cert.AddOut1RefIdeal.defs (F := Ideal)) (onTc (τ := Cert.AddOut1RefIdeal.τ) (Cert.AddOut1RefIdeal.main (F := Ideal))) ⟨m', fun _ => 0, g'⟩ (fun r => ∀ c : Dev Cert.AddOut1RefIdeal.nD,
          r.2.mem ((c.tc : Thread Cert.AddOut1RefIdeal.nD Cert.AddOut1RefIdeal.τ).loc Cert.AddOut1RefIdeal.main_v9) = v0 c
          ∧ r.2.mem ((c.tc : Thread Cert.AddOut1RefIdeal.nD Cert.AddOut1RefIdeal.τ).loc Cert.AddOut1RefIdeal.main_arg0) = m' ((c.tc : Thread Cert.AddOut1RefIdeal.nD Cert.AddOut1RefIdeal.τ).loc Cert.AddOut1RefIdeal.main_arg0)
          ∧ r.2.mem ((c.tc : Thread Cert.AddOut1RefIdeal.nD Cert.AddOut1RefIdeal.τ).loc Cert.AddOut1RefIdeal.main_arg1) = m' ((c.tc : Thread Cert.AddOut1RefIdeal.nD Cert.AddOut1RefIdeal.τ).loc Cert.AddOut1RefIdeal.main_arg1)
          ∧ r.2.mem ((c.tc : Thread Cert.AddOut1RefIdeal.nD Cert.AddOut1RefIdeal.τ).loc Cert.AddOut1RefIdeal.main_arg2) = m' ((c.tc : Thread Cert.AddOut1RefIdeal.nD Cert.AddOut1RefIdeal.τ).loc Cert.AddOut1RefIdeal.main_arg2))

def preserves_AddOut2_AddOut2Ideal : Prop :=
  True

def algebraic_AddOut2Ideal_AddOut2RefIdeal [hAddOut2Ideal : Cert.AddOut2Ideal.Facts] [hAddOut2RefIdeal : Cert.AddOut2RefIdeal.Facts] [hPre_half_addout2 : Cert.Pre_half_addout2.Facts] : Prop :=
  ∀ (m : (ℓ : Loc Cert.AddOut2Ideal.nD Cert.AddOut2Ideal.τ Cert.AddOut2Ideal.sig) → Buf (Elt Ideal) ℓ) (g : Dev Cert.AddOut2Ideal.nD → PrngReg)
    (m' : (ℓ : Loc Cert.AddOut2RefIdeal.nD Cert.AddOut2RefIdeal.τ Cert.AddOut2RefIdeal.sig) → Buf (Elt Ideal) ℓ) (g' : Dev Cert.AddOut2RefIdeal.nD → PrngReg), Pre_AddOut2Ideal m →
    (∀ c : Dev Cert.AddOut2Ideal.nD,
      m' ((c.tc : Thread Cert.AddOut2RefIdeal.nD Cert.AddOut2RefIdeal.τ).loc Cert.AddOut2RefIdeal.main_arg0) = m ((c.tc : Thread Cert.AddOut2Ideal.nD Cert.AddOut2Ideal.τ).loc Cert.AddOut2Ideal.main_arg0)
      ∧ m' ((c.tc : Thread Cert.AddOut2RefIdeal.nD Cert.AddOut2RefIdeal.τ).loc Cert.AddOut2RefIdeal.main_arg1) = m ((c.tc : Thread Cert.AddOut2Ideal.nD Cert.AddOut2Ideal.τ).loc Cert.AddOut2Ideal.main_arg1)
      ∧ m' ((c.tc : Thread Cert.AddOut2RefIdeal.nD Cert.AddOut2RefIdeal.τ).loc Cert.AddOut2RefIdeal.main_arg2) = m ((c.tc : Thread Cert.AddOut2Ideal.nD Cert.AddOut2Ideal.τ).loc Cert.AddOut2Ideal.main_arg2)) →
    ∃ (v0 : (c : Dev Cert.AddOut2Ideal.nD) → Buf (Elt Ideal) ((c.tc : Thread Cert.AddOut2Ideal.nD Cert.AddOut2Ideal.τ).loc Cert.AddOut2Ideal.main_v0)),
      θ_run (Cert.AddOut2Ideal.defs (F := Ideal)) (onTc (τ := Cert.AddOut2Ideal.τ) (Cert.AddOut2Ideal.main (F := Ideal))) ⟨m, fun _ => 0, g⟩ (fun r => ∀ c : Dev Cert.AddOut2Ideal.nD,
          r.2.mem ((c.tc : Thread Cert.AddOut2Ideal.nD Cert.AddOut2Ideal.τ).loc Cert.AddOut2Ideal.main_v0) = v0 c
          ∧ r.2.mem ((c.tc : Thread Cert.AddOut2Ideal.nD Cert.AddOut2Ideal.τ).loc Cert.AddOut2Ideal.main_arg0) = m ((c.tc : Thread Cert.AddOut2Ideal.nD Cert.AddOut2Ideal.τ).loc Cert.AddOut2Ideal.main_arg0)
          ∧ r.2.mem ((c.tc : Thread Cert.AddOut2Ideal.nD Cert.AddOut2Ideal.τ).loc Cert.AddOut2Ideal.main_arg1) = m ((c.tc : Thread Cert.AddOut2Ideal.nD Cert.AddOut2Ideal.τ).loc Cert.AddOut2Ideal.main_arg1)
          ∧ r.2.mem ((c.tc : Thread Cert.AddOut2Ideal.nD Cert.AddOut2Ideal.τ).loc Cert.AddOut2Ideal.main_arg2) = m ((c.tc : Thread Cert.AddOut2Ideal.nD Cert.AddOut2Ideal.τ).loc Cert.AddOut2Ideal.main_arg2))
      ∧ θ_run (Cert.AddOut2RefIdeal.defs (F := Ideal)) (onTc (τ := Cert.AddOut2RefIdeal.τ) (Cert.AddOut2RefIdeal.main (F := Ideal))) ⟨m', fun _ => 0, g'⟩ (fun r => ∀ c : Dev Cert.AddOut2RefIdeal.nD,
          r.2.mem ((c.tc : Thread Cert.AddOut2RefIdeal.nD Cert.AddOut2RefIdeal.τ).loc Cert.AddOut2RefIdeal.main_v8) = v0 c
          ∧ r.2.mem ((c.tc : Thread Cert.AddOut2RefIdeal.nD Cert.AddOut2RefIdeal.τ).loc Cert.AddOut2RefIdeal.main_arg0) = m' ((c.tc : Thread Cert.AddOut2RefIdeal.nD Cert.AddOut2RefIdeal.τ).loc Cert.AddOut2RefIdeal.main_arg0)
          ∧ r.2.mem ((c.tc : Thread Cert.AddOut2RefIdeal.nD Cert.AddOut2RefIdeal.τ).loc Cert.AddOut2RefIdeal.main_arg1) = m' ((c.tc : Thread Cert.AddOut2RefIdeal.nD Cert.AddOut2RefIdeal.τ).loc Cert.AddOut2RefIdeal.main_arg1)
          ∧ r.2.mem ((c.tc : Thread Cert.AddOut2RefIdeal.nD Cert.AddOut2RefIdeal.τ).loc Cert.AddOut2RefIdeal.main_arg2) = m' ((c.tc : Thread Cert.AddOut2RefIdeal.nD Cert.AddOut2RefIdeal.τ).loc Cert.AddOut2RefIdeal.main_arg2))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v23) = v0 c
          ∧ r.2.mem ((c.tc : Thread Cert.AdamWOutRefIdeal.nD Cert.AdamWOutRefIdeal.τ).loc Cert.AdamWOutRefIdeal.main_v4) = v1 c
          ∧ r.2.mem ((c.tc : Thread Cert.AdamWOutRefIdeal.nD Cert.AdamWOutRefIdeal.τ).loc Cert.AdamWOutRefIdeal.main_v10) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamTaps_AdamTapsIdeal : Prop :=
  True

def algebraic_AdamTapsIdeal_AdamTapsRefIdeal [hAdamTapsIdeal : Cert.AdamTapsIdeal.Facts] [hAdamTapsRefIdeal : Cert.AdamTapsRefIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg)
    (m' : (ℓ : Loc Cert.AdamTapsRefIdeal.nD Cert.AdamTapsRefIdeal.τ Cert.AdamTapsRefIdeal.sig) → Buf (Elt Ideal) ℓ) (g' : Dev Cert.AdamTapsRefIdeal.nD → PrngReg), Pre_AdamTapsIdeal m →
    (∀ c : Dev Cert.AdamTapsIdeal.nD,
      m' ((c.tc : Thread Cert.AdamTapsRefIdeal.nD Cert.AdamTapsRefIdeal.τ).loc Cert.AdamTapsRefIdeal.main_arg0) = m ((c.tc : Thread Cert.AdamTapsIdeal.nD Cert.AdamTapsIdeal.τ).loc Cert.AdamTapsIdeal.main_arg0)
      ∧ m' ((c.tc : Thread Cert.AdamTapsRefIdeal.nD Cert.AdamTapsRefIdeal.τ).loc Cert.AdamTapsRefIdeal.main_arg1) = m ((c.tc : Thread Cert.AdamTapsIdeal.nD Cert.AdamTapsIdeal.τ).loc Cert.AdamTapsIdeal.main_arg1)
      ∧ m' ((c.tc : Thread Cert.AdamTapsRefIdeal.nD Cert.AdamTapsRefIdeal.τ).loc Cert.AdamTapsRefIdeal.main_arg2) = m ((c.tc : Thread Cert.AdamTapsIdeal.nD Cert.AdamTapsIdeal.τ).loc Cert.AdamTapsIdeal.main_arg2)
      ∧ m' ((c.tc : Thread Cert.AdamTapsRefIdeal.nD Cert.AdamTapsRefIdeal.τ).loc Cert.AdamTapsRefIdeal.main_arg3) = m ((c.tc : Thread Cert.AdamTapsIdeal.nD Cert.AdamTapsIdeal.τ).loc Cert.AdamTapsIdeal.main_arg3)) →
    ∃ (v0 : (c : Dev Cert.AdamTapsIdeal.nD) → Buf (Elt Ideal) ((c.tc : Thread Cert.AdamTapsIdeal.nD Cert.AdamTapsIdeal.τ).loc Cert.AdamTapsIdeal.main_v0_0)) (v1 : (c : Dev Cert.AdamTapsIdeal.nD) → Buf (Elt Ideal) ((c.tc : Thread Cert.AdamTapsIdeal.nD Cert.AdamTapsIdeal.τ).loc Cert.AdamTapsIdeal.main_v0_1)) (v2 : (c : Dev Cert.AdamTapsIdeal.nD) → Buf (Elt Ideal) ((c.tc : Thread Cert.AdamTapsIdeal.nD Cert.AdamTapsIdeal.τ).loc Cert.AdamTapsIdeal.main_v0_2)),
      θ_run (Cert.AdamTapsIdeal.defs (F := Ideal)) (onTc (τ := Cert.AdamTapsIdeal.τ) (Cert.AdamTapsIdeal.main (F := Ideal))) ⟨m, fun _ => 0, g⟩ (fun r => ∀ c : Dev Cert.AdamTapsIdeal.nD,
          r.2.mem ((c.tc : Thread Cert.AdamTapsIdeal.nD Cert.AdamTapsIdeal.τ).loc Cert.AdamTapsIdeal.main_v0_0) = v0 c
          ∧ r.2.mem ((c.tc : Thread Cert.AdamTapsIdeal.nD Cert.AdamTapsIdeal.τ).loc Cert.AdamTapsIdeal.main_v0_1) = v1 c
          ∧ r.2.mem ((c.tc : Thread Cert.AdamTapsIdeal.nD Cert.AdamTapsIdeal.τ).loc Cert.AdamTapsIdeal.main_v0_2) = v2 c
          ∧ r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
          ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
          ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
          ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ θ_run (Cert.AdamTapsRefIdeal.defs (F := Ideal)) (onTc (τ := Cert.AdamTapsRefIdeal.τ) (Cert.AdamTapsRefIdeal.main (F := Ideal))) ⟨m', fun _ => 0, g'⟩ (fun r => ∀ c : Dev Cert.AdamTapsRefIdeal.nD,
          r.2.mem ((c.tc : Thread Cert.AdamTapsRefIdeal.nD Cert.AdamTapsRefIdeal.τ).loc Cert.AdamTapsRefIdeal.main_v23) = v0 c
          ∧ r.2.mem ((c.tc : Thread Cert.AdamTapsRefIdeal.nD Cert.AdamTapsRefIdeal.τ).loc Cert.AdamTapsRefIdeal.main_v4) = v1 c
          ∧ r.2.mem ((c.tc : Thread Cert.AdamTapsRefIdeal.nD Cert.AdamTapsRefIdeal.τ).loc Cert.AdamTapsRefIdeal.main_v10) = v2 c
          ∧ r.2.mem ((c.tc : Thread Cert.AdamTapsRefIdeal.nD Cert.AdamTapsRefIdeal.τ).loc Cert.AdamTapsRefIdeal.main_arg0) = m' ((c.tc : Thread Cert.AdamTapsRefIdeal.nD Cert.AdamTapsRefIdeal.τ).loc Cert.AdamTapsRefIdeal.main_arg0)
          ∧ r.2.mem ((c.tc : Thread Cert.AdamTapsRefIdeal.nD Cert.AdamTapsRefIdeal.τ).loc Cert.AdamTapsRefIdeal.main_arg1) = m' ((c.tc : Thread Cert.AdamTapsRefIdeal.nD Cert.AdamTapsRefIdeal.τ).loc Cert.AdamTapsRefIdeal.main_arg1)
          ∧ r.2.mem ((c.tc : Thread Cert.AdamTapsRefIdeal.nD Cert.AdamTapsRefIdeal.τ).loc Cert.AdamTapsRefIdeal.main_arg2) = m' ((c.tc : Thread Cert.AdamTapsRefIdeal.nD Cert.AdamTapsRefIdeal.τ).loc Cert.AdamTapsRefIdeal.main_arg2)
          ∧ r.2.mem ((c.tc : Thread Cert.AdamTapsRefIdeal.nD Cert.AdamTapsRefIdeal.τ).loc Cert.AdamTapsRefIdeal.main_arg3) = m' ((c.tc : Thread Cert.AdamTapsRefIdeal.nD Cert.AdamTapsRefIdeal.τ).loc Cert.AdamTapsRefIdeal.main_arg3))

def preserves_AdamTaps4_AdamTaps4Ideal : Prop :=
  True

def algebraic_AdamTaps4Ideal_AdamTaps4RefIdeal [hAdamTaps4Ideal : Cert.AdamTaps4Ideal.Facts] [hAdamTaps4RefIdeal : Cert.AdamTaps4RefIdeal.Facts] : Prop :=
  ∀ (m : (ℓ : Loc Cert.AdamTaps4Ideal.nD Cert.AdamTaps4Ideal.τ Cert.AdamTaps4Ideal.sig) → Buf (Elt Ideal) ℓ) (g : Dev Cert.AdamTaps4Ideal.nD → PrngReg)
    (m' : (ℓ : Loc Cert.AdamTaps4RefIdeal.nD Cert.AdamTaps4RefIdeal.τ Cert.AdamTaps4RefIdeal.sig) → Buf (Elt Ideal) ℓ) (g' : Dev Cert.AdamTaps4RefIdeal.nD → PrngReg), Pre_AdamTaps4Ideal m →
    (∀ c : Dev Cert.AdamTaps4Ideal.nD,
      m' ((c.tc : Thread Cert.AdamTaps4RefIdeal.nD Cert.AdamTaps4RefIdeal.τ).loc Cert.AdamTaps4RefIdeal.main_arg0) = m ((c.tc : Thread Cert.AdamTaps4Ideal.nD Cert.AdamTaps4Ideal.τ).loc Cert.AdamTaps4Ideal.main_arg0)
      ∧ m' ((c.tc : Thread Cert.AdamTaps4RefIdeal.nD Cert.AdamTaps4RefIdeal.τ).loc Cert.AdamTaps4RefIdeal.main_arg1) = m ((c.tc : Thread Cert.AdamTaps4Ideal.nD Cert.AdamTaps4Ideal.τ).loc Cert.AdamTaps4Ideal.main_arg1)
      ∧ m' ((c.tc : Thread Cert.AdamTaps4RefIdeal.nD Cert.AdamTaps4RefIdeal.τ).loc Cert.AdamTaps4RefIdeal.main_arg2) = m ((c.tc : Thread Cert.AdamTaps4Ideal.nD Cert.AdamTaps4Ideal.τ).loc Cert.AdamTaps4Ideal.main_arg2)
      ∧ m' ((c.tc : Thread Cert.AdamTaps4RefIdeal.nD Cert.AdamTaps4RefIdeal.τ).loc Cert.AdamTaps4RefIdeal.main_arg3) = m ((c.tc : Thread Cert.AdamTaps4Ideal.nD Cert.AdamTaps4Ideal.τ).loc Cert.AdamTaps4Ideal.main_arg3)) →
    ∃ (v0 : (c : Dev Cert.AdamTaps4Ideal.nD) → Buf (Elt Ideal) ((c.tc : Thread Cert.AdamTaps4Ideal.nD Cert.AdamTaps4Ideal.τ).loc Cert.AdamTaps4Ideal.main_v0_0)) (v1 : (c : Dev Cert.AdamTaps4Ideal.nD) → Buf (Elt Ideal) ((c.tc : Thread Cert.AdamTaps4Ideal.nD Cert.AdamTaps4Ideal.τ).loc Cert.AdamTaps4Ideal.main_v0_1)) (v2 : (c : Dev Cert.AdamTaps4Ideal.nD) → Buf (Elt Ideal) ((c.tc : Thread Cert.AdamTaps4Ideal.nD Cert.AdamTaps4Ideal.τ).loc Cert.AdamTaps4Ideal.main_v0_2)),
      θ_run (Cert.AdamTaps4Ideal.defs (F := Ideal)) (onTc (τ := Cert.AdamTaps4Ideal.τ) (Cert.AdamTaps4Ideal.main (F := Ideal))) ⟨m, fun _ => 0, g⟩ (fun r => ∀ c : Dev Cert.AdamTaps4Ideal.nD,
          r.2.mem ((c.tc : Thread Cert.AdamTaps4Ideal.nD Cert.AdamTaps4Ideal.τ).loc Cert.AdamTaps4Ideal.main_v0_0) = v0 c
          ∧ r.2.mem ((c.tc : Thread Cert.AdamTaps4Ideal.nD Cert.AdamTaps4Ideal.τ).loc Cert.AdamTaps4Ideal.main_v0_1) = v1 c
          ∧ r.2.mem ((c.tc : Thread Cert.AdamTaps4Ideal.nD Cert.AdamTaps4Ideal.τ).loc Cert.AdamTaps4Ideal.main_v0_2) = v2 c
          ∧ r.2.mem ((c.tc : Thread Cert.AdamTaps4Ideal.nD Cert.AdamTaps4Ideal.τ).loc Cert.AdamTaps4Ideal.main_arg0) = m ((c.tc : Thread Cert.AdamTaps4Ideal.nD Cert.AdamTaps4Ideal.τ).loc Cert.AdamTaps4Ideal.main_arg0)
          ∧ r.2.mem ((c.tc : Thread Cert.AdamTaps4Ideal.nD Cert.AdamTaps4Ideal.τ).loc Cert.AdamTaps4Ideal.main_arg1) = m ((c.tc : Thread Cert.AdamTaps4Ideal.nD Cert.AdamTaps4Ideal.τ).loc Cert.AdamTaps4Ideal.main_arg1)
          ∧ r.2.mem ((c.tc : Thread Cert.AdamTaps4Ideal.nD Cert.AdamTaps4Ideal.τ).loc Cert.AdamTaps4Ideal.main_arg2) = m ((c.tc : Thread Cert.AdamTaps4Ideal.nD Cert.AdamTaps4Ideal.τ).loc Cert.AdamTaps4Ideal.main_arg2)
          ∧ r.2.mem ((c.tc : Thread Cert.AdamTaps4Ideal.nD Cert.AdamTaps4Ideal.τ).loc Cert.AdamTaps4Ideal.main_arg3) = m ((c.tc : Thread Cert.AdamTaps4Ideal.nD Cert.AdamTaps4Ideal.τ).loc Cert.AdamTaps4Ideal.main_arg3))
      ∧ θ_run (Cert.AdamTaps4RefIdeal.defs (F := Ideal)) (onTc (τ := Cert.AdamTaps4RefIdeal.τ) (Cert.AdamTaps4RefIdeal.main (F := Ideal))) ⟨m', fun _ => 0, g'⟩ (fun r => ∀ c : Dev Cert.AdamTaps4RefIdeal.nD,
          r.2.mem ((c.tc : Thread Cert.AdamTaps4RefIdeal.nD Cert.AdamTaps4RefIdeal.τ).loc Cert.AdamTaps4RefIdeal.main_v23) = v0 c
          ∧ r.2.mem ((c.tc : Thread Cert.AdamTaps4RefIdeal.nD Cert.AdamTaps4RefIdeal.τ).loc Cert.AdamTaps4RefIdeal.main_v4) = v1 c
          ∧ r.2.mem ((c.tc : Thread Cert.AdamTaps4RefIdeal.nD Cert.AdamTaps4RefIdeal.τ).loc Cert.AdamTaps4RefIdeal.main_v10) = v2 c
          ∧ r.2.mem ((c.tc : Thread Cert.AdamTaps4RefIdeal.nD Cert.AdamTaps4RefIdeal.τ).loc Cert.AdamTaps4RefIdeal.main_arg0) = m' ((c.tc : Thread Cert.AdamTaps4RefIdeal.nD Cert.AdamTaps4RefIdeal.τ).loc Cert.AdamTaps4RefIdeal.main_arg0)
          ∧ r.2.mem ((c.tc : Thread Cert.AdamTaps4RefIdeal.nD Cert.AdamTaps4RefIdeal.τ).loc Cert.AdamTaps4RefIdeal.main_arg1) = m' ((c.tc : Thread Cert.AdamTaps4RefIdeal.nD Cert.AdamTaps4RefIdeal.τ).loc Cert.AdamTaps4RefIdeal.main_arg1)
          ∧ r.2.mem ((c.tc : Thread Cert.AdamTaps4RefIdeal.nD Cert.AdamTaps4RefIdeal.τ).loc Cert.AdamTaps4RefIdeal.main_arg2) = m' ((c.tc : Thread Cert.AdamTaps4RefIdeal.nD Cert.AdamTaps4RefIdeal.τ).loc Cert.AdamTaps4RefIdeal.main_arg2)
          ∧ r.2.mem ((c.tc : Thread Cert.AdamTaps4RefIdeal.nD Cert.AdamTaps4RefIdeal.τ).loc Cert.AdamTaps4RefIdeal.main_arg3) = m' ((c.tc : Thread Cert.AdamTaps4RefIdeal.nD Cert.AdamTaps4RefIdeal.τ).loc Cert.AdamTaps4RefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamRow_AdamRowIdeal : Prop :=
  True

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v23) = v0 c
          ∧ r.2.mem ((c.tc : Thread Cert.AdamRowRefIdeal.nD Cert.AdamRowRefIdeal.τ).loc Cert.AdamRowRefIdeal.main_v4) = v1 c
          ∧ r.2.mem ((c.tc : Thread Cert.AdamRowRefIdeal.nD Cert.AdamRowRefIdeal.τ).loc Cert.AdamRowRefIdeal.main_v10) = v2 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3))

def preserves_AdamFinal_AdamFinalIdeal : Prop :=
  True

def algebraic_AdamFinalIdeal_AdamFinalRefIdeal [hAdamFinalIdeal : Cert.AdamFinalIdeal.Facts] [hAdamFinalRefIdeal : Cert.AdamFinalRefIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg)
    (m' : (ℓ : Loc Cert.AdamFinalRefIdeal.nD Cert.AdamFinalRefIdeal.τ Cert.AdamFinalRefIdeal.sig) → Buf (Elt Ideal) ℓ) (g' : Dev Cert.AdamFinalRefIdeal.nD → PrngReg), Pre_AdamFinalIdeal m →
    (∀ c : Dev Cert.AdamFinalIdeal.nD,
      m' ((c.tc : Thread Cert.AdamFinalRefIdeal.nD Cert.AdamFinalRefIdeal.τ).loc Cert.AdamFinalRefIdeal.main_arg0) = m ((c.tc : Thread Cert.AdamFinalIdeal.nD Cert.AdamFinalIdeal.τ).loc Cert.AdamFinalIdeal.main_arg0)
      ∧ m' ((c.tc : Thread Cert.AdamFinalRefIdeal.nD Cert.AdamFinalRefIdeal.τ).loc Cert.AdamFinalRefIdeal.main_arg1) = m ((c.tc : Thread Cert.AdamFinalIdeal.nD Cert.AdamFinalIdeal.τ).loc Cert.AdamFinalIdeal.main_arg1)
      ∧ m' ((c.tc : Thread Cert.AdamFinalRefIdeal.nD Cert.AdamFinalRefIdeal.τ).loc Cert.AdamFinalRefIdeal.main_arg2) = m ((c.tc : Thread Cert.AdamFinalIdeal.nD Cert.AdamFinalIdeal.τ).loc Cert.AdamFinalIdeal.main_arg2)
      ∧ m' ((c.tc : Thread Cert.AdamFinalRefIdeal.nD Cert.AdamFinalRefIdeal.τ).loc Cert.AdamFinalRefIdeal.main_arg3) = m ((c.tc : Thread Cert.AdamFinalIdeal.nD Cert.AdamFinalIdeal.τ).loc Cert.AdamFinalIdeal.main_arg3)) →
    ∃ (v0 : (c : Dev Cert.AdamFinalIdeal.nD) → Buf (Elt Ideal) ((c.tc : Thread Cert.AdamFinalIdeal.nD Cert.AdamFinalIdeal.τ).loc Cert.AdamFinalIdeal.main_v0_0)) (v1 : (c : Dev Cert.AdamFinalIdeal.nD) → Buf (Elt Ideal) ((c.tc : Thread Cert.AdamFinalIdeal.nD Cert.AdamFinalIdeal.τ).loc Cert.AdamFinalIdeal.main_v0_1)) (v2 : (c : Dev Cert.AdamFinalIdeal.nD) → Buf (Elt Ideal) ((c.tc : Thread Cert.AdamFinalIdeal.nD Cert.AdamFinalIdeal.τ).loc Cert.AdamFinalIdeal.main_v0_2)),
      θ_run (Cert.AdamFinalIdeal.defs (F := Ideal)) (onTc (τ := Cert.AdamFinalIdeal.τ) (Cert.AdamFinalIdeal.main (F := Ideal))) ⟨m, fun _ => 0, g⟩ (fun r => ∀ c : Dev Cert.AdamFinalIdeal.nD,
          r.2.mem ((c.tc : Thread Cert.AdamFinalIdeal.nD Cert.AdamFinalIdeal.τ).loc Cert.AdamFinalIdeal.main_v0_0) = v0 c
          ∧ r.2.mem ((c.tc : Thread Cert.AdamFinalIdeal.nD Cert.AdamFinalIdeal.τ).loc Cert.AdamFinalIdeal.main_v0_1) = v1 c
          ∧ r.2.mem ((c.tc : Thread Cert.AdamFinalIdeal.nD Cert.AdamFinalIdeal.τ).loc Cert.AdamFinalIdeal.main_v0_2) = v2 c
          ∧ r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
          ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
          ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
          ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ θ_run (Cert.AdamFinalRefIdeal.defs (F := Ideal)) (onTc (τ := Cert.AdamFinalRefIdeal.τ) (Cert.AdamFinalRefIdeal.main (F := Ideal))) ⟨m', fun _ => 0, g'⟩ (fun r => ∀ c : Dev Cert.AdamFinalRefIdeal.nD,
          r.2.mem ((c.tc : Thread Cert.AdamFinalRefIdeal.nD Cert.AdamFinalRefIdeal.τ).loc Cert.AdamFinalRefIdeal.main_v23) = v0 c
          ∧ r.2.mem ((c.tc : Thread Cert.AdamFinalRefIdeal.nD Cert.AdamFinalRefIdeal.τ).loc Cert.AdamFinalRefIdeal.main_v4) = v1 c
          ∧ r.2.mem ((c.tc : Thread Cert.AdamFinalRefIdeal.nD Cert.AdamFinalRefIdeal.τ).loc Cert.AdamFinalRefIdeal.main_v10) = v2 c
          ∧ r.2.mem ((c.tc : Thread Cert.AdamFinalRefIdeal.nD Cert.AdamFinalRefIdeal.τ).loc Cert.AdamFinalRefIdeal.main_arg0) = m' ((c.tc : Thread Cert.AdamFinalRefIdeal.nD Cert.AdamFinalRefIdeal.τ).loc Cert.AdamFinalRefIdeal.main_arg0)
          ∧ r.2.mem ((c.tc : Thread Cert.AdamFinalRefIdeal.nD Cert.AdamFinalRefIdeal.τ).loc Cert.AdamFinalRefIdeal.main_arg1) = m' ((c.tc : Thread Cert.AdamFinalRefIdeal.nD Cert.AdamFinalRefIdeal.τ).loc Cert.AdamFinalRefIdeal.main_arg1)
          ∧ r.2.mem ((c.tc : Thread Cert.AdamFinalRefIdeal.nD Cert.AdamFinalRefIdeal.τ).loc Cert.AdamFinalRefIdeal.main_arg2) = m' ((c.tc : Thread Cert.AdamFinalRefIdeal.nD Cert.AdamFinalRefIdeal.τ).loc Cert.AdamFinalRefIdeal.main_arg2)
          ∧ r.2.mem ((c.tc : Thread Cert.AdamFinalRefIdeal.nD Cert.AdamFinalRefIdeal.τ).loc Cert.AdamFinalRefIdeal.main_arg3) = m' ((c.tc : Thread Cert.AdamFinalRefIdeal.nD Cert.AdamFinalRefIdeal.τ).loc Cert.AdamFinalRefIdeal.main_arg3))

def Claim : Prop :=
  ∃ (hMix : Cert.Mix.Facts) (hMixIdeal : Cert.MixIdeal.Facts) (hMixRefIdeal : Cert.MixRefIdeal.Facts) (hWIn : Cert.WIn.Facts) (hWInIdeal : Cert.WInIdeal.Facts) (hWInRefIdeal : Cert.WInRefIdeal.Facts) (hWOut : Cert.WOut.Facts) (hWOutIdeal : Cert.WOutIdeal.Facts) (hWOutRefIdeal : Cert.WOutRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hOutBwd : Cert.OutBwd.Facts) (hOutBwdIdeal : Cert.OutBwdIdeal.Facts) (hOutBwdRefIdeal : Cert.OutBwdRefIdeal.Facts) (hLoss : Cert.Loss.Facts) (hLossIdeal : Cert.LossIdeal.Facts) (hLossRefIdeal : Cert.LossRefIdeal.Facts) (hNormBwd : Cert.NormBwd.Facts) (hNormBwdIdeal : Cert.NormBwdIdeal.Facts) (hNormBwdRefIdeal : Cert.NormBwdRefIdeal.Facts) (hFirstNorm : Cert.FirstNorm.Facts) (hFirstNormIdeal : Cert.FirstNormIdeal.Facts) (hFirstNormRefIdeal : Cert.FirstNormRefIdeal.Facts) (hRows : Cert.Rows.Facts) (hRowsIdeal : Cert.RowsIdeal.Facts) (hRowsRefIdeal : Cert.RowsRefIdeal.Facts) (hCastIn : Cert.CastIn.Facts) (hCastInIdeal : Cert.CastInIdeal.Facts) (hCastInRefIdeal : Cert.CastInRefIdeal.Facts) (hCastOut : Cert.CastOut.Facts) (hCastOutIdeal : Cert.CastOutIdeal.Facts) (hCastOutRefIdeal : Cert.CastOutRefIdeal.Facts) (hAddIn0 : Cert.AddIn0.Facts) (hAddIn0Ideal : Cert.AddIn0Ideal.Facts) (hAddIn0RefIdeal : Cert.AddIn0RefIdeal.Facts) (hAddIn1 : Cert.AddIn1.Facts) (hAddIn1Ideal : Cert.AddIn1Ideal.Facts) (hAddIn1RefIdeal : Cert.AddIn1RefIdeal.Facts) (hAddIn2 : Cert.AddIn2.Facts) (hAddIn2Ideal : Cert.AddIn2Ideal.Facts) (hAddIn2RefIdeal : Cert.AddIn2RefIdeal.Facts) (hAddOut0 : Cert.AddOut0.Facts) (hAddOut0Ideal : Cert.AddOut0Ideal.Facts) (hAddOut0RefIdeal : Cert.AddOut0RefIdeal.Facts) (hAddOut1 : Cert.AddOut1.Facts) (hAddOut1Ideal : Cert.AddOut1Ideal.Facts) (hAddOut1RefIdeal : Cert.AddOut1RefIdeal.Facts) (hAddOut2 : Cert.AddOut2.Facts) (hAddOut2Ideal : Cert.AddOut2Ideal.Facts) (hAddOut2RefIdeal : Cert.AddOut2RefIdeal.Facts) (hAdamWIn : Cert.AdamWIn.Facts) (hAdamWInIdeal : Cert.AdamWInIdeal.Facts) (hAdamWInRefIdeal : Cert.AdamWInRefIdeal.Facts) (hAdamWOut : Cert.AdamWOut.Facts) (hAdamWOutIdeal : Cert.AdamWOutIdeal.Facts) (hAdamWOutRefIdeal : Cert.AdamWOutRefIdeal.Facts) (hAdamTaps : Cert.AdamTaps.Facts) (hAdamTapsIdeal : Cert.AdamTapsIdeal.Facts) (hAdamTapsRefIdeal : Cert.AdamTapsRefIdeal.Facts) (hAdamTaps4 : Cert.AdamTaps4.Facts) (hAdamTaps4Ideal : Cert.AdamTaps4Ideal.Facts) (hAdamTaps4RefIdeal : Cert.AdamTaps4RefIdeal.Facts) (hAdamGate : Cert.AdamGate.Facts) (hAdamGateIdeal : Cert.AdamGateIdeal.Facts) (hAdamGateRefIdeal : Cert.AdamGateRefIdeal.Facts) (hAdamNorm : Cert.AdamNorm.Facts) (hAdamNormIdeal : Cert.AdamNormIdeal.Facts) (hAdamNormRefIdeal : Cert.AdamNormRefIdeal.Facts) (hAdamRow : Cert.AdamRow.Facts) (hAdamRowIdeal : Cert.AdamRowIdeal.Facts) (hAdamRowRefIdeal : Cert.AdamRowRefIdeal.Facts) (hAdamFinal : Cert.AdamFinal.Facts) (hAdamFinalIdeal : Cert.AdamFinalIdeal.Facts) (hAdamFinalRefIdeal : Cert.AdamFinalRefIdeal.Facts) (hPre_finite : Cert.Pre_finite.Facts) (hPre_half_addin0 : Cert.Pre_half_addin0.Facts) (hPre_half_addin1 : Cert.Pre_half_addin1.Facts) (hPre_half_addin2 : Cert.Pre_half_addin2.Facts) (hPre_half_addout0 : Cert.Pre_half_addout0.Facts) (hPre_half_addout1 : Cert.Pre_half_addout1.Facts) (hPre_half_addout2 : Cert.Pre_half_addout2.Facts) (hOn_gates : Cert.On_gates.Facts),
    quiescent_Mix (hMix := hMix)
    ∧ quiescent_MixIdeal (hMixIdeal := hMixIdeal)
    ∧ quiescent_MixIdeal_pre_finite (hMixIdeal := hMixIdeal) (hPre_finite := hPre_finite)
    ∧ quiescent_MixRefIdeal (hMixRefIdeal := hMixRefIdeal)
    ∧ quiescent_MixRefIdeal_pre_finite (hMixRefIdeal := hMixRefIdeal) (hPre_finite := hPre_finite)
    ∧ quiescent_WIn (hWIn := hWIn)
    ∧ quiescent_WInIdeal (hWInIdeal := hWInIdeal)
    ∧ quiescent_WInRefIdeal (hWInRefIdeal := hWInRefIdeal)
    ∧ quiescent_WOut (hWOut := hWOut)
    ∧ quiescent_WOutIdeal (hWOutIdeal := hWOutIdeal)
    ∧ quiescent_WOutRefIdeal (hWOutRefIdeal := hWOutRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_Loss (hLoss := hLoss)
    ∧ quiescent_LossIdeal (hLossIdeal := hLossIdeal)
    ∧ quiescent_LossRefIdeal (hLossRefIdeal := hLossRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_Rows (hRows := hRows)
    ∧ quiescent_RowsIdeal (hRowsIdeal := hRowsIdeal)
    ∧ quiescent_RowsRefIdeal (hRowsRefIdeal := hRowsRefIdeal)
    ∧ quiescent_CastIn (hCastIn := hCastIn)
    ∧ quiescent_CastInIdeal (hCastInIdeal := hCastInIdeal)
    ∧ quiescent_CastInRefIdeal (hCastInRefIdeal := hCastInRefIdeal)
    ∧ quiescent_CastOut (hCastOut := hCastOut)
    ∧ quiescent_CastOutIdeal (hCastOutIdeal := hCastOutIdeal)
    ∧ quiescent_CastOutRefIdeal (hCastOutRefIdeal := hCastOutRefIdeal)
    ∧ quiescent_AddIn0 (hAddIn0 := hAddIn0) (hPre_half_addin0 := hPre_half_addin0)
    ∧ quiescent_AddIn0Ideal (hAddIn0Ideal := hAddIn0Ideal) (hPre_half_addin0 := hPre_half_addin0)
    ∧ quiescent_AddIn0RefIdeal (hAddIn0RefIdeal := hAddIn0RefIdeal)
    ∧ quiescent_AddIn0RefIdeal_pre_half_addin0 (hAddIn0RefIdeal := hAddIn0RefIdeal) (hPre_half_addin0 := hPre_half_addin0)
    ∧ quiescent_AddIn1 (hAddIn1 := hAddIn1) (hPre_half_addin1 := hPre_half_addin1)
    ∧ quiescent_AddIn1Ideal (hAddIn1Ideal := hAddIn1Ideal) (hPre_half_addin1 := hPre_half_addin1)
    ∧ quiescent_AddIn1RefIdeal (hAddIn1RefIdeal := hAddIn1RefIdeal)
    ∧ quiescent_AddIn1RefIdeal_pre_half_addin1 (hAddIn1RefIdeal := hAddIn1RefIdeal) (hPre_half_addin1 := hPre_half_addin1)
    ∧ quiescent_AddIn2 (hAddIn2 := hAddIn2) (hPre_half_addin2 := hPre_half_addin2)
    ∧ quiescent_AddIn2Ideal (hAddIn2Ideal := hAddIn2Ideal) (hPre_half_addin2 := hPre_half_addin2)
    ∧ quiescent_AddIn2RefIdeal (hAddIn2RefIdeal := hAddIn2RefIdeal)
    ∧ quiescent_AddIn2RefIdeal_pre_half_addin2 (hAddIn2RefIdeal := hAddIn2RefIdeal) (hPre_half_addin2 := hPre_half_addin2)
    ∧ quiescent_AddOut0 (hAddOut0 := hAddOut0) (hPre_half_addout0 := hPre_half_addout0)
    ∧ quiescent_AddOut0Ideal (hAddOut0Ideal := hAddOut0Ideal) (hPre_half_addout0 := hPre_half_addout0)
    ∧ quiescent_AddOut0RefIdeal (hAddOut0RefIdeal := hAddOut0RefIdeal)
    ∧ quiescent_AddOut0RefIdeal_pre_half_addout0 (hAddOut0RefIdeal := hAddOut0RefIdeal) (hPre_half_addout0 := hPre_half_addout0)
    ∧ quiescent_AddOut1 (hAddOut1 := hAddOut1) (hPre_half_addout1 := hPre_half_addout1)
    ∧ quiescent_AddOut1Ideal (hAddOut1Ideal := hAddOut1Ideal) (hPre_half_addout1 := hPre_half_addout1)
    ∧ quiescent_AddOut1RefIdeal (hAddOut1RefIdeal := hAddOut1RefIdeal)
    ∧ quiescent_AddOut1RefIdeal_pre_half_addout1 (hAddOut1RefIdeal := hAddOut1RefIdeal) (hPre_half_addout1 := hPre_half_addout1)
    ∧ quiescent_AddOut2 (hAddOut2 := hAddOut2) (hPre_half_addout2 := hPre_half_addout2)
    ∧ quiescent_AddOut2Ideal (hAddOut2Ideal := hAddOut2Ideal) (hPre_half_addout2 := hPre_half_addout2)
    ∧ quiescent_AddOut2RefIdeal (hAddOut2RefIdeal := hAddOut2RefIdeal)
    ∧ quiescent_AddOut2RefIdeal_pre_half_addout2 (hAddOut2RefIdeal := hAddOut2RefIdeal) (hPre_half_addout2 := hPre_half_addout2)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamTaps (hAdamTaps := hAdamTaps)
    ∧ quiescent_AdamTapsIdeal (hAdamTapsIdeal := hAdamTapsIdeal)
    ∧ quiescent_AdamTapsRefIdeal (hAdamTapsRefIdeal := hAdamTapsRefIdeal)
    ∧ quiescent_AdamTaps4 (hAdamTaps4 := hAdamTaps4)
    ∧ quiescent_AdamTaps4Ideal (hAdamTaps4Ideal := hAdamTaps4Ideal)
    ∧ quiescent_AdamTaps4RefIdeal (hAdamTaps4RefIdeal := hAdamTaps4RefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_AdamFinal (hAdamFinal := hAdamFinal)
    ∧ quiescent_AdamFinalIdeal (hAdamFinalIdeal := hAdamFinalIdeal)
    ∧ quiescent_AdamFinalRefIdeal (hAdamFinalRefIdeal := hAdamFinalRefIdeal)
    ∧ preserves_Mix_MixIdeal
    ∧ algebraic_MixIdeal_MixRefIdeal_on_gates_pre_finite (hMixIdeal := hMixIdeal) (hMixRefIdeal := hMixRefIdeal) (hPre_finite := hPre_finite) (hOn_gates := hOn_gates)
    ∧ preserves_WIn_WInIdeal
    ∧ algebraic_WInIdeal_WInRefIdeal (hWInIdeal := hWInIdeal) (hWInRefIdeal := hWInRefIdeal)
    ∧ preserves_WOut_WOutIdeal
    ∧ algebraic_WOutIdeal_WOutRefIdeal (hWOutIdeal := hWOutIdeal) (hWOutRefIdeal := hWOutRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_OutBwd_OutBwdIdeal
    ∧ algebraic_OutBwdIdeal_OutBwdRefIdeal (hOutBwdIdeal := hOutBwdIdeal) (hOutBwdRefIdeal := hOutBwdRefIdeal)
    ∧ preserves_Loss_LossIdeal
    ∧ algebraic_LossIdeal_LossRefIdeal (hLossIdeal := hLossIdeal) (hLossRefIdeal := hLossRefIdeal)
    ∧ preserves_NormBwd_NormBwdIdeal
    ∧ algebraic_NormBwdIdeal_NormBwdRefIdeal (hNormBwdIdeal := hNormBwdIdeal) (hNormBwdRefIdeal := hNormBwdRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_Rows_RowsIdeal
    ∧ algebraic_RowsIdeal_RowsRefIdeal (hRowsIdeal := hRowsIdeal) (hRowsRefIdeal := hRowsRefIdeal)
    ∧ preserves_CastIn_CastInIdeal
    ∧ algebraic_CastInIdeal_CastInRefIdeal (hCastInIdeal := hCastInIdeal) (hCastInRefIdeal := hCastInRefIdeal)
    ∧ preserves_CastOut_CastOutIdeal
    ∧ algebraic_CastOutIdeal_CastOutRefIdeal (hCastOutIdeal := hCastOutIdeal) (hCastOutRefIdeal := hCastOutRefIdeal)
    ∧ preserves_AddIn0_AddIn0Ideal
    ∧ algebraic_AddIn0Ideal_AddIn0RefIdeal (hAddIn0Ideal := hAddIn0Ideal) (hAddIn0RefIdeal := hAddIn0RefIdeal) (hPre_half_addin0 := hPre_half_addin0)
    ∧ preserves_AddIn1_AddIn1Ideal
    ∧ algebraic_AddIn1Ideal_AddIn1RefIdeal (hAddIn1Ideal := hAddIn1Ideal) (hAddIn1RefIdeal := hAddIn1RefIdeal) (hPre_half_addin1 := hPre_half_addin1)
    ∧ preserves_AddIn2_AddIn2Ideal
    ∧ algebraic_AddIn2Ideal_AddIn2RefIdeal (hAddIn2Ideal := hAddIn2Ideal) (hAddIn2RefIdeal := hAddIn2RefIdeal) (hPre_half_addin2 := hPre_half_addin2)
    ∧ preserves_AddOut0_AddOut0Ideal
    ∧ algebraic_AddOut0Ideal_AddOut0RefIdeal (hAddOut0Ideal := hAddOut0Ideal) (hAddOut0RefIdeal := hAddOut0RefIdeal) (hPre_half_addout0 := hPre_half_addout0)
    ∧ preserves_AddOut1_AddOut1Ideal
    ∧ algebraic_AddOut1Ideal_AddOut1RefIdeal (hAddOut1Ideal := hAddOut1Ideal) (hAddOut1RefIdeal := hAddOut1RefIdeal) (hPre_half_addout1 := hPre_half_addout1)
    ∧ preserves_AddOut2_AddOut2Ideal
    ∧ algebraic_AddOut2Ideal_AddOut2RefIdeal (hAddOut2Ideal := hAddOut2Ideal) (hAddOut2RefIdeal := hAddOut2RefIdeal) (hPre_half_addout2 := hPre_half_addout2)
    ∧ preserves_AdamWIn_AdamWInIdeal
    ∧ algebraic_AdamWInIdeal_AdamWInRefIdeal (hAdamWInIdeal := hAdamWInIdeal) (hAdamWInRefIdeal := hAdamWInRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamTaps_AdamTapsIdeal
    ∧ algebraic_AdamTapsIdeal_AdamTapsRefIdeal (hAdamTapsIdeal := hAdamTapsIdeal) (hAdamTapsRefIdeal := hAdamTapsRefIdeal)
    ∧ preserves_AdamTaps4_AdamTaps4Ideal
    ∧ algebraic_AdamTaps4Ideal_AdamTaps4RefIdeal (hAdamTaps4Ideal := hAdamTaps4Ideal) (hAdamTaps4RefIdeal := hAdamTaps4RefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamRow_AdamRowIdeal
    ∧ algebraic_AdamRowIdeal_AdamRowRefIdeal (hAdamRowIdeal := hAdamRowIdeal) (hAdamRowRefIdeal := hAdamRowRefIdeal)
    ∧ preserves_AdamFinal_AdamFinalIdeal
    ∧ algebraic_AdamFinalIdeal_AdamFinalRefIdeal (hAdamFinalIdeal := hAdamFinalIdeal) (hAdamFinalRefIdeal := hAdamFinalRefIdeal)
-- ==== On_gates.lean ====
abbrev S8192x5120 : Shape := ⟨2, ![8192, 5120]⟩
abbrev S8192x1024 : Shape := ⟨2, ![8192, 1024]⟩
abbrev S8192x2048 : Shape := ⟨2, ![8192, 2048]⟩
abbrev S4x31x1024 : Shape := ⟨3, ![4, 31, 1024]⟩
abbrev S4x1024 : Shape := ⟨2, ![4, 1024]⟩
abbrev S4x4x1024 : Shape := ⟨3, ![4, 4, 1024]⟩
abbrev S4x8x128x128 : Shape := ⟨4, ![4, 8, 128, 128]⟩
abbrev S16x1024 : Shape := ⟨2, ![16, 1024]⟩
abbrev S_ : Shape := ⟨0, ![]⟩
abbrev S8x128x128 : Shape := ⟨3, ![8, 128, 128]⟩
abbrev S32x1024 : Shape := ⟨2, ![32, 1024]⟩

class Facts : Prop where
  bcast_S_S8x128x128 : S_.BroadcastsInDim S8x128x128 (![] : Fin 0 → Fin S8x128x128.rank)
  bcast_S_S8192x5120 : S_.BroadcastsInDim S8192x5120 (![] : Fin 0 → Fin S8192x5120.rank)
  bcast_S_S16x1024 : S_.BroadcastsInDim S16x1024 (![] : Fin 0 → Fin S16x1024.rank)
  bcast_S_S32x1024 : S_.BroadcastsInDim S32x1024 (![] : Fin 0 → Fin S32x1024.rank)

variable [Facts]

def fn {F : FTy → Type} [FloatOps F] (main_arg0 : FVec F S8192x5120 .f32) (main_arg1 : FVec F S8192x1024 .f32) (main_arg2 : FVec F S8192x1024 .f32) (main_arg3 : FVec F S8192x2048 .f32) (main_arg4 : FVec F S4x31x1024 .f32) (main_arg5 : FVec F S4x1024 .f32) (main_arg6 : FVec F S4x1024 .f32) (main_arg7 : FVec F S4x1024 .f32) (main_arg8 : FVec F S4x4x1024 .f32) (main_arg9 : FVec F S4x1024 .f32) (main_arg10 : FVec F S4x8x128x128 .f32) (main_arg11 : FVec F S4x1024 .f32) (main_arg12 : FVec F S4x8x128x128 .f32) (main_arg13 : FVec F S4x1024 .f32) (main_arg14 : FVec F S4x1024 .f32) : IVec S8192x5120 1 × IVec S16x1024 1 × IVec S32x1024 1 × IVec S8x128x128 1 × IVec S8x128x128 1 :=
  let main_v0 : IVec S8192x5120 32 := iotaInDim S8192x5120 32 1
  let main_v1 : IVec S16x1024 32 := iotaInDim S16x1024 32 0
  let main_c : IVec S_ 1 := constantI S_ 1 0#1
  let main_v2 : IVec S8x128x128 1 := broadcastInDim S8x128x128 ![] bcast_S_S8x128x128 main_c
  let main_c_0 : IVec S_ 32 := constantI S_ 32 2048#32
  let main_v3 : IVec S8192x5120 32 := broadcastInDim S8192x5120 ![] bcast_S_S8192x5120 main_c_0
  let main_v4 : IVec S8192x5120 1 := cmpi .sge main_v0 main_v3
  let main_c_1 : IVec S_ 32 := constantI S_ 32 3072#32
  let main_v5 : IVec S8192x5120 32 := broadcastInDim S8192x5120 ![] bcast_S_S8192x5120 main_c_1
  let main_v6 : IVec S8192x5120 1 := cmpi .slt main_v0 main_v5
  let main_v7 : IVec S8192x5120 1 := andi main_v4 main_v6
  let main_c_2 : IVec S_ 32 := constantI S_ 32 4096#32
  let main_v8 : IVec S8192x5120 32 := broadcastInDim S8192x5120 ![] bcast_S_S8192x5120 main_c_2
  let main_v9 : IVec S8192x5120 1 := cmpi .sge main_v0 main_v8
  let main_v10 : IVec S8192x5120 1 := ori main_v7 main_v9
  let main_c_3 : IVec S_ 32 := constantI S_ 32 2#32
  let main_v11 : IVec S16x1024 32 := broadcastInDim S16x1024 ![] bcast_S_S16x1024 main_c_3
  let main_v12 : IVec S16x1024 1 := cmpi .sle main_v1 main_v11
  let main_c_4 : IVec S_ 1 := constantI S_ 1 0#1
  let main_v13 : IVec S32x1024 1 := broadcastInDim S32x1024 ![] bcast_S_S32x1024 main_c_4
  (main_v10, main_v12, main_v13, main_v2, main_v2)
-- ==== Pre_finite.lean ====
abbrev S8192x5120 : Shape := ⟨2, ![8192, 5120]⟩
abbrev S8192x1024 : Shape := ⟨2, ![8192, 1024]⟩
abbrev S8192x2048 : Shape := ⟨2, ![8192, 2048]⟩
abbrev S4x31x1024 : Shape := ⟨3, ![4, 31, 1024]⟩
abbrev S4x1024 : Shape := ⟨2, ![4, 1024]⟩
abbrev S4x4x1024 : Shape := ⟨3, ![4, 4, 1024]⟩
abbrev S4x8x128x128 : Shape := ⟨4, ![4, 8, 128, 128]⟩
abbrev S_ : Shape := ⟨0, ![]⟩

class Facts : Prop where
  bcast_S_S8192x5120 : S_.BroadcastsInDim S8192x5120 (![] : Fin 0 → Fin S8192x5120.rank)
  reducesTo_S8192x5120_S_d0_1 : S8192x5120.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg7 : FVec F S4x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S4x1024 .f32 := Host.absf main_arg7
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  main_v23

def fn {F : FTy → Type} [FloatOps F] (main_arg0 : FVec F S8192x5120 .f32) (main_arg1 : FVec F S8192x1024 .f32) (main_arg2 : FVec F S8192x1024 .f32) (main_arg3 : FVec F S8192x2048 .f32) (main_arg4 : FVec F S4x31x1024 .f32) (main_arg5 : FVec F S4x1024 .f32) (main_arg6 : FVec F S4x1024 .f32) (main_arg7 : FVec F S4x1024 .f32) (main_arg8 : FVec F S4x4x1024 .f32) (main_arg9 : FVec F S4x1024 .f32) (main_arg10 : FVec F S4x8x128x128 .f32) (main_arg11 : FVec F S4x1024 .f32) (main_arg12 : FVec F S4x8x128x128 .f32) (main_arg13 : FVec F S4x1024 .f32) (main_arg14 : FVec F S4x1024 .f32) : IVec S_ 1 :=
  let main_v0 : FVec F S8192x5120 .f32 := Host.absf main_arg0
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  let main_c : IVec S_ 1 := constantI S_ 1 1#1
  let main_v3 : IVec S_ 1 := (fun x v => Host.reduce IntOp.andi x v reducesTo_S8192x5120_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S4x1024 .f32 := Host.absf main_arg6
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg7 main_v13 main_v16
-- ==== Pre_half_addin0.lean ====
abbrev S8x2048x640 : Shape := ⟨3, ![8, 2048, 640]⟩
abbrev S4x2048x640 : Shape := ⟨3, ![4, 2048, 640]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S8x2048x640 .bf16) (main_arg1 : FVec F S4x2048x640 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_half_addin1.lean ====
abbrev S4x2048x640 : Shape := ⟨3, ![4, 2048, 640]⟩
abbrev S2x2048x640 : Shape := ⟨3, ![2, 2048, 640]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x2048x640 .bf16) (main_arg1 : FVec F S2x2048x640 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_half_addin2.lean ====
abbrev S2x2048x640 : Shape := ⟨3, ![2, 2048, 640]⟩
abbrev S1x2048x640 : Shape := ⟨3, ![1, 2048, 640]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x2048x640 .bf16) (main_arg1 : FVec F S1x2048x640 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_half_addout0.lean ====
abbrev S8x256x2048 : Shape := ⟨3, ![8, 256, 2048]⟩
abbrev S4x256x2048 : Shape := ⟨3, ![4, 256, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S8x256x2048 .bf16) (main_arg1 : FVec F S4x256x2048 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_half_addout1.lean ====
abbrev S4x256x2048 : Shape := ⟨3, ![4, 256, 2048]⟩
abbrev S2x256x2048 : Shape := ⟨3, ![2, 256, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x256x2048 .bf16) (main_arg1 : FVec F S2x256x2048 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_half_addout2.lean ====
abbrev S2x256x2048 : Shape := ⟨3, ![2, 256, 2048]⟩
abbrev S1x256x2048 : Shape := ⟨3, ![1, 256, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x256x2048 .bf16) (main_arg1 : FVec F S1x256x2048 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Mix.lean ====
abbrev S8192x5120 : Shape := ⟨2, ![8192, 5120]⟩
abbrev S8192x1024 : Shape := ⟨2, ![8192, 1024]⟩
abbrev S8192x2048 : Shape := ⟨2, ![8192, 2048]⟩
abbrev S4x31x1024 : Shape := ⟨3, ![4, 31, 1024]⟩
abbrev S4x1024 : Shape := ⟨2, ![4, 1024]⟩
abbrev S4x4x1024 : Shape := ⟨3, ![4, 4, 1024]⟩
abbrev S4x8x128x128 : Shape := ⟨4, ![4, 8, 128, 128]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x4x1024 : Shape := ⟨3, ![1, 4, 1024]⟩
abbrev S3x1024 : Shape := ⟨2, ![3, 1024]⟩
abbrev S8195x1024 : Shape := ⟨2, ![8195, 1024]⟩
abbrev S1x8x128x128 : Shape := ⟨4, ![1, 8, 128, 128]⟩
abbrev S8x128x128 : Shape := ⟨3, ![8, 128, 128]⟩
abbrev S8192x8x128 : Shape := ⟨3, ![8192, 8, 128]⟩
abbrev S8x128x8192 : Shape := ⟨3, ![8, 128, 8192]⟩
abbrev S1x1x1024 : Shape := ⟨3, ![1, 1, 1024]⟩
abbrev S64x128x1024 : Shape := ⟨3, ![64, 128, 1024]⟩
abbrev S63x1x1024 : Shape := ⟨3, ![63, 1, 1024]⟩
abbrev S64x1x1024 : Shape := ⟨3, ![64, 1, 1024]⟩
abbrev S4x1x1024 : Shape := ⟨3, ![4, 1, 1024]⟩
abbrev S16x1024 : Shape := ⟨2, ![16, 1024]⟩
abbrev S32x1024 : Shape := ⟨2, ![32, 1024]⟩
abbrev S128x5120 : Shape := ⟨2, ![128, 5120]⟩
abbrev S128x1024 : Shape := ⟨2, ![128, 1024]⟩
abbrev S128x2048 : Shape := ⟨2, ![128, 2048]⟩
abbrev S1x31x1024 : Shape := ⟨3, ![1, 31, 1024]⟩
abbrev S8x160x1024 : Shape := ⟨3, ![8, 160, 1024]⟩
abbrev S160x1024 : Shape := ⟨2, ![160, 1024]⟩
abbrev S31x8x1024 : Shape := ⟨3, ![31, 8, 1024]⟩
abbrev S136x1024 : Shape := ⟨2, ![136, 1024]⟩
abbrev S8x1024 : Shape := ⟨2, ![8, 1024]⟩
abbrev S1x8x1024 : Shape := ⟨3, ![1, 8, 1024]⟩
abbrev S128 : Shape := ⟨1, ![128]⟩
abbrev S128x1 : Shape := ⟨2, ![128, 1]⟩
abbrev S1x160x1024 : Shape := ⟨3, ![1, 160, 1024]⟩
abbrev S1x16x1024 : Shape := ⟨3, ![1, 16, 1024]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 207
  | .vmem => 54
  | .smem => 0
  | _ => 0

abbrev hbmTy0_0 (i : Nat) : BufTy := match i % 128 with
  | 0 => ⟨S8192x5120, .f32⟩
  | 1 => ⟨S8192x1024, .f32⟩
  | 2 => ⟨S8192x1024, .f32⟩
  | 3 => ⟨S8192x2048, .f32⟩
  | 4 => ⟨S4x31x1024, .f32⟩
  | 5 => ⟨S4x1024, .f32⟩
  | 6 => ⟨S4x1024, .f32⟩
  | 7 => ⟨S4x1024, .f32⟩
  | 8 => ⟨S4x4x1024, .f32⟩
  | 9 => ⟨S4x1024, .f32⟩
  | 10 => ⟨S4x8x128x128, .f32⟩
  | 11 => ⟨S4x1024, .f32⟩
  | 12 => ⟨S4x8x128x128, .f32⟩
  | 13 => ⟨S4x1024, .f32⟩
  | 14 => ⟨S4x1024, .f32⟩
  | 15 => ⟨S8192x1024, .f32⟩
  | 16 => ⟨S8192x1024, .f32⟩
  | 17 => ⟨S8192x1024, .f32⟩
  | 18 => ⟨S8192x1024, .f32⟩
  | 19 => ⟨S1x1024, .f32⟩
  | 20 => ⟨S1024, .f32⟩
  | 21 => ⟨S1x1024, .f32⟩
  | 22 => ⟨S1024, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S1x4x1024, .f32⟩
  | 59 => ⟨S4x1024, .f32⟩
  | 60 => ⟨S1x1024, .f32⟩
  | 61 => ⟨S1024, .f32⟩
  | 62 => ⟨S_, .f32⟩
  | 63 => ⟨S3x1024, .f32⟩
  | 64 => ⟨S8195x1024, .f32⟩
  | 65 => ⟨S8192x1024, .f32⟩
  | 66 => ⟨S1x1024, .f32⟩
  | 67 => ⟨S1024, .f32⟩
  | 68 => ⟨S1x1024, .f32⟩
  | 69 => ⟨S8192x1024, .f32⟩
  | 70 => ⟨S8192x1024, .f32⟩
  | 71 => ⟨S8192x1024, .f32⟩
  | 72 => ⟨S1x1024, .f32⟩
  | 73 => ⟨S1024, .f32⟩
  | 74 => ⟨S1x1024, .f32⟩
  | 75 => ⟨S8192x1024, .f32⟩
  | 76 => ⟨S8192x1024, .f32⟩
  | 77 => ⟨S8192x1024, .f32⟩
  | 78 => ⟨S8192x1024, .f32⟩
  | 79 => ⟨S1x1024, .f32⟩
  | 80 => ⟨S1024, .f32⟩
  | 81 => ⟨S1x1024, .f32⟩
  | 82 => ⟨S8192x1024, .f32⟩
  | 83 => ⟨S8192x1024, .f32⟩
  | 84 => ⟨S8192x1024, .f32⟩
  | 85 => ⟨S8192x1024, .f32⟩
  | 86 => ⟨S1x1024, .f32⟩
  | 87 => ⟨S1024, .f32⟩
  | 88 => ⟨S1x1024, .f32⟩
  | 89 => ⟨S8192x1024, .f32⟩
  | 90 => ⟨S8192x1024, .f32⟩
  | 91 => ⟨S8192x1024, .f32⟩
  | 92 => ⟨S1x1024, .f32⟩
  | 93 => ⟨S8192x1024, .f32⟩
  | 94 => ⟨S8192x1024, .f32⟩
  | 95 => ⟨S1x8x128x128, .f32⟩
  | 96 => ⟨S8x128x128, .f32⟩
  | 97 => ⟨S1x1024, .f32⟩
  | 98 => ⟨S1024, .f32⟩
  | 99 => ⟨S8192x8x128, .f32⟩
  | 100 => ⟨S8x128x8192, .f32⟩
  | 101 => ⟨S8192x8x128, .f32⟩
  | 102 => ⟨S8192x1024, .f32⟩
  | 103 => ⟨S1x1024, .f32⟩
  | 104 => ⟨S8192x1024, .f32⟩
  | 105 => ⟨S8192x1024, .f32⟩
  | 106 => ⟨S8192x1024, .f32⟩
  | 107 => ⟨S8192x1024, .f32⟩
  | 108 => ⟨S_, .f32⟩
  | 109 => ⟨S8192x1024, .f32⟩
  | 110 => ⟨S8192x1024, .f32⟩
  | 111 => ⟨S_, .f32⟩
  | 112 => ⟨S8192x1024, .f32⟩
  | 113 => ⟨S8192x1024, .f32⟩
  | 114 => ⟨S1x8x128x128, .f32⟩
  | 115 => ⟨S8x128x128, .f32⟩
  | 116 => ⟨S1x1024, .f32⟩
  | 117 => ⟨S1024, .f32⟩
  | 118 => ⟨S8192x8x128, .f32⟩
  | 119 => ⟨S8x128x8192, .f32⟩
  | 120 => ⟨S8192x8x128, .f32⟩
  | 121 => ⟨S8192x1024, .f32⟩
  | 122 => ⟨S1x1024, .f32⟩
  | 123 => ⟨S8192x1024, .f32⟩
  | 124 => ⟨S8192x1024, .f32⟩
  | 125 => ⟨S8192x1024, .f32⟩
  | 126 => ⟨S8192x1024, .f32⟩
  | 127 => ⟨S_, .f32⟩
  | _ => ⟨S8192x5120, .f32⟩

abbrev hbmTy0_1 (i : Nat) : BufTy := match i % 128 with
  | 0 => ⟨S8192x1024, .f32⟩
  | 1 => ⟨S8192x1024, .f32⟩
  | 2 => ⟨S_, .f32⟩
  | 3 => ⟨S8192x1024, .f32⟩
  | 4 => ⟨S8192x1024, .f32⟩
  | 5 => ⟨S_, .f32⟩
  | 6 => ⟨S8192x1024, .f32⟩
  | 7 => ⟨S8192x1024, .f32⟩
  | 8 => ⟨S1x1024, .f32⟩
  | 9 => ⟨S1024, .f32⟩
  | 10 => ⟨S1024, .f32⟩
  | 11 => ⟨S_, .f32⟩
  | 12 => ⟨S1024, .f32⟩
  | 13 => ⟨S1024, .f32⟩
  | 14 => ⟨S1024, .f32⟩
  | 15 => ⟨S1024, .f32⟩
  | 16 => ⟨S1024, .i1⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1x1024, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S_, .f32⟩
  | 37 => ⟨S1x1x1024, .f32⟩
  | 38 => ⟨S64x128x1024, .f32⟩
  | 39 => ⟨S63x1x1024, .f32⟩
  | 40 => ⟨S64x1x1024, .f32⟩
  | 41 => ⟨S4x1x1024, .f32⟩
  | 42 => ⟨S4x1x1024, .f32⟩
  | 43 => ⟨S4x1x1024, .f32⟩
  | 44 => ⟨S4x1x1024, .f32⟩
  | 45 => ⟨S4x8x128x128, .bf16⟩
  | 46 => ⟨S4x1x1024, .f32⟩
  | 47 => ⟨S4x8x128x128, .bf16⟩
  | 48 => ⟨S4x1x1024, .f32⟩
  | 49 => ⟨S4x1x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x5120, .bf16⟩
  | 75 => ⟨S16x1024, .f32⟩
  | 76 => ⟨S32x1024, .f32⟩
  | 77 => ⟨S8x128x128, .f32⟩
  | 78 => ⟨S8x128x128, .f32⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | .local _ .vmem, ⟨0, _⟩ => ⟨S128x5120, .f32⟩
  | .local _ .vmem, ⟨1, _⟩ => ⟨S128x5120, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x2048, .f32⟩
  | .local _ .vmem, ⟨25, _⟩ => ⟨S128x2048, .f32⟩
  | .local _ .vmem, ⟨26, _⟩ => ⟨S1x1x1024, .f32⟩
  | .local _ .vmem, ⟨27, _⟩ => ⟨S1x1x1024, .f32⟩
  | .local _ .vmem, ⟨28, _⟩ => ⟨S1x31x1024, .f32⟩
  | .local _ .vmem, ⟨29, _⟩ => ⟨S1x1x1024, .f32⟩
  | .local _ .vmem, ⟨30, _⟩ => ⟨S1x1x1024, .f32⟩
  | .local _ .vmem, ⟨31, _⟩ => ⟨S1x1x1024, .f32⟩
  | .local _ .vmem, ⟨32, _⟩ => ⟨S1x4x1024, .f32⟩
  | .local _ .vmem, ⟨33, _⟩ => ⟨S1x1x1024, .f32⟩
  | .local _ .vmem, ⟨34, _⟩ => ⟨S1x8x128x128, .bf16⟩
  | .local _ .vmem, ⟨35, _⟩ => ⟨S1x1x1024, .f32⟩
  | .local _ .vmem, ⟨36, _⟩ => ⟨S1x8x128x128, .bf16⟩
  | .local _ .vmem, ⟨37, _⟩ => ⟨S1x1x1024, .f32⟩
  | .local _ .vmem, ⟨38, _⟩ => ⟨S1x1x1024, .f32⟩
  | .local _ .vmem, ⟨39, _⟩ => ⟨S128x5120, .bf16⟩
  | .local _ .vmem, ⟨40, _⟩ => ⟨S128x5120, .bf16⟩
  | .local _ .vmem, ⟨41, _⟩ => ⟨S16x1024, .f32⟩
  | .local _ .vmem, ⟨42, _⟩ => ⟨S32x1024, .f32⟩
  | .local _ .vmem, ⟨43, _⟩ => ⟨S8x128x128, .f32⟩
  | .local _ .vmem, ⟨44, _⟩ => ⟨S8x128x128, .f32⟩
  | .local _ .vmem, ⟨45, _⟩ => ⟨S128x1024, .f32⟩
  | .local _ .vmem, ⟨46, _⟩ => ⟨S8x160x1024, .f32⟩
  | .local _ .vmem, ⟨47, _⟩ => ⟨S128x1024, .f32⟩
  | .local _ .vmem, ⟨48, _⟩ => ⟨S160x1024, .f32⟩
  | .local _ .vmem, ⟨49, _⟩ => ⟨S31x8x1024, .f32⟩
  | .local _ .vmem, ⟨50, _⟩ => ⟨S136x1024, .f32⟩
  | .local _ .vmem, ⟨51, _⟩ => ⟨S1x1024, .f32⟩
  | .local _ .vmem, ⟨52, _⟩ => ⟨S1x1024, .f32⟩
  | .local _ .vmem, ⟨53, _⟩ => ⟨S31x8x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_7 : Ref sig .tc := ⟨.hbm, 108, rfl⟩
abbrev main_v85 : Ref sig .tc := ⟨.hbm, 109, rfl⟩
abbrev main_v86 : Ref sig .tc := ⟨.hbm, 110, rfl⟩
abbrev main_cst_8 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_9 : Ref sig .tc := ⟨.hbm, 127, rfl⟩
abbrev main_v102 : Ref sig .tc := ⟨.hbm, 128, rfl⟩
abbrev main_v103 : Ref sig .tc := ⟨.hbm, 129, rfl⟩
abbrev main_cst_10 : Ref sig .tc := ⟨.hbm, 130, rfl⟩
abbrev main_v104 : Ref sig .tc := ⟨.hbm, 131, rfl⟩
abbrev main_v105 : Ref sig .tc := ⟨.hbm, 132, rfl⟩
abbrev main_cst_11 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_call0_v0 : Ref sig .tc := ⟨.hbm, 138, rfl⟩
abbrev main_call0_call0_cst : Ref sig .tc := ⟨.hbm, 139, rfl⟩
abbrev main_call0_call0_v0 : Ref sig .tc := ⟨.hbm, 140, rfl⟩
abbrev main_call0_call0_v1 : Ref sig .tc := ⟨.hbm, 141, rfl⟩
abbrev main_call0_call0_v2 : Ref sig .tc := ⟨.hbm, 142, rfl⟩
abbrev main_call0_call0_v3 : Ref sig .tc := ⟨.hbm, 143, rfl⟩
abbrev main_call0_call0_v4 : Ref sig .tc := ⟨.hbm, 144, rfl⟩
abbrev main_call0_call0_v5 : Ref sig .tc := ⟨.hbm, 145, rfl⟩
abbrev main_call0_call0_v6 : Ref sig .tc := ⟨.hbm, 146, rfl⟩
abbrev main_call0_call0_v7 : Ref sig .tc := ⟨.hbm, 147, rfl⟩
abbrev main_call0_call0_v8 : Ref sig .tc := ⟨.hbm, 148, rfl⟩
abbrev main_call0_call0_v9 : Ref sig .tc := ⟨.hbm, 149, rfl⟩
abbrev main_call0_call0_v10 : Ref sig .tc := ⟨.hbm, 150, rfl⟩
abbrev main_call0_call0_v11 : Ref sig .tc := ⟨.hbm, 151, rfl⟩
abbrev main_call0_v1 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_12 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_13 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_14 : Ref sig .tc := ⟨.hbm, 180, rfl⟩
abbrev main_v135 : Ref sig .tc := ⟨.hbm, 181, rfl⟩
abbrev main_v136 : Ref sig .tc := ⟨.hbm, 182, rfl⟩
abbrev main_cst_15 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_16 : Ref sig .tc := ⟨.hbm, 188, rfl⟩
abbrev main_v141 : Ref sig .tc := ⟨.hbm, 189, rfl⟩
abbrev main_v142 : Ref sig .tc := ⟨.hbm, 190, rfl⟩
abbrev main_cst_17 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_18 : Ref sig .tc := ⟨.hbm, 196, rfl⟩
abbrev main_v147 : Ref sig .tc := ⟨.hbm, 197, rfl⟩
abbrev main_v148 : Ref sig .tc := ⟨.hbm, 198, rfl⟩
abbrev main_cst_19 : Ref sig .tc := ⟨.hbm, 199, rfl⟩
abbrev main_v149 : Ref sig .tc := ⟨.hbm, 200, rfl⟩
abbrev main_v150 : Ref sig .tc := ⟨.hbm, 201, rfl⟩
abbrev main_v151_0 : Ref sig .tc := ⟨.hbm, 202, rfl⟩
abbrev main_v151_1 : Ref sig .tc := ⟨.hbm, 203, rfl⟩
abbrev main_v151_2 : Ref sig .tc := ⟨.hbm, 204, rfl⟩
abbrev main_v151_3 : Ref sig .tc := ⟨.hbm, 205, rfl⟩
abbrev main_v151_4 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg27_0 : Ref sig .tc := ⟨.vmem, 42, rfl⟩
abbrev cc0_stg28_0 : Ref sig .tc := ⟨.vmem, 43, rfl⟩
abbrev cc0_stg29_0 : Ref sig .tc := ⟨.vmem, 44, rfl⟩
abbrev cc0_scratch0 : Ref sig .tc := ⟨.vmem, 45, rfl⟩
abbrev cc0_scratch1 : Ref sig .tc := ⟨.vmem, 46, rfl⟩
abbrev cc0_scratch2 : Ref sig .tc := ⟨.vmem, 47, rfl⟩
abbrev cc0_scratch3 : Ref sig .tc := ⟨.vmem, 48, rfl⟩
abbrev cc0_scratch4 : Ref sig .tc := ⟨.vmem, 49, rfl⟩
abbrev cc0_scratch5 : Ref sig .tc := ⟨.vmem, 50, rfl⟩
abbrev cc0_scratch6 : Ref sig .tc := ⟨.vmem, 51, rfl⟩
abbrev cc0_scratch7 : Ref sig .tc := ⟨.vmem, 52, rfl⟩
abbrev cc0_scratch8 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem25_1 : DmaSem sig := 40
abbrev cc0_sem26_0 : DmaSem sig := 41
abbrev cc0_sem27_0 : DmaSem sig := 42
abbrev cc0_sem28_0 : DmaSem sig := 43
abbrev cc0_sem29_0 : DmaSem sig := 44

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_71 : BitVec 32 := 0#32
  let c8_i32 : BitVec 32 := 8#32
  let v133 : BitVec 32 := Scalar.addi c0_i32_71 c8_i32
  let c1_i32 : BitVec 32 := 1#32
  ⟨c0_i32_71, v133, c1_i32⟩
def k0_mult1 (k0_t1 : Fin k0_t1_loop.trips) : BitVec 32 :=
  let c0_i32_71 : BitVec 32 := 0#32
  let c1_i32 : BitVec 32 := 1#32
  let arg40 : BitVec 32 := Scf.iv c0_i32_71 c1_i32 k0_t1
  let c16_i32 : BitVec 32 := 16#32
  let v695 : BitVec 32 := Scalar.muli arg40 c16_i32
  v695
def k0_off1 (k0_t1 : Fin k0_t1_loop.trips) : Fin 2 → Nat :=
  let c0_i32_71 : BitVec 32 := 0#32
  let c1_i32 : BitVec 32 := 1#32
  let arg40 : BitVec 32 := Scf.iv c0_i32_71 c1_i32 k0_t1
  let c16_i32 : BitVec 32 := 16#32
  let v695 : BitVec 32 := Scalar.muli arg40 c16_i32
  let v696 : BitVec 32 := v695
  let v697 : Index := Scalar.indexCast v696
  let c0_398 : Index := 0#32
  ![v697.toNat, 0]
def k0_off2 (k0_t1 : Fin k0_t1_loop.trips) (c24_i32 : BitVec 32) : Fin 3 → Nat :=
  let c6_404 : Index := 6#32
  let c0_i32_71 : BitVec 32 := 0#32
  let c1_i32 : BitVec 32 := 1#32
  let arg40 : BitVec 32 := Scf.iv c0_i32_71 c1_i32 k0_t1
  let c16_i32 : BitVec 32 := 16#32
  let v695 : BitVec 32 := Scalar.muli arg40 c16_i32
  let v696 : BitVec 32 := v695
  let v703 : BitVec 32 := Scalar.addi v696 c24_i32
  let v704 : Index := Scalar.indexCast v703
  let c0_405 : Index := 0#32
  ![6, v704.toNat, 0]
def k0_off3 (k0_t1 : Fin k0_t1_loop.trips) (c24_i32_415 : BitVec 32) : Fin 3 → Nat :=
  let c5_416 : Index := 5#32
  let c0_i32_71 : BitVec 32 := 0#32
  let c1_i32 : BitVec 32 := 1#32
  let arg40 : BitVec 32 := Scf.iv c0_i32_71 c1_i32 k0_t1
  let c16_i32 : BitVec 32 := 16#32
  let v695 : BitVec 32 := Scalar.muli arg40 c16_i32
  let v696 : BitVec 32 := v695
  let v725 : BitVec 32 := Scalar.addi v696 c24_i32_415
  let v726 : Index := Scalar.indexCast v725
  let c0_417 : Index := 0#32
  ![5, v726.toNat, 0]
def k0_off4 (k0_t1 : Fin k0_t1_loop.trips) (c24_i32_427 : BitVec 32) : Fin 3 → Nat :=
  let c4_428 : Index := 4#32
  let c0_i32_71 : BitVec 32 := 0#32
  let c1_i32 : BitVec 32 := 1#32
  let arg40 : BitVec 32 := Scf.iv c0_i32_71 c1_i32 k0_t1
  let c16_i32 : BitVec 32 := 16#32
  let v695 : BitVec 32 := Scalar.muli arg40 c16_i32
  let v696 : BitVec 32 := v695
  let v747 : BitVec 32 := Scalar.addi v696 c24_i32_427
  let v748 : Index := Scalar.indexCast v747
  let c0_429 : Index := 0#32
  ![4, v748.toNat, 0]
def k0_off5 (k0_t1 : Fin k0_t1_loop.trips) (c24_i32_439 : BitVec 32) : Fin 3 → Nat :=
  let c3_440 : Index := 3#32
  let c0_i32_71 : BitVec 32 := 0#32
  let c1_i32 : BitVec 32 := 1#32
  let arg40 : BitVec 32 := Scf.iv c0_i32_71 c1_i32 k0_t1
  let c16_i32 : BitVec 32 := 16#32
  let v695 : BitVec 32 := Scalar.muli arg40 c16_i32
  let v696 : BitVec 32 := v695
  let v769 : BitVec 32 := Scalar.addi v696 c24_i32_439
  let v770 : Index := Scalar.indexCast v769
  let c0_441 : Index := 0#32
  ![3, v770.toNat, 0]
def k0_off6 (k0_t1 : Fin k0_t1_loop.trips) (c24_i32_451 : BitVec 32) : Fin 3 → Nat :=
  let c2_452 : Index := 2#32
  let c0_i32_71 : BitVec 32 := 0#32
  let c1_i32 : BitVec 32 := 1#32
  let arg40 : BitVec 32 := Scf.iv c0_i32_71 c1_i32 k0_t1
  let c16_i32 : BitVec 32 := 16#32
  let v695 : BitVec 32 := Scalar.muli arg40 c16_i32
  let v696 : BitVec 32 := v695
  let v791 : BitVec 32 := Scalar.addi v696 c24_i32_451
  let v792 : Index := Scalar.indexCast v791
  let c0_453 : Index := 0#32
  ![2, v792.toNat, 0]
def k0_off7 (k0_t1 : Fin k0_t1_loop.trips) (c24_i32_463 : BitVec 32) : Fin 3 → Nat :=
  let c1_464 : Index := 1#32
  let c0_i32_71 : BitVec 32 := 0#32
  let c1_i32 : BitVec 32 := 1#32
  let arg40 : BitVec 32 := Scf.iv c0_i32_71 c1_i32 k0_t1
  let c16_i32 : BitVec 32 := 16#32
  let v695 : BitVec 32 := Scalar.muli arg40 c16_i32
  let v696 : BitVec 32 := v695
  let v813 : BitVec 32 := Scalar.addi v696 c24_i32_463
  let v814 : Index := Scalar.indexCast v813
  let c0_465 : Index := 0#32
  ![1, v814.toNat, 0]
def k0_off8 (k0_t1 : Fin k0_t1_loop.trips) (c24_i32_475 : BitVec 32) : Fin 3 → Nat :=
  let c0_476 : Index := 0#32
  let c0_i32_71 : BitVec 32 := 0#32
  let c1_i32 : BitVec 32 := 1#32
  let arg40 : BitVec 32 := Scf.iv c0_i32_71 c1_i32 k0_t1
  let c16_i32 : BitVec 32 := 16#32
  let v695 : BitVec 32 := Scalar.muli arg40 c16_i32
  let v696 : BitVec 32 := v695
  let v835 : BitVec 32 := Scalar.addi v696 c24_i32_475
  let v836 : Index := Scalar.indexCast v835
  let c0_477 : Index := 0#32
  ![0, v836.toNat, 0]
def k0_off9 (k0_t1 : Fin k0_t1_loop.trips) (c16_i32_487 : BitVec 32) : Fin 3 → Nat :=
  let c7_488 : Index := 7#32
  let c0_i32_71 : BitVec 32 := 0#32
  let c1_i32 : BitVec 32 := 1#32
  let arg40 : BitVec 32 := Scf.iv c0_i32_71 c1_i32 k0_t1
  let c16_i32 : BitVec 32 := 16#32
  let v695 : BitVec 32 := Scalar.muli arg40 c16_i32
  let v696 : BitVec 32 := v695
  let v857 : BitVec 32 := Scalar.addi v696 c16_i32_487
  let v858 : Index := Scalar.indexCast v857
  let c0_489 : Index := 0#32
  ![7, v858.toNat, 0]
def k0_cond2 (i : grid0.Coords) : BitVec 1 :=
  let arg0 : BitVec 32 := BitVec.ofNat 32 (i 0).val
  let c63_i32 : BitVec 32 := 63#32
  let v692 : BitVec 1 := Scalar.cmpi .eq arg0 c63_i32
  let v693 : BitVec 32 := Scalar.extui v692
  let c0_i32_397 : BitVec 32 := 0#32
  let v694 : BitVec 1 := Scalar.cmpi .ne v693 c0_i32_397
  v694

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_16 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_17 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_18 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_19 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_20 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_21 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_22 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_23 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_24 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_25 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x31x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x4x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x8x128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x8x128x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S128x5120 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S16x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S32x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S8x128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S8x128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== MixRefIdeal.lean ====
abbrev S8192x5120 : Shape := ⟨2, ![8192, 5120]⟩
abbrev S8192x1024 : Shape := ⟨2, ![8192, 1024]⟩
abbrev S8192x2048 : Shape := ⟨2, ![8192, 2048]⟩
abbrev S4x31x1024 : Shape := ⟨3, ![4, 31, 1024]⟩
abbrev S4x1024 : Shape := ⟨2, ![4, 1024]⟩
abbrev S4x4x1024 : Shape := ⟨3, ![4, 4, 1024]⟩
abbrev S4x8x128x128 : Shape := ⟨4, ![4, 8, 128, 128]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S13x1024 : Shape := ⟨2, ![13, 1024]⟩
abbrev S16x1024 : Shape := ⟨2, ![16, 1024]⟩
abbrev S8x128x128 : Shape := ⟨3, ![8, 128, 128]⟩
abbrev S32x1024 : Shape := ⟨2, ![32, 1024]⟩

abbrev nBuf : Space → Nat
  | .hbm => 167
  | .vmem => 0
  | .smem => 0
  | _ => 0

abbrev hbmTy0_0 (i : Nat) : BufTy := match i % 128 with
  | 0 => ⟨S8192x5120, .f32⟩
  | 1 => ⟨S8192x1024, .f32⟩
  | 2 => ⟨S8192x1024, .f32⟩
  | 3 => ⟨S8192x2048, .f32⟩
  | 4 => ⟨S4x31x1024, .f32⟩
  | 5 => ⟨S4x1024, .f32⟩
  | 6 => ⟨S4x1024, .f32⟩
  | 7 => ⟨S4x1024, .f32⟩
  | 8 => ⟨S4x4x1024, .f32⟩
  | 9 => ⟨S4x1024, .f32⟩
  | 10 => ⟨S4x8x128x128, .f32⟩
  | 11 => ⟨S4x1024, .f32⟩
  | 12 => ⟨S4x8x128x128, .f32⟩
  | 13 => ⟨S4x1024, .f32⟩
  | 14 => ⟨S4x1024, .f32⟩
  | 15 => ⟨S8192x1024, .f32⟩
  | 16 => ⟨S8192x1024, .f32⟩
  | 17 => ⟨S1x1024, .f32⟩
  | 18 => ⟨S1024, .f32⟩
  | 19 => ⟨S1x1024, .f32⟩
  | 20 => ⟨S1024, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1024, .f32⟩
  | 45 => ⟨S8192x1024, .f32⟩
  | 46 => ⟨S1x1024, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S_, .f32⟩
  | 102 => ⟨S1024, .f32⟩
  | 103 => ⟨S8192x1024, .f32⟩
  | 104 => ⟨S_, .f32⟩
  | 105 => ⟨S8192, .f32⟩
  | 106 => ⟨S8192x1, .f32⟩
  | 107 => ⟨S8192x1024, .f32⟩
  | 108 => ⟨S8192x1024, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x5120, .f32⟩

abbrev hbmTy0_1 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S8192x1024, .f32⟩
  | 5 => ⟨S_, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x5120, .f32⟩
  | 26 => ⟨S_, .f32⟩
  | 27 => ⟨S1024, .f32⟩
  | 28 => ⟨S1x1024, .f32⟩
  | 29 => ⟨S1x1024, .f32⟩
  | 30 => ⟨S1x1024, .f32⟩
  | 31 => ⟨S_, .f32⟩
  | 32 => ⟨S13x1024, .f32⟩
  | 33 => ⟨S16x1024, .f32⟩
  | 34 => ⟨S_, .f32⟩
  | 35 => ⟨S8x128x128, .f32⟩
  | 36 => ⟨S8192x5120, .bf16⟩
  | 37 => ⟨S_, .f32⟩
  | 38 => ⟨S32x1024, .f32⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_cst_17 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_cst_22 : Ref sig .tc := ⟨.hbm, 136, rfl⟩
abbrev main_v98 : Ref sig .tc := ⟨.hbm, 137, rfl⟩
abbrev main_v99 : Ref sig .tc := ⟨.hbm, 138, rfl⟩
abbrev main_cst_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_24 : Ref sig .tc := ⟨.hbm, 151, rfl⟩
abbrev main_v111 : Ref sig .tc := ⟨.hbm, 152, rfl⟩
abbrev main_v112 : Ref sig .tc := ⟨.hbm, 153, rfl⟩
abbrev main_cst_25 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_26 : Ref sig .tc := ⟨.hbm, 159, rfl⟩
abbrev main_v117 : Ref sig .tc := ⟨.hbm, 160, rfl⟩
abbrev main_v118 : Ref sig .tc := ⟨.hbm, 161, rfl⟩
abbrev main_cst_27 : Ref sig .tc := ⟨.hbm, 162, rfl⟩
abbrev main_v119 : Ref sig .tc := ⟨.hbm, 163, rfl⟩
abbrev main_v120 : Ref sig .tc := ⟨.hbm, 164, rfl⟩
abbrev main_cst_28 : Ref sig .tc := ⟨.hbm, 165, rfl⟩
abbrev main_v121 : Ref sig .tc := ⟨.hbm, 166, rfl⟩

abbrev nD : Nat := 1
abbrev τ : Topo := Topo.v7x

variable {F : FTy → Type} [FloatOps F]
-- ==== WIn.lean ====
abbrev S8192x2048 : Shape := ⟨2, ![8192, 2048]⟩
abbrev S8192x5120 : Shape := ⟨2, ![8192, 5120]⟩
abbrev S2x4x2048x640 : Shape := ⟨4, ![2, 4, 2048, 640]⟩
abbrev S2048x2048 : Shape := ⟨2, ![2048, 2048]⟩
abbrev S2048x1280 : Shape := ⟨2, ![2048, 1280]⟩
abbrev S2x1x2048x640 : Shape := ⟨4, ![2, 1, 2048, 640]⟩
abbrev S2048x640 : Shape := ⟨2, ![2048, 640]⟩
abbrev S1x1x2048x640 : Shape := ⟨4, ![1, 1, 2048, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S2x4x2048x640, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1280, .bf16⟩
  | .local _ .vmem, ⟨3, _⟩ => ⟨S2048x1280, .bf16⟩
  | .local _ .vmem, ⟨4, _⟩ => ⟨S2x1x2048x640, .bf16⟩
  | .local _ .vmem, ⟨5, _⟩ => ⟨S2x1x2048x640, .bf16⟩
  | .local _ .vmem, ⟨6, _⟩ => ⟨S2048x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WInRefIdeal.lean ====
abbrev S8192x2048 : Shape := ⟨2, ![8192, 2048]⟩
abbrev S8192x5120 : Shape := ⟨2, ![8192, 5120]⟩
abbrev S_ : Shape := ⟨0, ![]⟩
abbrev S2048x5120 : Shape := ⟨2, ![2048, 5120]⟩
abbrev S5120x2048 : Shape := ⟨2, ![5120, 2048]⟩
abbrev S2048x4x2x640 : Shape := ⟨4, ![2048, 4, 2, 640]⟩
abbrev S2x4x2048x640 : Shape := ⟨4, ![2, 4, 2048, 640]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S_, .f32⟩
  | .hbm, ⟨3, _⟩ => ⟨S2048x5120, .f32⟩
  | .hbm, ⟨4, _⟩ => ⟨S8192x2048, .f32⟩
  | .hbm, ⟨5, _⟩ => ⟨S8192x5120, .f32⟩
  | .hbm, ⟨6, _⟩ => ⟨S8192x5120, .f32⟩
  | .hbm, ⟨7, _⟩ => ⟨S5120x2048, .f32⟩
  | .hbm, ⟨8, _⟩ => ⟨S2048x5120, .f32⟩
  | .hbm, ⟨9, _⟩ => ⟨S2048x4x2x640, .f32⟩
  | .hbm, ⟨10, _⟩ => ⟨S2x4x2048x640, .f32⟩
  | .hbm, ⟨11, _⟩ => ⟨S2x4x2048x640, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WOut.lean ====
abbrev S8192x2048 : Shape := ⟨2, ![8192, 2048]⟩
abbrev S8x256x2048 : Shape := ⟨3, ![8, 256, 2048]⟩
abbrev S2048x2048 : Shape := ⟨2, ![2048, 2048]⟩
abbrev S2048x1024 : Shape := ⟨2, ![2048, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8x256x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x256x1024, .bf16⟩
  | .local _ .vmem, ⟨5, _⟩ => ⟨S8x256x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WOutRefIdeal.lean ====
abbrev S8192x2048 : Shape := ⟨2, ![8192, 2048]⟩
abbrev S_ : Shape := ⟨0, ![]⟩
abbrev S2048x2048 : Shape := ⟨2, ![2048, 2048]⟩
abbrev S4x2x256x2048 : Shape := ⟨4, ![4, 2, 256, 2048]⟩
abbrev S2x4x256x2048 : Shape := ⟨4, ![2, 4, 256, 2048]⟩
abbrev S8x256x2048 : Shape := ⟨3, ![8, 256, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S4x2x256x2048, .f32⟩
  | .hbm, ⟨10, _⟩ => ⟨S2x4x256x2048, .f32⟩
  | .hbm, ⟨11, _⟩ => ⟨S8x256x2048, .f32⟩
  | .hbm, ⟨12, _⟩ => ⟨S8x256x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== InProj.lean ====
abbrev S8192x2048 : Shape := ⟨2, ![8192, 2048]⟩
abbrev S2048x5120 : Shape := ⟨2, ![2048, 5120]⟩
abbrev S8192x5120 : Shape := ⟨2, ![8192, 5120]⟩
abbrev S2048x2048 : Shape := ⟨2, ![2048, 2048]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x5120, .f32⟩
  | .local _ .vmem, ⟨0, _⟩ => ⟨S2048x2048, .bf16⟩
  | .local _ .vmem, ⟨1, _⟩ => ⟨S2048x2048, .bf16⟩
  | .local _ .vmem, ⟨2, _⟩ => ⟨S2048x1280, .bf16⟩
  | .local _ .vmem, ⟨3, _⟩ => ⟨S2048x1280, .bf16⟩
  | .local _ .vmem, ⟨4, _⟩ => ⟨S2048x1280, .f32⟩
  | .local _ .vmem, ⟨5, _⟩ => ⟨S2048x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x2048 : Shape := ⟨2, ![8192, 2048]⟩
abbrev S2048x5120 : Shape := ⟨2, ![2048, 5120]⟩
abbrev S8192x5120 : Shape := ⟨2, ![8192, 5120]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .bf16⟩
  | .hbm, ⟨2, _⟩ => ⟨S8192x2048, .f32⟩
  | .hbm, ⟨3, _⟩ => ⟨S2048x5120, .f32⟩
  | .hbm, ⟨4, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutBwd.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutBwdRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .bf16⟩
  | .hbm, ⟨3, _⟩ => ⟨S_, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Loss.lean ====
abbrev S8192x2048 : Shape := ⟨2, ![8192, 2048]⟩
abbrev S2048x2048 : Shape := ⟨2, ![2048, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S8x128, .f32⟩
  | .hbm, ⟨6, _⟩ => ⟨S8192x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S8x128, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8x128 : Shape := ⟨2, ![8, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x2048, .f32⟩
  | .hbm, ⟨62, _⟩ => ⟨S8192x2048, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== NormBwd.lean ====
abbrev S8192x5120 : Shape := ⟨2, ![8192, 5120]⟩
abbrev S2048x5120 : Shape := ⟨2, ![2048, 5120]⟩
abbrev S8192x2048 : Shape := ⟨2, ![8192, 2048]⟩
abbrev S1x2048 : Shape := ⟨2, ![1, 2048]⟩
abbrev S256x5120 : Shape := ⟨2, ![256, 5120]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S1x2048, .f32⟩
  | .local _ .vmem, ⟨0, _⟩ => ⟨S256x5120, .bf16⟩
  | .local _ .vmem, ⟨1, _⟩ => ⟨S256x5120, .bf16⟩
  | .local _ .vmem, ⟨2, _⟩ => ⟨S2048x5120, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S8192x5120 : Shape := ⟨2, ![8192, 5120]⟩
abbrev S2048x5120 : Shape := ⟨2, ![2048, 5120]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S2048x5120, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S2048x5120, .f32⟩
  | .hbm, ⟨25, _⟩ => ⟨S8192x5120, .f32⟩
  | .hbm, ⟨26, _⟩ => ⟨S8192x5120, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== FirstNorm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Rows.lean ====
abbrev S8x2048x640 : Shape := ⟨3, ![8, 2048, 640]⟩
abbrev S2048x5120 : Shape := ⟨2, ![2048, 5120]⟩
abbrev S1x2048x640 : Shape := ⟨3, ![1, 2048, 640]⟩
abbrev S2048x640 : Shape := ⟨2, ![2048, 640]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x640, .bf16⟩
  | .hbm, ⟨1, _⟩ => ⟨S2048x5120, .bf16⟩
  | .local _ .vmem, ⟨0, _⟩ => ⟨S1x2048x640, .bf16⟩
  | .local _ .vmem, ⟨1, _⟩ => ⟨S1x2048x640, .bf16⟩
  | .local _ .vmem, ⟨2, _⟩ => ⟨S2048x640, .bf16⟩
  | .local _ .vmem, ⟨3, _⟩ => ⟨S2048x640, .bf16⟩
  | _, _ => ⟨S8x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RowsRefIdeal.lean ====
abbrev S8x2048x640 : Shape := ⟨3, ![8, 2048, 640]⟩
abbrev S2048x8x640 : Shape := ⟨3, ![2048, 8, 640]⟩
abbrev S2048x5120 : Shape := ⟨2, ![2048, 5120]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x640, .bf16⟩
  | .hbm, ⟨1, _⟩ => ⟨S2048x8x640, .bf16⟩
  | .hbm, ⟨2, _⟩ => ⟨S2048x5120, .bf16⟩
  | _, _ => ⟨S8x2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== CastIn.lean ====
abbrev S4x2048x640 : Shape := ⟨3, ![4, 2048, 640]⟩
abbrev S1x512x640 : Shape := ⟨3, ![1, 512, 640]⟩
abbrev S512x640 : Shape := ⟨2, ![512, 640]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x640, .f32⟩
  | .hbm, ⟨1, _⟩ => ⟨S4x2048x640, .bf16⟩
  | .local _ .vmem, ⟨0, _⟩ => ⟨S1x512x640, .f32⟩
  | .local _ .vmem, ⟨1, _⟩ => ⟨S1x512x640, .f32⟩
  | .local _ .vmem, ⟨2, _⟩ => ⟨S1x512x640, .bf16⟩
  | .local _ .vmem, ⟨3, _⟩ => ⟨S1x512x640, .bf16⟩
  | _, _ => ⟨S4x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastInIdeal.lean ====
abbrev S4x2048x640 : Shape := ⟨3, ![4, 2048, 640]⟩
abbrev S1x512x640 : Shape := ⟨3, ![1, 512, 640]⟩
abbrev S512x640 : Shape := ⟨2, ![512, 640]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x640, .f32⟩
  | .hbm, ⟨1, _⟩ => ⟨S4x2048x640, .bf16⟩
  | .local _ .vmem, ⟨0, _⟩ => ⟨S1x512x640, .f32⟩
  | .local _ .vmem, ⟨1, _⟩ => ⟨S1x512x640, .f32⟩
  | .local _ .vmem, ⟨2, _⟩ => ⟨S1x512x640, .bf16⟩
  | .local _ .vmem, ⟨3, _⟩ => ⟨S1x512x640, .bf16⟩
  | _, _ => ⟨S4x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastInRefIdeal.lean ====
abbrev S4x2048x640 : Shape := ⟨3, ![4, 2048, 640]⟩

abbrev nBuf : Space → Nat
  | .hbm => 2
  | .vmem => 0
  | .smem => 0
  | _ => 0

abbrev bufTy : (tb : Table) → Fin (tcTables nBuf tb) → BufTy
  | .hbm, ⟨0, _⟩ => ⟨S4x2048x640, .f32⟩
  | .hbm, ⟨1, _⟩ => ⟨S4x2048x640, .bf16⟩
  | _, _ => ⟨S4x2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastOut.lean ====
abbrev S4x256x2048 : Shape := ⟨3, ![4, 256, 2048]⟩
abbrev S1x256x2048 : Shape := ⟨3, ![1, 256, 2048]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .bf16⟩
  | .local _ .vmem, ⟨3, _⟩ => ⟨S1x256x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastOutRefIdeal.lean ====
abbrev S4x256x2048 : Shape := ⟨3, ![4, 256, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AddIn0.lean ====
abbrev S8x2048x640 : Shape := ⟨3, ![8, 2048, 640]⟩
abbrev S4x2048x640 : Shape := ⟨3, ![4, 2048, 640]⟩
abbrev S1 : Shape := ⟨1, ![1]⟩
abbrev S1x1024x640 : Shape := ⟨3, ![1, 1024, 640]⟩
abbrev S1024x640 : Shape := ⟨2, ![1024, 640]⟩

abbrev nBuf : Space → Nat
  | .hbm => 3
  | .vmem => 6
  | .smem => 1
  | _ => 0

abbrev bufTy : (tb : Table) → Fin (tcTables nBuf tb) → BufTy
  | .hbm, ⟨0, _⟩ => ⟨S8x2048x640, .bf16⟩
  | .hbm, ⟨1, _⟩ => ⟨S4x2048x640, .bf16⟩
  | .hbm, ⟨2, _⟩ => ⟨S4x2048x640, .bf16⟩
  | .local _ .vmem, ⟨0, _⟩ => ⟨S1x1024x640, .bf16⟩
  | .local _ .vmem, ⟨1, _⟩ => ⟨S1x1024x640, .bf16⟩
  | .local _ .vmem, ⟨2, _⟩ => ⟨S1x1024x640, .bf16⟩
  | .local _ .vmem, ⟨3, _⟩ => ⟨S1x1024x640, .bf16⟩
  | .local _ .vmem, ⟨4, _⟩ => ⟨S1x1024x640, .bf16⟩
  | .local _ .vmem, ⟨5, _⟩ => ⟨S1x1024x640, .bf16⟩
  | .local _ .smem, ⟨0, _⟩ => ⟨S1, .i32⟩
  | _, _ => ⟨S8x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddIn0Ideal.lean ====
abbrev S8x2048x640 : Shape := ⟨3, ![8, 2048, 640]⟩
abbrev S4x2048x640 : Shape := ⟨3, ![4, 2048, 640]⟩
abbrev S1 : Shape := ⟨1, ![1]⟩
abbrev S1x1024x640 : Shape := ⟨3, ![1, 1024, 640]⟩
abbrev S1024x640 : Shape := ⟨2, ![1024, 640]⟩

abbrev nBuf : Space → Nat
  | .hbm => 3
  | .vmem => 6
  | .smem => 1
  | _ => 0

abbrev bufTy : (tb : Table) → Fin (tcTables nBuf tb) → BufTy
  | .hbm, ⟨0, _⟩ => ⟨S8x2048x640, .bf16⟩
  | .hbm, ⟨1, _⟩ => ⟨S4x2048x640, .bf16⟩
  | .hbm, ⟨2, _⟩ => ⟨S4x2048x640, .bf16⟩
  | .local _ .vmem, ⟨0, _⟩ => ⟨S1x1024x640, .bf16⟩
  | .local _ .vmem, ⟨1, _⟩ => ⟨S1x1024x640, .bf16⟩
  | .local _ .vmem, ⟨2, _⟩ => ⟨S1x1024x640, .bf16⟩
  | .local _ .vmem, ⟨3, _⟩ => ⟨S1x1024x640, .bf16⟩
  | .local _ .vmem, ⟨4, _⟩ => ⟨S1x1024x640, .bf16⟩
  | .local _ .vmem, ⟨5, _⟩ => ⟨S1x1024x640, .bf16⟩
  | .local _ .smem, ⟨0, _⟩ => ⟨S1, .i32⟩
  | _, _ => ⟨S8x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddIn0RefIdeal.lean ====
abbrev S8x2048x640 : Shape := ⟨3, ![8, 2048, 640]⟩
abbrev S4x2048x640 : Shape := ⟨3, ![4, 2048, 640]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x640, .bf16⟩
  | .hbm, ⟨1, _⟩ => ⟨S4x2048x640, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x2048x640, .bf16⟩
  | .hbm, ⟨7, _⟩ => ⟨S4x2048x640, .f32⟩
  | .hbm, ⟨8, _⟩ => ⟨S4x2048x640, .bf16⟩
  | .hbm, ⟨9, _⟩ => ⟨S4x2048x640, .f32⟩
  | .hbm, ⟨10, _⟩ => ⟨S4x2048x640, .f32⟩
  | .hbm, ⟨11, _⟩ => ⟨S4x2048x640, .f32⟩
  | .hbm, ⟨12, _⟩ => ⟨S4x2048x640, .f32⟩
  | .hbm, ⟨13, _⟩ => ⟨S4x2048x640, .bf16⟩
  | _, _ => ⟨S8x2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AddIn1.lean ====
abbrev S4x2048x640 : Shape := ⟨3, ![4, 2048, 640]⟩
abbrev S2x2048x640 : Shape := ⟨3, ![2, 2048, 640]⟩
abbrev S1 : Shape := ⟨1, ![1]⟩
abbrev S1x1024x640 : Shape := ⟨3, ![1, 1024, 640]⟩
abbrev S1024x640 : Shape := ⟨2, ![1024, 640]⟩

abbrev nBuf : Space → Nat
  | .hbm => 3
  | .vmem => 6
  | .smem => 1
  | _ => 0

abbrev bufTy : (tb : Table) → Fin (tcTables nBuf tb) → BufTy
  | .hbm, ⟨0, _⟩ => ⟨S4x2048x640, .bf16⟩
  | .hbm, ⟨1, _⟩ => ⟨S2x2048x640, .bf16⟩
  | .hbm, ⟨2, _⟩ => ⟨S2x2048x640, .bf16⟩
  | .local _ .vmem, ⟨0, _⟩ => ⟨S1x1024x640, .bf16⟩
  | .local _ .vmem, ⟨1, _⟩ => ⟨S1x1024x640, .bf16⟩
  | .local _ .vmem, ⟨2, _⟩ => ⟨S1x1024x640, .bf16⟩
  | .local _ .vmem, ⟨3, _⟩ => ⟨S1x1024x640, .bf16⟩
  | .local _ .vmem, ⟨4, _⟩ => ⟨S1x1024x640, .bf16⟩
  | .local _ .vmem, ⟨5, _⟩ => ⟨S1x1024x640, .bf16⟩
  | .local _ .smem, ⟨0, _⟩ => ⟨S1, .i32⟩
  | _, _ => ⟨S4x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddIn1Ideal.lean ====
abbrev S4x2048x640 : Shape := ⟨3, ![4, 2048, 640]⟩
abbrev S2x2048x640 : Shape := ⟨3, ![2, 2048, 640]⟩
abbrev S1 : Shape := ⟨1, ![1]⟩
abbrev S1x1024x640 : Shape := ⟨3, ![1, 1024, 640]⟩
abbrev S1024x640 : Shape := ⟨2, ![1024, 640]⟩

abbrev nBuf : Space → Nat
  | .hbm => 3
  | .vmem => 6
  | .smem => 1
  | _ => 0

abbrev bufTy : (tb : Table) → Fin (tcTables nBuf tb) → BufTy
  | .hbm, ⟨0, _⟩ => ⟨S4x2048x640, .bf16⟩
  | .hbm, ⟨1, _⟩ => ⟨S2x2048x640, .bf16⟩
  | .hbm, ⟨2, _⟩ => ⟨S2x2048x640, .bf16⟩
  | .local _ .vmem, ⟨0, _⟩ => ⟨S1x1024x640, .bf16⟩
  | .local _ .vmem, ⟨1, _⟩ => ⟨S1x1024x640, .bf16⟩
  | .local _ .vmem, ⟨2, _⟩ => ⟨S1x1024x640, .bf16⟩
  | .local _ .vmem, ⟨3, _⟩ => ⟨S1x1024x640, .bf16⟩
  | .local _ .vmem, ⟨4, _⟩ => ⟨S1x1024x640, .bf16⟩
  | .local _ .vmem, ⟨5, _⟩ => ⟨S1x1024x640, .bf16⟩
  | .local _ .smem, ⟨0, _⟩ => ⟨S1, .i32⟩
  | _, _ => ⟨S4x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddIn1RefIdeal.lean ====
abbrev S4x2048x640 : Shape := ⟨3, ![4, 2048, 640]⟩
abbrev S2x2048x640 : Shape := ⟨3, ![2, 2048, 640]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x640, .bf16⟩
  | .hbm, ⟨1, _⟩ => ⟨S2x2048x640, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S2x2048x640, .bf16⟩
  | .hbm, ⟨7, _⟩ => ⟨S2x2048x640, .f32⟩
  | .hbm, ⟨8, _⟩ => ⟨S2x2048x640, .bf16⟩
  | .hbm, ⟨9, _⟩ => ⟨S2x2048x640, .f32⟩
  | .hbm, ⟨10, _⟩ => ⟨S2x2048x640, .f32⟩
  | .hbm, ⟨11, _⟩ => ⟨S2x2048x640, .f32⟩
  | .hbm, ⟨12, _⟩ => ⟨S2x2048x640, .f32⟩
  | .hbm, ⟨13, _⟩ => ⟨S2x2048x640, .bf16⟩
  | _, _ => ⟨S4x2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AddIn2.lean ====
abbrev S2x2048x640 : Shape := ⟨3, ![2, 2048, 640]⟩
abbrev S1x2048x640 : Shape := ⟨3, ![1, 2048, 640]⟩
abbrev S1 : Shape := ⟨1, ![1]⟩
abbrev S1x1024x640 : Shape := ⟨3, ![1, 1024, 640]⟩
abbrev S1024x640 : Shape := ⟨2, ![1024, 640]⟩

abbrev nBuf : Space → Nat
  | .hbm => 3
  | .vmem => 6
  | .smem => 1
  | _ => 0

abbrev bufTy : (tb : Table) → Fin (tcTables nBuf tb) → BufTy
  | .hbm, ⟨0, _⟩ => ⟨S2x2048x640, .bf16⟩
  | .hbm, ⟨1, _⟩ => ⟨S1x2048x640, .bf16⟩
  | .hbm, ⟨2, _⟩ => ⟨S1x2048x640, .f32⟩
  | .local _ .vmem, ⟨0, _⟩ => ⟨S1x1024x640, .bf16⟩
  | .local _ .vmem, ⟨1, _⟩ => ⟨S1x1024x640, .bf16⟩
  | .local _ .vmem, ⟨2, _⟩ => ⟨S1x1024x640, .bf16⟩
  | .local _ .vmem, ⟨3, _⟩ => ⟨S1x1024x640, .bf16⟩
  | .local _ .vmem, ⟨4, _⟩ => ⟨S1x1024x640, .f32⟩
  | .local _ .vmem, ⟨5, _⟩ => ⟨S1x1024x640, .f32⟩
  | .local _ .smem, ⟨0, _⟩ => ⟨S1, .i32⟩
  | _, _ => ⟨S2x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddIn2Ideal.lean ====
abbrev S2x2048x640 : Shape := ⟨3, ![2, 2048, 640]⟩
abbrev S1x2048x640 : Shape := ⟨3, ![1, 2048, 640]⟩
abbrev S1 : Shape := ⟨1, ![1]⟩
abbrev S1x1024x640 : Shape := ⟨3, ![1, 1024, 640]⟩
abbrev S1024x640 : Shape := ⟨2, ![1024, 640]⟩

abbrev nBuf : Space → Nat
  | .hbm => 3
  | .vmem => 6
  | .smem => 1
  | _ => 0

abbrev bufTy : (tb : Table) → Fin (tcTables nBuf tb) → BufTy
  | .hbm, ⟨0, _⟩ => ⟨S2x2048x640, .bf16⟩
  | .hbm, ⟨1, _⟩ => ⟨S1x2048x640, .bf16⟩
  | .hbm, ⟨2, _⟩ => ⟨S1x2048x640, .f32⟩
  | .local _ .vmem, ⟨0, _⟩ => ⟨S1x1024x640, .bf16⟩
  | .local _ .vmem, ⟨1, _⟩ => ⟨S1x1024x640, .bf16⟩
  | .local _ .vmem, ⟨2, _⟩ => ⟨S1x1024x640, .bf16⟩
  | .local _ .vmem, ⟨3, _⟩ => ⟨S1x1024x640, .bf16⟩
  | .local _ .vmem, ⟨4, _⟩ => ⟨S1x1024x640, .f32⟩
  | .local _ .vmem, ⟨5, _⟩ => ⟨S1x1024x640, .f32⟩
  | .local _ .smem, ⟨0, _⟩ => ⟨S1, .i32⟩
  | _, _ => ⟨S2x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddIn2RefIdeal.lean ====
abbrev S2x2048x640 : Shape := ⟨3, ![2, 2048, 640]⟩
abbrev S1x2048x640 : Shape := ⟨3, ![1, 2048, 640]⟩
abbrev S1 : Shape := ⟨1, ![1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x640, .bf16⟩
  | .hbm, ⟨1, _⟩ => ⟨S1x2048x640, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x2048x640, .bf16⟩
  | .hbm, ⟨7, _⟩ => ⟨S1x2048x640, .f32⟩
  | .hbm, ⟨8, _⟩ => ⟨S1x2048x640, .bf16⟩
  | .hbm, ⟨9, _⟩ => ⟨S1x2048x640, .f32⟩
  | .hbm, ⟨10, _⟩ => ⟨S1x2048x640, .f32⟩
  | .hbm, ⟨11, _⟩ => ⟨S1x2048x640, .f32⟩
  | .hbm, ⟨12, _⟩ => ⟨S1x2048x640, .f32⟩
  | _, _ => ⟨S2x2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AddOut0.lean ====
abbrev S8x256x2048 : Shape := ⟨3, ![8, 256, 2048]⟩
abbrev S4x256x2048 : Shape := ⟨3, ![4, 256, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 3
  | .vmem => 6
  | .smem => 1
  | _ => 0

abbrev bufTy : (tb : Table) → Fin (tcTables nBuf tb) → BufTy
  | .hbm, ⟨0, _⟩ => ⟨S8x256x2048, .bf16⟩
  | .hbm, ⟨1, _⟩ => ⟨S4x256x2048, .bf16⟩
  | .hbm, ⟨2, _⟩ => ⟨S4x256x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddOut0Ideal.lean ====
abbrev S8x256x2048 : Shape := ⟨3, ![8, 256, 2048]⟩
abbrev S4x256x2048 : Shape := ⟨3, ![4, 256, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 3
  | .vmem => 6
  | .smem => 1
  | _ => 0

abbrev bufTy : (tb : Table) → Fin (tcTables nBuf tb) → BufTy
  | .hbm, ⟨0, _⟩ => ⟨S8x256x2048, .bf16⟩
  | .hbm, ⟨1, _⟩ => ⟨S4x256x2048, .bf16⟩
  | .hbm, ⟨2, _⟩ => ⟨S4x256x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddOut0RefIdeal.lean ====
abbrev S8x256x2048 : Shape := ⟨3, ![8, 256, 2048]⟩
abbrev S4x256x2048 : Shape := ⟨3, ![4, 256, 2048]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x256x2048, .bf16⟩
  | .hbm, ⟨7, _⟩ => ⟨S4x256x2048, .f32⟩
  | .hbm, ⟨8, _⟩ => ⟨S4x256x2048, .bf16⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .hbm, ⟨13, _⟩ => ⟨S4x256x2048, .bf16⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AddOut1.lean ====
abbrev S4x256x2048 : Shape := ⟨3, ![4, 256, 2048]⟩
abbrev S2x256x2048 : Shape := ⟨3, ![2, 256, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4x256x2048, .bf16⟩
  | .hbm, ⟨1, _⟩ => ⟨S2x256x2048, .bf16⟩
  | .hbm, ⟨2, _⟩ => ⟨S2x256x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddOut1RefIdeal.lean ====
abbrev S4x256x2048 : Shape := ⟨3, ![4, 256, 2048]⟩
abbrev S2x256x2048 : Shape := ⟨3, ![2, 256, 2048]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S2x256x2048, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S2x256x2048, .bf16⟩
  | .hbm, ⟨7, _⟩ => ⟨S2x256x2048, .f32⟩
  | .hbm, ⟨8, _⟩ => ⟨S2x256x2048, .bf16⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .hbm, ⟨13, _⟩ => ⟨S2x256x2048, .bf16⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AddOut2.lean ====
abbrev S2x256x2048 : Shape := ⟨3, ![2, 256, 2048]⟩
abbrev S1x256x2048 : Shape := ⟨3, ![1, 256, 2048]⟩
abbrev S1 : Shape := ⟨1, ![1]⟩
abbrev S256x2048 : Shape := ⟨2, ![256, 2048]⟩

abbrev nBuf : Space → Nat
  | .hbm => 3
  | .vmem => 3
  | .smem => 1
  | _ => 0

abbrev bufTy : (tb : Table) → Fin (tcTables nBuf tb) → BufTy
  | .hbm, ⟨0, _⟩ => ⟨S2x256x2048, .bf16⟩
  | .hbm, ⟨1, _⟩ => ⟨S1x256x2048, .bf16⟩
  | .hbm, ⟨2, _⟩ => ⟨S1x256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .f32⟩
  | .local _ .smem, ⟨0, _⟩ => ⟨S1, .i32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== AddOut2RefIdeal.lean ====
abbrev S2x256x2048 : Shape := ⟨3, ![2, 256, 2048]⟩
abbrev S1x256x2048 : Shape := ⟨3, ![1, 256, 2048]⟩
abbrev S1 : Shape := ⟨1, ![1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2x256x2048, .bf16⟩
  | .hbm, ⟨1, _⟩ => ⟨S1x256x2048, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x256x2048, .bf16⟩
  | .hbm, ⟨7, _⟩ => ⟨S1x256x2048, .f32⟩
  | .hbm, ⟨8, _⟩ => ⟨S1x256x2048, .bf16⟩
  | .hbm, ⟨9, _⟩ => ⟨S1x256x2048, .f32⟩
  | .hbm, ⟨10, _⟩ => ⟨S1x256x2048, .f32⟩
  | .hbm, ⟨11, _⟩ => ⟨S1x256x2048, .f32⟩
  | .hbm, ⟨12, _⟩ => ⟨S1x256x2048, .f32⟩
  | _, _ => ⟨S2x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AdamWIn.lean ====
abbrev S8192x640 : Shape := ⟨2, ![8192, 640]⟩
abbrev S512x640 : Shape := ⟨2, ![512, 640]⟩

abbrev nBuf : Space → Nat
  | .hbm => 7
  | .vmem => 14
  | .smem => 0
  | _ => 0

abbrev bufTy : (tb : Table) → Fin (tcTables nBuf tb) → BufTy
  | .hbm, ⟨0, _⟩ => ⟨S8192x640, .f32⟩
  | .hbm, ⟨1, _⟩ => ⟨S8192x640, .f32⟩
  | .hbm, ⟨2, _⟩ => ⟨S8192x640, .f32⟩
  | .hbm, ⟨3, _⟩ => ⟨S8192x640, .f32⟩
  | .hbm, ⟨4, _⟩ => ⟨S8192x640, .f32⟩
  | .hbm, ⟨5, _⟩ => ⟨S8192x640, .f32⟩
  | .hbm, ⟨6, _⟩ => ⟨S8192x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S8192x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S8192x640 : Shape := ⟨2, ![8192, 640]⟩
abbrev S512x640 : Shape := ⟨2, ![512, 640]⟩

abbrev nBuf : Space → Nat
  | .hbm => 7
  | .vmem => 14
  | .smem => 0
  | _ => 0

abbrev bufTy : (tb : Table) → Fin (tcTables nBuf tb) → BufTy
  | .hbm, ⟨0, _⟩ => ⟨S8192x640, .f32⟩
  | .hbm, ⟨1, _⟩ => ⟨S8192x640, .f32⟩
  | .hbm, ⟨2, _⟩ => ⟨S8192x640, .f32⟩
  | .hbm, ⟨3, _⟩ => ⟨S8192x640, .f32⟩
  | .hbm, ⟨4, _⟩ => ⟨S8192x640, .f32⟩
  | .hbm, ⟨5, _⟩ => ⟨S8192x640, .f32⟩
  | .hbm, ⟨6, _⟩ => ⟨S8192x640, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | _, _ => ⟨S8192x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S8192x640 : Shape := ⟨2, ![8192, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x640, .f32⟩
  | .hbm, ⟨1, _⟩ => ⟨S8192x640, .f32⟩
  | .hbm, ⟨2, _⟩ => ⟨S8192x640, .f32⟩
  | .hbm, ⟨3, _⟩ => ⟨S8192x640, .f32⟩
  | .hbm, ⟨4, _⟩ => ⟨S_, .f32⟩
  | .hbm, ⟨5, _⟩ => ⟨S8192x640, .f32⟩
  | .hbm, ⟨6, _⟩ => ⟨S8192x640, .f32⟩
  | .hbm, ⟨7, _⟩ => ⟨S_, .f32⟩
  | .hbm, ⟨8, _⟩ => ⟨S8192x640, .f32⟩
  | .hbm, ⟨9, _⟩ => ⟨S8192x640, .f32⟩
  | .hbm, ⟨10, _⟩ => ⟨S8192x640, .f32⟩
  | .hbm, ⟨11, _⟩ => ⟨S_, .f32⟩
  | .hbm, ⟨12, _⟩ => ⟨S8192x640, .f32⟩
  | .hbm, ⟨13, _⟩ => ⟨S8192x640, .f32⟩
  | .hbm, ⟨14, _⟩ => ⟨S8192x640, .f32⟩
  | .hbm, ⟨15, _⟩ => ⟨S_, .f32⟩
  | .hbm, ⟨16, _⟩ => ⟨S8192x640, .f32⟩
  | .hbm, ⟨17, _⟩ => ⟨S8192x640, .f32⟩
  | .hbm, ⟨18, _⟩ => ⟨S8192x640, .f32⟩
  | .hbm, ⟨19, _⟩ => ⟨S_, .f32⟩
  | .hbm, ⟨20, _⟩ => ⟨S8192x640, .f32⟩
  | .hbm, ⟨21, _⟩ => ⟨S8192x640, .f32⟩
  | .hbm, ⟨22, _⟩ => ⟨S_, .f32⟩
  | .hbm, ⟨23, _⟩ => ⟨S8192x640, .f32⟩
  | .hbm, ⟨24, _⟩ => ⟨S8192x640, .f32⟩
  | .hbm, ⟨25, _⟩ => ⟨S8192x640, .f32⟩
  | .hbm, ⟨26, _⟩ => ⟨S_, .f32⟩
  | .hbm, ⟨27, _⟩ => ⟨S8192x640, .f32⟩
  | .hbm, ⟨28, _⟩ => ⟨S8192x640, .f32⟩
  | .hbm, ⟨29, _⟩ => ⟨S8192x640, .f32⟩
  | .hbm, ⟨30, _⟩ => ⟨S_, .f32⟩
  | .hbm, ⟨31, _⟩ => ⟨S8192x640, .f32⟩
  | .hbm, ⟨32, _⟩ => ⟨S8192x640, .f32⟩
  | .hbm, ⟨33, _⟩ => ⟨S8192x640, .f32⟩
  | .hbm, ⟨34, _⟩ => ⟨S_, .f32⟩
  | .hbm, ⟨35, _⟩ => ⟨S8192x640, .f32⟩
  | .hbm, ⟨36, _⟩ => ⟨S8192x640, .f32⟩
  | _, _ => ⟨S8192x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S1024x2048 : Shape := ⟨2, ![1024, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutIdeal.lean ====
abbrev S1024x2048 : Shape := ⟨2, ![1024, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutRefIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTaps.lean ====
abbrev S124x128 : Shape := ⟨2, ![124, 128]⟩

abbrev nBuf : Space → Nat
  | .hbm => 7
  | .vmem => 7
  | .smem => 0
  | _ => 0

abbrev bufTy : (tb : Table) → Fin (tcTables nBuf tb) → BufTy
  | .hbm, ⟨0, _⟩ => ⟨S124x128, .f32⟩
  | .hbm, ⟨1, _⟩ => ⟨S124x128, .f32⟩
  | .hbm, ⟨2, _⟩ => ⟨S124x128, .f32⟩
  | .hbm, ⟨3, _⟩ => ⟨S124x128, .f32⟩
  | .hbm, ⟨4, _⟩ => ⟨S124x128, .f32⟩
  | .hbm, ⟨5, _⟩ => ⟨S124x128, .f32⟩
  | .hbm, ⟨6, _⟩ => ⟨S124x128, .f32⟩
  | .local _ .vmem, ⟨0, _⟩ => ⟨S124x128, .f32⟩
  | .local _ .vmem, ⟨1, _⟩ => ⟨S124x128, .f32⟩
  | .local _ .vmem, ⟨2, _⟩ => ⟨S124x128, .f32⟩
  | .local _ .vmem, ⟨3, _⟩ => ⟨S124x128, .f32⟩
  | .local _ .vmem, ⟨4, _⟩ => ⟨S124x128, .f32⟩
  | .local _ .vmem, ⟨5, _⟩ => ⟨S124x128, .f32⟩
  | .local _ .vmem, ⟨6, _⟩ => ⟨S124x128, .f32⟩
  | _, _ => ⟨S124x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsIdeal.lean ====
abbrev S124x128 : Shape := ⟨2, ![124, 128]⟩

abbrev nBuf : Space → Nat
  | .hbm => 7
  | .vmem => 7
  | .smem => 0
  | _ => 0

abbrev bufTy : (tb : Table) → Fin (tcTables nBuf tb) → BufTy
  | .hbm, ⟨0, _⟩ => ⟨S124x128, .f32⟩
  | .hbm, ⟨1, _⟩ => ⟨S124x128, .f32⟩
  | .hbm, ⟨2, _⟩ => ⟨S124x128, .f32⟩
  | .hbm, ⟨3, _⟩ => ⟨S124x128, .f32⟩
  | .hbm, ⟨4, _⟩ => ⟨S124x128, .f32⟩
  | .hbm, ⟨5, _⟩ => ⟨S124x128, .f32⟩
  | .hbm, ⟨6, _⟩ => ⟨S124x128, .f32⟩
  | .local _ .vmem, ⟨0, _⟩ => ⟨S124x128, .f32⟩
  | .local _ .vmem, ⟨1, _⟩ => ⟨S124x128, .f32⟩
  | .local _ .vmem, ⟨2, _⟩ => ⟨S124x128, .f32⟩
  | .local _ .vmem, ⟨3, _⟩ => ⟨S124x128, .f32⟩
  | .local _ .vmem, ⟨4, _⟩ => ⟨S124x128, .f32⟩
  | .local _ .vmem, ⟨5, _⟩ => ⟨S124x128, .f32⟩
  | .local _ .vmem, ⟨6, _⟩ => ⟨S124x128, .f32⟩
  | _, _ => ⟨S124x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsRefIdeal.lean ====
abbrev S124x128 : Shape := ⟨2, ![124, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S124x128, .f32⟩
  | .hbm, ⟨1, _⟩ => ⟨S124x128, .f32⟩
  | .hbm, ⟨2, _⟩ => ⟨S124x128, .f32⟩
  | .hbm, ⟨3, _⟩ => ⟨S124x128, .f32⟩
  | .hbm, ⟨4, _⟩ => ⟨S_, .f32⟩
  | .hbm, ⟨5, _⟩ => ⟨S124x128, .f32⟩
  | .hbm, ⟨6, _⟩ => ⟨S124x128, .f32⟩
  | .hbm, ⟨7, _⟩ => ⟨S_, .f32⟩
  | .hbm, ⟨8, _⟩ => ⟨S124x128, .f32⟩
  | .hbm, ⟨9, _⟩ => ⟨S124x128, .f32⟩
  | .hbm, ⟨10, _⟩ => ⟨S124x128, .f32⟩
  | .hbm, ⟨11, _⟩ => ⟨S_, .f32⟩
  | .hbm, ⟨12, _⟩ => ⟨S124x128, .f32⟩
  | .hbm, ⟨13, _⟩ => ⟨S124x128, .f32⟩
  | .hbm, ⟨14, _⟩ => ⟨S124x128, .f32⟩
  | .hbm, ⟨15, _⟩ => ⟨S_, .f32⟩
  | .hbm, ⟨16, _⟩ => ⟨S124x128, .f32⟩
  | .hbm, ⟨17, _⟩ => ⟨S124x128, .f32⟩
  | .hbm, ⟨18, _⟩ => ⟨S124x128, .f32⟩
  | .hbm, ⟨19, _⟩ => ⟨S_, .f32⟩
  | .hbm, ⟨20, _⟩ => ⟨S124x128, .f32⟩
  | .hbm, ⟨21, _⟩ => ⟨S124x128, .f32⟩
  | .hbm, ⟨22, _⟩ => ⟨S_, .f32⟩
  | .hbm, ⟨23, _⟩ => ⟨S124x128, .f32⟩
  | .hbm, ⟨24, _⟩ => ⟨S124x128, .f32⟩
  | .hbm, ⟨25, _⟩ => ⟨S124x128, .f32⟩
  | .hbm, ⟨26, _⟩ => ⟨S_, .f32⟩
  | .hbm, ⟨27, _⟩ => ⟨S124x128, .f32⟩
  | .hbm, ⟨28, _⟩ => ⟨S124x128, .f32⟩
  | .hbm, ⟨29, _⟩ => ⟨S124x128, .f32⟩
  | .hbm, ⟨30, _⟩ => ⟨S_, .f32⟩
  | .hbm, ⟨31, _⟩ => ⟨S124x128, .f32⟩
  | .hbm, ⟨32, _⟩ => ⟨S124x128, .f32⟩
  | .hbm, ⟨33, _⟩ => ⟨S124x128, .f32⟩
  | .hbm, ⟨34, _⟩ => ⟨S_, .f32⟩
  | .hbm, ⟨35, _⟩ => ⟨S124x128, .f32⟩
  | .hbm, ⟨36, _⟩ => ⟨S124x128, .f32⟩
  | _, _ => ⟨S124x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTaps4.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTaps4Ideal.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTaps4RefIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S4096x128 : Shape := ⟨2, ![4096, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S4096x128 : Shape := ⟨2, ![4096, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateRefIdeal.lean ====
abbrev S4096x128 : Shape := ⟨2, ![4096, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S4096x128, .f32⟩
  | .hbm, ⟨36, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFinal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFinalRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MixBase.lean ====
module

public import proofs.«01_k».proof.Proof.Gen.MixIdeal.Frame
public import proofs.«01_k».proof.Proof.Gen.MixIdeal.Loops
public import Idealize.ShloMosaic.Lib.Exec

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the twenty-five inputs' staging buffers hold at a grid point. -/
structure Ins (F : FTy → Type) [FloatOps F] where
  x1 : Vec F S128x5120 .f32
  x2 : Vec F S128x1024 .f32
  x3 : Vec F S128x1024 .f32
  x4 : Vec F S128x1024 .f32
  x5 : Vec F S128x1024 .f32
  x6 : Vec F S128x1024 .f32
  x7 : Vec F S128x1024 .f32
  x8 : Vec F S128x1024 .f32
  x9 : Vec F S128x1024 .f32
  x10 : Vec F S128x1024 .f32
  x11 : Vec F S128x1024 .f32
  x12 : Vec F S128x1024 .f32
  x13 : Vec F S128x2048 .f32
  x14 : Vec F S1x1x1024 .f32
  x15 : Vec F S1x31x1024 .f32
  x16 : Vec F S1x1x1024 .f32
  x17 : Vec F S1x1x1024 .f32
  x18 : Vec F S1x1x1024 .f32
  x19 : Vec F S1x4x1024 .f32
  x20 : Vec F S1x1x1024 .f32
  x21 : Vec F S1x8x128x128 .bf16
  x22 : Vec F S1x1x1024 .f32
  x23 : Vec F S1x8x128x128 .bf16
  x24 : Vec F S1x1x1024 .f32
  x25 : Vec F S1x1x1024 .f32

/-- What the five outputs' staging buffers hold at a grid point. -/
structure Outs (F : FTy → Type) [FloatOps F] where
  y26 : Vec F S128x5120 .bf16
  y27 : Vec F S16x1024 .f32
  y28 : Vec F S32x1024 .f32
  y29 : Vec F S8x128x128 .f32
  y30 : Vec F S8x128x128 .f32

/-- What the nine scratch buffers hold at a grid point. -/
structure Scr (F : FTy → Type) [FloatOps F] where
  z31 : Vec F S128x1024 .f32
  z32 : Vec F S8x160x1024 .f32
  z33 : Vec F S128x1024 .f32
  z34 : Vec F S160x1024 .f32
  z35 : Vec F S31x8x1024 .f32
  z36 : Vec F S136x1024 .f32
  z37 : Vec F S1x1024 .f32
  z38 : Vec F S1x1024 .f32
  z39 : Vec F S31x8x1024 .f32

/-- The buffers the body is called with, each whole. -/
structure Mems where
  arg1 : Memref sig .tc .vmem S128x5120 .f32
  harg1 : arg1.IsWhole
  arg2 : Memref sig .tc .vmem S128x1024 .f32
  harg2 : arg2.IsWhole
  arg3 : Memref sig .tc .vmem S128x1024 .f32
  harg3 : arg3.IsWhole
  arg4 : Memref sig .tc .vmem S128x1024 .f32
  harg4 : arg4.IsWhole
  arg5 : Memref sig .tc .vmem S128x1024 .f32
  harg5 : arg5.IsWhole
  arg6 : Memref sig .tc .vmem S128x1024 .f32
  harg6 : arg6.IsWhole
  arg7 : Memref sig .tc .vmem S128x1024 .f32
  harg7 : arg7.IsWhole
  arg8 : Memref sig .tc .vmem S128x1024 .f32
  harg8 : arg8.IsWhole
  arg9 : Memref sig .tc .vmem S128x1024 .f32
  harg9 : arg9.IsWhole
  arg10 : Memref sig .tc .vmem S128x1024 .f32
  harg10 : arg10.IsWhole
  arg11 : Memref sig .tc .vmem S128x1024 .f32
  harg11 : arg11.IsWhole
  arg12 : Memref sig .tc .vmem S128x1024 .f32
  harg12 : arg12.IsWhole
  arg13 : Memref sig .tc .vmem S128x2048 .f32
  harg13 : arg13.IsWhole
  arg14 : Memref sig .tc .vmem S1x1x1024 .f32
  harg14 : arg14.IsWhole
  arg15 : Memref sig .tc .vmem S1x31x1024 .f32
  harg15 : arg15.IsWhole
  arg16 : Memref sig .tc .vmem S1x1x1024 .f32
  harg16 : arg16.IsWhole
  arg17 : Memref sig .tc .vmem S1x1x1024 .f32
  harg17 : arg17.IsWhole
  arg18 : Memref sig .tc .vmem S1x1x1024 .f32
  harg18 : arg18.IsWhole
  arg19 : Memref sig .tc .vmem S1x4x1024 .f32
  harg19 : arg19.IsWhole
  arg20 : Memref sig .tc .vmem S1x1x1024 .f32
  harg20 : arg20.IsWhole
  arg21 : Memref sig .tc .vmem S1x8x128x128 .bf16
  harg21 : arg21.IsWhole
  arg22 : Memref sig .tc .vmem S1x1x1024 .f32
  harg22 : arg22.IsWhole
  arg23 : Memref sig .tc .vmem S1x8x128x128 .bf16
  harg23 : arg23.IsWhole
  arg24 : Memref sig .tc .vmem S1x1x1024 .f32
  harg24 : arg24.IsWhole
  arg25 : Memref sig .tc .vmem S1x1x1024 .f32
  harg25 : arg25.IsWhole
  arg26 : Memref sig .tc .vmem S128x5120 .bf16
  harg26 : arg26.IsWhole
  arg27 : Memref sig .tc .vmem S16x1024 .f32
  harg27 : arg27.IsWhole
  arg28 : Memref sig .tc .vmem S32x1024 .f32
  harg28 : arg28.IsWhole
  arg29 : Memref sig .tc .vmem S8x128x128 .f32
  harg29 : arg29.IsWhole
  arg30 : Memref sig .tc .vmem S8x128x128 .f32
  harg30 : arg30.IsWhole
  arg31 : Memref sig .tc .vmem S128x1024 .f32
  harg31 : arg31.IsWhole
  arg32 : Memref sig .tc .vmem S8x160x1024 .f32
  harg32 : arg32.IsWhole
  arg33 : Memref sig .tc .vmem S128x1024 .f32
  harg33 : arg33.IsWhole
  arg34 : Memref sig .tc .vmem S160x1024 .f32
  harg34 : arg34.IsWhole
  arg35 : Memref sig .tc .vmem S31x8x1024 .f32
  harg35 : arg35.IsWhole
  arg36 : Memref sig .tc .vmem S136x1024 .f32
  harg36 : arg36.IsWhole
  arg37 : Memref sig .tc .vmem S1x1024 .f32
  harg37 : arg37.IsWhole
  arg38 : Memref sig .tc .vmem S1x1024 .f32
  harg38 : arg38.IsWhole
  arg39 : Memref sig .tc .vmem S31x8x1024 .f32
  harg39 : arg39.IsWhole

/-- The body's first condition: the point is the first one. -/
abbrev condFirst (i : grid0.Coords) : Prop :=
  (Scalar.cmpi .ne (Scalar.extui (Scalar.cmpi .eq (BitVec.ofNat 32 (i 0).val) 0#32)) 0#32) = 1#1

/-- The body's second condition: the point is the last one. -/
abbrev condLast (i : grid0.Coords) : Prop := k0_cond2 i = 1#1

end Cert.MixRun

end
-- ==== Proof.MixRunA.lean ====
module

public import proofs.«01_k».proof.Proof.Gen.MixIdeal.Frame
public import proofs.«01_k».proof.Proof.Gen.MixIdeal.Loops
public import Idealize.ShloMosaic.Lib.Exec
public import proofs.«01_k».proof.Proof.MixBase

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- The body at the first point, from any contents of its buffers: the pieces its stores leave in each buffer it writes. -/
noncomputable def runA (c : Dev nD) (i : grid0.Coords) (arg1 : Memref sig .tc .vmem S128x5120 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x2048 .f32) (harg13 : arg13.IsWhole) (arg14 : Memref sig .tc .vmem S1x1x1024 .f32) (harg14 : arg14.IsWhole) (arg15 : Memref sig .tc .vmem S1x31x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x4x1024 .f32) (harg19 : arg19.IsWhole) (arg20 : Memref sig .tc .vmem S1x1x1024 .f32) (harg20 : arg20.IsWhole) (arg21 : Memref sig .tc .vmem S1x8x128x128 .bf16) (harg21 : arg21.IsWhole) (arg22 : Memref sig .tc .vmem S1x1x1024 .f32) (harg22 : arg22.IsWhole) (arg23 : Memref sig .tc .vmem S1x8x128x128 .bf16) (harg23 : arg23.IsWhole) (arg24 : Memref sig .tc .vmem S1x1x1024 .f32) (harg24 : arg24.IsWhole) (arg25 : Memref sig .tc .vmem S1x1x1024 .f32) (harg25 : arg25.IsWhole) (arg26 : Memref sig .tc .vmem S128x5120 .bf16) (harg26 : arg26.IsWhole) (arg27 : Memref sig .tc .vmem S16x1024 .f32) (harg27 : arg27.IsWhole) (arg28 : Memref sig .tc .vmem S32x1024 .f32) (harg28 : arg28.IsWhole) (arg29 : Memref sig .tc .vmem S8x128x128 .f32) (harg29 : arg29.IsWhole) (arg30 : Memref sig .tc .vmem S8x128x128 .f32) (harg30 : arg30.IsWhole) (arg31 : Memref sig .tc .vmem S128x1024 .f32) (harg31 : arg31.IsWhole) (arg32 : Memref sig .tc .vmem S8x160x1024 .f32) (harg32 : arg32.IsWhole) (arg33 : Memref sig .tc .vmem S128x1024 .f32) (harg33 : arg33.IsWhole) (arg34 : Memref sig .tc .vmem S160x1024 .f32) (harg34 : arg34.IsWhole) (arg35 : Memref sig .tc .vmem S31x8x1024 .f32) (harg35 : arg35.IsWhole) (arg36 : Memref sig .tc .vmem S136x1024 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S31x8x1024 .f32) (harg39 : arg39.IsWhole) (hc0 : condFirst i) (hc1 : ¬condLast i) (X : Ins F) (Y : Outs F) (Z : Scr F) :
    Σ' (L26 : List (View.Piece (Elt F) S128x5120 .bf16)), Σ' (L27 : List (View.Piece (Elt F) S16x1024 .f32)), Σ' (L29 : List (View.Piece (Elt F) S8x128x128 .f32)), Σ' (L30 : List (View.Piece (Elt F) S8x128x128 .f32)), Σ' (L31 : List (View.Piece (Elt F) S128x1024 .f32)), Σ' (L32 : List (View.Piece (Elt F) S8x160x1024 .f32)), Σ' (L33 : List (View.Piece (Elt F) S128x1024 .f32)), Σ' (L34 : List (View.Piece (Elt F) S160x1024 .f32)), Σ' (L35 : List (View.Piece (Elt F) S31x8x1024 .f32)), Σ' (L36 : List (View.Piece (Elt F) S136x1024 .f32)), Σ' (L37 : List (View.Piece (Elt F) S1x1024 .f32)), Σ' (L38 : List (View.Piece (Elt F) S1x1024 .f32)), { L39 : List (View.Piece (Elt F) S31x8x1024 .f32) //
      ∀ (E : Set ℕ) (K : PUnit → sProp 𝕄),
        iprop((arg1.view.loc (c : Thread nD τ) ↦[arg1.view.set]{fullShare} harg1.unread X.x1) ∗ (arg2.view.loc (c : Thread nD τ) ↦[arg2.view.set]{fullShare} harg2.unread X.x2) ∗ (arg3.view.loc (c : Thread nD τ) ↦[arg3.view.set]{fullShare} harg3.unread X.x3) ∗ (arg4.view.loc (c : Thread nD τ) ↦[arg4.view.set]{fullShare} harg4.unread X.x4) ∗ (arg5.view.loc (c : Thread nD τ) ↦[arg5.view.set]{fullShare} harg5.unread X.x5) ∗ (arg6.view.loc (c : Thread nD τ) ↦[arg6.view.set]{fullShare} harg6.unread X.x6) ∗ (arg7.view.loc (c : Thread nD τ) ↦[arg7.view.set]{fullShare} harg7.unread X.x7) ∗ (arg8.view.loc (c : Thread nD τ) ↦[arg8.view.set]{fullShare} harg8.unread X.x8) ∗ (arg9.view.loc (c : Thread nD τ) ↦[arg9.view.set]{fullShare} harg9.unread X.x9) ∗ (arg10.view.loc (c : Thread nD τ) ↦[arg10.view.set]{fullShare} harg10.unread X.x10) ∗ (arg11.view.loc (c : Thread nD τ) ↦[arg11.view.set]{fullShare} harg11.unread X.x11) ∗ (arg12.view.loc (c : Thread nD τ) ↦[arg12.view.set]{fullShare} harg12.unread X.x12) ∗ (arg13.view.loc (c : Thread nD τ) ↦[arg13.view.set]{fullShare} harg13.unread X.x13) ∗ (arg14.view.loc (c : Thread nD τ) ↦[arg14.view.set]{fullShare} harg14.unread X.x14) ∗ (arg15.view.loc (c : Thread nD τ) ↦[arg15.view.set]{fullShare} harg15.unread X.x15) ∗ (arg16.view.loc (c : Thread nD τ) ↦[arg16.view.set]{fullShare} harg16.unread X.x16) ∗ (arg17.view.loc (c : Thread nD τ) ↦[arg17.view.set]{fullShare} harg17.unread X.x17) ∗ (arg18.view.loc (c : Thread nD τ) ↦[arg18.view.set]{fullShare} harg18.unread X.x18) ∗ (arg19.view.loc (c : Thread nD τ) ↦[arg19.view.set]{fullShare} harg19.unread X.x19) ∗ (arg20.view.loc (c : Thread nD τ) ↦[arg20.view.set]{fullShare} harg20.unread X.x20) ∗ (arg21.view.loc (c : Thread nD τ) ↦[arg21.view.set]{fullShare} harg21.unread X.x21) ∗ (arg22.view.loc (c : Thread nD τ) ↦[arg22.view.set]{fullShare} harg22.unread X.x22) ∗ (arg23.view.loc (c : Thread nD τ) ↦[arg23.view.set]{fullShare} harg23.unread X.x23) ∗ (arg24.view.loc (c : Thread nD τ) ↦[arg24.view.set]{fullShare} harg24.unread X.x24) ∗ (arg25.view.loc (c : Thread nD τ) ↦[arg25.view.set]{fullShare} harg25.unread X.x25) ∗ (arg26.view.loc (c : Thread nD τ) ↦[arg26.view.set]{fullShare} harg26.unread Y.y26) ∗ (arg27.view.loc (c : Thread nD τ) ↦[arg27.view.set]{fullShare} harg27.unread Y.y27) ∗ (arg28.view.loc (c : Thread nD τ) ↦[arg28.view.set]{fullShare} harg28.unread Y.y28) ∗ (arg29.view.loc (c : Thread nD τ) ↦[arg29.view.set]{fullShare} harg29.unread Y.y29) ∗ (arg30.view.loc (c : Thread nD τ) ↦[arg30.view.set]{fullShare} harg30.unread Y.y30) ∗ (arg31.view.loc (c : Thread nD τ) ↦[arg31.view.set]{fullShare} harg31.unread Z.z31) ∗ (arg32.view.loc (c : Thread nD τ) ↦[arg32.view.set]{fullShare} harg32.unread Z.z32) ∗ (arg33.view.loc (c : Thread nD τ) ↦[arg33.view.set]{fullShare} harg33.unread Z.z33) ∗ (arg34.view.loc (c : Thread nD τ) ↦[arg34.view.set]{fullShare} harg34.unread Z.z34) ∗ (arg35.view.loc (c : Thread nD τ) ↦[arg35.view.set]{fullShare} harg35.unread Z.z35) ∗ (arg36.view.loc (c : Thread nD τ) ↦[arg36.view.set]{fullShare} harg36.unread Z.z36) ∗ (arg37.view.loc (c : Thread nD τ) ↦[arg37.view.set]{fullShare} harg37.unread Z.z37) ∗ (arg38.view.loc (c : Thread nD τ) ↦[arg38.view.set]{fullShare} harg38.unread Z.z38) ∗ (arg39.view.loc (c : Thread nD τ) ↦[arg39.view.set]{fullShare} harg39.unread Z.z39)
            ∗ (iprop((arg1.view.loc (c : Thread nD τ) ↦[arg1.view.set]{fullShare} harg1.unread X.x1) ∗ (arg2.view.loc (c : Thread nD τ) ↦[arg2.view.set]{fullShare} harg2.unread X.x2) ∗ (arg3.view.loc (c : Thread nD τ) ↦[arg3.view.set]{fullShare} harg3.unread X.x3) ∗ (arg4.view.loc (c : Thread nD τ) ↦[arg4.view.set]{fullShare} harg4.unread X.x4) ∗ (arg5.view.loc (c : Thread nD τ) ↦[arg5.view.set]{fullShare} harg5.unread X.x5) ∗ (arg6.view.loc (c : Thread nD τ) ↦[arg6.view.set]{fullShare} harg6.unread X.x6) ∗ (arg7.view.loc (c : Thread nD τ) ↦[arg7.view.set]{fullShare} harg7.unread X.x7) ∗ (arg8.view.loc (c : Thread nD τ) ↦[arg8.view.set]{fullShare} harg8.unread X.x8) ∗ (arg9.view.loc (c : Thread nD τ) ↦[arg9.view.set]{fullShare} harg9.unread X.x9) ∗ (arg10.view.loc (c : Thread nD τ) ↦[arg10.view.set]{fullShare} harg10.unread X.x10) ∗ (arg11.view.loc (c : Thread nD τ) ↦[arg11.view.set]{fullShare} harg11.unread X.x11) ∗ (arg12.view.loc (c : Thread nD τ) ↦[arg12.view.set]{fullShare} harg12.unread X.x12) ∗ (arg13.view.loc (c : Thread nD τ) ↦[arg13.view.set]{fullShare} harg13.unread X.x13) ∗ (arg14.view.loc (c : Thread nD τ) ↦[arg14.view.set]{fullShare} harg14.unread X.x14) ∗ (arg15.view.loc (c : Thread nD τ) ↦[arg15.view.set]{fullShare} harg15.unread X.x15) ∗ (arg16.view.loc (c : Thread nD τ) ↦[arg16.view.set]{fullShare} harg16.unread X.x16) ∗ (arg17.view.loc (c : Thread nD τ) ↦[arg17.view.set]{fullShare} harg17.unread X.x17) ∗ (arg18.view.loc (c : Thread nD τ) ↦[arg18.view.set]{fullShare} harg18.unread X.x18) ∗ (arg19.view.loc (c : Thread nD τ) ↦[arg19.view.set]{fullShare} harg19.unread X.x19) ∗ (arg20.view.loc (c : Thread nD τ) ↦[arg20.view.set]{fullShare} harg20.unread X.x20) ∗ (arg21.view.loc (c : Thread nD τ) ↦[arg21.view.set]{fullShare} harg21.unread X.x21) ∗ (arg22.view.loc (c : Thread nD τ) ↦[arg22.view.set]{fullShare} harg22.unread X.x22) ∗ (arg23.view.loc (c : Thread nD τ) ↦[arg23.view.set]{fullShare} harg23.unread X.x23) ∗ (arg24.view.loc (c : Thread nD τ) ↦[arg24.view.set]{fullShare} harg24.unread X.x24) ∗ (arg25.view.loc (c : Thread nD τ) ↦[arg25.view.set]{fullShare} harg25.unread X.x25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (arg28.view.loc (c : Thread nD τ) ↦[arg28.view.set]{fullShare} harg28.unread Y.y28) ∗ (∃ f, arg29.view.loc (c : Thread nD τ) ↦[arg29.view.set]{fullShare} arg29.view.writes (Elt F) f L29) ∗ (∃ f, arg30.view.loc (c : Thread nD τ) ↦[arg30.view.set]{fullShare} arg30.view.writes (Elt F) f L30) ∗ (∃ f, arg31.view.loc (c : Thread nD τ) ↦[arg31.view.set]{fullShare} arg31.view.writes (Elt F) f L31) ∗ (∃ f, arg32.view.loc (c : Thread nD τ) ↦[arg32.view.set]{fullShare} arg32.view.writes (Elt F) f L32) ∗ (∃ f, arg33.view.loc (c : Thread nD τ) ↦[arg33.view.set]{fullShare} arg33.view.writes (Elt F) f L33) ∗ (∃ f, arg34.view.loc (c : Thread nD τ) ↦[arg34.view.set]{fullShare} arg34.view.writes (Elt F) f L34) ∗ (∃ f, arg35.view.loc (c : Thread nD τ) ↦[arg35.view.set]{fullShare} arg35.view.writes (Elt F) f L35) ∗ (∃ f, arg36.view.loc (c : Thread nD τ) ↦[arg36.view.set]{fullShare} arg36.view.writes (Elt F) f L36) ∗ (∃ f, arg37.view.loc (c : Thread nD τ) ↦[arg37.view.set]{fullShare} arg37.view.writes (Elt F) f L37) ∗ (∃ f, arg38.view.loc (c : Thread nD τ) ↦[arg38.view.set]{fullShare} arg38.view.writes (Elt F) f L38) ∗ (∃ f, arg39.view.loc (c : Thread nD τ) ↦[arg39.view.set]{fullShare} arg39.view.writes (Elt F) f L39)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, ?_, ?_, ?_, ?_, ?_, ?_, ?_, ?_, ?_, ?_, ?_, ?_, fun E K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
    sl_exec (disch := first | sl_exact hc0 | sl_exact hc1)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexists _; iexact H27
    isplitl [H28]; · iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    iexists _; iexact H39

end Cert.MixRun

end
-- ==== Proof.MixRunB.lean ====
module

public import proofs.«01_k».proof.Proof.Gen.MixIdeal.Frame
public import proofs.«01_k».proof.Proof.Gen.MixIdeal.Loops
public import Idealize.ShloMosaic.Lib.Exec
public import proofs.«01_k».proof.Proof.MixBase

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- The body at a point between, from any contents of its buffers: the pieces its stores leave in each buffer it writes. -/
noncomputable def runB (c : Dev nD) (i : grid0.Coords) (arg1 : Memref sig .tc .vmem S128x5120 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x2048 .f32) (harg13 : arg13.IsWhole) (arg14 : Memref sig .tc .vmem S1x1x1024 .f32) (harg14 : arg14.IsWhole) (arg15 : Memref sig .tc .vmem S1x31x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x4x1024 .f32) (harg19 : arg19.IsWhole) (arg20 : Memref sig .tc .vmem S1x1x1024 .f32) (harg20 : arg20.IsWhole) (arg21 : Memref sig .tc .vmem S1x8x128x128 .bf16) (harg21 : arg21.IsWhole) (arg22 : Memref sig .tc .vmem S1x1x1024 .f32) (harg22 : arg22.IsWhole) (arg23 : Memref sig .tc .vmem S1x8x128x128 .bf16) (harg23 : arg23.IsWhole) (arg24 : Memref sig .tc .vmem S1x1x1024 .f32) (harg24 : arg24.IsWhole) (arg25 : Memref sig .tc .vmem S1x1x1024 .f32) (harg25 : arg25.IsWhole) (arg26 : Memref sig .tc .vmem S128x5120 .bf16) (harg26 : arg26.IsWhole) (arg27 : Memref sig .tc .vmem S16x1024 .f32) (harg27 : arg27.IsWhole) (arg28 : Memref sig .tc .vmem S32x1024 .f32) (harg28 : arg28.IsWhole) (arg29 : Memref sig .tc .vmem S8x128x128 .f32) (harg29 : arg29.IsWhole) (arg30 : Memref sig .tc .vmem S8x128x128 .f32) (harg30 : arg30.IsWhole) (arg31 : Memref sig .tc .vmem S128x1024 .f32) (harg31 : arg31.IsWhole) (arg32 : Memref sig .tc .vmem S8x160x1024 .f32) (harg32 : arg32.IsWhole) (arg33 : Memref sig .tc .vmem S128x1024 .f32) (harg33 : arg33.IsWhole) (arg34 : Memref sig .tc .vmem S160x1024 .f32) (harg34 : arg34.IsWhole) (arg35 : Memref sig .tc .vmem S31x8x1024 .f32) (harg35 : arg35.IsWhole) (arg36 : Memref sig .tc .vmem S136x1024 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S31x8x1024 .f32) (harg39 : arg39.IsWhole) (hc0 : ¬condFirst i) (hc1 : ¬condLast i) (X : Ins F) (Y : Outs F) (Z : Scr F) :
    Σ' (L26 : List (View.Piece (Elt F) S128x5120 .bf16)), Σ' (L27 : List (View.Piece (Elt F) S16x1024 .f32)), Σ' (L29 : List (View.Piece (Elt F) S8x128x128 .f32)), Σ' (L30 : List (View.Piece (Elt F) S8x128x128 .f32)), Σ' (L31 : List (View.Piece (Elt F) S128x1024 .f32)), Σ' (L32 : List (View.Piece (Elt F) S8x160x1024 .f32)), Σ' (L33 : List (View.Piece (Elt F) S128x1024 .f32)), Σ' (L34 : List (View.Piece (Elt F) S160x1024 .f32)), Σ' (L35 : List (View.Piece (Elt F) S31x8x1024 .f32)), Σ' (L36 : List (View.Piece (Elt F) S136x1024 .f32)), Σ' (L37 : List (View.Piece (Elt F) S1x1024 .f32)), { L38 : List (View.Piece (Elt F) S1x1024 .f32) //
      ∀ (E : Set ℕ) (K : PUnit → sProp 𝕄),
        iprop((arg1.view.loc (c : Thread nD τ) ↦[arg1.view.set]{fullShare} harg1.unread X.x1) ∗ (arg2.view.loc (c : Thread nD τ) ↦[arg2.view.set]{fullShare} harg2.unread X.x2) ∗ (arg3.view.loc (c : Thread nD τ) ↦[arg3.view.set]{fullShare} harg3.unread X.x3) ∗ (arg4.view.loc (c : Thread nD τ) ↦[arg4.view.set]{fullShare} harg4.unread X.x4) ∗ (arg5.view.loc (c : Thread nD τ) ↦[arg5.view.set]{fullShare} harg5.unread X.x5) ∗ (arg6.view.loc (c : Thread nD τ) ↦[arg6.view.set]{fullShare} harg6.unread X.x6) ∗ (arg7.view.loc (c : Thread nD τ) ↦[arg7.view.set]{fullShare} harg7.unread X.x7) ∗ (arg8.view.loc (c : Thread nD τ) ↦[arg8.view.set]{fullShare} harg8.unread X.x8) ∗ (arg9.view.loc (c : Thread nD τ) ↦[arg9.view.set]{fullShare} harg9.unread X.x9) ∗ (arg10.view.loc (c : Thread nD τ) ↦[arg10.view.set]{fullShare} harg10.unread X.x10) ∗ (arg11.view.loc (c : Thread nD τ) ↦[arg11.view.set]{fullShare} harg11.unread X.x11) ∗ (arg12.view.loc (c : Thread nD τ) ↦[arg12.view.set]{fullShare} harg12.unread X.x12) ∗ (arg13.view.loc (c : Thread nD τ) ↦[arg13.view.set]{fullShare} harg13.unread X.x13) ∗ (arg14.view.loc (c : Thread nD τ) ↦[arg14.view.set]{fullShare} harg14.unread X.x14) ∗ (arg15.view.loc (c : Thread nD τ) ↦[arg15.view.set]{fullShare} harg15.unread X.x15) ∗ (arg16.view.loc (c : Thread nD τ) ↦[arg16.view.set]{fullShare} harg16.unread X.x16) ∗ (arg17.view.loc (c : Thread nD τ) ↦[arg17.view.set]{fullShare} harg17.unread X.x17) ∗ (arg18.view.loc (c : Thread nD τ) ↦[arg18.view.set]{fullShare} harg18.unread X.x18) ∗ (arg19.view.loc (c : Thread nD τ) ↦[arg19.view.set]{fullShare} harg19.unread X.x19) ∗ (arg20.view.loc (c : Thread nD τ) ↦[arg20.view.set]{fullShare} harg20.unread X.x20) ∗ (arg21.view.loc (c : Thread nD τ) ↦[arg21.view.set]{fullShare} harg21.unread X.x21) ∗ (arg22.view.loc (c : Thread nD τ) ↦[arg22.view.set]{fullShare} harg22.unread X.x22) ∗ (arg23.view.loc (c : Thread nD τ) ↦[arg23.view.set]{fullShare} harg23.unread X.x23) ∗ (arg24.view.loc (c : Thread nD τ) ↦[arg24.view.set]{fullShare} harg24.unread X.x24) ∗ (arg25.view.loc (c : Thread nD τ) ↦[arg25.view.set]{fullShare} harg25.unread X.x25) ∗ (arg26.view.loc (c : Thread nD τ) ↦[arg26.view.set]{fullShare} harg26.unread Y.y26) ∗ (arg27.view.loc (c : Thread nD τ) ↦[arg27.view.set]{fullShare} harg27.unread Y.y27) ∗ (arg28.view.loc (c : Thread nD τ) ↦[arg28.view.set]{fullShare} harg28.unread Y.y28) ∗ (arg29.view.loc (c : Thread nD τ) ↦[arg29.view.set]{fullShare} harg29.unread Y.y29) ∗ (arg30.view.loc (c : Thread nD τ) ↦[arg30.view.set]{fullShare} harg30.unread Y.y30) ∗ (arg31.view.loc (c : Thread nD τ) ↦[arg31.view.set]{fullShare} harg31.unread Z.z31) ∗ (arg32.view.loc (c : Thread nD τ) ↦[arg32.view.set]{fullShare} harg32.unread Z.z32) ∗ (arg33.view.loc (c : Thread nD τ) ↦[arg33.view.set]{fullShare} harg33.unread Z.z33) ∗ (arg34.view.loc (c : Thread nD τ) ↦[arg34.view.set]{fullShare} harg34.unread Z.z34) ∗ (arg35.view.loc (c : Thread nD τ) ↦[arg35.view.set]{fullShare} harg35.unread Z.z35) ∗ (arg36.view.loc (c : Thread nD τ) ↦[arg36.view.set]{fullShare} harg36.unread Z.z36) ∗ (arg37.view.loc (c : Thread nD τ) ↦[arg37.view.set]{fullShare} harg37.unread Z.z37) ∗ (arg38.view.loc (c : Thread nD τ) ↦[arg38.view.set]{fullShare} harg38.unread Z.z38) ∗ (arg39.view.loc (c : Thread nD τ) ↦[arg39.view.set]{fullShare} harg39.unread Z.z39)
            ∗ (iprop((arg1.view.loc (c : Thread nD τ) ↦[arg1.view.set]{fullShare} harg1.unread X.x1) ∗ (arg2.view.loc (c : Thread nD τ) ↦[arg2.view.set]{fullShare} harg2.unread X.x2) ∗ (arg3.view.loc (c : Thread nD τ) ↦[arg3.view.set]{fullShare} harg3.unread X.x3) ∗ (arg4.view.loc (c : Thread nD τ) ↦[arg4.view.set]{fullShare} harg4.unread X.x4) ∗ (arg5.view.loc (c : Thread nD τ) ↦[arg5.view.set]{fullShare} harg5.unread X.x5) ∗ (arg6.view.loc (c : Thread nD τ) ↦[arg6.view.set]{fullShare} harg6.unread X.x6) ∗ (arg7.view.loc (c : Thread nD τ) ↦[arg7.view.set]{fullShare} harg7.unread X.x7) ∗ (arg8.view.loc (c : Thread nD τ) ↦[arg8.view.set]{fullShare} harg8.unread X.x8) ∗ (arg9.view.loc (c : Thread nD τ) ↦[arg9.view.set]{fullShare} harg9.unread X.x9) ∗ (arg10.view.loc (c : Thread nD τ) ↦[arg10.view.set]{fullShare} harg10.unread X.x10) ∗ (arg11.view.loc (c : Thread nD τ) ↦[arg11.view.set]{fullShare} harg11.unread X.x11) ∗ (arg12.view.loc (c : Thread nD τ) ↦[arg12.view.set]{fullShare} harg12.unread X.x12) ∗ (arg13.view.loc (c : Thread nD τ) ↦[arg13.view.set]{fullShare} harg13.unread X.x13) ∗ (arg14.view.loc (c : Thread nD τ) ↦[arg14.view.set]{fullShare} harg14.unread X.x14) ∗ (arg15.view.loc (c : Thread nD τ) ↦[arg15.view.set]{fullShare} harg15.unread X.x15) ∗ (arg16.view.loc (c : Thread nD τ) ↦[arg16.view.set]{fullShare} harg16.unread X.x16) ∗ (arg17.view.loc (c : Thread nD τ) ↦[arg17.view.set]{fullShare} harg17.unread X.x17) ∗ (arg18.view.loc (c : Thread nD τ) ↦[arg18.view.set]{fullShare} harg18.unread X.x18) ∗ (arg19.view.loc (c : Thread nD τ) ↦[arg19.view.set]{fullShare} harg19.unread X.x19) ∗ (arg20.view.loc (c : Thread nD τ) ↦[arg20.view.set]{fullShare} harg20.unread X.x20) ∗ (arg21.view.loc (c : Thread nD τ) ↦[arg21.view.set]{fullShare} harg21.unread X.x21) ∗ (arg22.view.loc (c : Thread nD τ) ↦[arg22.view.set]{fullShare} harg22.unread X.x22) ∗ (arg23.view.loc (c : Thread nD τ) ↦[arg23.view.set]{fullShare} harg23.unread X.x23) ∗ (arg24.view.loc (c : Thread nD τ) ↦[arg24.view.set]{fullShare} harg24.unread X.x24) ∗ (arg25.view.loc (c : Thread nD τ) ↦[arg25.view.set]{fullShare} harg25.unread X.x25) ∗ (∃ f, arg26.view.loc (c : Thread nD τ) ↦[arg26.view.set]{fullShare} arg26.view.writes (Elt F) f L26) ∗ (arg27.view.loc (c : Thread nD τ) ↦[arg27.view.set]{fullShare} arg27.view.writes (Elt F) (harg27.unread Y.y27) L27) ∗ (arg28.view.loc (c : Thread nD τ) ↦[arg28.view.set]{fullShare} harg28.unread Y.y28) ∗ (∃ f, arg29.view.loc (c : Thread nD τ) ↦[arg29.view.set]{fullShare} arg29.view.writes (Elt F) f L29) ∗ (∃ f, arg30.view.loc (c : Thread nD τ) ↦[arg30.view.set]{fullShare} arg30.view.writes (Elt F) f L30) ∗ (∃ f, arg31.view.loc (c : Thread nD τ) ↦[arg31.view.set]{fullShare} arg31.view.writes (Elt F) f L31) ∗ (∃ f, arg32.view.loc (c : Thread nD τ) ↦[arg32.view.set]{fullShare} arg32.view.writes (Elt F) f L32) ∗ (∃ f, arg33.view.loc (c : Thread nD τ) ↦[arg33.view.set]{fullShare} arg33.view.writes (Elt F) f L33) ∗ (∃ f, arg34.view.loc (c : Thread nD τ) ↦[arg34.view.set]{fullShare} arg34.view.writes (Elt F) f L34) ∗ (∃ f, arg35.view.loc (c : Thread nD τ) ↦[arg35.view.set]{fullShare} arg35.view.writes (Elt F) f L35) ∗ (∃ f, arg36.view.loc (c : Thread nD τ) ↦[arg36.view.set]{fullShare} arg36.view.writes (Elt F) f L36) ∗ (∃ f, arg37.view.loc (c : Thread nD τ) ↦[arg37.view.set]{fullShare} arg37.view.writes (Elt F) f L37) ∗ (∃ f, arg38.view.loc (c : Thread nD τ) ↦[arg38.view.set]{fullShare} arg38.view.writes (Elt F) f L38) ∗ (arg39.view.loc (c : Thread nD τ) ↦[arg39.view.set]{fullShare} harg39.unread Z.z39)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, ?_, ?_, ?_, ?_, ?_, ?_, ?_, ?_, ?_, ?_, ?_, fun E K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
    sl_exec (disch := first | sl_exact hc0 | sl_exact hc1)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexact H27
    isplitl [H28]; · iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    iexact H39

end Cert.MixRun

end
-- ==== Proof.MixRunC.lean ====
module

public import proofs.«01_k».proof.Proof.Gen.MixIdeal.Frame
public import proofs.«01_k».proof.Proof.Gen.MixIdeal.Loops
public import Idealize.ShloMosaic.Lib.Exec
public import proofs.«01_k».proof.Proof.MixBase

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- The body at the last point, from any contents of its buffers: the pieces its stores leave in each buffer it writes. -/
noncomputable def runC (c : Dev nD) (i : grid0.Coords) (arg1 : Memref sig .tc .vmem S128x5120 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x2048 .f32) (harg13 : arg13.IsWhole) (arg14 : Memref sig .tc .vmem S1x1x1024 .f32) (harg14 : arg14.IsWhole) (arg15 : Memref sig .tc .vmem S1x31x1024 .f32) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x4x1024 .f32) (harg19 : arg19.IsWhole) (arg20 : Memref sig .tc .vmem S1x1x1024 .f32) (harg20 : arg20.IsWhole) (arg21 : Memref sig .tc .vmem S1x8x128x128 .bf16) (harg21 : arg21.IsWhole) (arg22 : Memref sig .tc .vmem S1x1x1024 .f32) (harg22 : arg22.IsWhole) (arg23 : Memref sig .tc .vmem S1x8x128x128 .bf16) (harg23 : arg23.IsWhole) (arg24 : Memref sig .tc .vmem S1x1x1024 .f32) (harg24 : arg24.IsWhole) (arg25 : Memref sig .tc .vmem S1x1x1024 .f32) (harg25 : arg25.IsWhole) (arg26 : Memref sig .tc .vmem S128x5120 .bf16) (harg26 : arg26.IsWhole) (arg27 : Memref sig .tc .vmem S16x1024 .f32) (harg27 : arg27.IsWhole) (arg28 : Memref sig .tc .vmem S32x1024 .f32) (harg28 : arg28.IsWhole) (arg29 : Memref sig .tc .vmem S8x128x128 .f32) (harg29 : arg29.IsWhole) (arg30 : Memref sig .tc .vmem S8x128x128 .f32) (harg30 : arg30.IsWhole) (arg31 : Memref sig .tc .vmem S128x1024 .f32) (harg31 : arg31.IsWhole) (arg32 : Memref sig .tc .vmem S8x160x1024 .f32) (harg32 : arg32.IsWhole) (arg33 : Memref sig .tc .vmem S128x1024 .f32) (harg33 : arg33.IsWhole) (arg34 : Memref sig .tc .vmem S160x1024 .f32) (harg34 : arg34.IsWhole) (arg35 : Memref sig .tc .vmem S31x8x1024 .f32) (harg35 : arg35.IsWhole) (arg36 : Memref sig .tc .vmem S136x1024 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S31x8x1024 .f32) (harg39 : arg39.IsWhole) (hc0 : ¬condFirst i) (hc1 : condLast i) (X : Ins F) (Y : Outs F) (Z : Scr F) :
    Σ' (L26 : List (View.Piece (Elt F) S128x5120 .bf16)), Σ' (L27 : List (View.Piece (Elt F) S16x1024 .f32)), Σ' (L28 : List (View.Piece (Elt F) S32x1024 .f32)), Σ' (L29 : List (View.Piece (Elt F) S8x128x128 .f32)), Σ' (L30 : List (View.Piece (Elt F) S8x128x128 .f32)), Σ' (L31 : List (View.Piece (Elt F) S128x1024 .f32)), Σ' (L32 : List (View.Piece (Elt F) S8x160x1024 .f32)), Σ' (L33 : List (View.Piece (Elt F) S128x1024 .f32)), Σ' (L34 : List (View.Piece (Elt F) S160x1024 .f32)), Σ' (L35 : List (View.Piece (Elt F) S31x8x1024 .f32)), Σ' (L36 : List (View.Piece (Elt F) S136x1024 .f32)), Σ' (L37 : List (View.Piece (Elt F) S1x1024 .f32)), { L38 : List (View.Piece (Elt F) S1x1024 .f32) //
      ∀ (E : Set ℕ) (K : PUnit → sProp 𝕄),
        iprop((arg1.view.loc (c : Thread nD τ) ↦[arg1.view.set]{fullShare} harg1.unread X.x1) ∗ (arg2.view.loc (c : Thread nD τ) ↦[arg2.view.set]{fullShare} harg2.unread X.x2) ∗ (arg3.view.loc (c : Thread nD τ) ↦[arg3.view.set]{fullShare} harg3.unread X.x3) ∗ (arg4.view.loc (c : Thread nD τ) ↦[arg4.view.set]{fullShare} harg4.unread X.x4) ∗ (arg5.view.loc (c : Thread nD τ) ↦[arg5.view.set]{fullShare} harg5.unread X.x5) ∗ (arg6.view.loc (c : Thread nD τ) ↦[arg6.view.set]{fullShare} harg6.unread X.x6) ∗ (arg7.view.loc (c : Thread nD τ) ↦[arg7.view.set]{fullShare} harg7.unread X.x7) ∗ (arg8.view.loc (c : Thread nD τ) ↦[arg8.view.set]{fullShare} harg8.unread X.x8) ∗ (arg9.view.loc (c : Thread nD τ) ↦[arg9.view.set]{fullShare} harg9.unread X.x9) ∗ (arg10.view.loc (c : Thread nD τ) ↦[arg10.view.set]{fullShare} harg10.unread X.x10) ∗ (arg11.view.loc (c : Thread nD τ) ↦[arg11.view.set]{fullShare} harg11.unread X.x11) ∗ (arg12.view.loc (c : Thread nD τ) ↦[arg12.view.set]{fullShare} harg12.unread X.x12) ∗ (arg13.view.loc (c : Thread nD τ) ↦[arg13.view.set]{fullShare} harg13.unread X.x13) ∗ (arg14.view.loc (c : Thread nD τ) ↦[arg14.view.set]{fullShare} harg14.unread X.x14) ∗ (arg15.view.loc (c : Thread nD τ) ↦[arg15.view.set]{fullShare} harg15.unread X.x15) ∗ (arg16.view.loc (c : Thread nD τ) ↦[arg16.view.set]{fullShare} harg16.unread X.x16) ∗ (arg17.view.loc (c : Thread nD τ) ↦[arg17.view.set]{fullShare} harg17.unread X.x17) ∗ (arg18.view.loc (c : Thread nD τ) ↦[arg18.view.set]{fullShare} harg18.unread X.x18) ∗ (arg19.view.loc (c : Thread nD τ) ↦[arg19.view.set]{fullShare} harg19.unread X.x19) ∗ (arg20.view.loc (c : Thread nD τ) ↦[arg20.view.set]{fullShare} harg20.unread X.x20) ∗ (arg21.view.loc (c : Thread nD τ) ↦[arg21.view.set]{fullShare} harg21.unread X.x21) ∗ (arg22.view.loc (c : Thread nD τ) ↦[arg22.view.set]{fullShare} harg22.unread X.x22) ∗ (arg23.view.loc (c : Thread nD τ) ↦[arg23.view.set]{fullShare} harg23.unread X.x23) ∗ (arg24.view.loc (c : Thread nD τ) ↦[arg24.view.set]{fullShare} harg24.unread X.x24) ∗ (arg25.view.loc (c : Thread nD τ) ↦[arg25.view.set]{fullShare} harg25.unread X.x25) ∗ (arg26.view.loc (c : Thread nD τ) ↦[arg26.view.set]{fullShare} harg26.unread Y.y26) ∗ (arg27.view.loc (c : Thread nD τ) ↦[arg27.view.set]{fullShare} harg27.unread Y.y27) ∗ (arg28.view.loc (c : Thread nD τ) ↦[arg28.view.set]{fullShare} harg28.unread Y.y28) ∗ (arg29.view.loc (c : Thread nD τ) ↦[arg29.view.set]{fullShare} harg29.unread Y.y29) ∗ (arg30.view.loc (c : Thread nD τ) ↦[arg30.view.set]{fullShare} harg30.unread Y.y30) ∗ (arg31.view.loc (c : Thread nD τ) ↦[arg31.view.set]{fullShare} harg31.unread Z.z31) ∗ (arg32.view.loc (c : Thread nD τ) ↦[arg32.view.set]{fullShare} harg32.unread Z.z32) ∗ (arg33.view.loc (c : Thread nD τ) ↦[arg33.view.set]{fullShare} harg33.unread Z.z33) ∗ (arg34.view.loc (c : Thread nD τ) ↦[arg34.view.set]{fullShare} harg34.unread Z.z34) ∗ (arg35.view.loc (c : Thread nD τ) ↦[arg35.view.set]{fullShare} harg35.unread Z.z35) ∗ (arg36.view.loc (c : Thread nD τ) ↦[arg36.view.set]{fullShare} harg36.unread Z.z36) ∗ (arg37.view.loc (c : Thread nD τ) ↦[arg37.view.set]{fullShare} harg37.unread Z.z37) ∗ (arg38.view.loc (c : Thread nD τ) ↦[arg38.view.set]{fullShare} harg38.unread Z.z38) ∗ (arg39.view.loc (c : Thread nD τ) ↦[arg39.view.set]{fullShare} harg39.unread Z.z39)
            ∗ (iprop((arg1.view.loc (c : Thread nD τ) ↦[arg1.view.set]{fullShare} harg1.unread X.x1) ∗ (arg2.view.loc (c : Thread nD τ) ↦[arg2.view.set]{fullShare} harg2.unread X.x2) ∗ (arg3.view.loc (c : Thread nD τ) ↦[arg3.view.set]{fullShare} harg3.unread X.x3) ∗ (arg4.view.loc (c : Thread nD τ) ↦[arg4.view.set]{fullShare} harg4.unread X.x4) ∗ (arg5.view.loc (c : Thread nD τ) ↦[arg5.view.set]{fullShare} harg5.unread X.x5) ∗ (arg6.view.loc (c : Thread nD τ) ↦[arg6.view.set]{fullShare} harg6.unread X.x6) ∗ (arg7.view.loc (c : Thread nD τ) ↦[arg7.view.set]{fullShare} harg7.unread X.x7) ∗ (arg8.view.loc (c : Thread nD τ) ↦[arg8.view.set]{fullShare} harg8.unread X.x8) ∗ (arg9.view.loc (c : Thread nD τ) ↦[arg9.view.set]{fullShare} harg9.unread X.x9) ∗ (arg10.view.loc (c : Thread nD τ) ↦[arg10.view.set]{fullShare} harg10.unread X.x10) ∗ (arg11.view.loc (c : Thread nD τ) ↦[arg11.view.set]{fullShare} harg11.unread X.x11) ∗ (arg12.view.loc (c : Thread nD τ) ↦[arg12.view.set]{fullShare} harg12.unread X.x12) ∗ (arg13.view.loc (c : Thread nD τ) ↦[arg13.view.set]{fullShare} harg13.unread X.x13) ∗ (arg14.view.loc (c : Thread nD τ) ↦[arg14.view.set]{fullShare} harg14.unread X.x14) ∗ (arg15.view.loc (c : Thread nD τ) ↦[arg15.view.set]{fullShare} harg15.unread X.x15) ∗ (arg16.view.loc (c : Thread nD τ) ↦[arg16.view.set]{fullShare} harg16.unread X.x16) ∗ (arg17.view.loc (c : Thread nD τ) ↦[arg17.view.set]{fullShare} harg17.unread X.x17) ∗ (arg18.view.loc (c : Thread nD τ) ↦[arg18.view.set]{fullShare} harg18.unread X.x18) ∗ (arg19.view.loc (c : Thread nD τ) ↦[arg19.view.set]{fullShare} harg19.unread X.x19) ∗ (arg20.view.loc (c : Thread nD τ) ↦[arg20.view.set]{fullShare} harg20.unread X.x20) ∗ (arg21.view.loc (c : Thread nD τ) ↦[arg21.view.set]{fullShare} harg21.unread X.x21) ∗ (arg22.view.loc (c : Thread nD τ) ↦[arg22.view.set]{fullShare} harg22.unread X.x22) ∗ (arg23.view.loc (c : Thread nD τ) ↦[arg23.view.set]{fullShare} harg23.unread X.x23) ∗ (arg24.view.loc (c : Thread nD τ) ↦[arg24.view.set]{fullShare} harg24.unread X.x24) ∗ (arg25.view.loc (c : Thread nD τ) ↦[arg25.view.set]{fullShare} harg25.unread X.x25) ∗ (∃ f, arg26.view.loc (c : Thread nD τ) ↦[arg26.view.set]{fullShare} arg26.view.writes (Elt F) f L26) ∗ (arg27.view.loc (c : Thread nD τ) ↦[arg27.view.set]{fullShare} arg27.view.writes (Elt F) (harg27.unread Y.y27) L27) ∗ (∃ f, arg28.view.loc (c : Thread nD τ) ↦[arg28.view.set]{fullShare} arg28.view.writes (Elt F) f L28) ∗ (∃ f, arg29.view.loc (c : Thread nD τ) ↦[arg29.view.set]{fullShare} arg29.view.writes (Elt F) f L29) ∗ (∃ f, arg30.view.loc (c : Thread nD τ) ↦[arg30.view.set]{fullShare} arg30.view.writes (Elt F) f L30) ∗ (∃ f, arg31.view.loc (c : Thread nD τ) ↦[arg31.view.set]{fullShare} arg31.view.writes (Elt F) f L31) ∗ (∃ f, arg32.view.loc (c : Thread nD τ) ↦[arg32.view.set]{fullShare} arg32.view.writes (Elt F) f L32) ∗ (∃ f, arg33.view.loc (c : Thread nD τ) ↦[arg33.view.set]{fullShare} arg33.view.writes (Elt F) f L33) ∗ (∃ f, arg34.view.loc (c : Thread nD τ) ↦[arg34.view.set]{fullShare} arg34.view.writes (Elt F) f L34) ∗ (∃ f, arg35.view.loc (c : Thread nD τ) ↦[arg35.view.set]{fullShare} arg35.view.writes (Elt F) f L35) ∗ (∃ f, arg36.view.loc (c : Thread nD τ) ↦[arg36.view.set]{fullShare} arg36.view.writes (Elt F) f L36) ∗ (∃ f, arg37.view.loc (c : Thread nD τ) ↦[arg37.view.set]{fullShare} arg37.view.writes (Elt F) f L37) ∗ (∃ f, arg38.view.loc (c : Thread nD τ) ↦[arg38.view.set]{fullShare} arg38.view.writes (Elt F) f L38) ∗ (arg39.view.loc (c : Thread nD τ) ↦[arg39.view.set]{fullShare} harg39.unread Z.z39)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, ?_, ?_, ?_, ?_, ?_, ?_, ?_, ?_, ?_, ?_, ?_, ?_, fun E K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
    sl_exec (disch := first | sl_exact hc0 | sl_exact hc1)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    iexact H39

end Cert.MixRun

end
-- ==== Proof.MixBody.lean ====
module

public import proofs.«01_k».proof.Proof.Gen.MixIdeal.Frame
public import proofs.«01_k».proof.Proof.Gen.MixIdeal.Loops
public import Idealize.ShloMosaic.Lib.Exec
public import proofs.«01_k».proof.Proof.MixRunA
public import proofs.«01_k».proof.Proof.MixRunB
public import proofs.«01_k».proof.Proof.MixRunC
public import Idealize.ShloMosaic.Lib.Pipeline.DatRel
public import Idealize.ShloMosaic.Lib.Pipeline.ArrRel

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer owned at contents is its points-to at the contents written out. -/
theorem owns_eq_pts (c : Dev nD) {s : Shape} {e : EltTy} {r : Memref sig .tc .vmem s e} (hr : r.IsWhole) (x : Vec F s e) :
    (owns (c : Thread nD τ) r fullShare x : sProp 𝕄)
      = (r.view.loc (c : Thread nD τ) ↦[r.view.set]{fullShare} hr.unread x) := by
  have h₁ : (owns (c : Thread nD τ) r fullShare x : sProp 𝕄)
      ⊢ (r.view.loc (c : Thread nD τ) ↦[r.view.set]{fullShare} hr.unread x) := by
    unfold owns
    iintro ⟨%g, %hg, H⟩
    obtain rfl := hr.eq_unread hg
    iexact H
  have h₂ : (r.view.loc (c : Thread nD τ) ↦[r.view.set]{fullShare} hr.unread x : sProp 𝕄)
      ⊢ (owns (c : Thread nD τ) r fullShare x : sProp 𝕄) := by
    unfold owns
    iintro H; iexists _; isplitr
    swap; · iexact H
    ipureintro; exact hr.read_unread x
  exact BI.equiv_iff.mp ⟨h₁, h₂⟩

/-- The same, one way. -/
theorem owns_of_unread (c : Dev nD) {s : Shape} {e : EltTy} {r : Memref sig .tc .vmem s e} (hr : r.IsWhole) (x : Vec F s e) :
    (r.view.loc (c : Thread nD τ) ↦[r.view.set]{fullShare} hr.unread x : sProp 𝕄)
      ⊢ owns (c : Thread nD τ) r fullShare x := by
  rw [owns_eq_pts c hr x]

/-- A buffer's points-to is the buffer owned at what is read from it. -/
theorem owns_of_pts (c : Dev nD) {s : Shape} {e : EltTy} (r : Memref sig .tc .vmem s e)
    (g : Buf (Elt F) (r.view.loc (c : Thread nD τ))) :
    (r.view.loc (c : Thread nD τ) ↦[r.view.set]{fullShare} g : sProp 𝕄)
      ⊢ owns (c : Thread nD τ) r fullShare (r.view.read (Elt F) g) := by
  unfold owns
  iintro H; iexists _; isplitr
  swap; · iexact H
  ipureintro; rfl

/-- The contents are what stores of the pieces leave, over some earlier contents. -/
def After {s : Shape} {e : EltTy} (r : Memref sig .tc .vmem s e) (L : List (View.Piece (Elt F) s e)) (y : Vec F s e) : Prop :=
  ∃ f, y = r.view.read (Elt F) (r.view.writes (Elt F) f L)

/-- The inputs' buffers owned at their contents. -/
def insOwn (c : Dev nD) (M : Mems) (X : Ins F) : sProp 𝕄 :=
  iprop(owns (c : Thread nD τ) M.arg1 fullShare X.x1
    ∗ owns (c : Thread nD τ) M.arg2 fullShare X.x2
    ∗ owns (c : Thread nD τ) M.arg3 fullShare X.x3
    ∗ owns (c : Thread nD τ) M.arg4 fullShare X.x4
    ∗ owns (c : Thread nD τ) M.arg5 fullShare X.x5
    ∗ owns (c : Thread nD τ) M.arg6 fullShare X.x6
    ∗ owns (c : Thread nD τ) M.arg7 fullShare X.x7
    ∗ owns (c : Thread nD τ) M.arg8 fullShare X.x8
    ∗ owns (c : Thread nD τ) M.arg9 fullShare X.x9
    ∗ owns (c : Thread nD τ) M.arg10 fullShare X.x10
    ∗ owns (c : Thread nD τ) M.arg11 fullShare X.x11
    ∗ owns (c : Thread nD τ) M.arg12 fullShare X.x12
    ∗ owns (c : Thread nD τ) M.arg13 fullShare X.x13
    ∗ owns (c : Thread nD τ) M.arg14 fullShare X.x14
    ∗ owns (c : Thread nD τ) M.arg15 fullShare X.x15
    ∗ owns (c : Thread nD τ) M.arg16 fullShare X.x16
    ∗ owns (c : Thread nD τ) M.arg17 fullShare X.x17
    ∗ owns (c : Thread nD τ) M.arg18 fullShare X.x18
    ∗ owns (c : Thread nD τ) M.arg19 fullShare X.x19
    ∗ owns (c : Thread nD τ) M.arg20 fullShare X.x20
    ∗ owns (c : Thread nD τ) M.arg21 fullShare X.x21
    ∗ owns (c : Thread nD τ) M.arg22 fullShare X.x22
    ∗ owns (c : Thread nD τ) M.arg23 fullShare X.x23
    ∗ owns (c : Thread nD τ) M.arg24 fullShare X.x24
    ∗ owns (c : Thread nD τ) M.arg25 fullShare X.x25)

/-- The outputs' buffers owned at their contents. -/
def outsOwn (c : Dev nD) (M : Mems) (Y : Outs F) : sProp 𝕄 :=
  iprop(owns (c : Thread nD τ) M.arg26 fullShare Y.y26
    ∗ owns (c : Thread nD τ) M.arg27 fullShare Y.y27
    ∗ owns (c : Thread nD τ) M.arg28 fullShare Y.y28
    ∗ owns (c : Thread nD τ) M.arg29 fullShare Y.y29
    ∗ owns (c : Thread nD τ) M.arg30 fullShare Y.y30)

/-- The scratch buffers owned at their contents. -/
def scrOwn (c : Dev nD) (M : Mems) (Z : Scr F) : sProp 𝕄 :=
  iprop(owns (c : Thread nD τ) M.arg31 fullShare Z.z31
    ∗ owns (c : Thread nD τ) M.arg32 fullShare Z.z32
    ∗ owns (c : Thread nD τ) M.arg33 fullShare Z.z33
    ∗ owns (c : Thread nD τ) M.arg34 fullShare Z.z34
    ∗ owns (c : Thread nD τ) M.arg35 fullShare Z.z35
    ∗ owns (c : Thread nD τ) M.arg36 fullShare Z.z36
    ∗ owns (c : Thread nD τ) M.arg37 fullShare Z.z37
    ∗ owns (c : Thread nD τ) M.arg38 fullShare Z.z38
    ∗ owns (c : Thread nD τ) M.arg39 fullShare Z.z39)

/-- The body called with the buffers. -/
abbrev bodyOn (i : grid0.Coords) (M : Mems) : Prog (TpuEff nD τ sig (Elt F) Λ₀ .tc) PUnit :=
  cc0_mixer_bwd i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 M.arg35 M.harg35 M.arg36 M.harg36 M.arg37 M.harg37 M.arg38 M.harg38 M.arg39 M.harg39

/-- What the body at the first point does to the outputs' and the scratch buffers' contents. -/
def StepA (c : Dev nD) (i : grid0.Coords) (M : Mems) (hc0 : condFirst i) (hc1 : ¬condLast i) (X : Ins F) (Y : Outs F) (Z : Scr F)
    (Y' : Outs F) (Z' : Scr F) : Prop :=
  let R := runA c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 M.arg35 M.harg35 M.arg36 M.harg36 M.arg37 M.harg37 M.arg38 M.harg38 M.arg39 M.harg39 hc0 hc1 X Y Z
  After M.arg26 R.1 Y'.y26
  ∧ After M.arg27 R.2.1 Y'.y27
  ∧ After M.arg29 R.2.2.1 Y'.y29
  ∧ After M.arg30 R.2.2.2.1 Y'.y30
  ∧ After M.arg31 R.2.2.2.2.1 Z'.z31
  ∧ After M.arg32 R.2.2.2.2.2.1 Z'.z32
  ∧ After M.arg33 R.2.2.2.2.2.2.1 Z'.z33
  ∧ After M.arg34 R.2.2.2.2.2.2.2.1 Z'.z34
  ∧ After M.arg35 R.2.2.2.2.2.2.2.2.1 Z'.z35
  ∧ After M.arg36 R.2.2.2.2.2.2.2.2.2.1 Z'.z36
  ∧ After M.arg37 R.2.2.2.2.2.2.2.2.2.2.1 Z'.z37
  ∧ After M.arg38 R.2.2.2.2.2.2.2.2.2.2.2.1 Z'.z38
  ∧ After M.arg39 R.2.2.2.2.2.2.2.2.2.2.2.2.1 Z'.z39
  ∧ Y'.y28 = Y.y28

set_option maxHeartbeats 0 in
/-- The body at the first point: the inputs are left in place, the rest is related by `StepA`. -/
theorem bodyA (c : Dev nD) (i : grid0.Coords) (M : Mems) (hc0 : condFirst i) (hc1 : ¬condLast i) (X : Ins F) (Y : Outs F) (Z : Scr F) (E : Set ℕ) :
    iprop(insOwn c M X ∗ outsOwn c M Y ∗ scrOwn c M Z)
      ⊢ wp frame (wpE (defs₀ (F := F)) Variants.none c none) E (bodyOn i M) (fun _ =>
          iprop(∃ Y' Z', ⌜StepA c i M hc0 hc1 X Y Z Y' Z'⌝ ∗ insOwn c M X ∗ outsOwn c M Y' ∗ scrOwn c M Z')) := by
  unfold insOwn outsOwn scrOwn
  rw [owns_eq_pts c M.harg1 X.x1, owns_eq_pts c M.harg2 X.x2, owns_eq_pts c M.harg3 X.x3, owns_eq_pts c M.harg4 X.x4, owns_eq_pts c M.harg5 X.x5, owns_eq_pts c M.harg6 X.x6, owns_eq_pts c M.harg7 X.x7, owns_eq_pts c M.harg8 X.x8, owns_eq_pts c M.harg9 X.x9, owns_eq_pts c M.harg10 X.x10, owns_eq_pts c M.harg11 X.x11, owns_eq_pts c M.harg12 X.x12, owns_eq_pts c M.harg13 X.x13, owns_eq_pts c M.harg14 X.x14, owns_eq_pts c M.harg15 X.x15, owns_eq_pts c M.harg16 X.x16, owns_eq_pts c M.harg17 X.x17, owns_eq_pts c M.harg18 X.x18, owns_eq_pts c M.harg19 X.x19, owns_eq_pts c M.harg20 X.x20, owns_eq_pts c M.harg21 X.x21, owns_eq_pts c M.harg22 X.x22, owns_eq_pts c M.harg23 X.x23, owns_eq_pts c M.harg24 X.x24, owns_eq_pts c M.harg25 X.x25, owns_eq_pts c M.harg26 Y.y26, owns_eq_pts c M.harg27 Y.y27, owns_eq_pts c M.harg28 Y.y28, owns_eq_pts c M.harg29 Y.y29, owns_eq_pts c M.harg30 Y.y30, owns_eq_pts c M.harg31 Z.z31, owns_eq_pts c M.harg32 Z.z32, owns_eq_pts c M.harg33 Z.z33, owns_eq_pts c M.harg34 Z.z34, owns_eq_pts c M.harg35 Z.z35, owns_eq_pts c M.harg36 Z.z36, owns_eq_pts c M.harg37 Z.z37, owns_eq_pts c M.harg38 Z.z38, owns_eq_pts c M.harg39 Z.z39]
  iintro ⟨⟨H1, H2, H3, H4, H5, H6, H7, H8, H9, H10, H11, H12, H13, H14, H15, H16, H17, H18, H19, H20, H21, H22, H23, H24, H25⟩, ⟨H26, H27, H28, H29, H30⟩, ⟨H31, H32, H33, H34, H35, H36, H37, H38, H39⟩⟩
  iapply ((runA c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 M.arg35 M.harg35 M.arg36 M.harg36 M.arg37 M.harg37 M.arg38 M.harg38 M.arg39 M.harg39 hc0 hc1 X Y Z).2.2.2.2.2.2.2.2.2.2.2.2.2 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iintro ⟨H1, H2, H3, H4, H5, H6, H7, H8, H9, H10, H11, H12, H13, H14, H15, H16, H17, H18, H19, H20, H21, H22, H23, H24, H25, ⟨%f26, H26⟩, ⟨%f27, H27⟩, H28, ⟨%f29, H29⟩, ⟨%f30, H30⟩, ⟨%f31, H31⟩, ⟨%f32, H32⟩, ⟨%f33, H33⟩, ⟨%f34, H34⟩, ⟨%f35, H35⟩, ⟨%f36, H36⟩, ⟨%f37, H37⟩, ⟨%f38, H38⟩, ⟨%f39, H39⟩⟩
  iexists (⟨_, _, _, _, _⟩ : Outs F), (⟨_, _, _, _, _, _, _, _, _⟩ : Scr F)
  isplitr
  swap
  isplitl [H1 H2 H3 H4 H5 H6 H7 H8 H9 H10 H11 H12 H13 H14 H15 H16 H17 H18 H19 H20 H21 H22 H23 H24 H25]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  isplitl [H26 H27 H28 H29 H30]
  · isplitl [H26]; · iapply (owns_of_pts c M.arg26 _); iexact H26
    isplitl [H27]; · iapply (owns_of_pts c M.arg27 _); iexact H27
    isplitl [H28]; · iapply (owns_of_unread c M.harg28 Y.y28); iexact H28
    isplitl [H29]; · iapply (owns_of_pts c M.arg29 _); iexact H29
    iapply (owns_of_pts c M.arg30 _); iexact H30
  · isplitl [H31]; · iapply (owns_of_pts c M.arg31 _); iexact H31
    isplitl [H32]; · iapply (owns_of_pts c M.arg32 _); iexact H32
    isplitl [H33]; · iapply (owns_of_pts c M.arg33 _); iexact H33
    isplitl [H34]; · iapply (owns_of_pts c M.arg34 _); iexact H34
    isplitl [H35]; · iapply (owns_of_pts c M.arg35 _); iexact H35
    isplitl [H36]; · iapply (owns_of_pts c M.arg36 _); iexact H36
    isplitl [H37]; · iapply (owns_of_pts c M.arg37 _); iexact H37
    isplitl [H38]; · iapply (owns_of_pts c M.arg38 _); iexact H38
    iapply (owns_of_pts c M.arg39 _); iexact H39
  ipureintro; exact ⟨⟨_, rfl⟩, ⟨_, rfl⟩, ⟨_, rfl⟩, ⟨_, rfl⟩, ⟨_, rfl⟩, ⟨_, rfl⟩, ⟨_, rfl⟩, ⟨_, rfl⟩, ⟨_, rfl⟩, ⟨_, rfl⟩, ⟨_, rfl⟩, ⟨_, rfl⟩, ⟨_, rfl⟩, rfl⟩

/-- What the body at a point between does to the outputs' and the scratch buffers' contents. -/
def StepB (c : Dev nD) (i : grid0.Coords) (M : Mems) (hc0 : ¬condFirst i) (hc1 : ¬condLast i) (X : Ins F) (Y : Outs F) (Z : Scr F)
    (Y' : Outs F) (Z' : Scr F) : Prop :=
  let R := runB c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 M.arg35 M.harg35 M.arg36 M.harg36 M.arg37 M.harg37 M.arg38 M.harg38 M.arg39 M.harg39 hc0 hc1 X Y Z
  After M.arg26 R.1 Y'.y26
  ∧ Y'.y27 = M.arg27.view.read (Elt F) (M.arg27.view.writes (Elt F) (M.harg27.unread Y.y27) R.2.1)
  ∧ After M.arg29 R.2.2.1 Y'.y29
  ∧ After M.arg30 R.2.2.2.1 Y'.y30
  ∧ After M.arg31 R.2.2.2.2.1 Z'.z31
  ∧ After M.arg32 R.2.2.2.2.2.1 Z'.z32
  ∧ After M.arg33 R.2.2.2.2.2.2.1 Z'.z33
  ∧ After M.arg34 R.2.2.2.2.2.2.2.1 Z'.z34
  ∧ After M.arg35 R.2.2.2.2.2.2.2.2.1 Z'.z35
  ∧ After M.arg36 R.2.2.2.2.2.2.2.2.2.1 Z'.z36
  ∧ After M.arg37 R.2.2.2.2.2.2.2.2.2.2.1 Z'.z37
  ∧ After M.arg38 R.2.2.2.2.2.2.2.2.2.2.2.1 Z'.z38
  ∧ Y'.y28 = Y.y28
  ∧ Z'.z39 = Z.z39

set_option maxHeartbeats 0 in
/-- The body at a point between: the inputs are left in place, the rest is related by `StepB`. -/
theorem bodyB (c : Dev nD) (i : grid0.Coords) (M : Mems) (hc0 : ¬condFirst i) (hc1 : ¬condLast i) (X : Ins F) (Y : Outs F) (Z : Scr F) (E : Set ℕ) :
    iprop(insOwn c M X ∗ outsOwn c M Y ∗ scrOwn c M Z)
      ⊢ wp frame (wpE (defs₀ (F := F)) Variants.none c none) E (bodyOn i M) (fun _ =>
          iprop(∃ Y' Z', ⌜StepB c i M hc0 hc1 X Y Z Y' Z'⌝ ∗ insOwn c M X ∗ outsOwn c M Y' ∗ scrOwn c M Z')) := by
  unfold insOwn outsOwn scrOwn
  rw [owns_eq_pts c M.harg1 X.x1, owns_eq_pts c M.harg2 X.x2, owns_eq_pts c M.harg3 X.x3, owns_eq_pts c M.harg4 X.x4, owns_eq_pts c M.harg5 X.x5, owns_eq_pts c M.harg6 X.x6, owns_eq_pts c M.harg7 X.x7, owns_eq_pts c M.harg8 X.x8, owns_eq_pts c M.harg9 X.x9, owns_eq_pts c M.harg10 X.x10, owns_eq_pts c M.harg11 X.x11, owns_eq_pts c M.harg12 X.x12, owns_eq_pts c M.harg13 X.x13, owns_eq_pts c M.harg14 X.x14, owns_eq_pts c M.harg15 X.x15, owns_eq_pts c M.harg16 X.x16, owns_eq_pts c M.harg17 X.x17, owns_eq_pts c M.harg18 X.x18, owns_eq_pts c M.harg19 X.x19, owns_eq_pts c M.harg20 X.x20, owns_eq_pts c M.harg21 X.x21, owns_eq_pts c M.harg22 X.x22, owns_eq_pts c M.harg23 X.x23, owns_eq_pts c M.harg24 X.x24, owns_eq_pts c M.harg25 X.x25, owns_eq_pts c M.harg26 Y.y26, owns_eq_pts c M.harg27 Y.y27, owns_eq_pts c M.harg28 Y.y28, owns_eq_pts c M.harg29 Y.y29, owns_eq_pts c M.harg30 Y.y30, owns_eq_pts c M.harg31 Z.z31, owns_eq_pts c M.harg32 Z.z32, owns_eq_pts c M.harg33 Z.z33, owns_eq_pts c M.harg34 Z.z34, owns_eq_pts c M.harg35 Z.z35, owns_eq_pts c M.harg36 Z.z36, owns_eq_pts c M.harg37 Z.z37, owns_eq_pts c M.harg38 Z.z38, owns_eq_pts c M.harg39 Z.z39]
  iintro ⟨⟨H1, H2, H3, H4, H5, H6, H7, H8, H9, H10, H11, H12, H13, H14, H15, H16, H17, H18, H19, H20, H21, H22, H23, H24, H25⟩, ⟨H26, H27, H28, H29, H30⟩, ⟨H31, H32, H33, H34, H35, H36, H37, H38, H39⟩⟩
  iapply ((runB c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 M.arg35 M.harg35 M.arg36 M.harg36 M.arg37 M.harg37 M.arg38 M.harg38 M.arg39 M.harg39 hc0 hc1 X Y Z).2.2.2.2.2.2.2.2.2.2.2.2 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iintro ⟨H1, H2, H3, H4, H5, H6, H7, H8, H9, H10, H11, H12, H13, H14, H15, H16, H17, H18, H19, H20, H21, H22, H23, H24, H25, ⟨%f26, H26⟩, H27, H28, ⟨%f29, H29⟩, ⟨%f30, H30⟩, ⟨%f31, H31⟩, ⟨%f32, H32⟩, ⟨%f33, H33⟩, ⟨%f34, H34⟩, ⟨%f35, H35⟩, ⟨%f36, H36⟩, ⟨%f37, H37⟩, ⟨%f38, H38⟩, H39⟩
  iexists (⟨_, _, _, _, _⟩ : Outs F), (⟨_, _, _, _, _, _, _, _, _⟩ : Scr F)
  isplitr
  swap
  isplitl [H1 H2 H3 H4 H5 H6 H7 H8 H9 H10 H11 H12 H13 H14 H15 H16 H17 H18 H19 H20 H21 H22 H23 H24 H25]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  isplitl [H26 H27 H28 H29 H30]
  · isplitl [H26]; · iapply (owns_of_pts c M.arg26 _); iexact H26
    isplitl [H27]; · iapply (owns_of_pts c M.arg27 _); iexact H27
    isplitl [H28]; · iapply (owns_of_unread c M.harg28 Y.y28); iexact H28
    isplitl [H29]; · iapply (owns_of_pts c M.arg29 _); iexact H29
    iapply (owns_of_pts c M.arg30 _); iexact H30
  · isplitl [H31]; · iapply (owns_of_pts c M.arg31 _); iexact H31
    isplitl [H32]; · iapply (owns_of_pts c M.arg32 _); iexact H32
    isplitl [H33]; · iapply (owns_of_pts c M.arg33 _); iexact H33
    isplitl [H34]; · iapply (owns_of_pts c M.arg34 _); iexact H34
    isplitl [H35]; · iapply (owns_of_pts c M.arg35 _); iexact H35
    isplitl [H36]; · iapply (owns_of_pts c M.arg36 _); iexact H36
    isplitl [H37]; · iapply (owns_of_pts c M.arg37 _); iexact H37
    isplitl [H38]; · iapply (owns_of_pts c M.arg38 _); iexact H38
    iapply (owns_of_unread c M.harg39 Z.z39); iexact H39
  ipureintro; exact ⟨⟨_, rfl⟩, rfl, ⟨_, rfl⟩, ⟨_, rfl⟩, ⟨_, rfl⟩, ⟨_, rfl⟩, ⟨_, rfl⟩, ⟨_, rfl⟩, ⟨_, rfl⟩, ⟨_, rfl⟩, ⟨_, rfl⟩, ⟨_, rfl⟩, rfl, rfl⟩

/-- What the body at the last point does to the outputs' and the scratch buffers' contents. -/
def StepC (c : Dev nD) (i : grid0.Coords) (M : Mems) (hc0 : ¬condFirst i) (hc1 : condLast i) (X : Ins F) (Y : Outs F) (Z : Scr F)
    (Y' : Outs F) (Z' : Scr F) : Prop :=
  let R := runC c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 M.arg35 M.harg35 M.arg36 M.harg36 M.arg37 M.harg37 M.arg38 M.harg38 M.arg39 M.harg39 hc0 hc1 X Y Z
  After M.arg26 R.1 Y'.y26
  ∧ Y'.y27 = M.arg27.view.read (Elt F) (M.arg27.view.writes (Elt F) (M.harg27.unread Y.y27) R.2.1)
  ∧ After M.arg28 R.2.2.1 Y'.y28
  ∧ After M.arg29 R.2.2.2.1 Y'.y29
  ∧ After M.arg30 R.2.2.2.2.1 Y'.y30
  ∧ After M.arg31 R.2.2.2.2.2.1 Z'.z31
  ∧ After M.arg32 R.2.2.2.2.2.2.1 Z'.z32
  ∧ After M.arg33 R.2.2.2.2.2.2.2.1 Z'.z33
  ∧ After M.arg34 R.2.2.2.2.2.2.2.2.1 Z'.z34
  ∧ After M.arg35 R.2.2.2.2.2.2.2.2.2.1 Z'.z35
  ∧ After M.arg36 R.2.2.2.2.2.2.2.2.2.2.1 Z'.z36
  ∧ After M.arg37 R.2.2.2.2.2.2.2.2.2.2.2.1 Z'.z37
  ∧ After M.arg38 R.2.2.2.2.2.2.2.2.2.2.2.2.1 Z'.z38
  ∧ Z'.z39 = Z.z39

set_option maxHeartbeats 0 in
/-- The body at the last point: the inputs are left in place, the rest is related by `StepC`. -/
theorem bodyC (c : Dev nD) (i : grid0.Coords) (M : Mems) (hc0 : ¬condFirst i) (hc1 : condLast i) (X : Ins F) (Y : Outs F) (Z : Scr F) (E : Set ℕ) :
    iprop(insOwn c M X ∗ outsOwn c M Y ∗ scrOwn c M Z)
      ⊢ wp frame (wpE (defs₀ (F := F)) Variants.none c none) E (bodyOn i M) (fun _ =>
          iprop(∃ Y' Z', ⌜StepC c i M hc0 hc1 X Y Z Y' Z'⌝ ∗ insOwn c M X ∗ outsOwn c M Y' ∗ scrOwn c M Z')) := by
  unfold insOwn outsOwn scrOwn
  rw [owns_eq_pts c M.harg1 X.x1, owns_eq_pts c M.harg2 X.x2, owns_eq_pts c M.harg3 X.x3, owns_eq_pts c M.harg4 X.x4, owns_eq_pts c M.harg5 X.x5, owns_eq_pts c M.harg6 X.x6, owns_eq_pts c M.harg7 X.x7, owns_eq_pts c M.harg8 X.x8, owns_eq_pts c M.harg9 X.x9, owns_eq_pts c M.harg10 X.x10, owns_eq_pts c M.harg11 X.x11, owns_eq_pts c M.harg12 X.x12, owns_eq_pts c M.harg13 X.x13, owns_eq_pts c M.harg14 X.x14, owns_eq_pts c M.harg15 X.x15, owns_eq_pts c M.harg16 X.x16, owns_eq_pts c M.harg17 X.x17, owns_eq_pts c M.harg18 X.x18, owns_eq_pts c M.harg19 X.x19, owns_eq_pts c M.harg20 X.x20, owns_eq_pts c M.harg21 X.x21, owns_eq_pts c M.harg22 X.x22, owns_eq_pts c M.harg23 X.x23, owns_eq_pts c M.harg24 X.x24, owns_eq_pts c M.harg25 X.x25, owns_eq_pts c M.harg26 Y.y26, owns_eq_pts c M.harg27 Y.y27, owns_eq_pts c M.harg28 Y.y28, owns_eq_pts c M.harg29 Y.y29, owns_eq_pts c M.harg30 Y.y30, owns_eq_pts c M.harg31 Z.z31, owns_eq_pts c M.harg32 Z.z32, owns_eq_pts c M.harg33 Z.z33, owns_eq_pts c M.harg34 Z.z34, owns_eq_pts c M.harg35 Z.z35, owns_eq_pts c M.harg36 Z.z36, owns_eq_pts c M.harg37 Z.z37, owns_eq_pts c M.harg38 Z.z38, owns_eq_pts c M.harg39 Z.z39]
  iintro ⟨⟨H1, H2, H3, H4, H5, H6, H7, H8, H9, H10, H11, H12, H13, H14, H15, H16, H17, H18, H19, H20, H21, H22, H23, H24, H25⟩, ⟨H26, H27, H28, H29, H30⟩, ⟨H31, H32, H33, H34, H35, H36, H37, H38, H39⟩⟩
  iapply ((runC c i M.arg1 M.harg1 M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 M.arg29 M.harg29 M.arg30 M.harg30 M.arg31 M.harg31 M.arg32 M.harg32 M.arg33 M.harg33 M.arg34 M.harg34 M.arg35 M.harg35 M.arg36 M.harg36 M.arg37 M.harg37 M.arg38 M.harg38 M.arg39 M.harg39 hc0 hc1 X Y Z).2.2.2.2.2.2.2.2.2.2.2.2.2 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iintro ⟨H1, H2, H3, H4, H5, H6, H7, H8, H9, H10, H11, H12, H13, H14, H15, H16, H17, H18, H19, H20, H21, H22, H23, H24, H25, ⟨%f26, H26⟩, H27, ⟨%f28, H28⟩, ⟨%f29, H29⟩, ⟨%f30, H30⟩, ⟨%f31, H31⟩, ⟨%f32, H32⟩, ⟨%f33, H33⟩, ⟨%f34, H34⟩, ⟨%f35, H35⟩, ⟨%f36, H36⟩, ⟨%f37, H37⟩, ⟨%f38, H38⟩, H39⟩
  iexists (⟨_, _, _, _, _⟩ : Outs F), (⟨_, _, _, _, _, _, _, _, _⟩ : Scr F)
  isplitr
  swap
  isplitl [H1 H2 H3 H4 H5 H6 H7 H8 H9 H10 H11 H12 H13 H14 H15 H16 H17 H18 H19 H20 H21 H22 H23 H24 H25]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  isplitl [H26 H27 H28 H29 H30]
  · isplitl [H26]; · iapply (owns_of_pts c M.arg26 _); iexact H26
    isplitl [H27]; · iapply (owns_of_pts c M.arg27 _); iexact H27
    isplitl [H28]; · iapply (owns_of_pts c M.arg28 _); iexact H28
    isplitl [H29]; · iapply (owns_of_pts c M.arg29 _); iexact H29
    iapply (owns_of_pts c M.arg30 _); iexact H30
  · isplitl [H31]; · iapply (owns_of_pts c M.arg31 _); iexact H31
    isplitl [H32]; · iapply (owns_of_pts c M.arg32 _); iexact H32
    isplitl [H33]; · iapply (owns_of_pts c M.arg33 _); iexact H33
    isplitl [H34]; · iapply (owns_of_pts c M.arg34 _); iexact H34
    isplitl [H35]; · iapply (owns_of_pts c M.arg35 _); iexact H35
    isplitl [H36]; · iapply (owns_of_pts c M.arg36 _); iexact H36
    isplitl [H37]; · iapply (owns_of_pts c M.arg37 _); iexact H37
    isplitl [H38]; · iapply (owns_of_pts c M.arg38 _); iexact H38
    iapply (owns_of_unread c M.harg39 Z.z39); iexact H39
  ipureintro; exact ⟨⟨_, rfl⟩, rfl, ⟨_, rfl⟩, ⟨_, rfl⟩, ⟨_, rfl⟩, ⟨_, rfl⟩, ⟨_, rfl⟩, ⟨_, rfl⟩, ⟨_, rfl⟩, ⟨_, rfl⟩, ⟨_, rfl⟩, ⟨_, rfl⟩, ⟨_, rfl⟩, rfl⟩

end Cert.MixRun

end
-- ==== Proof.MixPoint.lean ====
module

public import proofs.«01_k».proof.Proof.Gen.MixIdeal.Frame
public import proofs.«01_k».proof.Proof.Gen.MixIdeal.Loops
public import Idealize.ShloMosaic.Lib.Exec
public import proofs.«01_k».proof.Proof.MixBody

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body is called with at a grid point. -/
def mems (t : Fin cfg0.N) : Mems where
  arg1 := win0_0.stage (cfg0.slots t 0)
  harg1 := hstage0_0 ((cfg0.slots t 0).cast nbuf0_0)
  arg2 := win0_1.stage (cfg0.slots t 1)
  harg2 := hstage0_1 ((cfg0.slots t 1).cast nbuf0_1)
  arg3 := win0_2.stage (cfg0.slots t 2)
  harg3 := hstage0_2 ((cfg0.slots t 2).cast nbuf0_2)
  arg4 := win0_3.stage (cfg0.slots t 3)
  harg4 := hstage0_3 ((cfg0.slots t 3).cast nbuf0_3)
  arg5 := win0_4.stage (cfg0.slots t 4)
  harg5 := hstage0_4 ((cfg0.slots t 4).cast nbuf0_4)
  arg6 := win0_5.stage (cfg0.slots t 5)
  harg6 := hstage0_5 ((cfg0.slots t 5).cast nbuf0_5)
  arg7 := win0_6.stage (cfg0.slots t 6)
  harg7 := hstage0_6 ((cfg0.slots t 6).cast nbuf0_6)
  arg8 := win0_7.stage (cfg0.slots t 7)
  harg8 := hstage0_7 ((cfg0.slots t 7).cast nbuf0_7)
  arg9 := win0_8.stage (cfg0.slots t 8)
  harg9 := hstage0_8 ((cfg0.slots t 8).cast nbuf0_8)
  arg10 := win0_9.stage (cfg0.slots t 9)
  harg10 := hstage0_9 ((cfg0.slots t 9).cast nbuf0_9)
  arg11 := win0_10.stage (cfg0.slots t 10)
  harg11 := hstage0_10 ((cfg0.slots t 10).cast nbuf0_10)
  arg12 := win0_11.stage (cfg0.slots t 11)
  harg12 := hstage0_11 ((cfg0.slots t 11).cast nbuf0_11)
  arg13 := win0_12.stage (cfg0.slots t 12)
  harg13 := hstage0_12 ((cfg0.slots t 12).cast nbuf0_12)
  arg14 := win0_13.stage (cfg0.slots t 13)
  harg14 := hstage0_13 ((cfg0.slots t 13).cast nbuf0_13)
  arg15 := win0_14.stage (cfg0.slots t 14)
  harg15 := hstage0_14 ((cfg0.slots t 14).cast nbuf0_14)
  arg16 := win0_15.stage (cfg0.slots t 15)
  harg16 := hstage0_15 ((cfg0.slots t 15).cast nbuf0_15)
  arg17 := win0_16.stage (cfg0.slots t 16)
  harg17 := hstage0_16 ((cfg0.slots t 16).cast nbuf0_16)
  arg18 := win0_17.stage (cfg0.slots t 17)
  harg18 := hstage0_17 ((cfg0.slots t 17).cast nbuf0_17)
  arg19 := win0_18.stage (cfg0.slots t 18)
  harg19 := hstage0_18 ((cfg0.slots t 18).cast nbuf0_18)
  arg20 := win0_19.stage (cfg0.slots t 19)
  harg20 := hstage0_19 ((cfg0.slots t 19).cast nbuf0_19)
  arg21 := win0_20.stage (cfg0.slots t 20)
  harg21 := hstage0_20 ((cfg0.slots t 20).cast nbuf0_20)
  arg22 := win0_21.stage (cfg0.slots t 21)
  harg22 := hstage0_21 ((cfg0.slots t 21).cast nbuf0_21)
  arg23 := win0_22.stage (cfg0.slots t 22)
  harg23 := hstage0_22 ((cfg0.slots t 22).cast nbuf0_22)
  arg24 := win0_23.stage (cfg0.slots t 23)
  harg24 := hstage0_23 ((cfg0.slots t 23).cast nbuf0_23)
  arg25 := win0_24.stage (cfg0.slots t 24)
  harg25 := hstage0_24 ((cfg0.slots t 24).cast nbuf0_24)
  arg26 := win0_25.stage (cfg0.slots t 25)
  harg26 := hstage0_25 ((cfg0.slots t 25).cast nbuf0_25)
  arg27 := win0_26.stage (cfg0.slots t 26)
  harg27 := hstage0_26 ((cfg0.slots t 26).cast nbuf0_26)
  arg28 := win0_27.stage (cfg0.slots t 27)
  harg28 := hstage0_27 ((cfg0.slots t 27).cast nbuf0_27)
  arg29 := win0_28.stage (cfg0.slots t 28)
  harg29 := hstage0_28 ((cfg0.slots t 28).cast nbuf0_28)
  arg30 := win0_29.stage (cfg0.slots t 29)
  harg30 := hstage0_29 ((cfg0.slots t 29).cast nbuf0_29)
  arg31 := Memref.whole cc0_scratch0
  harg31 := Memref.isWhole_whole _
  arg32 := Memref.whole cc0_scratch1
  harg32 := Memref.isWhole_whole _
  arg33 := Memref.whole cc0_scratch2
  harg33 := Memref.isWhole_whole _
  arg34 := Memref.whole cc0_scratch3
  harg34 := Memref.isWhole_whole _
  arg35 := Memref.whole cc0_scratch4
  harg35 := Memref.isWhole_whole _
  arg36 := Memref.whole cc0_scratch5
  harg36 := Memref.isWhole_whole _
  arg37 := Memref.whole cc0_scratch6
  harg37 := Memref.isWhole_whole _
  arg38 := Memref.whole cc0_scratch7
  harg38 := Memref.isWhole_whole _
  arg39 := Memref.whole cc0_scratch8
  harg39 := Memref.isWhole_whole _

/-- The scratch buffers owned at their contents. -/
def scrAt (c : Dev nD) (Z : Scr F) : sProp 𝕄 :=
  iprop(owns (c : Thread nD τ) (Memref.whole cc0_scratch0) fullShare Z.z31
    ∗ owns (c : Thread nD τ) (Memref.whole cc0_scratch1) fullShare Z.z32
    ∗ owns (c : Thread nD τ) (Memref.whole cc0_scratch2) fullShare Z.z33
    ∗ owns (c : Thread nD τ) (Memref.whole cc0_scratch3) fullShare Z.z34
    ∗ owns (c : Thread nD τ) (Memref.whole cc0_scratch4) fullShare Z.z35
    ∗ owns (c : Thread nD τ) (Memref.whole cc0_scratch5) fullShare Z.z36
    ∗ owns (c : Thread nD τ) (Memref.whole cc0_scratch6) fullShare Z.z37
    ∗ owns (c : Thread nD τ) (Memref.whole cc0_scratch7) fullShare Z.z38
    ∗ owns (c : Thread nD τ) (Memref.whole cc0_scratch8) fullShare Z.z39)

theorem scrOwn_mems (c : Dev nD) (t : Fin cfg0.N) (Z : Scr F) : (scrOwn c (mems t) Z : sProp 𝕄) = scrAt c Z := rfl

/-- What the inputs' buffers hold at a grid point: their blocks. -/
def ins (c : Dev nD) (t : Fin cfg0.N) : Ins F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t
  x12 := iblk m c 11 t
  x13 := iblk m c 12 t
  x14 := iblk m c 13 t
  x15 := iblk m c 14 t
  x16 := iblk m c 15 t
  x17 := iblk m c 16 t
  x18 := iblk m c 17 t
  x19 := iblk m c 18 t
  x20 := iblk m c 19 t
  x21 := iblk m c 20 t
  x22 := iblk m c 21 t
  x23 := iblk m c 22 t
  x24 := iblk m c 23 t
  x25 := iblk m c 24 t

/-- What the body does to the outputs' and the scratch buffers' contents at a grid point. -/
def Step (c : Dev nD) (t : Fin cfg0.N) (Y : Outs F) (Z : Scr F) (Y' : Outs F) (Z' : Scr F) : Prop :=
  (∃ h0 h1, StepA c (grid0.coords t) (mems t) h0 h1 (ins m c t) Y Z Y' Z')
  ∨ (∃ h0 h1, StepB c (grid0.coords t) (mems t) h0 h1 (ins m c t) Y Z Y' Z')
  ∨ (∃ h0 h1, StepC c (grid0.coords t) (mems t) h0 h1 (ins m c t) Y Z Y' Z')

/-- The first condition holds at the first point only. -/
theorem condFirst_iff : ∀ t : Fin cfg0.N, condFirst (grid0.coords t) ↔ t.val = 0 := by decide

/-- The second condition holds at the last point only. -/
theorem condLast_iff : ∀ t : Fin cfg0.N, condLast (grid0.coords t) ↔ t.val = 63 := by decide

/-- The body at any grid point. -/
theorem body_point (c : Dev nD) (t : Fin cfg0.N) (Y : Outs F) (Z : Scr F) :
    iprop(insOwn c (mems t) (ins m c t) ∗ outsOwn c (mems t) Y ∗ scrOwn c (mems t) Z)
      ⊢ wp frame (wpE (defs₀ (F := F)) Variants.none c none) Set.univ (bodyOn (grid0.coords t) (mems t)) (fun _ =>
          iprop(∃ Y' Z', ⌜Step m c t Y Z Y' Z'⌝ ∗ insOwn c (mems t) (ins m c t) ∗ outsOwn c (mems t) Y' ∗ scrOwn c (mems t) Z')) := by
  by_cases h0 : condFirst (grid0.coords t)
  · have h1 : ¬condLast (grid0.coords t) := fun h => by
      have := (condFirst_iff t).mp h0; have := (condLast_iff t).mp h; omega
    refine (bodyA c _ (mems t) h0 h1 (ins m c t) Y Z Set.univ).trans ((wp frame _ Set.univ _).mono fun _ => ?_)
    show (_ : sProp 𝕄) ⊢ _
    iintro ⟨%Y', %Z', %h, H⟩
    iexists Y', Z'
    isplitr; · ipureintro; exact .inl ⟨h0, h1, h⟩
    iexact H
  · by_cases h1 : condLast (grid0.coords t)
    · refine (bodyC c _ (mems t) h0 h1 (ins m c t) Y Z Set.univ).trans ((wp frame _ Set.univ _).mono fun _ => ?_)
      show (_ : sProp 𝕄) ⊢ _
      iintro ⟨%Y', %Z', %h, H⟩
      iexists Y', Z'
      isplitr; · ipureintro; exact .inr (.inr ⟨h0, h1, h⟩)
      iexact H
    · refine (bodyB c _ (mems t) h0 h1 (ins m c t) Y Z Set.univ).trans ((wp frame _ Set.univ _).mono fun _ => ?_)
      show (_ : sProp 𝕄) ⊢ _
      iintro ⟨%Y', %Z', %h, H⟩
      iexists Y', Z'
      isplitr; · ipureintro; exact .inr (.inl ⟨h0, h1, h⟩)
      iexact H

/-- What is followed of the run on one core: a property of the scratch buffers before each point, and one of what each
    output's buffer is left with at each point, kept by the body. -/
structure Track (c : Dev nD) where
  inv : ℕ → Scr F → Prop
  l26 : Fin cfg0.N → Vec F S128x5120 .bf16 → Prop
  l27 : Fin cfg0.N → Vec F S16x1024 .f32 → Prop
  l28 : Fin cfg0.N → Vec F S32x1024 .f32 → Prop
  l29 : Fin cfg0.N → Vec F S8x128x128 .f32 → Prop
  l30 : Fin cfg0.N → Vec F S8x128x128 .f32 → Prop
  start : ∀ Z, inv 0 Z
  keep : ∀ t Y Z Y' Z', inv t.val Z →
    (∀ t' : Fin cfg0.N, t'.val + 1 = t.val → l27 t' Y.y27 ∧ l29 t' Y.y29 ∧ l30 t' Y.y30) →
    Step m c t Y Z Y' Z' →
    inv (t.val + 1) Z' ∧ l26 t Y'.y26 ∧ l27 t Y'.y27 ∧ l28 t Y'.y28 ∧ l29 t Y'.y29 ∧ l30 t Y'.y30

/-- Nothing followed. -/
def Track.trivial (c : Dev nD) : Track m c where
  inv _ _ := True
  l26 _ _ := True
  l27 _ _ := True
  l28 _ _ := True
  l29 _ _ := True
  l30 _ _ := True
  start _ := True.intro
  keep _ _ _ _ _ _ _ _ := ⟨True.intro, True.intro, True.intro, True.intro, True.intro, True.intro⟩

/-- The output windows. -/
def fgt (w : Fin cfg0.W) : Bool := decide (25 ≤ w.val)

variable (T : (c : Dev nD) → Track m c)

/-- What an output's buffer is left with, window by window. -/
def leftAt (c : Dev nD) (w : Fin cfg0.W) (t : Fin cfg0.N) (X : (cfg0.win w).block.Idx → Elt F (cfg0.win w).elt) : Prop :=
  match w, X with
  | ⟨25, _⟩, X => (T c).l26 t X
  | ⟨26, _⟩, X => (T c).l27 t X
  | ⟨27, _⟩, X => (T c).l28 t X
  | ⟨28, _⟩, X => (T c).l29 t X
  | ⟨29, _⟩, X => (T c).l30 t X
  | _, _ => True

/-- The pipeline's proof data: the arrays as the region finds them, each input's buffer at its block, the scratch buffers at
    contents with the followed property. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨n + 30, h⟩ => absurd (show n + 30 < 30 from h) (by omega)
  Φ t := iprop((∃ Z, ⌜(T c).inv t.val Z⌝ ∗ scrAt c Z) ∗ (∃ r, prngReg c r))
  q _ := fullShare
  owed _ := 0

/-- The relational data with the outputs held to what is followed. -/
abbrev rdat (c : Dev nD) := (dat m T c).toRRel fgt (leftAt m T c)

theorem A_eq (c : Dev nD) (w : Fin cfg0.W) : (dat m T c).A w = V m c (Pipeline.arrRef spec0 w) := by
  dsimp only [dat]

theorem after_0 (c : Dev nD) (t : Fin cfg0.N) : (dat m T c).after 0 t = iblk m c 0 t := by dsimp only [dat]
theorem after_1 (c : Dev nD) (t : Fin cfg0.N) : (dat m T c).after 1 t = iblk m c 1 t := by dsimp only [dat]
theorem after_2 (c : Dev nD) (t : Fin cfg0.N) : (dat m T c).after 2 t = iblk m c 2 t := by dsimp only [dat]
theorem after_3 (c : Dev nD) (t : Fin cfg0.N) : (dat m T c).after 3 t = iblk m c 3 t := by dsimp only [dat]
theorem after_4 (c : Dev nD) (t : Fin cfg0.N) : (dat m T c).after 4 t = iblk m c 4 t := by dsimp only [dat]
theorem after_5 (c : Dev nD) (t : Fin cfg0.N) : (dat m T c).after 5 t = iblk m c 5 t := by dsimp only [dat]
theorem after_6 (c : Dev nD) (t : Fin cfg0.N) : (dat m T c).after 6 t = iblk m c 6 t := by dsimp only [dat]
theorem after_7 (c : Dev nD) (t : Fin cfg0.N) : (dat m T c).after 7 t = iblk m c 7 t := by dsimp only [dat]
theorem after_8 (c : Dev nD) (t : Fin cfg0.N) : (dat m T c).after 8 t = iblk m c 8 t := by dsimp only [dat]
theorem after_9 (c : Dev nD) (t : Fin cfg0.N) : (dat m T c).after 9 t = iblk m c 9 t := by dsimp only [dat]
theorem after_10 (c : Dev nD) (t : Fin cfg0.N) : (dat m T c).after 10 t = iblk m c 10 t := by dsimp only [dat]
theorem after_11 (c : Dev nD) (t : Fin cfg0.N) : (dat m T c).after 11 t = iblk m c 11 t := by dsimp only [dat]
theorem after_12 (c : Dev nD) (t : Fin cfg0.N) : (dat m T c).after 12 t = iblk m c 12 t := by dsimp only [dat]
theorem after_13 (c : Dev nD) (t : Fin cfg0.N) : (dat m T c).after 13 t = iblk m c 13 t := by dsimp only [dat]
theorem after_14 (c : Dev nD) (t : Fin cfg0.N) : (dat m T c).after 14 t = iblk m c 14 t := by dsimp only [dat]
theorem after_15 (c : Dev nD) (t : Fin cfg0.N) : (dat m T c).after 15 t = iblk m c 15 t := by dsimp only [dat]
theorem after_16 (c : Dev nD) (t : Fin cfg0.N) : (dat m T c).after 16 t = iblk m c 16 t := by dsimp only [dat]
theorem after_17 (c : Dev nD) (t : Fin cfg0.N) : (dat m T c).after 17 t = iblk m c 17 t := by dsimp only [dat]
theorem after_18 (c : Dev nD) (t : Fin cfg0.N) : (dat m T c).after 18 t = iblk m c 18 t := by dsimp only [dat]
theorem after_19 (c : Dev nD) (t : Fin cfg0.N) : (dat m T c).after 19 t = iblk m c 19 t := by dsimp only [dat]
theorem after_20 (c : Dev nD) (t : Fin cfg0.N) : (dat m T c).after 20 t = iblk m c 20 t := by dsimp only [dat]
theorem after_21 (c : Dev nD) (t : Fin cfg0.N) : (dat m T c).after 21 t = iblk m c 21 t := by dsimp only [dat]
theorem after_22 (c : Dev nD) (t : Fin cfg0.N) : (dat m T c).after 22 t = iblk m c 22 t := by dsimp only [dat]
theorem after_23 (c : Dev nD) (t : Fin cfg0.N) : (dat m T c).after 23 t = iblk m c 23 t := by dsimp only [dat]
theorem after_24 (c : Dev nD) (t : Fin cfg0.N) : (dat m T c).after 24 t = iblk m c 24 t := by dsimp only [dat]

/-- What the launch hands over, the scratch buffers spelled out. -/
theorem PhiA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

/-- What the launch hands over is the invariant before the first point. -/
theorem hin (c : Dev nD) : Pipeline.ΦA spec0 c ⊢ (dat m T c).Φ 0 := by
  rw [show (dat m T c).Φ 0 = iprop((∃ Z, ⌜(T c).inv 0 Z⌝ ∗ scrAt c Z) ∗ (∃ r, prngReg c r)) from rfl, PhiA_eq]
  unfold scrAt
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩, Hg⟩
  isplitl [H0 H1 H2 H3 H4 H5 H6 H7 H8]
  · iexists (⟨d0, d1, d2, d3, d4, d5, d6, d7, d8⟩ : Scr F)
    isplitr; · ipureintro; exact (T c).start _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- The invariant gives back what the launch handed over: the contents are forgotten. -/
theorem hout (c : Dev nD) : (dat m T c).Φ (Fin.last cfg0.N) ⊢ Pipeline.ΦA spec0 c := by
  rw [show (dat m T c).Φ (Fin.last cfg0.N) = iprop((∃ Z, ⌜(T c).inv cfg0.N Z⌝ ∗ scrAt c Z) ∗ (∃ r, prngReg c r)) from rfl, PhiA_eq]
  unfold scrAt
  iintro ⟨⟨%Z, -, H0, H1, H2, H3, H4, H5, H6, H7, H8⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8
  iexact Hg

/-! Each input's buffer holds its block at every point. -/

theorem before_0 (c : Dev nD) (t : Fin cfg0.N) (d) : (dat m T c).before 0 t d = iblk m c 0 t :=
  before0_0_of m (dat m T c) (A_eq m T c 0) (after_0 m T c) t d
theorem before_1 (c : Dev nD) (t : Fin cfg0.N) (d) : (dat m T c).before 1 t d = iblk m c 1 t :=
  before0_1_of m (dat m T c) (A_eq m T c 1) (after_1 m T c) t d
theorem before_2 (c : Dev nD) (t : Fin cfg0.N) (d) : (dat m T c).before 2 t d = iblk m c 2 t :=
  before0_2_of m (dat m T c) (A_eq m T c 2) (after_2 m T c) t d
theorem before_3 (c : Dev nD) (t : Fin cfg0.N) (d) : (dat m T c).before 3 t d = iblk m c 3 t :=
  before0_3_of m (dat m T c) (A_eq m T c 3) (after_3 m T c) t d
theorem before_4 (c : Dev nD) (t : Fin cfg0.N) (d) : (dat m T c).before 4 t d = iblk m c 4 t :=
  before0_4_of m (dat m T c) (A_eq m T c 4) (after_4 m T c) t d
theorem before_5 (c : Dev nD) (t : Fin cfg0.N) (d) : (dat m T c).before 5 t d = iblk m c 5 t :=
  before0_5_of m (dat m T c) (A_eq m T c 5) (after_5 m T c) t d
theorem before_6 (c : Dev nD) (t : Fin cfg0.N) (d) : (dat m T c).before 6 t d = iblk m c 6 t :=
  before0_6_of m (dat m T c) (A_eq m T c 6) (after_6 m T c) t d
theorem before_7 (c : Dev nD) (t : Fin cfg0.N) (d) : (dat m T c).before 7 t d = iblk m c 7 t :=
  before0_7_of m (dat m T c) (A_eq m T c 7) (after_7 m T c) t d
theorem before_8 (c : Dev nD) (t : Fin cfg0.N) (d) : (dat m T c).before 8 t d = iblk m c 8 t :=
  before0_8_of m (dat m T c) (A_eq m T c 8) (after_8 m T c) t d
theorem before_9 (c : Dev nD) (t : Fin cfg0.N) (d) : (dat m T c).before 9 t d = iblk m c 9 t :=
  before0_9_of m (dat m T c) (A_eq m T c 9) (after_9 m T c) t d
theorem before_10 (c : Dev nD) (t : Fin cfg0.N) (d) : (dat m T c).before 10 t d = iblk m c 10 t :=
  before0_10_of m (dat m T c) (A_eq m T c 10) (after_10 m T c) t d
theorem before_11 (c : Dev nD) (t : Fin cfg0.N) (d) : (dat m T c).before 11 t d = iblk m c 11 t :=
  before0_11_of m (dat m T c) (A_eq m T c 11) (after_11 m T c) t d
theorem before_12 (c : Dev nD) (t : Fin cfg0.N) (d) : (dat m T c).before 12 t d = iblk m c 12 t :=
  before0_12_of m (dat m T c) (A_eq m T c 12) (after_12 m T c) t d
theorem before_13 (c : Dev nD) (t : Fin cfg0.N) (d) : (dat m T c).before 13 t d = iblk m c 13 t :=
  before0_13_of m (dat m T c) (A_eq m T c 13) (after_13 m T c) t d
theorem before_14 (c : Dev nD) (t : Fin cfg0.N) (d) : (dat m T c).before 14 t d = iblk m c 14 t :=
  before0_14_of m (dat m T c) (A_eq m T c 14) (after_14 m T c) t d
theorem before_15 (c : Dev nD) (t : Fin cfg0.N) (d) : (dat m T c).before 15 t d = iblk m c 15 t :=
  before0_15_of m (dat m T c) (A_eq m T c 15) (after_15 m T c) t d
theorem before_16 (c : Dev nD) (t : Fin cfg0.N) (d) : (dat m T c).before 16 t d = iblk m c 16 t :=
  before0_16_of m (dat m T c) (A_eq m T c 16) (after_16 m T c) t d
theorem before_17 (c : Dev nD) (t : Fin cfg0.N) (d) : (dat m T c).before 17 t d = iblk m c 17 t :=
  before0_17_of m (dat m T c) (A_eq m T c 17) (after_17 m T c) t d
theorem before_18 (c : Dev nD) (t : Fin cfg0.N) (d) : (dat m T c).before 18 t d = iblk m c 18 t :=
  before0_18_of m (dat m T c) (A_eq m T c 18) (after_18 m T c) t d
theorem before_19 (c : Dev nD) (t : Fin cfg0.N) (d) : (dat m T c).before 19 t d = iblk m c 19 t :=
  before0_19_of m (dat m T c) (A_eq m T c 19) (after_19 m T c) t d
theorem before_20 (c : Dev nD) (t : Fin cfg0.N) (d) : (dat m T c).before 20 t d = iblk m c 20 t :=
  before0_20_of m (dat m T c) (A_eq m T c 20) (after_20 m T c) t d
theorem before_21 (c : Dev nD) (t : Fin cfg0.N) (d) : (dat m T c).before 21 t d = iblk m c 21 t :=
  before0_21_of m (dat m T c) (A_eq m T c 21) (after_21 m T c) t d
theorem before_22 (c : Dev nD) (t : Fin cfg0.N) (d) : (dat m T c).before 22 t d = iblk m c 22 t :=
  before0_22_of m (dat m T c) (A_eq m T c 22) (after_22 m T c) t d
theorem before_23 (c : Dev nD) (t : Fin cfg0.N) (d) : (dat m T c).before 23 t d = iblk m c 23 t :=
  before0_23_of m (dat m T c) (A_eq m T c 23) (after_23 m T c) t d
theorem before_24 (c : Dev nD) (t : Fin cfg0.N) (d) : (dat m T c).before 24 t d = iblk m c 24 t :=
  before0_24_of m (dat m T c) (A_eq m T c 24) (after_24 m T c) t d

end Cert.MixRun

end
-- ==== Proof.MixSound.lean ====
module

public import proofs.«01_k».proof.Proof.Gen.MixIdeal.Frame
public import proofs.«01_k».proof.Proof.Gen.MixIdeal.Loops
public import Idealize.ShloMosaic.Lib.Exec
public import proofs.«01_k».proof.Proof.MixPoint

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (T : (c : Dev nD) → Track m c)

/-- What the body is called with at a grid point: an input's buffer as the data say, an output's at what may be found. -/
def pointPre (c : Dev nD) (t : Fin cfg0.N) : sProp 𝕄 :=
  iprop((dat m T c).Φ t.castSucc ∗ (dat m T c).owesAt () t.castSucc
    ∗ (∃ d, owns (c : Thread nD τ) (win0_0.stage (cfg0.slots t 0)) fullShare ((dat m T c).before 0 t d))
    ∗ (∃ d, owns (c : Thread nD τ) (win0_1.stage (cfg0.slots t 1)) fullShare ((dat m T c).before 1 t d))
    ∗ (∃ d, owns (c : Thread nD τ) (win0_2.stage (cfg0.slots t 2)) fullShare ((dat m T c).before 2 t d))
    ∗ (∃ d, owns (c : Thread nD τ) (win0_3.stage (cfg0.slots t 3)) fullShare ((dat m T c).before 3 t d))
    ∗ (∃ d, owns (c : Thread nD τ) (win0_4.stage (cfg0.slots t 4)) fullShare ((dat m T c).before 4 t d))
    ∗ (∃ d, owns (c : Thread nD τ) (win0_5.stage (cfg0.slots t 5)) fullShare ((dat m T c).before 5 t d))
    ∗ (∃ d, owns (c : Thread nD τ) (win0_6.stage (cfg0.slots t 6)) fullShare ((dat m T c).before 6 t d))
    ∗ (∃ d, owns (c : Thread nD τ) (win0_7.stage (cfg0.slots t 7)) fullShare ((dat m T c).before 7 t d))
    ∗ (∃ d, owns (c : Thread nD τ) (win0_8.stage (cfg0.slots t 8)) fullShare ((dat m T c).before 8 t d))
    ∗ (∃ d, owns (c : Thread nD τ) (win0_9.stage (cfg0.slots t 9)) fullShare ((dat m T c).before 9 t d))
    ∗ (∃ d, owns (c : Thread nD τ) (win0_10.stage (cfg0.slots t 10)) fullShare ((dat m T c).before 10 t d))
    ∗ (∃ d, owns (c : Thread nD τ) (win0_11.stage (cfg0.slots t 11)) fullShare ((dat m T c).before 11 t d))
    ∗ (∃ d, owns (c : Thread nD τ) (win0_12.stage (cfg0.slots t 12)) fullShare ((dat m T c).before 12 t d))
    ∗ (∃ d, owns (c : Thread nD τ) (win0_13.stage (cfg0.slots t 13)) fullShare ((dat m T c).before 13 t d))
    ∗ (∃ d, owns (c : Thread nD τ) (win0_14.stage (cfg0.slots t 14)) fullShare ((dat m T c).before 14 t d))
    ∗ (∃ d, owns (c : Thread nD τ) (win0_15.stage (cfg0.slots t 15)) fullShare ((dat m T c).before 15 t d))
    ∗ (∃ d, owns (c : Thread nD τ) (win0_16.stage (cfg0.slots t 16)) fullShare ((dat m T c).before 16 t d))
    ∗ (∃ d, owns (c : Thread nD τ) (win0_17.stage (cfg0.slots t 17)) fullShare ((dat m T c).before 17 t d))
    ∗ (∃ d, owns (c : Thread nD τ) (win0_18.stage (cfg0.slots t 18)) fullShare ((dat m T c).before 18 t d))
    ∗ (∃ d, owns (c : Thread nD τ) (win0_19.stage (cfg0.slots t 19)) fullShare ((dat m T c).before 19 t d))
    ∗ (∃ d, owns (c : Thread nD τ) (win0_20.stage (cfg0.slots t 20)) fullShare ((dat m T c).before 20 t d))
    ∗ (∃ d, owns (c : Thread nD τ) (win0_21.stage (cfg0.slots t 21)) fullShare ((dat m T c).before 21 t d))
    ∗ (∃ d, owns (c : Thread nD τ) (win0_22.stage (cfg0.slots t 22)) fullShare ((dat m T c).before 22 t d))
    ∗ (∃ d, owns (c : Thread nD τ) (win0_23.stage (cfg0.slots t 23)) fullShare ((dat m T c).before 23 t d))
    ∗ (∃ d, owns (c : Thread nD τ) (win0_24.stage (cfg0.slots t 24)) fullShare ((dat m T c).before 24 t d))
    ∗ (∃ Y, ⌜(rdat m T c).Finds 25 t Y⌝ ∗ owns (c : Thread nD τ) (win0_25.stage (cfg0.slots t 25)) fullShare Y)
    ∗ (∃ Y, ⌜(rdat m T c).Finds 26 t Y⌝ ∗ owns (c : Thread nD τ) (win0_26.stage (cfg0.slots t 26)) fullShare Y)
    ∗ (∃ Y, ⌜(rdat m T c).Finds 27 t Y⌝ ∗ owns (c : Thread nD τ) (win0_27.stage (cfg0.slots t 27)) fullShare Y)
    ∗ (∃ Y, ⌜(rdat m T c).Finds 28 t Y⌝ ∗ owns (c : Thread nD τ) (win0_28.stage (cfg0.slots t 28)) fullShare Y)
    ∗ (∃ Y, ⌜(rdat m T c).Finds 29 t Y⌝ ∗ owns (c : Thread nD τ) (win0_29.stage (cfg0.slots t 29)) fullShare Y))

/-- What it returns: an input's buffer at its block, an output's at what is followed. -/
def pointPost (c : Dev nD) (t : Fin cfg0.N) : sProp 𝕄 :=
  iprop((dat m T c).Φ t.succ ∗ (dat m T c).owesAt () t.succ
    ∗ owns (c : Thread nD τ) (win0_0.stage (cfg0.slots t 0)) fullShare ((dat m T c).after 0 t)
    ∗ owns (c : Thread nD τ) (win0_1.stage (cfg0.slots t 1)) fullShare ((dat m T c).after 1 t)
    ∗ owns (c : Thread nD τ) (win0_2.stage (cfg0.slots t 2)) fullShare ((dat m T c).after 2 t)
    ∗ owns (c : Thread nD τ) (win0_3.stage (cfg0.slots t 3)) fullShare ((dat m T c).after 3 t)
    ∗ owns (c : Thread nD τ) (win0_4.stage (cfg0.slots t 4)) fullShare ((dat m T c).after 4 t)
    ∗ owns (c : Thread nD τ) (win0_5.stage (cfg0.slots t 5)) fullShare ((dat m T c).after 5 t)
    ∗ owns (c : Thread nD τ) (win0_6.stage (cfg0.slots t 6)) fullShare ((dat m T c).after 6 t)
    ∗ owns (c : Thread nD τ) (win0_7.stage (cfg0.slots t 7)) fullShare ((dat m T c).after 7 t)
    ∗ owns (c : Thread nD τ) (win0_8.stage (cfg0.slots t 8)) fullShare ((dat m T c).after 8 t)
    ∗ owns (c : Thread nD τ) (win0_9.stage (cfg0.slots t 9)) fullShare ((dat m T c).after 9 t)
    ∗ owns (c : Thread nD τ) (win0_10.stage (cfg0.slots t 10)) fullShare ((dat m T c).after 10 t)
    ∗ owns (c : Thread nD τ) (win0_11.stage (cfg0.slots t 11)) fullShare ((dat m T c).after 11 t)
    ∗ owns (c : Thread nD τ) (win0_12.stage (cfg0.slots t 12)) fullShare ((dat m T c).after 12 t)
    ∗ owns (c : Thread nD τ) (win0_13.stage (cfg0.slots t 13)) fullShare ((dat m T c).after 13 t)
    ∗ owns (c : Thread nD τ) (win0_14.stage (cfg0.slots t 14)) fullShare ((dat m T c).after 14 t)
    ∗ owns (c : Thread nD τ) (win0_15.stage (cfg0.slots t 15)) fullShare ((dat m T c).after 15 t)
    ∗ owns (c : Thread nD τ) (win0_16.stage (cfg0.slots t 16)) fullShare ((dat m T c).after 16 t)
    ∗ owns (c : Thread nD τ) (win0_17.stage (cfg0.slots t 17)) fullShare ((dat m T c).after 17 t)
    ∗ owns (c : Thread nD τ) (win0_18.stage (cfg0.slots t 18)) fullShare ((dat m T c).after 18 t)
    ∗ owns (c : Thread nD τ) (win0_19.stage (cfg0.slots t 19)) fullShare ((dat m T c).after 19 t)
    ∗ owns (c : Thread nD τ) (win0_20.stage (cfg0.slots t 20)) fullShare ((dat m T c).after 20 t)
    ∗ owns (c : Thread nD τ) (win0_21.stage (cfg0.slots t 21)) fullShare ((dat m T c).after 21 t)
    ∗ owns (c : Thread nD τ) (win0_22.stage (cfg0.slots t 22)) fullShare ((dat m T c).after 22 t)
    ∗ owns (c : Thread nD τ) (win0_23.stage (cfg0.slots t 23)) fullShare ((dat m T c).after 23 t)
    ∗ owns (c : Thread nD τ) (win0_24.stage (cfg0.slots t 24)) fullShare ((dat m T c).after 24 t)
    ∗ (∃ X, ⌜(T c).l26 t X⌝ ∗ owns (c : Thread nD τ) (win0_25.stage (cfg0.slots t 25)) fullShare X)
    ∗ (∃ X, ⌜(T c).l27 t X⌝ ∗ owns (c : Thread nD τ) (win0_26.stage (cfg0.slots t 26)) fullShare X)
    ∗ (∃ X, ⌜(T c).l28 t X⌝ ∗ owns (c : Thread nD τ) (win0_27.stage (cfg0.slots t 27)) fullShare X)
    ∗ (∃ X, ⌜(T c).l29 t X⌝ ∗ owns (c : Thread nD τ) (win0_28.stage (cfg0.slots t 28)) fullShare X)
    ∗ (∃ X, ⌜(T c).l30 t X⌝ ∗ owns (c : Thread nD τ) (win0_29.stage (cfg0.slots t 29)) fullShare X))

/-- What an output window that is neither fetched nor written back before the last point may hold at a point: what the point
    before left. -/
theorem found (c : Dev nD) (w : Fin cfg0.W) (hw : fgt w = true) (hf : ∀ t, (cfg0.win w).fetch t = false)
    (hl : ∀ t, (cfg0.win w).flush t = true ↔ t.val % 64 = 63) (t : Fin cfg0.N) (Y) (h : (rdat m T c).Finds w t Y)
    (t' : Fin cfg0.N) (ht : t'.val + 1 = t.val) : leftAt m T c w t' Y := by
  have hN : t.val < 64 := Nat.lt_of_lt_of_eq t.isLt N_0
  have e : (⟨t.val - 1, Nat.lt_of_le_of_lt (Nat.sub_le _ _) t.isLt⟩ : Fin cfg0.N) = t' := Fin.ext (by simp only; omega)
  rcases ((rdat m T c).finds_of_pos (hf t) (by omega) Y).mp h with h | h
  · rw [e] at h
    have := (hl t').mp h
    omega
  · rw [e] at h
    exact (dat m T c).toRRel_leaves hw h

/-- The inputs' buffers at a grid point, one by one. -/
theorem insOwn_point (c : Dev nD) (t : Fin cfg0.N) : (insOwn c (mems t) (ins m c t) : sProp 𝕄) = iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (iblk m c 9 t)
    ∗ owns (c : Thread nD τ) (win0_10.stage (cfg0.slots t 10)) fullShare (iblk m c 10 t)
    ∗ owns (c : Thread nD τ) (win0_11.stage (cfg0.slots t 11)) fullShare (iblk m c 11 t)
    ∗ owns (c : Thread nD τ) (win0_12.stage (cfg0.slots t 12)) fullShare (iblk m c 12 t)
    ∗ owns (c : Thread nD τ) (win0_13.stage (cfg0.slots t 13)) fullShare (iblk m c 13 t)
    ∗ owns (c : Thread nD τ) (win0_14.stage (cfg0.slots t 14)) fullShare (iblk m c 14 t)
    ∗ owns (c : Thread nD τ) (win0_15.stage (cfg0.slots t 15)) fullShare (iblk m c 15 t)
    ∗ owns (c : Thread nD τ) (win0_16.stage (cfg0.slots t 16)) fullShare (iblk m c 16 t)
    ∗ owns (c : Thread nD τ) (win0_17.stage (cfg0.slots t 17)) fullShare (iblk m c 17 t)
    ∗ owns (c : Thread nD τ) (win0_18.stage (cfg0.slots t 18)) fullShare (iblk m c 18 t)
    ∗ owns (c : Thread nD τ) (win0_19.stage (cfg0.slots t 19)) fullShare (iblk m c 19 t)
    ∗ owns (c : Thread nD τ) (win0_20.stage (cfg0.slots t 20)) fullShare (iblk m c 20 t)
    ∗ owns (c : Thread nD τ) (win0_21.stage (cfg0.slots t 21)) fullShare (iblk m c 21 t)
    ∗ owns (c : Thread nD τ) (win0_22.stage (cfg0.slots t 22)) fullShare (iblk m c 22 t)
    ∗ owns (c : Thread nD τ) (win0_23.stage (cfg0.slots t 23)) fullShare (iblk m c 23 t)
    ∗ owns (c : Thread nD τ) (win0_24.stage (cfg0.slots t 24)) fullShare (iblk m c 24 t)) := by
  unfold insOwn; dsimp only [mems, ins]

/-- The outputs' buffers at a grid point, one by one. -/
theorem outsOwn_point (c : Dev nD) (t : Fin cfg0.N) (Y : Outs F) : (outsOwn c (mems t) Y : sProp 𝕄) = iprop(owns (c : Thread nD τ) (win0_25.stage (cfg0.slots t 25)) fullShare Y.y26
    ∗ owns (c : Thread nD τ) (win0_26.stage (cfg0.slots t 26)) fullShare Y.y27
    ∗ owns (c : Thread nD τ) (win0_27.stage (cfg0.slots t 27)) fullShare Y.y28
    ∗ owns (c : Thread nD τ) (win0_28.stage (cfg0.slots t 28)) fullShare Y.y29
    ∗ owns (c : Thread nD τ) (win0_29.stage (cfg0.slots t 29)) fullShare Y.y30) := by
  unfold outsOwn; dsimp only [mems]

set_option maxHeartbeats 0 in
/-- The body at any grid point keeps what is followed. -/
theorem sound_point (c : Dev nD) (t : Fin cfg0.N) :
    pointPre m T c t ⊢ wp frame (wpE (defs₀ (F := F)) Variants.none c none) Set.univ (bodyAt0 t) (fun _ => pointPost m T c t) := by
  unfold pointPre pointPost
  simp only [before_0, before_1, before_2, before_3, before_4, before_5, before_6, before_7, before_8, before_9, before_10, before_11, before_12, before_13, before_14, before_15, before_16, before_17, before_18, before_19, before_20, before_21, before_22, before_23, before_24, after_0, after_1, after_2, after_3, after_4, after_5, after_6, after_7, after_8, after_9, after_10, after_11, after_12, after_13, after_14, after_15, after_16, after_17, after_18, after_19, after_20, after_21, after_22, after_23, after_24]
  rw [show (dat m T c).owesAt () t.succ = (dat m T c).owesAt () t.castSucc from rfl,
    show (dat m T c).Φ t.castSucc = iprop((∃ Z, ⌜(T c).inv t.val Z⌝ ∗ scrOwn c (mems t) Z) ∗ (∃ r, prngReg c r)) from rfl,
    show (dat m T c).Φ t.succ = iprop((∃ Z, ⌜(T c).inv (t.val + 1) Z⌝ ∗ scrOwn c (mems t) Z) ∗ (∃ r, prngReg c r)) from rfl]
  iintro ⟨⟨⟨%Z, %hZ, HZ⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%Y25, %hY25, H25⟩, ⟨%Y26, %hY26, H26⟩, ⟨%Y27, %hY27, H27⟩, ⟨%Y28, %hY28, H28⟩, ⟨%Y29, %hY29, H29⟩⟩
  iapply (wp_wand_r frame (wpE (defs₀ (F := F)) Variants.none c none) Set.univ (Q := fun _ => iprop(∃ Y' Z', ⌜Step m c t ⟨Y25, Y26, Y27, Y28, Y29⟩ Z Y' Z'⌝ ∗ insOwn c (mems t) (ins m c t) ∗ outsOwn c (mems t) Y' ∗ scrOwn c (mems t) Z')))
  isplitl [HZ H0 H1 H2 H3 H4 H5 H6 H7 H8 H9 H10 H11 H12 H13 H14 H15 H16 H17 H18 H19 H20 H21 H22 H23 H24 H25 H26 H27 H28 H29]
  · iapply (body_point m c t ⟨Y25, Y26, Y27, Y28, Y29⟩ Z)
    rw [insOwn_point, outsOwn_point]
    isplitl [H0 H1 H2 H3 H4 H5 H6 H7 H8 H9 H10 H11 H12 H13 H14 H15 H16 H17 H18 H19 H20 H21 H22 H23 H24]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      iexact H24
    isplitl [H25 H26 H27 H28 H29]
    · isplitl [H25]; · iexact H25
      isplitl [H26]; · iexact H26
      isplitl [H27]; · iexact H27
      isplitl [H28]; · iexact H28
      iexact H29
    iexact HZ
  simp only [insOwn_point, outsOwn_point]
  iintro %_ ⟨%Y', %Z', %h, HI, HO, HS⟩
  have hk := (T c).keep t ⟨Y25, Y26, Y27, Y28, Y29⟩ Z Y' Z' hZ (fun t' ht => ⟨found m T c 26 rfl (fun _ => rfl) flush0_26 t Y26 hY26 t' ht,
    found m T c 28 rfl (fun _ => rfl) flush0_28 t Y28 hY28 t' ht, found m T c 29 rfl (fun _ => rfl) flush0_29 t Y29 hY29 t' ht⟩) h

  icases HI with ⟨H0, H1, H2, H3, H4, H5, H6, H7, H8, H9, H10, H11, H12, H13, H14, H15, H16, H17, H18, H19, H20, H21, H22, H23, H24⟩
  icases HO with ⟨H25, H26, H27, H28, H29⟩
  isplitl [HS Hg]
  · isplitl [HS]
    · iexists Z'; isplitr; · ipureintro; exact hk.1
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]
  · iexists _; isplitr; · ipureintro; exact hk.2.1
    iexact H25
  isplitl [H26]
  · iexists _; isplitr; · ipureintro; exact hk.2.2.1
    iexact H26
  isplitl [H27]
  · iexists _; isplitr; · ipureintro; exact hk.2.2.2.1
    iexact H27
  isplitl [H28]
  · iexists _; isplitr; · ipureintro; exact hk.2.2.2.2.1
    iexact H28
  iexists _; isplitr; · ipureintro; exact hk.2.2.2.2.2
  iexact H29

/-- The body table's row at a grid point is the body called with the point's buffers. -/
theorem defs₀_row (t : Fin cfg0.N) :
    defs₀ (F := F) .tc cfg0.body (cfg0.bodyArgs t (cfg0.slots t)) = bodyAt0 t := by
  unfold defs₀; rw [Defs.onTc_tc]

set_option maxHeartbeats 0 in
/-- The body obligation, at every grid point. -/
theorem obligation (c : Dev nD) :
    Pipeline.BodyObligationRel (dat m T c) (defs₀ (F := F)) Variants.none () Set.univ fgt (leftAt m T c) := fun t => by
  rw [bigSep_W0, bigSep_W0, defs₀_row]
  exact triple_restated (sound_point m T c t) rfl .rfl fun _ => .rfl

set_option maxHeartbeats 0 in
set_option backward.isDefEq.respectTransparency.types false in
/-- The run: every weakly fair execution terminates, the inputs' arrays are unchanged, the outputs' blocks are as followed,
    and every semaphore counter is zero. -/
theorem run_main : θ_run defs (onTc (τ := τ) (main (F := F))) (s₀ m ρ)
    (fun r => Pipeline.RDat.FramePost cfg0 (rdat m T) (V m) r ∧ r.2.sem = fun _ => 0) :=
  Pipeline.RDat.θ_run_frame_track (Q' := _) cfgs (0 : Fin 1) launch0 defs₀ Variants.none (rdat m T) m ρ main
    (hbody := fun c => (obligation m T c).toRRel) (hshare := fun c w => by
      unfold Pipeline.RDat.share; split <;> rfl)
    (howed := fun _ _ => rfl) (V := V m) (hmain := hmain m Variants.none) (hA := A_eq m T) (hin := hin m T) (hout := hout m T)

end Cert.MixRun

end
-- ==== Proof.MixFrame.lean ====
module

public import proofs.«01_k».proof.Proof.Gen.MixIdeal.Frame
public import proofs.«01_k».proof.Proof.Gen.MixIdeal.Loops
public import Idealize.ShloMosaic.Lib.Exec
public import proofs.«01_k».proof.Proof.MixSound
public import Idealize.ShloMosaic.Lib.Claim

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (T : (c : Dev nD) → Track m c)

set_option maxHeartbeats 0 in
/-- The argument arrays end as they were. -/
theorem args_kept {r : PUnit × MemSt nD τ sig (Elt F)} (h : Pipeline.RDat.FramePost cfg0 (rdat m T) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨(Pipeline.RDat.FramePost.arr_in h c 0 rfl).trans ((A_eq m T c 0).trans (V_main_arg0 m c)),
    (Pipeline.RDat.FramePost.arr_in h c 1 rfl).trans ((A_eq m T c 1).trans (V_main_arg1 m c)),
    (Pipeline.RDat.FramePost.arr_in h c 2 rfl).trans ((A_eq m T c 2).trans (V_main_arg2 m c)),
    (Pipeline.RDat.FramePost.arr_in h c 12 rfl).trans ((A_eq m T c 12).trans (V_main_arg3 m c)),
    (Pipeline.RDat.FramePost.arr_in h c 14 rfl).trans ((A_eq m T c 14).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    (Pipeline.RDat.FramePost.arr_in h c 18 rfl).trans ((A_eq m T c 18).trans (V_main_arg8 m c)),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- The run leaves the argument arrays as they were and every semaphore counter at zero: the statement over any float values. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14))
      ∧ r.2.sem = fun _ => 0)

set_option maxHeartbeats 0 in
/-- The frame. -/
theorem frame : FrameAt F := fun m ρ _ =>
  (θ_run defs _ _).mono (fun _ h => ⟨args_kept m (fun c => Track.trivial m c) h.1, h.2⟩) (run_main m ρ fun c => Track.trivial m c)

end Cert.MixRun

end
-- ==== Proof.MixKernel.lean ====
module

public import proofs.«01_k».proof.Defs
public import proofs.«01_k».proof.Proof.Gen.Mix
public import proofs.«01_k».proof.Proof.MixFrame

@[expose] public section

set_option maxRecDepth 16384

noncomputable section

namespace Cert.MixRun

open Idealize.ShloMosaic Idealize.ShloMosaic.TcCoe Idealize.SL.Sem

/-- The frame of the idealized program. -/
theorem frame_ideal : Cert.quiescent_MixIdeal := frame (F := Ideal)

/-- The frame of the program over bits: it has the same text, so its statement is the one proved over any float values. -/
theorem frame_kernel : Cert.quiescent_Mix :=
  (show FrameAt Bits = Cert.quiescent_Mix by sl_kernel_rfl).mp (frame (F := Bits))

end Cert.MixRun

end
-- ==== Proof.MixStore.lean ====
module

public import proofs.«01_k».proof.Proof.MixPoint
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.MixRun

open Cert.MixIdeal Cert.MixIdeal.Gen
open Idealize.ShloMosaic Idealize.ShloMosaic.TcCoe Idealize.ShloMosaic.Tactic Idealize.SL.Sem

variable {F : FTy → Type} [FloatOps F]

variable {κ : Kind} {sp : Space} {e : EltTy}

theorem cols_hit (v : View sig κ sp S128x5120 e) (f : v.ty.Contents (Elt F)) {o : ℕ} (inb : ∀ k, (![0, o] : Fin 2 → ℕ) k + S128x1024.size k ≤ S128x5120.size k)
    (w : S128x1024.Idx → Elt F e) (L : List (View.Piece (Elt F) S128x5120 e)) (a : Fin 128) (j : Fin 5120) (b : Fin 1024) (h : j.val = o + b.val) :
    v.read (Elt F) (v.writes (Elt F) f (⟨Rect.unit ![0, o] S128x1024.size inb, w⟩ :: L)) (ix2 a j) = w (ix2 a b) :=
  View.read_writes_cons_unit_of_mem v f inb w L (ix2 a j) (ix2 a b) rfl fun k => by
    match k with
    | ⟨0, _⟩ => exact (Nat.zero_add _).symm
    | ⟨1, _⟩ => exact h

theorem cols_miss (v : View sig κ sp S128x5120 e) (f : v.ty.Contents (Elt F)) {o : ℕ} (inb : ∀ k, (![0, o] : Fin 2 → ℕ) k + S128x1024.size k ≤ S128x5120.size k)
    (w : S128x1024.Idx → Elt F e) (L : List (View.Piece (Elt F) S128x5120 e)) (a : Fin 128) (j : Fin 5120) (h : j.val < o ∨ o + 1024 ≤ j.val) :
    v.read (Elt F) (v.writes (Elt F) f (⟨Rect.unit ![0, o] S128x1024.size inb, w⟩ :: L)) (ix2 a j) = v.read (Elt F) (v.writes (Elt F) f L) (ix2 a j) :=
  View.read_writes_cons_unit_of_not_mem v f inb w L (ix2 a j) rfl 1 h

theorem rows_hit (v : View sig κ sp S16x1024 e) (f : v.ty.Contents (Elt F)) {o : ℕ} (inb : ∀ k, (![o, 0] : Fin 2 → ℕ) k + S1x1024.size k ≤ S16x1024.size k)
    (w : S1x1024.Idx → Elt F e) (L : List (View.Piece (Elt F) S16x1024 e)) (a : Fin 16) (b : Fin 1024) (h : a.val = o) :
    v.read (Elt F) (v.writes (Elt F) f (⟨Rect.unit ![o, 0] S1x1024.size inb, w⟩ :: L)) (ix2 a b) = w (ix2 0 b) :=
  View.read_writes_cons_unit_of_mem v f inb w L (ix2 a b) (ix2 0 b) rfl fun k => by
    match k with
    | ⟨0, _⟩ => exact h
    | ⟨1, _⟩ => exact (Nat.zero_add _).symm

theorem rows_miss (v : View sig κ sp S16x1024 e) (f : v.ty.Contents (Elt F)) {o : ℕ} (inb : ∀ k, (![o, 0] : Fin 2 → ℕ) k + S1x1024.size k ≤ S16x1024.size k)
    (w : S1x1024.Idx → Elt F e) (L : List (View.Piece (Elt F) S16x1024 e)) (a : Fin 16) (b : Fin 1024) (h : a.val < o ∨ o + 1 ≤ a.val) :
    v.read (Elt F) (v.writes (Elt F) f (⟨Rect.unit ![o, 0] S1x1024.size inb, w⟩ :: L)) (ix2 a b) = v.read (Elt F) (v.writes (Elt F) f L) (ix2 a b) :=
  View.read_writes_cons_unit_of_not_mem v f inb w L (ix2 a b) rfl 0 h

theorem whole_hit (v : View sig κ sp S16x1024 e) (f : v.ty.Contents (Elt F)) (inb : ∀ k, (![0, 0] : Fin 2 → ℕ) k + S16x1024.size k ≤ S16x1024.size k)
    (w : S16x1024.Idx → Elt F e) (L : List (View.Piece (Elt F) S16x1024 e)) (j : S16x1024.Idx) :
    v.read (Elt F) (v.writes (Elt F) f (⟨Rect.unit ![0, 0] S16x1024.size inb, w⟩ :: L)) j = w j :=
  View.read_writes_cons_unit_of_mem v f inb w L j j rfl fun k => by
    match k with
    | ⟨0, _⟩ => exact (Nat.zero_add _).symm
    | ⟨1, _⟩ => exact (Nat.zero_add _).symm

theorem rows_miss' (v : View sig κ sp S16x1024 e) (f : v.ty.Contents (Elt F)) {o : ℕ} (inb : ∀ k, (![o, 0] : Fin 2 → ℕ) k + S1x1024.size k ≤ S16x1024.size k)
    (w : S1x1024.Idx → Elt F e) (L : List (View.Piece (Elt F) S16x1024 e)) (j : S16x1024.Idx) (h : (j 0).val < o ∨ o + 1 ≤ (j 0).val) :
    v.read (Elt F) (v.writes (Elt F) f (⟨Rect.unit ![o, 0] S1x1024.size inb, w⟩ :: L)) j = v.read (Elt F) (v.writes (Elt F) f L) j :=
  View.read_writes_cons_unit_of_not_mem v f inb w L j rfl 0 h

/-- Five blocks of columns, stored one after the other: what is then read in the third and in the last. -/
theorem read_cols (v : View sig κ sp S128x5120 e) (f : v.ty.Contents (Elt F)) (p0 p1 p2 p3 p4 : S128x1024.Idx → Elt F e) (i0 i1 i2 i3 i4)
    (a : Fin 128) (b : Fin 1024) :
    v.read (Elt F) (v.writes (Elt F) f [⟨Rect.unit ![0, 3072] S128x1024.size i3, p3⟩, ⟨Rect.unit ![0, 4096] S128x1024.size i4, p4⟩,
        ⟨Rect.unit ![0, 1024] S128x1024.size i1, p1⟩, ⟨Rect.unit ![0, 0] S128x1024.size i0, p0⟩,
        ⟨Rect.unit ![0, 2048] S128x1024.size i2, p2⟩]) (ix2 a ⟨2048 + b.val, by omega⟩) = p2 (ix2 a b)
    ∧ v.read (Elt F) (v.writes (Elt F) f [⟨Rect.unit ![0, 3072] S128x1024.size i3, p3⟩, ⟨Rect.unit ![0, 4096] S128x1024.size i4, p4⟩,
        ⟨Rect.unit ![0, 1024] S128x1024.size i1, p1⟩, ⟨Rect.unit ![0, 0] S128x1024.size i0, p0⟩,
        ⟨Rect.unit ![0, 2048] S128x1024.size i2, p2⟩]) (ix2 a ⟨4096 + b.val, by omega⟩) = p4 (ix2 a b) := by
  constructor
  · rw [cols_miss _ _ _ _ _ _ _ (.inl (by show 2048 + b.val < 3072; omega)), cols_miss _ _ _ _ _ _ _ (.inl (by show 2048 + b.val < 4096; omega)),
      cols_miss _ _ _ _ _ _ _ (.inr (by show 1024 + 1024 ≤ 2048 + b.val; omega)), cols_miss _ _ _ _ _ _ _ (.inr (by show 0 + 1024 ≤ 2048 + b.val; omega)),
      cols_hit _ _ _ _ _ _ _ b rfl]
  · rw [cols_miss _ _ _ _ _ _ _ (.inr (by show 3072 + 1024 ≤ 4096 + b.val; omega)), cols_hit _ _ _ _ _ _ _ b rfl]

/-- What the body loads from a block of columns of its block of `u`, and of its block of `dy`. -/
def uCol2 (X : Ins F) : Vec F S128x1024 .f32 := View.ld X.x1 (Rect.unit ![0, 2048] S128x1024.size inb_S128x5120_S128x1024_0_2048)
def uCol4 (X : Ins F) : Vec F S128x1024 .f32 := View.ld X.x1 (Rect.unit ![0, 4096] S128x1024.size inb_S128x5120_S128x1024_0_4096)
def dyCol0 (X : Ins F) : Vec F S128x1024 .f32 := View.ld X.x13 (Rect.unit ![0, 0] S128x1024.size inb_S128x2048_S128x1024_0_0)
def dyCol1 (X : Ins F) : Vec F S128x1024 .f32 := View.ld X.x13 (Rect.unit ![0, 1024] S128x1024.size inb_S128x2048_S128x1024_0_1024)

/-- The cotangent of `zc`, as the body stores it. -/
def dzc (X : Ins F) : Vec F S128x1024 .bf16 :=
  k0_pay227 (uCol2 X) (dyCol0 X) (k0_pay218 X.x17) (k0_pay219 X.x18) (k0_pay220 X.x2) (k0_pay222 X.x2) X.x10 X.x11

/-- The cotangent of `zl`, as the body stores it. -/
def dzl (X : Ins F) : Vec F S128x1024 .bf16 :=
  k0_pay261 (k0_pay258 X.x12) (k0_pay259 (dyCol1 X) X.x3) (k0_pay260 (uCol4 X) X.x12)

/-- What the body adds to the row of the norm's scale, over a row `R`. -/
def addLng (X : Ins F) (R : Vec F S1x1024 .f32) : Vec F S1x1024 .f32 :=
  k0_pay229 (uCol2 X) (dyCol0 X) (k0_pay218 X.x17) (k0_pay219 X.x18) (k0_pay220 X.x2) (k0_pay222 X.x2) X.x10 X.x11 R

/-- What the body adds to the row of the norm's offset, over a row `R`. -/
def addLnb (X : Ins F) (R : Vec F S1x1024 .f32) : Vec F S1x1024 .f32 :=
  k0_pay232 (k0_pay230 (uCol2 X) (dyCol0 X) (k0_pay218 X.x17) (k0_pay219 X.x18) (k0_pay220 X.x2) (k0_pay222 X.x2) X.x10 X.x11) (k0_pay231 R)

/-- What the body adds to the row of the convolution's bias, over a row `R`. -/
def addB (X : Ins F) (R : Vec F S1x1024 .f32) : Vec F S1x1024 .f32 :=
  k0_pay234 (k0_pay218 X.x17) (k0_pay221 X.x2) (k0_pay223 (k0_pay220 X.x2) (k0_pay222 X.x2))
    (k0_pay228 (uCol2 X) (dyCol0 X) (k0_pay218 X.x17) (k0_pay219 X.x18) (k0_pay220 X.x2) (k0_pay222 X.x2) X.x10 X.x11) R

/-- A row of the buffer that holds the parameters' gradients. -/
def pgRow0 (y : Vec F S16x1024 .f32) : Vec F S1x1024 .f32 := View.ld y (Rect.unit ![0, 0] S1x1024.size inb_S16x1024_S1x1024_0_0)
def pgRow1 (y : Vec F S16x1024 .f32) : Vec F S1x1024 .f32 := View.ld y (Rect.unit ![1, 0] S1x1024.size inb_S16x1024_S1x1024_1_0)
def pgRow2 (y : Vec F S16x1024 .f32) : Vec F S1x1024 .f32 := View.ld y (Rect.unit ![2, 0] S1x1024.size inb_S16x1024_S1x1024_2_0)

set_option maxHeartbeats 0 in
theorem duA (c : Dev nD) (i : grid0.Coords) (M : Mems) (h0 : condFirst i) (h1 : ¬condLast i) (X : Ins F) (Y : Outs F) (Z : Scr F)
    (Y' : Outs F) (Z' : Scr F) (h : StepA c i M h0 h1 X Y Z Y' Z') (a : Fin 128) (b : Fin 1024) :
    Y'.y26 (ix2 a ⟨2048 + b.val, by omega⟩) = dzc X (ix2 a b) ∧ Y'.y26 (ix2 a ⟨4096 + b.val, by omega⟩) = dzl X (ix2 a b) := by
  have hd := h.1
  clear h
  conv at hd =>
    arg 2
    whnf
  obtain ⟨f, hf⟩ := hd
  clear h0 h1
  rw [hf]
  clear hf
  refine ⟨(read_cols (F := F) M.arg26.view f _ _ _ _ _ _ _ _ _ _ a b).1.trans (congrFun ?_ _), (read_cols (F := F) M.arg26.view f _ _ _ _ _ _ _ _ _ _ a b).2.trans (congrFun ?_ _)⟩
  · simp only [runA.sl.r, runA.sl.r_1, runA.sl.r_2, runA.sl.r_3, runA.sl.r_4, runA.sl.r_5, runA.sl.r_6, runA.sl.r_7, runA.sl.r_8, runA.sl.r_9, runA.sl.r_17, runA.sl.r_18, runA.sl.r_19, runA.sl.r_28, runA.sl.r_29, runA.sl.r_30, View.readAt_eq_ld, Memref.IsWhole.read_unread]
    simp (disch := decide) only [View.ld_unit_lit]
    rfl
  · simp only [runA.sl.r, runA.sl.r_1, runA.sl.r_2, runA.sl.r_3, runA.sl.r_4, runA.sl.r_5, runA.sl.r_6, runA.sl.r_7, runA.sl.r_8, runA.sl.r_9, runA.sl.r_17, runA.sl.r_18, runA.sl.r_19, runA.sl.r_28, runA.sl.r_29, runA.sl.r_30, View.readAt_eq_ld, Memref.IsWhole.read_unread]
    simp (disch := decide) only [View.ld_unit_lit]
    rfl

set_option maxHeartbeats 0 in
theorem duB (c : Dev nD) (i : grid0.Coords) (M : Mems) (h0 : ¬condFirst i) (h1 : ¬condLast i) (X : Ins F) (Y : Outs F) (Z : Scr F)
    (Y' : Outs F) (Z' : Scr F) (h : StepB c i M h0 h1 X Y Z Y' Z') (a : Fin 128) (b : Fin 1024) :
    Y'.y26 (ix2 a ⟨2048 + b.val, by omega⟩) = dzc X (ix2 a b) ∧ Y'.y26 (ix2 a ⟨4096 + b.val, by omega⟩) = dzl X (ix2 a b) := by
  have hd := h.1
  clear h
  conv at hd =>
    arg 2
    whnf
  obtain ⟨f, hf⟩ := hd
  clear h0 h1
  rw [hf]
  clear hf
  refine ⟨(read_cols (F := F) M.arg26.view f _ _ _ _ _ _ _ _ _ _ a b).1.trans (congrFun ?_ _), (read_cols (F := F) M.arg26.view f _ _ _ _ _ _ _ _ _ _ a b).2.trans (congrFun ?_ _)⟩
  · simp only [runB.sl.r, runB.sl.r_1, runB.sl.r_2, runB.sl.r_3, runB.sl.r_4, runB.sl.r_5, runB.sl.r_6, runB.sl.r_7, runB.sl.r_8, runB.sl.r_9, runB.sl.r_17, runB.sl.r_18, runB.sl.r_19, runB.sl.r_28, runB.sl.r_29, runB.sl.r_30, View.readAt_eq_ld, Memref.IsWhole.read_unread]
    simp (disch := decide) only [View.ld_unit_lit]
    rfl
  · simp only [runB.sl.r, runB.sl.r_1, runB.sl.r_2, runB.sl.r_3, runB.sl.r_4, runB.sl.r_5, runB.sl.r_6, runB.sl.r_7, runB.sl.r_8, runB.sl.r_9, runB.sl.r_17, runB.sl.r_18, runB.sl.r_19, runB.sl.r_28, runB.sl.r_29, runB.sl.r_30, View.readAt_eq_ld, Memref.IsWhole.read_unread]
    simp (disch := decide) only [View.ld_unit_lit]
    rfl

set_option maxHeartbeats 0 in
theorem duC (c : Dev nD) (i : grid0.Coords) (M : Mems) (h0 : ¬condFirst i) (h1 : condLast i) (X : Ins F) (Y : Outs F) (Z : Scr F)
    (Y' : Outs F) (Z' : Scr F) (h : StepC c i M h0 h1 X Y Z Y' Z') (a : Fin 128) (b : Fin 1024) :
    Y'.y26 (ix2 a ⟨2048 + b.val, by omega⟩) = dzc X (ix2 a b) ∧ Y'.y26 (ix2 a ⟨4096 + b.val, by omega⟩) = dzl X (ix2 a b) := by
  have hd := h.1
  clear h
  conv at hd =>
    arg 2
    whnf
  obtain ⟨f, hf⟩ := hd
  clear h0 h1
  rw [hf]
  clear hf
  refine ⟨(read_cols (F := F) M.arg26.view f _ _ _ _ _ _ _ _ _ _ a b).1.trans (congrFun ?_ _), (read_cols (F := F) M.arg26.view f _ _ _ _ _ _ _ _ _ _ a b).2.trans (congrFun ?_ _)⟩
  · simp only [runC.sl.r, runC.sl.r_1, runC.sl.r_2, runC.sl.r_3, runC.sl.r_4, runC.sl.r_5, runC.sl.r_6, runC.sl.r_7, runC.sl.r_8, runC.sl.r_9, runC.sl.r_17, runC.sl.r_18, runC.sl.r_19, runC.sl.r_28, runC.sl.r_29, runC.sl.r_30, View.readAt_eq_ld, Memref.IsWhole.read_unread]
    simp (disch := decide) only [View.ld_unit_lit]
    rfl
  · simp only [runC.sl.r, runC.sl.r_1, runC.sl.r_2, runC.sl.r_3, runC.sl.r_4, runC.sl.r_5, runC.sl.r_6, runC.sl.r_7, runC.sl.r_8, runC.sl.r_9, runC.sl.r_17, runC.sl.r_18, runC.sl.r_19, runC.sl.r_28, runC.sl.r_29, runC.sl.r_30, View.readAt_eq_ld, Memref.IsWhole.read_unread]
    simp (disch := decide) only [View.ld_unit_lit]
    rfl

set_option maxHeartbeats 0 in
theorem pgB (c : Dev nD) (i : grid0.Coords) (M : Mems) (h0 : ¬condFirst i) (h1 : ¬condLast i) (X : Ins F) (Y : Outs F) (Z : Scr F)
    (Y' : Outs F) (Z' : Scr F) (h : StepB c i M h0 h1 X Y Z Y' Z') (b : Fin 1024) :
    Y'.y27 (ix2 1 b) = addLng X (pgRow1 Y.y27) (ix2 0 b) ∧ Y'.y27 (ix2 2 b) = addLnb X (pgRow2 Y.y27) (ix2 0 b)
    ∧ Y'.y27 (ix2 0 b) = addB X (pgRow0 Y.y27) (ix2 0 b) := by
  have hd := h.2.1
  clear h
  conv at hd =>
    rhs
    arg 3
    arg 4
    whnf
  rw [hd]
  clear hd
  refine ⟨?_, ?_, ?_⟩
  · repeat rw [rows_miss _ _ _ _ _ _ _ (by decide)]
    rw [rows_hit (o := 1) _ _ _ _ _ _ _ rfl]
    simp only [runB.sl.r, runB.sl.r_1, runB.sl.r_2, runB.sl.r_3, runB.sl.r_4, runB.sl.r_5, runB.sl.r_6, runB.sl.r_7, runB.sl.r_8, runB.sl.r_9, runB.sl.r_11, runB.sl.r_12, runB.sl.v70, View.readAt_eq_ld, Memref.IsWhole.read_unread]
    simp (disch := decide) only [View.ld_unit_lit]
    rfl
  · repeat rw [rows_miss _ _ _ _ _ _ _ (by decide)]
    rw [rows_hit (o := 2) _ _ _ _ _ _ _ rfl]
    simp only [runB.sl.r, runB.sl.r_1, runB.sl.r_2, runB.sl.r_3, runB.sl.r_4, runB.sl.r_5, runB.sl.r_6, runB.sl.r_7, runB.sl.r_8, runB.sl.r_9, runB.sl.r_11, runB.sl.r_12, runB.sl.v70, View.readAt_eq_ld, Memref.IsWhole.read_unread]
    simp (disch := decide) only [View.ld_unit_lit]
    rfl
  · repeat rw [rows_miss _ _ _ _ _ _ _ (by decide)]
    rw [rows_hit (o := 0) _ _ _ _ _ _ _ rfl]
    simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.v94, View.readAt_eq_ld, Memref.IsWhole.read_unread]
    simp (disch := decide) only [View.ld_unit_lit]
    rfl

set_option maxHeartbeats 0 in
theorem pgC (c : Dev nD) (i : grid0.Coords) (M : Mems) (h0 : ¬condFirst i) (h1 : condLast i) (X : Ins F) (Y : Outs F) (Z : Scr F)
    (Y' : Outs F) (Z' : Scr F) (h : StepC c i M h0 h1 X Y Z Y' Z') (b : Fin 1024) :
    Y'.y27 (ix2 1 b) = addLng X (pgRow1 Y.y27) (ix2 0 b) ∧ Y'.y27 (ix2 2 b) = addLnb X (pgRow2 Y.y27) (ix2 0 b)
    ∧ Y'.y27 (ix2 0 b) = addB X (pgRow0 Y.y27) (ix2 0 b) := by
  have hd := h.2.1
  clear h
  conv at hd =>
    rhs
    arg 3
    arg 4
    whnf
  rw [hd]
  clear hd
  unfold runC.sl.H27_11
  refine ⟨?_, ?_, ?_⟩
  · repeat rw [rows_miss _ _ _ _ _ _ _ (by decide)]
    rw [rows_hit (o := 1) _ _ _ _ _ _ _ rfl]
    simp only [runC.sl.r, runC.sl.r_1, runC.sl.r_2, runC.sl.r_3, runC.sl.r_4, runC.sl.r_5, runC.sl.r_6, runC.sl.r_7, runC.sl.r_8, runC.sl.r_9, runC.sl.r_11, runC.sl.r_12, runC.sl.v70, View.readAt_eq_ld, Memref.IsWhole.read_unread]
    simp (disch := decide) only [View.ld_unit_lit]
    rfl
  · repeat rw [rows_miss _ _ _ _ _ _ _ (by decide)]
    rw [rows_hit (o := 2) _ _ _ _ _ _ _ rfl]
    simp only [runC.sl.r, runC.sl.r_1, runC.sl.r_2, runC.sl.r_3, runC.sl.r_4, runC.sl.r_5, runC.sl.r_6, runC.sl.r_7, runC.sl.r_8, runC.sl.r_9, runC.sl.r_11, runC.sl.r_12, runC.sl.v70, View.readAt_eq_ld, Memref.IsWhole.read_unread]
    simp (disch := decide) only [View.ld_unit_lit]
    rfl
  · repeat rw [rows_miss _ _ _ _ _ _ _ (by decide)]
    rw [rows_hit (o := 0) _ _ _ _ _ _ _ rfl]
    simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.v94, View.readAt_eq_ld, Memref.IsWhole.read_unread]
    simp (disch := decide) only [View.ld_unit_lit]
    rfl

set_option maxHeartbeats 0 in
theorem pgA (c : Dev nD) (i : grid0.Coords) (M : Mems) (h0 : condFirst i) (h1 : ¬condLast i) (X : Ins F) (Y : Outs F) (Z : Scr F)
    (Y' : Outs F) (Z' : Scr F) (h : StepA c i M h0 h1 X Y Z Y' Z') (b : Fin 1024) :
    Y'.y27 (ix2 1 b) = addLng X (pgRow1 k0_pay40) (ix2 0 b) ∧ Y'.y27 (ix2 2 b) = addLnb X (pgRow2 k0_pay40) (ix2 0 b)
    ∧ Y'.y27 (ix2 0 b) = addB X (pgRow0 k0_pay40) (ix2 0 b) := by
  have hd := h.2.1
  clear h
  conv at hd =>
    arg 2
    whnf
  obtain ⟨f, hf⟩ := hd
  rw [hf]
  clear hf
  simp only [runA.sl.H27_11, runA.sl.H27_10, runA.sl.H27_9, runA.sl.H27_8, runA.sl.H27_7, runA.sl.H27_6, runA.sl.H27_5, runA.sl.H27_4, runA.sl.H27_3]
  refine ⟨?_, ?_, ?_⟩
  · repeat rw [rows_miss _ _ _ _ _ _ _ (by decide)]
    unfold runA.sl.H27_2
    rw [rows_hit (o := 1) _ _ _ _ _ _ _ rfl]
    simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, View.readAt_eq_ld, Memref.IsWhole.read_unread]
    simp (disch := decide) only [View.ld_unit_lit]
    refine congrFun (congrArg (addLng X) (funext fun j => ?_)) _
    exact whole_hit _ _ _ _ _ _
  · repeat rw [rows_miss _ _ _ _ _ _ _ (by decide)]
    rw [rows_hit (o := 2) _ _ _ _ _ _ _ rfl]
    simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, View.readAt_eq_ld, Memref.IsWhole.read_unread]
    simp (disch := decide) only [View.ld_unit_lit]
    refine congrFun (congrArg (addLnb X) (funext fun j => ?_)) _
    refine (rows_miss' _ _ _ _ _ _ (.inr ?_)).trans (whole_hit _ _ _ _ _ _)
    have := (j 0).isLt
    show 1 + 1 ≤ 2 + 1 * (j 0).val
    omega
  · repeat rw [rows_miss _ _ _ _ _ _ _ (by decide)]
    rw [rows_hit (o := 0) _ _ _ _ _ _ _ rfl]
    simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, View.readAt_eq_ld, Memref.IsWhole.read_unread]
    simp (disch := decide) only [View.ld_unit_lit]
    refine congrFun (congrArg (addB X) (funext fun j => ?_)) _
    refine (rows_miss' _ _ _ _ _ _ (.inl ?_)).trans ((rows_miss' _ _ _ _ _ _ (.inl ?_)).trans (whole_hit _ _ _ _ _ _))
    all_goals
      have : (j 0).val < 1 := (j 0).isLt
      show 0 + 1 * (j 0).val < _
      omega

end Cert.MixRun

end
-- ==== Proof.RmsBwd.lean ====
module

public import Idealize.ShloMosaic.PureOps.Ideal
public import Idealize.ShloMosaic.PureOps.Ideal.Laws
public import Idealize.ShloMosaic.Lib.IdealHost

@[expose] public section

set_option maxRecDepth 16384

noncomputable section

/-! # The gradient of a root-mean-square normalisation, over the extended reals

The kernels divide by the root mean square and subtract the projection on the normalised row; reverse-mode differentiation
multiplies by the derivative of the inverse root instead. The two agree for every row of extended reals: the sum of squares is
either `⊤`, where the inverse root is zero and both sides vanish, or a real number, where every element of the row is real. -/

namespace Cert.RmsOwn

open Idealize.ShloMosaic

theorem c2048 : Ideal.ofBits .f32 0x45000000#32 = ((2048 : ℝ) : EReal) := by
  simp [Ideal.ofBits, Ideal.ieee, -EReal.coe_mul]; norm_num

theorem c_eps : ∃ e : ℝ, 0 < e ∧ Ideal.ofBits .f32 0x358637BD#32 = (e : EReal) := by
  refine ⟨_, ?_, by simp [Ideal.ofBits, Ideal.ieee, -EReal.coe_mul]; rfl⟩
  norm_num

theorem c_half : Ideal.ofBits .f32 0x3F000000#32 = ((1 / 2 : ℝ) : EReal) := by
  simp [Ideal.ofBits, Ideal.ieee, -EReal.coe_mul]; norm_num

theorem c_neg_half : Ideal.ofBits .f32 0xBF000000#32 = ((-(1 / 2) : ℝ) : EReal) := by
  simp [Ideal.ofBits, Ideal.ieee, -EReal.coe_mul]; norm_num

theorem c_two : Ideal.ofBits .f32 0x40000000#32 = ((2 : ℝ) : EReal) := by
  simp [Ideal.ofBits, Ideal.ieee, -EReal.coe_mul]; norm_num

theorem c_inv : Ideal.ofBits .f32 0x3A000000#32 = ((1 / 2048 : ℝ) : EReal) := by
  simp [Ideal.ofBits, Ideal.ieee, -EReal.coe_mul]; norm_num

theorem div_real (x : EReal) {r : ℝ} (h : r ≠ 0) : Ideal.div x (r : EReal) = x * ((1 / r : ℝ) : EReal) :=
  Ideal.div_coe h x

/-- A product with `1/2048`, as half of `1/2048` times the double. -/
theorem scale (x : EReal) : x * Ideal.ofBits .f32 0x3A000000#32
    = Ideal.div (Ideal.ofBits .f32 0x3F000000#32) (Ideal.ofBits .f32 0x45000000#32)
      * (Ideal.ofBits .f32 0x40000000#32 * x) := by
  rw [c_inv, c_half, c2048, c_two, div_real _ (by norm_num), ← mul_assoc, ← EReal.coe_mul, ← EReal.coe_mul, mul_comm]
  norm_num

/-- A real factor that is not negative moves out of a sum. -/
theorem sum_mul_real {ι : Type*} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- A half of a sum is the sum of the halves. -/
theorem half_sum {n : ℕ} (f : Fin n → EReal) :
    Ideal.ofBits .f32 0x3F000000#32 * ∑ i, f i = ∑ i, f i * Ideal.ofBits .f32 0x3F000000#32 := by
  rw [c_half, sum_mul_real _ _ (by norm_num), mul_comm]

theorem sq_nonneg' (x : EReal) : 0 ≤ x * x := by
  rcases le_total 0 x with h | h
  · exact mul_nonneg h h
  · have : 0 ≤ -x := by rw [EReal.le_neg, neg_zero]; exact h
    have h2 := mul_nonneg this this
    rwa [neg_mul_neg] at h2

/-- Where a sum of squares is not `⊤`, every term is real. -/
theorem real_of_sq {n : ℕ} (X : Fin n → EReal) (h : ∑ i, X i * X i ≠ ⊤) (i : Fin n) : ∃ x : ℝ, X i = (x : EReal) := by
  have hi : X i * X i ≤ ∑ i, X i * X i := Finset.single_le_sum (fun j _ => sq_nonneg' (X j)) (Finset.mem_univ i)
  have : X i * X i ≠ ⊤ := fun e => h (top_le_iff.mp (e ▸ hi))
  induction hx : X i with
  | bot => rw [hx] at this; simp at this
  | top => rw [hx] at this; simp at this
  | coe x => exact ⟨x, rfl⟩

theorem two_terms (T : EReal) (x c : ℝ) : (x : EReal) * (T * (c : EReal)) + T * (c : EReal) * (x : EReal) = ((2 * (x * c) : ℝ) : EReal) * T := by
  have h1 : (x : EReal) * (T * (c : EReal)) = ((x * c : ℝ) : EReal) * T := by rw [EReal.coe_mul]; ac_rfl
  have h2 : T * (c : EReal) * (x : EReal) = ((x * c : ℝ) : EReal) * T := by rw [EReal.coe_mul]; ac_rfl
  rw [h1, h2, EReal.coe_mul 2, mul_assoc]
  generalize ((x * c : ℝ) : EReal) * T = y
  have : ((2 : ℝ) : EReal) = 1 + 1 := by rw [← EReal.coe_one, ← EReal.coe_add]; norm_num
  rw [this, EReal.right_distrib_of_nonneg zero_le_one zero_le_one, one_mul]

/-- One element of the row's gradient: the projection form against the differentiated form. -/
theorem row {n : ℕ} (X D : Fin n → EReal) (j : Fin n) :
    Ideal.rsqrt (Ideal.div (∑ i, X i * X i) (Ideal.ofBits .f32 0x45000000#32) + Ideal.ofBits .f32 0x358637BD#32)
        * (D j - X j * Ideal.rsqrt (Ideal.div (∑ i, X i * X i) (Ideal.ofBits .f32 0x45000000#32) + Ideal.ofBits .f32 0x358637BD#32)
          * Ideal.div (∑ i, D i * (X i * Ideal.rsqrt (Ideal.div (∑ i, X i * X i) (Ideal.ofBits .f32 0x45000000#32) + Ideal.ofBits .f32 0x358637BD#32)))
              (Ideal.ofBits .f32 0x45000000#32))
      = D j * Ideal.rsqrt (Ideal.div (∑ i, X i * X i) (Ideal.ofBits .f32 0x45000000#32) + Ideal.ofBits .f32 0x358637BD#32)
        + X j * (∑ _x : Fin 1, Ideal.div ((∑ i, X i * D i) * (Ideal.ofBits .f32 0xBF000000#32
            * Ideal.div (Ideal.rsqrt (Ideal.div (∑ i, X i * X i) (Ideal.ofBits .f32 0x45000000#32) + Ideal.ofBits .f32 0x358637BD#32))
                (Ideal.div (∑ i, X i * X i) (Ideal.ofBits .f32 0x45000000#32) + Ideal.ofBits .f32 0x358637BD#32)))
            (Ideal.ofBits .f32 0x45000000#32))
        + (∑ _x : Fin 1, Ideal.div ((∑ i, X i * D i) * (Ideal.ofBits .f32 0xBF000000#32
            * Ideal.div (Ideal.rsqrt (Ideal.div (∑ i, X i * X i) (Ideal.ofBits .f32 0x45000000#32) + Ideal.ofBits .f32 0x358637BD#32))
                (Ideal.div (∑ i, X i * X i) (Ideal.ofBits .f32 0x45000000#32) + Ideal.ofBits .f32 0x358637BD#32)))
            (Ideal.ofBits .f32 0x45000000#32)) * X j := by
  obtain ⟨e, he, hE⟩ := c_eps
  rw [hE, c2048, c_neg_half]
  simp only [Finset.univ_unique, Finset.sum_singleton, div_real _ (by norm_num : (2048 : ℝ) ≠ 0)]
  by_cases hS : ∑ i, X i * X i = ⊤
  · rw [hS, EReal.top_mul_coe_of_pos (by norm_num), EReal.top_add_coe]
    have h0 : Ideal.rsqrt ⊤ = 0 := rfl
    rw [h0]
    have h1 : Ideal.div 0 ⊤ = 0 := by simp [Ideal.div]
    rw [h1]
    simp
  · have hx := real_of_sq X hS
    obtain ⟨s, hs⟩ : ∃ s : ℝ, ∑ i, X i * X i = (s : EReal) := by
      have h0 : 0 ≤ ∑ i, X i * X i := Finset.sum_nonneg fun i _ => sq_nonneg' (X i)
      induction hy : (∑ i, X i * X i) with
      | bot => rw [hy] at h0; simp at h0
      | top => exact absurd hy hS
      | coe s => exact ⟨s, rfl⟩
    have hs0 : 0 ≤ s := by
      have h0 : 0 ≤ ∑ i, X i * X i := Finset.sum_nonneg fun i _ => sq_nonneg' (X i)
      rw [hs] at h0; exact_mod_cast h0
    rw [hs, ← EReal.coe_mul, ← EReal.coe_add]
    set σ : ℝ := s * (1 / 2048) + e with hσ
    have hσ0 : 0 < σ := by positivity
    have hr : Ideal.rsqrt (σ : EReal) = (((Real.sqrt σ)⁻¹ : ℝ) : EReal) := by
      show (if σ < 0 then ⊥ else if σ = 0 then ⊤ else (((Real.sqrt σ)⁻¹ : ℝ) : EReal)) = _
      rw [if_neg (not_lt.mpr hσ0.le), if_neg hσ0.ne']
    rw [hr, div_real _ hσ0.ne']
    set ρ : ℝ := (Real.sqrt σ)⁻¹ with hρ
    have hρ0 : 0 < ρ := by positivity
    have hρσ : ρ * ρ = 1 / σ := by
      rw [hρ, ← mul_inv, Real.mul_self_sqrt hσ0.le, one_div]
    have hsum : ∑ i, D i * (X i * (ρ : EReal)) = (∑ i, X i * D i) * (ρ : EReal) := by
      rw [← sum_mul_real _ _ hρ0.le]
      exact Finset.sum_congr rfl fun i _ => by ac_rfl
    rw [hsum]
    generalize (∑ i, X i * D i) = T
    obtain ⟨x, hxj⟩ := hx j
    rw [hxj, ← EReal.coe_mul, ← EReal.coe_mul, ← EReal.coe_mul, mul_assoc T, ← EReal.coe_mul, mul_assoc T, ← EReal.coe_mul,
      add_assoc, two_terms, sub_eq_add_neg,
      EReal.left_distrib_of_nonneg_of_ne_top (by exact_mod_cast hρ0.le) (EReal.coe_ne_top ρ), mul_comm (ρ : EReal) (D j)]
    congr 1
    have : (x : ℝ) * ρ = x * ρ := rfl
    rw [mul_neg, ← neg_mul, ← mul_assoc, mul_comm T, ← mul_assoc, ← EReal.coe_neg, ← EReal.coe_mul, ← EReal.coe_mul]
    congr 2
    rw [← hρσ]
    ring

end Cert.RmsOwn

end
-- ==== Proof.MixSpec.lean ====
module

public import proofs.«01_k».proof.Proof.RmsBwd
public import Idealize.ShloMosaic.Lib.IdealHost

@[expose] public section

set_option maxRecDepth 16384

noncomputable section

/-! # The gradient of the two gates, over the extended reals

The gate's derivative as the kernel writes it, `w * (s * (1 + z * (1 - s)))`, and as reverse-mode differentiation of
`z * logistic z` writes it, `w * s + (z * w) * (s * (1 - s))`. They are equal where all of them are real. -/

namespace Cert.MixSpec

open Idealize.ShloMosaic

/-- An extended real that is a real number. -/
def IsReal (x : EReal) : Prop := ∃ r : ℝ, x = (r : EReal)

theorem IsReal.coe (r : ℝ) : IsReal (r : EReal) := ⟨r, rfl⟩

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

/-- The mean of a row, its normalised elements, and the logistic function. -/
def mean (f : Fin 1024 → EReal) : EReal := Ideal.div (∑ x, f x) (Ideal.ofBits .f32 0x44800000#32)
def nrm (f : Fin 1024 → EReal) (b : Fin 1024) : EReal :=
  (f b - mean f) * Ideal.rsqrt (Ideal.div (∑ x, (f x - mean f) * (f x - mean f)) (Ideal.ofBits .f32 0x44800000#32) + Ideal.ofBits .f32 0x3727C5AC#32)
def sig (x : EReal) : EReal := Ideal.div 1 (1 + Ideal.exp (-x))

theorem c1024 : Ideal.ofBits .f32 0x44800000#32 = ((1024 : ℝ) : EReal) := by
  simp [Ideal.ofBits, Ideal.ieee, -EReal.coe_mul]; norm_num

theorem c_eps : ∃ e : ℝ, 0 < e ∧ Ideal.ofBits .f32 0x3727C5AC#32 = (e : EReal) := by
  refine ⟨_, ?_, by simp [Ideal.ofBits, Ideal.ieee, -EReal.coe_mul]; rfl⟩
  norm_num

theorem sig_real {x : EReal} : IsReal x → IsReal (sig x) := by
  rintro ⟨r, rfl⟩
  have h : (1 : EReal) + Ideal.exp (-(r : EReal)) = ((1 + Real.exp (-r) : ℝ) : EReal) := by
    rw [← EReal.coe_neg, EReal.coe_add]; rfl
  have h0 : (1 + Real.exp (-r) : ℝ) ≠ 0 := by positivity
  rw [sig, h, Ideal.div_coe h0]
  exact (IsReal.coe 1).mul (IsReal.coe _)

/-- A normalised element is real, whatever the row holds. -/
theorem nrm_real (f : Fin 1024 → EReal) (b : Fin 1024) : IsReal (nrm f b) := by
  obtain ⟨e, he, hE⟩ := c_eps
  unfold nrm
  rw [hE, c1024, Ideal.div_coe (by norm_num : (1024 : ℝ) ≠ 0)]
  by_cases hS : ∑ x, (f x - mean f) * (f x - mean f) = ⊤
  · rw [hS, EReal.top_mul_coe_of_pos (by norm_num), EReal.top_add_coe, show Ideal.rsqrt ⊤ = 0 from rfl, mul_zero]
    exact IsReal.coe 0
  · have hx := Cert.RmsOwn.real_of_sq (fun x => f x - mean f) hS
    have h0 : 0 ≤ ∑ x, (f x - mean f) * (f x - mean f) := Finset.sum_nonneg fun i _ => Cert.RmsOwn.sq_nonneg' _
    obtain ⟨s, hs⟩ : ∃ s : ℝ, ∑ x, (f x - mean f) * (f x - mean f) = (s : EReal) := by
      induction hy : (∑ x, (f x - mean f) * (f x - mean f)) with
      | bot => rw [hy] at h0; simp at h0
      | top => exact absurd hy hS
      | coe s => exact ⟨s, rfl⟩
    have hs0 : 0 ≤ s := by rw [hs] at h0; exact_mod_cast h0
    rw [hs, ← EReal.coe_mul, ← EReal.coe_add]
    refine IsReal.mul (hx b) ?_
    have hσ0 : 0 < s * (1 / 1024) + e := by positivity
    refine ⟨(Real.sqrt (s * (1 / 1024) + e))⁻¹, ?_⟩
    show (if s * (1 / 1024) + e < 0 then ⊥ else if s * (1 / 1024) + e = 0 then ⊤ else (((Real.sqrt (s * (1 / 1024) + e))⁻¹ : ℝ) : EReal)) = _
    rw [if_neg (not_lt.mpr hσ0.le), if_neg hσ0.ne']

/-- The gate's derivative in its two forms. -/
theorem gate {w z : EReal} (hw : IsReal w) (hz : IsReal z) :
    w * (sig z * (1 + z * (1 - sig z))) = w * sig z + z * w * (sig z * (1 - sig z)) := by
  obtain ⟨s, hs⟩ := sig_real hz
  obtain ⟨a, rfl⟩ := hw
  obtain ⟨b, rfl⟩ := hz
  rw [hs, ← EReal.coe_one, ← EReal.coe_sub, ← EReal.coe_mul, ← EReal.coe_add, ← EReal.coe_mul, ← EReal.coe_mul, ← EReal.coe_mul, ← EReal.coe_mul,
    ← EReal.coe_mul, ← EReal.coe_mul, ← EReal.coe_add]
  congr 1
  ring

/-! The gradients of the two gates' inputs and of the normalised activation, as reverse-mode differentiation writes
them (`…R`) and as the kernel does (`…K`). -/

def act (q g l : Fin 1024 → EReal) (b : Fin 1024) : EReal := nrm q b * g b + l b
def dzlR (zl h dy : EReal) : EReal := h * dy * sig zl + zl * (h * dy) * (sig zl * (1 - sig zl))
def dzlK (zl h dy : EReal) : EReal := dy * h * (sig zl * (1 + zl * (1 - sig zl)))
def dzcR (zc p dy : EReal) : EReal := p * sig p * dy * sig zc + zc * (p * sig p * dy) * (sig zc * (1 - sig zc))
def dzcK (zc p dy : EReal) : EReal := dy * (p * sig p) * (sig zc * (1 + zc * (1 - sig zc)))
def dpR (zc p dy : EReal) : EReal := dy * (zc * sig zc) * sig p + p * (dy * (zc * sig zc)) * (sig p * (1 - sig p))
def dpK (zc p dy : EReal) : EReal := dy * (zc * sig zc) * (sig p * (1 + p * (1 - sig p)))

theorem act_real (q : Fin 1024 → EReal) {g l : Fin 1024 → EReal} {b : Fin 1024} (hg : IsReal (g b)) (hl : IsReal (l b)) : IsReal (act q g l b) :=
  ((nrm_real q b).mul hg).add hl

theorem dzl_eq {zl h dy : EReal} (hz : IsReal zl) (hh : IsReal h) (hd : IsReal dy) : dzlK zl h dy = dzlR zl h dy := by
  rw [dzlK, dzlR, mul_comm dy h]; exact gate (hh.mul hd) hz

theorem dzc_eq {zc p dy : EReal} (hz : IsReal zc) (hp : IsReal p) (hd : IsReal dy) : dzcK zc p dy = dzcR zc p dy := by
  rw [dzcK, dzcR, mul_comm dy]; exact gate ((hp.mul (sig_real hp)).mul hd) hz

theorem dp_eq {zc p dy : EReal} (hz : IsReal zc) (hp : IsReal p) (hd : IsReal dy) : dpK zc p dy = dpR zc p dy :=
  gate (hd.mul (hz.mul (sig_real hz))) hp

theorem dpK_real {zc p dy : EReal} (hz : IsReal zc) (hp : IsReal p) (hd : IsReal dy) : IsReal (dpK zc p dy) := by
  rw [dp_eq hz hp hd, dpR]
  obtain ⟨s, hs⟩ := sig_real hp
  have h1 : IsReal (1 - sig p) := ⟨1 - s, by rw [hs]; rfl⟩
  have hw := hd.mul (hz.mul (sig_real hz))
  exact (hw.mul ⟨s, hs⟩).add ((hp.mul hw).mul (IsReal.mul ⟨s, hs⟩ h1))

end Cert.MixSpec

end
-- ==== Proof.LnBwd.lean ====
module

public import proofs.«01_k».proof.Proof.MixSpec

@[expose] public section

set_option maxRecDepth 16384

noncomputable section

/-! # The gradient of a layer norm's input, over the extended reals

`lnK` is the kernel's form: the cotangent less its mean and less its projection on the normalised row, over the standard
deviation. `lnR` is what reverse-mode differentiation of the mean, the variance and the inverse root writes. They agree for a
real cotangent and any row: the variance is either `⊤`, where the inverse root is zero and both vanish, or real, where every
element of the row is, so that the centred row sums to zero. -/

namespace Cert.MixSpec

open Idealize.ShloMosaic

/-- The regularised variance of a row, and the inverse of its root. -/
def vareps (f : Fin 1024 → EReal) : EReal :=
  Ideal.div (∑ x, (f x - mean f) * (f x - mean f)) (Ideal.ofBits .f32 0x44800000#32) + Ideal.ofBits .f32 0x3727C5AC#32
def rstd (f : Fin 1024 → EReal) : EReal := Ideal.rsqrt (vareps f)

def lnK (f D : Fin 1024 → EReal) (b : Fin 1024) : EReal :=
  rstd f * (D b - Ideal.div (∑ x, D x) (Ideal.ofBits .f32 0x44800000#32) - nrm f b * Ideal.div (∑ x, D x * nrm f x) (Ideal.ofBits .f32 0x44800000#32))

/-- The variance's share of the gradient, over the centred row. -/
def lnV (f D : Fin 1024 → EReal) : EReal :=
  ∑ _x : Fin 1, Ideal.div ((∑ x, (f x - mean f) * D x) * (Ideal.ofBits .f32 0xBF000000#32 * Ideal.div (rstd f) (vareps f))) (Ideal.ofBits .f32 0x44800000#32)
/-- The centred row's cotangent. -/
def lnC (f D : Fin 1024 → EReal) (b : Fin 1024) : EReal := D b * rstd f + (f b - mean f) * lnV f D + lnV f D * (f b - mean f)
def lnR (f D : Fin 1024 → EReal) (b : Fin 1024) : EReal :=
  lnC f D b + ∑ _x : Fin 1, Ideal.div (∑ x, -lnC f D x) (Ideal.ofBits .f32 0x44800000#32)

theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- The two numbers of a difference that is real are real. -/
theorem real_of_sub {x y : EReal} (h : IsReal (x - y)) : IsReal x ∧ IsReal y := by
  obtain ⟨r, h⟩ := h
  induction x <;> induction y <;> first | exact ⟨IsReal.coe _, IsReal.coe _⟩ | simp at h

/-- Of a row whose variance is not `⊤`: its centred elements are real and sum to zero, and so is the regularised variance. -/
theorem centred (f : Fin 1024 → EReal) (h : ∑ x, (f x - mean f) * (f x - mean f) ≠ ⊤) :
    ∃ (X : Fin 1024 → ℝ) (σ : ℝ), (∀ x, f x - mean f = (X x : EReal)) ∧ ∑ x, X x = 0 ∧ 0 < σ ∧ vareps f = (σ : EReal) := by
  have hx := Cert.RmsOwn.real_of_sq (fun x => f x - mean f) h
  choose X hX using hx
  choose y hy using fun x => (real_of_sub ⟨X x, hX x⟩).1
  obtain ⟨e, he, hE⟩ := c_eps
  have hm : mean f = ((∑ x, y x) * (1 / 1024) : ℝ) := by
    rw [mean, c1024, Ideal.div_coe (by norm_num : (1024 : ℝ) ≠ 0), EReal.coe_mul, coe_sum]
    simp only [hy]
  refine ⟨X, (∑ x, X x * X x) * (1 / 1024) + e, hX, ?_, ?_, ?_⟩
  · have h : ∀ x, X x = y x - (∑ x, y x) * (1 / 1024) := fun x => by
      have := (hX x).symm
      rw [hm, hy x, ← EReal.coe_sub] at this
      exact_mod_cast this
    simp only [h, Finset.sum_sub_distrib, Finset.sum_const, Finset.card_univ, Fintype.card_fin]
    rw [nsmul_eq_mul]
    push_cast
    ring
  · have : 0 ≤ ∑ x, X x * X x := Finset.sum_nonneg fun x _ => mul_self_nonneg _
    positivity
  · rw [vareps, c1024, hE, Ideal.div_coe (by norm_num : (1024 : ℝ) ≠ 0), EReal.coe_add, EReal.coe_mul, coe_sum]
    simp only [show ∀ x, f x - mean f = (X x : EReal) from hX, EReal.coe_mul]

theorem rsqrt_pos {σ : ℝ} (h : 0 < σ) : Ideal.rsqrt (σ : EReal) = (((Real.sqrt σ)⁻¹ : ℝ) : EReal) := by
  show (if σ < 0 then ⊥ else if σ = 0 then ⊤ else (((Real.sqrt σ)⁻¹ : ℝ) : EReal)) = _
  rw [if_neg (not_lt.mpr h.le), if_neg h.ne']

theorem ln_eq (f D : Fin 1024 → EReal) (hD : ∀ x, IsReal (D x)) (b : Fin 1024) : lnK f D b = lnR f D b := by
  have hn : ∀ x, nrm f x = (f x - mean f) * rstd f := fun _ => rfl
  by_cases hS : ∑ x, (f x - mean f) * (f x - mean f) = ⊤
  · obtain ⟨e, he, hE⟩ := c_eps
    have hv : vareps f = ⊤ := by
      rw [vareps, hS, c1024, hE, Ideal.div_coe (by norm_num : (1024 : ℝ) ≠ 0), EReal.top_mul_coe_of_pos (by norm_num), EReal.top_add_coe]
    have hr : rstd f = 0 := by rw [rstd, hv]; rfl
    have h1 : Ideal.div 0 ⊤ = 0 := by simp [Ideal.div]
    have h2 : Ideal.div 0 ((1024 : ℝ) : EReal) = 0 := by rw [Ideal.div_coe (by norm_num), zero_mul]
    have hV : lnV f D = 0 := by simp [lnV, hr, hv, h1, c1024, h2]
    have hC : ∀ x, lnC f D x = 0 := fun x => by simp [lnC, hr, hV]
    simp [lnK, lnR, hr, hC, c1024, h2]
  · obtain ⟨X, σ, hX, h0, hσ, hv⟩ := centred f hS
    choose d hd using hD
    set ρ : ℝ := (Real.sqrt σ)⁻¹ with hρ
    have hr : rstd f = (ρ : EReal) := by rw [rstd, hv, rsqrt_pos hσ]
    have hρσ : ρ * ρ = 1 / σ := by rw [hρ, ← mul_inv, Real.mul_self_sqrt hσ.le, one_div]
    have hV : lnV f D = (((∑ x, X x * d x) * (-(1 / 2) * (ρ * (1 / σ))) * (1 / 1024) : ℝ) : EReal) := by
      rw [lnV, Finset.univ_unique, Finset.sum_singleton, hr, hv, c1024, Cert.RmsOwn.c_neg_half, Ideal.div_coe (by norm_num : (1024 : ℝ) ≠ 0), Ideal.div_coe hσ.ne']
      simp only [hX, hd, ← EReal.coe_mul, ← coe_sum]
    set c : ℝ := (∑ x, X x * d x) * (-(1 / 2) * (ρ * (1 / σ))) * (1 / 1024) with hc
    have hC : ∀ x, lnC f D x = ((d x * ρ + X x * c + c * X x : ℝ) : EReal) := fun x => by
      rw [lnC, hV, hr, hX, hd]
      simp only [← EReal.coe_mul, ← EReal.coe_add]
    have hs : ∑ x, -(d x * ρ + X x * c + c * X x) = -((∑ x, d x) * ρ) := by
      simp only [Finset.sum_neg_distrib, Finset.sum_add_distrib, ← Finset.sum_mul, ← Finset.mul_sum, h0]
      ring
    have ht : ∑ x, d x * (X x * ρ) = (∑ x, X x * d x) * ρ := by
      rw [Finset.sum_mul]
      exact Finset.sum_congr rfl fun x _ => by ring
    rw [lnK, lnR, Finset.univ_unique (α := Fin 1), Finset.sum_singleton, c1024, Ideal.div_coe (by norm_num : (1024 : ℝ) ≠ 0), Ideal.div_coe (by norm_num : (1024 : ℝ) ≠ 0),
      Ideal.div_coe (by norm_num : (1024 : ℝ) ≠ 0)]
    simp only [hn, hC, hr, hX, hd, ← EReal.coe_mul, ← EReal.coe_neg, ← coe_sum, ← EReal.coe_add, ← EReal.coe_sub]
    rw [hs, ht]
    congr 1
    rw [hc, ← hρσ]
    ring

end Cert.MixSpec

end
-- ==== Proof.MixPay.lean ====
module

public import proofs.«01_k».proof.Proof.MixStore
public import proofs.«01_k».proof.Proof.LnBwd

@[expose] public section

set_option maxRecDepth 16384

noncomputable section

/-! # What the body stores, at an index, over the extended reals -/

namespace Cert.MixRun

open Cert.MixIdeal Cert.MixIdeal.Gen Cert.MixSpec
open Idealize.ShloMosaic Idealize.ShloMosaic.TcCoe Idealize.SL.Sem

variable (X : Ins Ideal) (a : Fin 128) (b : Fin 1024)

/-- The activation in row `a` of the block. -/
def actAt : EReal := act (fun b => X.x2 (ix2 a b)) (fun b => X.x17 (ix3 0 0 b)) (fun b => X.x18 (ix3 0 0 b)) b

/-- A block of columns of an array, and a row of one, at an index. -/
theorem ld_cols {n o : ℕ} {e : EltTy} (x : Vec Ideal ⟨2, ![128, n]⟩ e) (inb : ∀ k, (![0, o] : Fin 2 → ℕ) k + S128x1024.size k ≤ (⟨2, ![128, n]⟩ : Shape).size k) (h : o + b.val < n) :
    View.ld x (Rect.unit ![0, o] S128x1024.size inb) (ix2 a b) = x (ix2 a ⟨o + b.val, h⟩) :=
  congrArg x (funext fun k => by
    match k with
    | ⟨0, _⟩ => exact Fin.ext (by show 0 + 1 * a.val = a.val; omega)
    | ⟨1, _⟩ => exact Fin.ext (by show o + 1 * b.val = o + b.val; omega))

theorem uCol2_at : (uCol2 X (ix2 a b) : EReal) = X.x1 (ix2 a ⟨2048 + b.val, by omega⟩) := ld_cols a b X.x1 _ _

theorem uCol4_at : (uCol4 X (ix2 a b) : EReal) = X.x1 (ix2 a ⟨4096 + b.val, by omega⟩) := ld_cols a b X.x1 _ _

theorem dyCol0_at : (dyCol0 X (ix2 a b) : EReal) = X.x13 (ix2 a ⟨b.val, by omega⟩) :=
  (ld_cols a b X.x13 _ (by omega)).trans (congrArg (fun j => X.x13 (ix2 a j)) (Fin.ext (Nat.zero_add _)))

theorem dyCol1_at : (dyCol1 X (ix2 a b) : EReal) = X.x13 (ix2 a ⟨1024 + b.val, by omega⟩) := ld_cols a b X.x13 _ _

theorem ld_row {o : ℕ} (y : Vec Ideal S16x1024 .f32) (inb : ∀ k, (![o, 0] : Fin 2 → ℕ) k + S1x1024.size k ≤ S16x1024.size k) (h : o < 16) :
    View.ld y (Rect.unit ![o, 0] S1x1024.size inb) (ix2 0 b) = y (ix2 ⟨o, h⟩ b) :=
  congrArg y (funext fun k => by
    match k with
    | ⟨0, _⟩ => exact Fin.ext (by show o + 1 * 0 = o; omega)
    | ⟨1, _⟩ => exact Fin.ext (by show 0 + 1 * b.val = b.val; omega))

theorem pgRow0_at (y : Vec Ideal S16x1024 .f32) : pgRow0 y (ix2 0 b) = y (ix2 0 b) := ld_row b y _ (by omega)

theorem pgRow1_at (y : Vec Ideal S16x1024 .f32) : pgRow1 y (ix2 0 b) = y (ix2 1 b) := ld_row b y _ (by omega)

theorem pgRow2_at (y : Vec Ideal S16x1024 .f32) : pgRow2 y (ix2 0 b) = y (ix2 2 b) := ld_row b y _ (by omega)

theorem dzl_at : (dzl X (ix2 a b) : EReal) = X.x13 (ix2 a ⟨1024 + b.val, by omega⟩) * X.x3 (ix2 a b)
    * (X.x12 (ix2 a b) * (1 + X.x1 (ix2 a ⟨4096 + b.val, by omega⟩) * (1 - X.x12 (ix2 a b)))) := by
  rw [← dyCol1_at, ← uCol4_at]
  pointwise [dzl, k0_pay261, k0_pay260, k0_pay259, k0_pay258]

theorem dzc_at : (dzc X (ix2 a b) : EReal) = X.x13 (ix2 a ⟨b.val, by omega⟩) * (actAt X a b * X.x10 (ix2 a b))
    * (X.x11 (ix2 a b) * (1 + X.x1 (ix2 a ⟨2048 + b.val, by omega⟩) * (1 - X.x11 (ix2 a b)))) := by
  rw [← dyCol0_at, ← uCol2_at]
  pointwise [dzc, k0_pay227, k0_pay226, k0_pay225, k0_pay224, k0_pay223, k0_pay222, k0_pay221, k0_pay220, k0_pay219, k0_pay218]
  rfl

/-- The activation's gradient in row `a` of the block. -/
def dpBlk : EReal := X.x13 (ix2 a ⟨b.val, by omega⟩) * (X.x1 (ix2 a ⟨2048 + b.val, by omega⟩) * X.x11 (ix2 a b))
    * (X.x10 (ix2 a b) * (1 + actAt X a b * (1 - X.x10 (ix2 a b))))

theorem addLnb_at (R : Vec Ideal S1x1024 .f32) : (addLnb X R (ix2 0 b) : EReal) = R (ix2 0 b) + ∑ a, dpBlk X a b := by
  have h : ∀ a, dpBlk X a b = dyCol0 X (ix2 a b) * (uCol2 X (ix2 a b) * X.x11 (ix2 a b))
    * (X.x10 (ix2 a b) * (1 + actAt X a b * (1 - X.x10 (ix2 a b)))) := fun a => by rw [dyCol0_at, uCol2_at]; rfl
  simp only [h]
  pointwise [addLnb, k0_pay232, k0_pay231, k0_pay230, k0_pay228, k0_pay227, k0_pay226, k0_pay225, k0_pay224, k0_pay223, k0_pay222, k0_pay221, k0_pay220, k0_pay219, k0_pay218]
  rfl

theorem addLng_at (R : Vec Ideal S1x1024 .f32) : (addLng X R (ix2 0 b) : EReal)
    = R (ix2 0 b) + ∑ a, dpBlk X a b * nrm (fun b => X.x2 (ix2 a b)) b := by
  have h : ∀ a, dpBlk X a b = dyCol0 X (ix2 a b) * (uCol2 X (ix2 a b) * X.x11 (ix2 a b))
    * (X.x10 (ix2 a b) * (1 + actAt X a b * (1 - X.x10 (ix2 a b)))) := fun a => by rw [dyCol0_at, uCol2_at]; rfl
  simp only [h]
  pointwise [addLng, k0_pay229, k0_pay228, k0_pay227, k0_pay226, k0_pay225, k0_pay224, k0_pay223, k0_pay222, k0_pay221, k0_pay220, k0_pay219, k0_pay218]
  rfl

theorem dp_at : (k0_pay228 (uCol2 X) (dyCol0 X) (k0_pay218 X.x17) (k0_pay219 X.x18) (k0_pay220 X.x2) (k0_pay222 X.x2) X.x10 X.x11 (ix2 a b) : EReal) = dpBlk X a b := by
  have h : dpBlk X a b = dyCol0 X (ix2 a b) * (uCol2 X (ix2 a b) * X.x11 (ix2 a b))
    * (X.x10 (ix2 a b) * (1 + actAt X a b * (1 - X.x10 (ix2 a b)))) := by rw [dyCol0_at, uCol2_at]; rfl
  rw [h]
  pointwise [k0_pay228, k0_pay227, k0_pay226, k0_pay225, k0_pay224, k0_pay223, k0_pay222, k0_pay221, k0_pay220, k0_pay219, k0_pay218]
  rfl

theorem rstd_at (k : Fin 1) : (k0_pay221 X.x2 (ix2 a k) : EReal) = rstd fun b => X.x2 (ix2 a b) := by
  pointwise [k0_pay221, k0_pay220]
  rfl

theorem nrm_at : (k0_pay223 (k0_pay220 X.x2) (k0_pay222 X.x2) (ix2 a b) : EReal) = nrm (fun b => X.x2 (ix2 a b)) b := by
  pointwise [k0_pay223, k0_pay222, k0_pay221, k0_pay220]
  rfl

theorem scale_at : (k0_pay218 X.x17 (ix2 0 b) : EReal) = X.x17 (ix3 0 0 b) := by
  pointwise [k0_pay218]

theorem addB_at (R : Vec Ideal S1x1024 .f32) : (addB X R (ix2 0 b) : EReal)
    = R (ix2 0 b) + ∑ a, lnK (fun b => X.x2 (ix2 a b)) (fun b => dpBlk X a b * X.x17 (ix3 0 0 b)) b := by
  pointwise [addB, k0_pay234, k0_pay233]
  simp only [dp_at, rstd_at, nrm_at, scale_at]
  rfl

end Cert.MixRun

end
-- ==== Proof.MixHost.lean ====
module

public import proofs.«01_k».proof.Proof.MixBase
public import Idealize.ShloMosaic.Lib.StableHlo.ReadAt
public import Idealize.ShloMosaic.Lib.Claim
public import Idealize.ShloMosaic.Lib.Pipeline.ValueKit
public import proofs.«01_k».proof.Proof.Gen.MixIdeal.Frame
public import proofs.«01_k».proof.Proof.MixSpec

@[expose] public section

set_option maxRecDepth 16384

noncomputable section

/-! # What the kernel's host lines hand the launch: the logistic values and the layer norm's rows -/

namespace Cert.MixRun

open Cert.MixIdeal Cert.MixIdeal.Gen Idealize.ShloMosaic Idealize.ShloMosaic.TcCoe Idealize.SL.Sem Cert.MixSpec

variable (m : (ℓ : Loc nD τ sig) → Buf (Elt Ideal) ℓ) (c : Dev nD)

/-- The arguments the gates' gradients are taken from. -/
def uAt (r : Fin 8192) (k : Fin 5120) : EReal := m (c, Proc.tc.devRef main_arg0) (ix2 r k)
def qAt (r : Fin 8192) (b : Fin 1024) : EReal := m (c, Proc.tc.devRef main_arg1) (ix2 r b)
def hAt (r : Fin 8192) (b : Fin 1024) : EReal := m (c, Proc.tc.devRef main_arg2) (ix2 r b)
def dyAt (r : Fin 8192) (k : Fin 2048) : EReal := m (c, Proc.tc.devRef main_arg3) (ix2 r k)
def gAt (b : Fin 1024) : EReal := m (c, Proc.tc.devRef main_arg6) (ix2 3 b)
def lAt (b : Fin 1024) : EReal := m (c, Proc.tc.devRef main_arg7) (ix2 3 b)

theorem V_szc (r : Fin 8192) (b : Fin 1024) : (V m c main_v144 (ix2 r b) : EReal) = sig (uAt m c r ⟨2048 + b.val, by omega⟩) := by
  unfold V
  after_reads_at
  rfl

theorem V_szl (r : Fin 8192) (b : Fin 1024) : (V m c main_v150 (ix2 r b) : EReal) = sig (uAt m c r ⟨4096 + b.val, by omega⟩) := by
  unfold V
  after_reads_at
  rfl

theorem V_lng (b : Fin 1024) : (V m c main_v125 (ix3 3 0 b) : EReal) = gAt m c b := by
  unfold V
  after_reads_at
  rfl

theorem V_lnb (b : Fin 1024) : (V m c main_v126 (ix3 3 0 b) : EReal) = lAt m c b := by
  unfold V
  after_reads_at
  rfl

theorem V_sp (r : Fin 8192) (b : Fin 1024) : (V m c main_v35 (ix2 r b) : EReal) = sig (act (qAt m c r) (gAt m c) (lAt m c) b) := by
  unfold V
  after_reads_at
  rfl

end Cert.MixRun

end
-- ==== Proof.MixBlk.lean ====
module

public import proofs.«01_k».proof.Proof.MixPay
public import proofs.«01_k».proof.Proof.MixHost

@[expose] public section

set_option maxRecDepth 16384

noncomputable section

/-! # The blocks a grid point works on, as rows of the arguments -/

namespace Cert.MixRun

open Cert.MixIdeal Cert.MixIdeal.Gen Cert.MixSpec
open Idealize.ShloMosaic Idealize.ShloMosaic.TcCoe Idealize.SL.Sem

/-- The array's row that grid point `p` finds at row `a` of its block: the blocks are visited from the last to the first. -/
def rowAt (p : ℕ) (a : Fin 128) : Fin 8192 := ⟨(63 - p) * 128 + a.val, by omega⟩

variable (m : (ℓ : Loc nD τ sig) → Buf (Elt Ideal) ℓ) (c : Dev nD)

theorem idx : ∀ t : Fin cfg0.N, win0_0.index t = ![63 - t.val, 0] ∧ win0_1.index t = ![63 - t.val, 0] ∧ win0_2.index t = ![63 - t.val, 0]
    ∧ win0_9.index t = ![63 - t.val, 0] ∧ win0_10.index t = ![63 - t.val, 0] ∧ win0_11.index t = ![63 - t.val, 0]
    ∧ win0_12.index t = ![63 - t.val, 0] ∧ win0_16.index t = ![3, 0, 0] ∧ win0_17.index t = ![3, 0, 0] ∧ win0_25.index t = ![63 - t.val, 0]
    ∧ win0_26.index t = ![0, 0] :=
  (by decide +kernel : ∀ t : Fin grid0.N, _)

variable (t : Fin cfg0.N) (a : Fin 128) (b : Fin 1024)

/-! Each block at an index: an argument's, or of the arrays the host lines make. -/

theorem x1_at (k : Fin 5120) : ((ins m c t).x1 (ix2 a k) : EReal) = uAt m c (rowAt t.val a) k := by
  have h : iblk m c 0 t (ix2 a k) = V m c main_arg0 (ix2 (rowAt t.val a) k) := by
    unfold rowAt
    blk_point [iblk, idx t]
  exact h.trans (congrFun (V_main_arg0 m c) _)

theorem x2_at (k : Fin 1024) : ((ins m c t).x2 (ix2 a k) : EReal) = qAt m c (rowAt t.val a) k := by
  have h : iblk m c 1 t (ix2 a k) = V m c main_arg1 (ix2 (rowAt t.val a) k) := by
    unfold rowAt
    blk_point [iblk, idx t]
  exact h.trans (congrFun (V_main_arg1 m c) _)

theorem x3_at (k : Fin 1024) : ((ins m c t).x3 (ix2 a k) : EReal) = hAt m c (rowAt t.val a) k := by
  have h : iblk m c 2 t (ix2 a k) = V m c main_arg2 (ix2 (rowAt t.val a) k) := by
    unfold rowAt
    blk_point [iblk, idx t]
  exact h.trans (congrFun (V_main_arg2 m c) _)

theorem x13_at (k : Fin 2048) : ((ins m c t).x13 (ix2 a k) : EReal) = dyAt m c (rowAt t.val a) k := by
  have h : iblk m c 12 t (ix2 a k) = V m c main_arg3 (ix2 (rowAt t.val a) k) := by
    unfold rowAt
    blk_point [iblk, idx t]
  exact h.trans (congrFun (V_main_arg3 m c) _)

theorem x10_at : ((ins m c t).x10 (ix2 a b) : EReal) = sig (act (qAt m c (rowAt t.val a)) (gAt m c) (lAt m c) b) := by
  have h : iblk m c 9 t (ix2 a b) = V m c main_v35 (ix2 (rowAt t.val a) b) := by
    unfold rowAt
    blk_point [iblk, idx t]
  exact h.trans (V_sp m c _ _)

theorem x11_at : ((ins m c t).x11 (ix2 a b) : EReal) = sig (uAt m c (rowAt t.val a) ⟨2048 + b.val, by omega⟩) := by
  have h : iblk m c 10 t (ix2 a b) = V m c main_v144 (ix2 (rowAt t.val a) b) := by
    unfold rowAt
    blk_point [iblk, idx t]
  exact h.trans (V_szc m c _ _)

theorem x12_at : ((ins m c t).x12 (ix2 a b) : EReal) = sig (uAt m c (rowAt t.val a) ⟨4096 + b.val, by omega⟩) := by
  have h : iblk m c 11 t (ix2 a b) = V m c main_v150 (ix2 (rowAt t.val a) b) := by
    unfold rowAt
    blk_point [iblk, idx t]
  exact h.trans (V_szl m c _ _)

theorem x17_at : ((ins m c t).x17 (ix3 0 0 b) : EReal) = gAt m c b := by
  have h : iblk m c 16 t (ix3 0 0 b) = V m c main_v125 (ix3 3 0 b) := by blk_point [iblk, idx t]
  exact h.trans (V_lng m c _)

theorem x18_at : ((ins m c t).x18 (ix3 0 0 b) : EReal) = lAt m c b := by
  have h : iblk m c 17 t (ix3 0 0 b) = V m c main_v126 (ix3 3 0 b) := by blk_point [iblk, idx t]
  exact h.trans (V_lnb m c _)

/-- The activation at a row of the arguments, and the four gradients there as the kernel writes them. -/
def pAt (r : Fin 8192) (b : Fin 1024) : EReal := act (qAt m c r) (gAt m c) (lAt m c) b
def zcAt (r : Fin 8192) (b : Fin 1024) : EReal := dzcK (uAt m c r ⟨2048 + b.val, by omega⟩) (pAt m c r b) (dyAt m c r ⟨b.val, by omega⟩)
def zlAt (r : Fin 8192) (b : Fin 1024) : EReal := dzlK (uAt m c r ⟨4096 + b.val, by omega⟩) (hAt m c r b) (dyAt m c r ⟨1024 + b.val, by omega⟩)
def daAt (r : Fin 8192) (b : Fin 1024) : EReal := dpK (uAt m c r ⟨2048 + b.val, by omega⟩) (pAt m c r b) (dyAt m c r ⟨b.val, by omega⟩)

theorem actAt_blk : actAt (ins m c t) a b = pAt m c (rowAt t.val a) b := by
  simp only [actAt, pAt, x2_at, x17_at, x18_at]

theorem dzl_blk : (dzl (ins m c t) (ix2 a b) : EReal) = zlAt m c (rowAt t.val a) b := by
  rw [dzl_at, x13_at, x3_at, x12_at, x1_at]; rfl

theorem dzc_blk : (dzc (ins m c t) (ix2 a b) : EReal) = zcAt m c (rowAt t.val a) b := by
  rw [dzc_at, x13_at, x10_at, x11_at, x1_at, actAt_blk]; rfl

theorem dpBlk_blk : dpBlk (ins m c t) a b = daAt m c (rowAt t.val a) b := by
  rw [dpBlk, x13_at, x10_at, x11_at, x1_at, actAt_blk]; rfl

/-- What grid point `p` adds to the two rows of the layer norm's gradients, and to the row of the convolution's bias's. -/
def addG (p : ℕ) (b : Fin 1024) : EReal := ∑ a : Fin 128, daAt m c (rowAt p a) b * nrm (qAt m c (rowAt p a)) b
def addL (p : ℕ) (b : Fin 1024) : EReal := ∑ a : Fin 128, daAt m c (rowAt p a) b
/-- The gradient of the layer norm's input. -/
def dqAt (r : Fin 8192) (b : Fin 1024) : EReal := lnK (qAt m c r) (fun b => daAt m c r b * gAt m c b) b
def addQ (p : ℕ) (b : Fin 1024) : EReal := ∑ a : Fin 128, dqAt m c (rowAt p a) b

theorem addB_blk (R : Vec Ideal S1x1024 .f32) : (addB (ins m c t) R (ix2 0 b) : EReal) = R (ix2 0 b) + addQ m c t.val b := by
  simp only [addB_at, dpBlk_blk, x2_at, x17_at]; rfl

theorem addLng_blk (R : Vec Ideal S1x1024 .f32) : (addLng (ins m c t) R (ix2 0 b) : EReal) = R (ix2 0 b) + addG m c t.val b := by
  simp only [addLng_at, dpBlk_blk, x2_at]; rfl

theorem addLnb_blk (R : Vec Ideal S1x1024 .f32) : (addLnb (ins m c t) R (ix2 0 b) : EReal) = R (ix2 0 b) + addL m c t.val b := by
  simp only [addLnb_at, dpBlk_blk]; rfl

theorem zeros_at (i : S16x1024.Idx) : (k0_pay40 (F := Ideal) i : EReal) = 0 := by pointwise [k0_pay40]

/-- What is followed of the run: the two blocks of columns at each point, and the three rows summed so far. -/
def track : Track m c where
  inv _ _ := True
  l26 t y := ∀ a b, (y (ix2 a ⟨2048 + b.val, by omega⟩) : EReal) = zcAt m c (rowAt t.val a) b ∧ (y (ix2 a ⟨4096 + b.val, by omega⟩) : EReal) = zlAt m c (rowAt t.val a) b
  l27 t y := ∀ b, (y (ix2 1 b) : EReal) = ∑ p ∈ Finset.range (t.val + 1), addG m c p b ∧ (y (ix2 2 b) : EReal) = ∑ p ∈ Finset.range (t.val + 1), addL m c p b
    ∧ (y (ix2 0 b) : EReal) = ∑ p ∈ Finset.range (t.val + 1), addQ m c p b
  l28 _ _ := True
  l29 _ _ := True
  l30 _ _ := True
  start _ := True.intro
  keep t Y Z Y' Z' _ hb hs := by
    have hdu (a : Fin 128) (b : Fin 1024) : Y'.y26 (ix2 a ⟨2048 + b.val, by omega⟩) = dzc (ins m c t) (ix2 a b) ∧ Y'.y26 (ix2 a ⟨4096 + b.val, by omega⟩) = dzl (ins m c t) (ix2 a b) := by
      rcases hs with ⟨h0, h1, h⟩ | ⟨h0, h1, h⟩ | ⟨h0, h1, h⟩
      · exact duA c _ _ h0 h1 _ Y Z Y' Z' h a b
      · exact duB c _ _ h0 h1 _ Y Z Y' Z' h a b
      · exact duC c _ _ h0 h1 _ Y Z Y' Z' h a b
    have later (ht : t.val ≠ 0) (b : Fin 1024) (h : Y'.y27 (ix2 1 b) = addLng (ins m c t) (pgRow1 Y.y27) (ix2 0 b) ∧ Y'.y27 (ix2 2 b) = addLnb (ins m c t) (pgRow2 Y.y27) (ix2 0 b)
          ∧ Y'.y27 (ix2 0 b) = addB (ins m c t) (pgRow0 Y.y27) (ix2 0 b)) :
        (Y'.y27 (ix2 1 b) : EReal) = ∑ p ∈ Finset.range (t.val + 1), addG m c p b ∧ (Y'.y27 (ix2 2 b) : EReal) = ∑ p ∈ Finset.range (t.val + 1), addL m c p b
          ∧ (Y'.y27 (ix2 0 b) : EReal) = ∑ p ∈ Finset.range (t.val + 1), addQ m c p b := by
      have hlt := t.isLt
      have hp := (hb ⟨t.val - 1, by omega⟩ (by show t.val - 1 + 1 = t.val; omega)).1 b
      rw [show (⟨t.val - 1, by omega⟩ : Fin cfg0.N).val + 1 = t.val from by show t.val - 1 + 1 = t.val; omega] at hp
      exact ⟨h.1.trans ((addLng_blk m c t b _).trans (by rw [pgRow1_at, hp.1, Finset.sum_range_succ])),
        h.2.1.trans ((addLnb_blk m c t b _).trans (by rw [pgRow2_at, hp.2.1, Finset.sum_range_succ])),
        h.2.2.trans ((addB_blk m c t b _).trans (by rw [pgRow0_at, hp.2.2, Finset.sum_range_succ]))⟩
    refine ⟨True.intro, fun a b => ⟨(hdu a b).1.trans (dzc_blk m c t a b), (hdu a b).2.trans (dzl_blk m c t a b)⟩, fun b => ?_, True.intro, True.intro, True.intro⟩
    rcases hs with ⟨h0, h1, h⟩ | ⟨h0, h1, h⟩ | ⟨h0, h1, h⟩
    · have ht := (condFirst_iff t).mp h0
      have h := pgA c _ _ h0 h1 _ Y Z Y' Z' h b
      rw [ht, Finset.sum_range_one, Finset.sum_range_one, Finset.sum_range_one, ← ht]
      exact ⟨h.1.trans ((addLng_blk m c t b _).trans (by rw [pgRow1_at, zeros_at, zero_add])), h.2.1.trans ((addLnb_blk m c t b _).trans (by rw [pgRow2_at, zeros_at, zero_add])),
        h.2.2.trans ((addB_blk m c t b _).trans (by rw [pgRow0_at, zeros_at, zero_add]))⟩
    · exact later (fun ht => h0 ((condFirst_iff t).mpr ht)) b (pgB c _ _ h0 h1 _ Y Z Y' Z' h b)
    · exact later (fun ht => h0 ((condFirst_iff t).mpr ht)) b (pgC c _ _ h0 h1 _ Y Z Y' Z' h b)

end Cert.MixRun

end
-- ==== Proof.MixEnd.lean ====
module

public import proofs.«01_k».proof.Proof.MixBlk
public import proofs.«01_k».proof.Proof.MixSound
public import Idealize.ShloMosaic.Lib.Pipeline.ArrRel

@[expose] public section

set_option maxRecDepth 16384

noncomputable section

/-! # What the run leaves in the first two results: the gates' columns, the layer norm's rows and the bias's -/

namespace Cert.MixRun

open Cert.MixIdeal Cert.MixIdeal.Gen Cert.MixSpec
open Idealize.ShloMosaic Idealize.ShloMosaic.TcCoe Idealize.SL.Sem
open Idealize.ShloMosaic.Pipeline (Dat RDat)

variable (m : (ℓ : Loc nD τ sig) → Buf (Elt Ideal) ℓ)

theorem emb25 (t : Fin cfg0.N) (G : S8192x5120.Idx → EReal) (a : Fin 128) (k : Fin 5120) :
    G (((cfg0.win 25).blk t).view.emb (ix2 a k)) = G (ix2 (rowAt t.val a) k) := by
  unfold rowAt
  blk_point [idx t]

/-- The index under a block's index. -/
theorem emb25' (t : Fin cfg0.N) (a : Fin 128) (k : Fin 5120) (r : Fin 8192) (j : Fin 5120)
    (h : ((cfg0.win 25).blk t).view.emb (ix2 a k) = ix2 r j) : rowAt t.val a = r ∧ k = j := by
  have e := emb25 t (fun i => if i = ix2 r j then 1 else 0) a k
  have h' : ix2 (rowAt t.val a) k = ix2 r j := by
    by_contra hn
    rw [if_pos h, if_neg hn] at e
    exact one_ne_zero e
  exact ⟨congrFun h' 0, congrFun h' 1⟩

variable {r : PUnit × MemSt nD τ sig (Elt Ideal)} (h : RDat.FramePost cfg0 (rdat m (track m)) (V m) r) (c : Dev nD)

include h in
theorem du_end (i : S8192x5120.Idx) (q : Fin 8192) (b : Fin 1024) :
    (i = ix2 q ⟨2048 + b.val, by omega⟩ → (r.2.mem ((c.tc : Thread nD τ).loc main_v151_0) i : EReal) = zcAt m c q b)
    ∧ (i = ix2 q ⟨4096 + b.val, by omega⟩ → (r.2.mem ((c.tc : Thread nD τ).loc main_v151_0) i : EReal) = zlAt m c q b) := by
  obtain ⟨after, hL, hA⟩ := RDat.FramePost.exists_exact h c
  rw [show r.2.mem ((c.tc : Thread nD τ).loc main_v151_0) = _ from hA 25]
  refine Dat.arrAt_forall_of_covers ((rdat m (track m) c).withAfter after) 25 (fun (i : S8192x5120.Idx) (v : EReal) => (i = ix2 q ⟨2048 + b.val, by omega⟩ → (v : EReal) = zcAt m c q b)
    ∧ (i = ix2 q ⟨4096 + b.val, by omega⟩ → (v : EReal) = zlAt m c q b)) (by decide +kernel) (fun t hf y => ?_) i
  have hl : (track m c).l26 t (after 25 t) := Dat.toRRel_leaves (dat m (track m) c) (w := (25 : Fin cfg0.W)) rfl (hL 25 t hf)
  have hy : y = ix2 (show Fin 128 from y 0) (show Fin 5120 from y 1) := by
    funext a; match a with
    | ⟨0, _⟩ => rfl
    | ⟨1, _⟩ => rfl
  rw [hy]
  refine ⟨fun e => ?_, fun e => ?_⟩
  · obtain ⟨h1, h2⟩ := emb25' t _ _ _ _ e
    rw [h2, ← h1]
    exact (hl _ b).1
  · obtain ⟨h1, h2⟩ := emb25' t _ _ _ _ e
    rw [h2, ← h1]
    exact (hl _ b).2

include h in
theorem pg_end (b : Fin 1024) :
    (r.2.mem ((c.tc : Thread nD τ).loc main_v151_1) (ix2 1 b) : EReal) = ∑ p ∈ Finset.range 64, addG m c p b
    ∧ (r.2.mem ((c.tc : Thread nD τ).loc main_v151_1) (ix2 2 b) : EReal) = ∑ p ∈ Finset.range 64, addL m c p b
    ∧ (r.2.mem ((c.tc : Thread nD τ).loc main_v151_1) (ix2 0 b) : EReal) = ∑ p ∈ Finset.range 64, addQ m c p b := by
  obtain ⟨X, hX, hG⟩ := RDat.ArrAt.emb_eq_of_wholeAt ((h c).1 26) (t₀ := ⟨63, by decide⟩) (by decide +kernel)
  have hl : (track m c).l27 ⟨63, by decide⟩ X := Dat.toRRel_leaves (dat m (track m) c) (w := (26 : Fin cfg0.W)) rfl hX
  exact ⟨(hG (ix2 1 b)).trans (hl b).1, (hG (ix2 2 b)).trans (hl b).2.1, (hG (ix2 0 b)).trans (hl b).2.2⟩

/-- The sums over the points' blocks are sums over the rows. -/
theorem sum_rows (f : Fin 8192 → EReal) : ∑ p ∈ Finset.range 64, ∑ a : Fin 128, f (rowAt p a) = ∑ q, f q := by
  rw [Finset.sum_range, ← Equiv.sum_comp (Fin.revPerm (n := 64))]
  rw [← Equiv.sum_comp (finProdFinEquiv (m := 64) (n := 128)), Fintype.sum_prod_type]
  refine Finset.sum_congr rfl fun p _ => Finset.sum_congr rfl fun a _ => congrArg f (Fin.ext ?_)
  show (63 - (Fin.rev p).val) * 128 + a.val = a.val + 128 * p.val
  rw [Fin.val_rev]
  omega

end Cert.MixRun

end
-- ==== Proof.MixRef.lean ====
module

public import proofs.«01_k».proof.Proof.Gen.MixRefIdeal.Run
public import proofs.«01_k».proof.Proof.Gen.MixRefIdeal.Read
public import Idealize.ShloMosaic.Lib.Pipeline.ValueKit
public import proofs.«01_k».proof.Proof.LnBwd

@[expose] public section

set_option maxRecDepth 16384

noncomputable section

/-! # What the reference computes: the gradients of the gates, of the layer norm and of the convolution's bias, at an index -/

namespace Cert.MixRefRead

open Cert.MixRefIdeal Cert.MixRefIdeal.Gen Cert.MixRefIdeal.Read Idealize.ShloMosaic Idealize.ShloMosaic.TcCoe Cert.MixSpec

variable (x0 : FVec Ideal S8192x5120 .f32) (x1 x2 : FVec Ideal S8192x1024 .f32) (x3 : FVec Ideal S8192x2048 .f32) (x6 x7 : FVec Ideal S4x1024 .f32)

/-- Row `r` of the convolution's output, and row 3 of a table. -/
def qRow (r : Fin 8192) (b : Fin 1024) : EReal := x1 (ix2 r b)
def row3 (x : FVec Ideal S4x1024 .f32) (b : Fin 1024) : EReal := x (ix2 3 b)

/-- The activation's gradient at row `r`, column `b`. -/
def dpAt (r : Fin 8192) (b : Fin 1024) : EReal :=
  dpR (x0 (ix2 r ⟨2048 + b.val, by omega⟩)) (act (qRow x1 r) (row3 x6) (row3 x7) b) (x3 (ix2 r ⟨b.val, by omega⟩))

theorem dzl_ref (r : Fin 8192) (b : Fin 1024) : (val_main_v110 (F := Ideal) x0 x2 x3 (ix2 r b) : EReal)
    = dzlR (x0 (ix2 r ⟨4096 + b.val, by omega⟩)) (x2 (ix2 r b)) (x3 (ix2 r ⟨1024 + b.val, by omega⟩)) := by
  pointwise [val_main_v1, val_main_v94, val_main_v95, val_main_cst_21, val_main_v96, val_main_v97, val_main_cst_22, val_main_v98, val_main_v99, val_main_cst_23, val_main_v100, val_main_v101, val_main_v102, val_main_v105, val_main_v106, val_main_v107, val_main_v108, val_main_v109, val_main_v110]
  rfl

/-! The row the layer norm centres, its regularised variance, the inverse root and the normalised row. -/

theorem xc_ref (r : Fin 8192) (b : Fin 1024) : (val_main_v11 (F := Ideal) x1 (ix2 r b) : EReal) = qRow x1 r b - mean (qRow x1 r) := by
  pointwise [val_main_cst, val_main_v6, val_main_v7, val_main_cst_0, val_main_v8, val_main_v9, val_main_v10, val_main_v11]
  rfl

theorem var_ref (r : Fin 8192) (k : Fin 1) : (val_main_v18 (F := Ideal) x1 (ix2 r k) : EReal) = vareps (qRow x1 r) := by
  pointwise [val_main_v12, val_main_cst_1, val_main_v13, val_main_v14, val_main_cst_2, val_main_v15, val_main_v16, val_main_cst_3, val_main_v17, val_main_v18]
  simp only [xc_ref]
  rfl

theorem rstd_ref (r : Fin 8192) (k : Fin 1) : (val_main_v19 (F := Ideal) x1 (ix2 r k) : EReal) = rstd (qRow x1 r) :=
  congrArg Ideal.rsqrt (var_ref x1 r k)

theorem nrm_ref (r : Fin 8192) (b : Fin 1024) : (val_main_v24 (F := Ideal) x1 (ix2 r b) : EReal) = nrm (qRow x1 r) b := by
  pointwise [val_main_v23, val_main_v24]
  rw [xc_ref, rstd_ref]
  rfl

theorem act_ref (r : Fin 8192) (b : Fin 1024) : (val_main_v30 (F := Ideal) x1 x6 x7 (ix2 r b) : EReal) = act (qRow x1 r) (row3 x6) (row3 x7) b := by
  pointwise [val_main_v2, val_main_v3, val_main_v4, val_main_v5, val_main_v25, val_main_v26, val_main_v27, val_main_v28, val_main_v29, val_main_v30]
  rw [nrm_ref]
  rfl

theorem dzc_ref (r : Fin 8192) (b : Fin 1024) : (val_main_v58 (F := Ideal) x0 x1 x3 x6 x7 (ix2 r b) : EReal)
    = dzcR (x0 (ix2 r ⟨2048 + b.val, by omega⟩)) (act (qRow x1 r) (row3 x6) (row3 x7) b) (x3 (ix2 r ⟨b.val, by omega⟩)) := by
  pointwise [val_main_v0, val_main_v31, val_main_v32, val_main_cst_5, val_main_v33, val_main_v34, val_main_cst_6, val_main_v35, val_main_v36, val_main_v40, val_main_v41, val_main_v42, val_main_cst_8, val_main_v43, val_main_v44, val_main_cst_9, val_main_v45, val_main_v46, val_main_cst_10, val_main_v47, val_main_v48, val_main_v49, val_main_v52, val_main_v53, val_main_v55, val_main_v56, val_main_v57, val_main_v58]
  rw [act_ref]
  rfl

theorem dp_ref (r : Fin 8192) (b : Fin 1024) : (val_main_v62 (F := Ideal) x0 x1 x3 x6 x7 (ix2 r b) : EReal) = dpAt x0 x1 x3 x6 x7 r b := by
  pointwise [val_main_v0, val_main_v31, val_main_v32, val_main_cst_5, val_main_v33, val_main_v34, val_main_cst_6, val_main_v35, val_main_v36, val_main_cst_7, val_main_v37, val_main_v38, val_main_v39, val_main_v41, val_main_v42, val_main_cst_8, val_main_v43, val_main_v44, val_main_cst_9, val_main_v45, val_main_v46, val_main_v50, val_main_v52, val_main_v54, val_main_v59, val_main_v60, val_main_v61, val_main_v62]
  rw [act_ref]
  rfl

theorem lnb_ref (b : Fin 1024) : (val_main_v65 (F := Ideal) x0 x1 x3 x6 x7 (ix1 b) : EReal) = ∑ r, dpAt x0 x1 x3 x6 x7 r b := by
  pointwise [val_main_cst_11, val_main_v63, val_main_v64, val_main_cst_12, val_main_v65]
  refine (Fin.sum_univ_one _).trans ?_
  simp only [dp_ref]

theorem lng_ref (b : Fin 1024) : (val_main_v71 (F := Ideal) x0 x1 x3 x6 x7 (ix1 b) : EReal) = ∑ r, nrm (qRow x1 r) b * dpAt x0 x1 x3 x6 x7 r b := by
  pointwise [val_main_v66, val_main_cst_13, val_main_v67, val_main_v68, val_main_cst_14, val_main_v71]
  refine (Fin.sum_univ_one _).trans ?_
  simp only [dp_ref, nrm_ref]

/-- The normalised row's cotangent. -/
def dnAt (r : Fin 8192) (b : Fin 1024) : EReal := dpAt x0 x1 x3 x6 x7 r b * row3 x6 b

theorem dn_ref (r : Fin 8192) (b : Fin 1024) : (val_main_v70 (F := Ideal) x0 x1 x3 x6 x7 (ix2 r b) : EReal) = dnAt x0 x1 x3 x6 x7 r b := by
  pointwise [val_main_v2, val_main_v3, val_main_v25, val_main_v69, val_main_v70]
  rw [dp_ref]
  rfl

theorem xcbar_ref (r : Fin 8192) (b : Fin 1024) : (val_main_v85 (F := Ideal) x0 x1 x3 x6 x7 (ix2 r b) : EReal)
    = lnC (qRow x1 r) (dnAt x0 x1 x3 x6 x7 r) b := by
  pointwise [val_main_v20, val_main_cst_4, val_main_v21, val_main_v22, val_main_v72, val_main_cst_15, val_main_v73, val_main_v74, val_main_v75, val_main_v76, val_main_v77, val_main_cst_16, val_main_v78, val_main_v79, val_main_cst_17, val_main_v80, val_main_v81, val_main_v82, val_main_v83, val_main_v84, val_main_v85]
  simp only [dn_ref, xc_ref, var_ref, rstd_ref]
  rfl

theorem dq_ref (r : Fin 8192) (b : Fin 1024) : (val_main_v93 (F := Ideal) x0 x1 x3 x6 x7 (ix2 r b) : EReal)
    = lnR (qRow x1 r) (dnAt x0 x1 x3 x6 x7 r) b := by
  pointwise [val_main_v86, val_main_cst_18, val_main_v87, val_main_v88, val_main_cst_19, val_main_v89, val_main_v90, val_main_cst_20, val_main_v91, val_main_v92, val_main_v93]
  simp only [xcbar_ref]
  rfl

theorem bias_ref (b : Fin 1024) : (val_main_v113 (F := Ideal) x0 x1 x3 x6 x7 (ix1 b) : EReal)
    = ∑ r, lnR (qRow x1 r) (dnAt x0 x1 x3 x6 x7 r) b := by
  pointwise [val_main_cst_25, val_main_v113]
  simp only [dq_ref]

/-! The two results, where they are compared. -/

theorem du_zc (r : Fin 8192) (b : Fin 1024) : (val_main_v120 (F := Ideal) x0 x1 x2 x3 x6 x7 (ix2 r ⟨2048 + b.val, by omega⟩) : EReal)
    = val_main_v58 (F := Ideal) x0 x1 x3 x6 x7 (ix2 r b) := by
  pointwise [val_main_v120, val_main_v112]
  rw [dif_neg (by omega), dif_neg (by omega), dif_pos (by omega)]
  congr 1
  exact congrArg (ix2 r) (Fin.ext (by simp <;> omega))

theorem du_zl (r : Fin 8192) (b : Fin 1024) : (val_main_v120 (F := Ideal) x0 x1 x2 x3 x6 x7 (ix2 r ⟨4096 + b.val, by omega⟩) : EReal)
    = val_main_v110 (F := Ideal) x0 x2 x3 (ix2 r b) := by
  pointwise [val_main_v120, val_main_v112]
  rw [dif_neg (by omega), dif_neg (by omega), dif_neg (by omega), dif_neg (by omega)]
  exact congrArg (val_main_v110 (F := Ideal) x0 x2 x3) (congrArg (ix2 r) (Fin.ext (by show 4096 + b.val - 1024 - 1024 - 1024 - 1024 = b.val; omega)))

theorem pg_bias (b : Fin 1024) : (val_main_v118 (F := Ideal) x0 x1 x3 x6 x7 (ix2 0 b) : EReal) = val_main_v113 (F := Ideal) x0 x1 x3 x6 x7 (ix1 b) := by
  pointwise [val_main_v118, val_main_v114]

theorem pg_lng (b : Fin 1024) : (val_main_v118 (F := Ideal) x0 x1 x3 x6 x7 (ix2 1 b) : EReal) = val_main_v71 (F := Ideal) x0 x1 x3 x6 x7 (ix1 b) := by
  pointwise [val_main_v118, val_main_v115]

theorem pg_lnb (b : Fin 1024) : (val_main_v118 (F := Ideal) x0 x1 x3 x6 x7 (ix2 2 b) : EReal) = val_main_v65 (F := Ideal) x0 x1 x3 x6 x7 (ix1 b) := by
  pointwise [val_main_v118, val_main_v116]

end Cert.MixRefRead

end
-- ==== Proof.MixPre.lean ====
module

public import proofs.«01_k».proof.Proof.MixSpec
public import proofs.«01_k».proof.Pre_finite
public import proofs.«01_k».proof.On_gates
public import Idealize.ShloMosaic.Lib.ReduceAll
public import Idealize.ShloMosaic.Lib.Pipeline.ValueKit

@[expose] public section

set_option maxRecDepth 16384

noncomputable section

/-! # What the precondition and the mask say -/

namespace Cert.MixPre

open Idealize.ShloMosaic Cert.MixSpec

theorem inf_top : Ideal.ofBits .f32 0x7F800000#32 = ⊤ := by simp [Ideal.ofBits, Ideal.ieee]

/-- An element whose absolute value the comparison finds below infinity is real. -/
theorem real_of_lt (x : EReal) (h : Ideal.cmp .olt (max x (-x)) ⊤ = 1#1) : IsReal x := by
  induction x with
  | bot => simp [Ideal.cmp] at h
  | top => simp [Ideal.cmp] at h
  | coe r => exact ⟨r, rfl⟩

section
open Cert.Pre_finite
instance : Cert.Pre_finite.Facts := by constructor <;> decide

theorem finite_real (x0 : FVec Ideal S8192x5120 .f32) (x1 x2 : FVec Ideal S8192x1024 .f32) (x3 : FVec Ideal S8192x2048 .f32)
    (x4 : FVec Ideal S4x31x1024 .f32) (x5 x6 x7 : FVec Ideal S4x1024 .f32) (x8 : FVec Ideal S4x4x1024 .f32) (x9 : FVec Ideal S4x1024 .f32)
    (x10 : FVec Ideal S4x8x128x128 .f32) (x11 : FVec Ideal S4x1024 .f32) (x12 : FVec Ideal S4x8x128x128 .f32) (x13 x14 : FVec Ideal S4x1024 .f32)
    (i0 : S_.Idx) (h : Cert.Pre_finite.fn (F := Ideal) x0 x1 x2 x3 x4 x5 x6 x7 x8 x9 x10 x11 x12 x13 x14 i0 = 1#1) :
    (∀ i, IsReal (x0 i)) ∧ (∀ i, IsReal (x2 i)) ∧ (∀ i, IsReal (x3 i)) ∧ (∀ i, IsReal (x6 i)) ∧ ∀ i, IsReal (x7 i) := by
  haveI : Subsingleton S_.Idx := ⟨fun i j => funext fun k => k.elim0⟩
  unfold Cert.Pre_finite.fn Cert.Pre_finite.fn_part1 at h
  have and1 : ∀ x y : BitVec 1, x &&& y = 1#1 → x = 1#1 ∧ y = 1#1 := by decide
  have all {s : Shape} {axes : List (Fin s.rank)} (x : FVec Ideal s .f32) (y : FVec Ideal s .f32) (hy : ∀ i, (y i : EReal) = ⊤)
      (w : S_.Idx → BitVec 1) (hr : s.ReducesTo axes S_) (e : Host.reduce IntOp.andi (cmpf .olt (Host.absf x) y) w hr Facts.h_S_ i0 = 1#1) (i : s.Idx) : IsReal (x i) := by
    have := Host.reduce_andi_all _ w hr Facts.h_S_ i0 e i
    refine real_of_lt _ ?_
    rw [← hy i]; exact this
  obtain ⟨h, h7⟩ := and1 _ _ h
  obtain ⟨h, h6⟩ := and1 _ _ h
  obtain ⟨h, h3⟩ := and1 _ _ h
  obtain ⟨h0, h2⟩ := and1 _ _ h
  exact ⟨all _ _ (fun _ => inf_top) _ _ h0, all _ _ (fun _ => inf_top) _ _ h2, all _ _ (fun _ => inf_top) _ _ h3,
    all _ _ (fun _ => inf_top) _ _ h6, all _ _ (fun _ => inf_top) _ _ h7⟩

end

section
open Cert.On_gates
instance : Cert.On_gates.Facts := by constructor <;> decide

variable (x0 : FVec Ideal S8192x5120 .f32) (x1 x2 : FVec Ideal S8192x1024 .f32) (x3 : FVec Ideal S8192x2048 .f32)
    (x4 : FVec Ideal S4x31x1024 .f32) (x5 x6 x7 : FVec Ideal S4x1024 .f32) (x8 : FVec Ideal S4x4x1024 .f32) (x9 : FVec Ideal S4x1024 .f32)
    (x10 : FVec Ideal S4x8x128x128 .f32) (x11 : FVec Ideal S4x1024 .f32) (x12 : FVec Ideal S4x8x128x128 .f32) (x13 x14 : FVec Ideal S4x1024 .f32)

theorem cols : ∀ j : Fin 5120, IntOp.ori (IntOp.andi (IntOp.cmpi .sge (BitVec.ofNat 32 j.val) 2048#32) (IntOp.cmpi .slt (BitVec.ofNat 32 j.val) 3072#32))
    (IntOp.cmpi .sge (BitVec.ofNat 32 j.val) 4096#32) = 1#1 → 2048 ≤ j.val ∧ j.val < 3072 ∨ 4096 ≤ j.val := by
  decide +kernel

theorem rows : ∀ j : Fin 16, IntOp.cmpi .sle (BitVec.ofNat 32 j.val) 2#32 = 1#1 → j = 0 ∨ j = 1 ∨ j = 2 := by
  decide +kernel

/-- The first result is compared on the two gates' columns. -/
theorem mask_cols (i : S8192x5120.Idx) (h : (Cert.On_gates.fn (F := Ideal) x0 x1 x2 x3 x4 x5 x6 x7 x8 x9 x10 x11 x12 x13 x14).1 i = 1#1) :
    ∃ (r : Fin 8192) (b : Fin 1024), i = ix2 r ⟨2048 + b.val, by omega⟩ ∨ i = ix2 r ⟨4096 + b.val, by omega⟩ := by
  rcases cols (i 1) h with ⟨h1, h2⟩ | h1
  · exact ⟨i 0, ⟨(i 1).val - 2048, by omega⟩, .inl (funext fun k => by
      match k with
      | ⟨0, _⟩ => rfl
      | ⟨1, _⟩ => exact Fin.ext (by show (i 1).val = 2048 + ((i 1).val - 2048); omega))⟩
  · exact ⟨i 0, ⟨(i 1).val - 4096, by have : (i 1).val < 5120 := (i 1).isLt; omega⟩, .inr (funext fun k => by
      match k with
      | ⟨0, _⟩ => rfl
      | ⟨1, _⟩ => exact Fin.ext (by show (i 1).val = 4096 + ((i 1).val - 4096); omega))⟩

/-- The second result is compared on the convolution's bias's row and the layer norm's two. -/
theorem mask_rows (i : S16x1024.Idx) (h : (Cert.On_gates.fn (F := Ideal) x0 x1 x2 x3 x4 x5 x6 x7 x8 x9 x10 x11 x12 x13 x14).2.1 i = 1#1) :
    ∃ b : Fin 1024, i = ix2 0 b ∨ i = ix2 1 b ∨ i = ix2 2 b := by
  refine ⟨i 1, (rows (i 0) h).imp (fun e => funext fun k => ?_) fun h => h.imp (fun e => funext fun k => ?_) fun e => funext fun k => ?_⟩ <;>
  · match k with
    | ⟨0, _⟩ => exact e
    | ⟨1, _⟩ => rfl

theorem mask_none (i : S32x1024.Idx) : (Cert.On_gates.fn (F := Ideal) x0 x1 x2 x3 x4 x5 x6 x7 x8 x9 x10 x11 x12 x13 x14).2.2.1 i ≠ 1#1 := by
  show (0#1 : BitVec 1) ≠ 1#1
  decide

theorem mask_none' (i : S8x128x128.Idx) : (Cert.On_gates.fn (F := Ideal) x0 x1 x2 x3 x4 x5 x6 x7 x8 x9 x10 x11 x12 x13 x14).2.2.2.1 i ≠ 1#1 := by
  show (0#1 : BitVec 1) ≠ 1#1
  decide

theorem mask_none'' (i : S8x128x128.Idx) : (Cert.On_gates.fn (F := Ideal) x0 x1 x2 x3 x4 x5 x6 x7 x8 x9 x10 x11 x12 x13 x14).2.2.2.2 i ≠ 1#1 := by
  show (0#1 : BitVec 1) ≠ 1#1
  decide

end

end Cert.MixPre

end
-- ==== Proof.MixClaim.lean ====
module

public import proofs.«01_k».proof.Defs
public import proofs.«01_k».proof.Proof.MixKernel
public import proofs.«01_k».proof.Proof.MixEnd
public import proofs.«01_k».proof.Proof.MixRef
public import proofs.«01_k».proof.Proof.MixPre

@[expose] public section

set_option maxRecDepth 16384

noncomputable section

/-! # The mixer's claims -/

namespace Cert.MixRun

open Idealize.ShloMosaic Idealize.ShloMosaic.TcCoe Idealize.SL.Sem Cert.MixSpec Cert.MixPre
open Idealize.ShloMosaic.Pipeline (RDat)

theorem frame_ideal_finite : Cert.quiescent_MixIdeal_pre_finite := fun m ρ _ => frame_ideal m ρ trivial

theorem frame_ref : Cert.quiescent_MixRefIdeal (hMixRefIdeal := Cert.MixRefIdeal.Gen.facts) := fun m ρ _ =>
  (θ_run Cert.MixRefIdeal.defs _ _).mono (fun r h => ⟨fun c => (h c).2.2.2.2.2, Idealize.ShloMosaic.sem_eq_zero_of_no_sems (by decide) r.2⟩)
    (Cert.MixRefIdeal.Value.run (F := Ideal) m ρ)

theorem frame_ref_finite : Cert.quiescent_MixRefIdeal_pre_finite (hMixRefIdeal := Cert.MixRefIdeal.Gen.facts) := fun m ρ _ => frame_ref m ρ trivial

section
open Cert.MixIdeal Cert.MixIdeal.Gen Cert.MixRefIdeal.Read Cert.MixRefRead

variable (m : (ℓ : Loc nD τ sig) → Buf (Elt Ideal) ℓ) (c : Dev nD)

/-- The reference's first two results, of the kernel's arguments. -/
def want0 : FVec Ideal S8192x5120 .bf16 := val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
def want1 : FVec Ideal S16x1024 .f32 := val_main_v118 (F := Ideal) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg7))

/-- The arguments the gates' gradients are taken from are real. -/
structure Reals : Prop where
  u : ∀ r k, IsReal (uAt m c r k)
  h : ∀ r b, IsReal (hAt m c r b)
  dy : ∀ r k, IsReal (dyAt m c r k)
  g : ∀ b, IsReal (gAt m c b)
  l : ∀ b, IsReal (lAt m c b)

theorem reals (hp : Cert.Pre_MixIdeal_finite m) : Reals m c :=
  have h := finite_real _ _ _ _ _ _ _ _ _ _ _ _ _ _ _ (fun k => k.elim0) (congrFun (hp c) _)
  ⟨fun _ _ => h.1 _, fun _ _ => h.2.1 _, fun _ _ => h.2.2.1 _, fun _ => h.2.2.2.1 _, fun _ => h.2.2.2.2 _⟩

variable {m c} (hr : Reals m c)
include hr

theorem Reals.p (q : Fin 8192) (b : Fin 1024) : IsReal (pAt m c q b) := act_real _ (hr.g b) (hr.l b)

theorem want0_2 (q : Fin 8192) (b : Fin 1024) : zcAt m c q b = want0 m c (ix2 q ⟨2048 + b.val, by omega⟩) :=
  (dzc_eq (hr.u _ _) (hr.p q b) (hr.dy _ _)).trans ((du_zc _ _ _ _ _ _ q b).trans (dzc_ref _ _ _ _ _ q b)).symm

theorem want0_4 (q : Fin 8192) (b : Fin 1024) : zlAt m c q b = want0 m c (ix2 q ⟨4096 + b.val, by omega⟩) :=
  (dzl_eq (hr.u _ _) (hr.h _ _) (hr.dy _ _)).trans ((du_zl _ _ _ _ _ _ q b).trans (dzl_ref _ _ _ q b)).symm

theorem daAt_eq (q : Fin 8192) (b : Fin 1024) : daAt m c q b = dpAt (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg7)) q b :=
  dp_eq (hr.u _ _) (hr.p q b) (hr.dy _ _)

theorem want1_1 (b : Fin 1024) : ∑ p ∈ Finset.range 64, addG m c p b = want1 m c (ix2 1 b) := by
  refine (sum_rows fun q => daAt m c q b * nrm (qAt m c q) b).trans (Eq.trans ?_ ((pg_lng _ _ _ _ _ b).trans (lng_ref _ _ _ _ _ b)).symm)
  exact Finset.sum_congr rfl fun q _ => (mul_comm _ _).trans (congrArg (nrm (qAt m c q) b * ·) (daAt_eq hr q b))

theorem want1_2 (b : Fin 1024) : ∑ p ∈ Finset.range 64, addL m c p b = want1 m c (ix2 2 b) := by
  refine (sum_rows fun q => daAt m c q b).trans (Eq.trans ?_ ((pg_lnb _ _ _ _ _ b).trans (lnb_ref _ _ _ _ _ b)).symm)
  exact Finset.sum_congr rfl fun q _ => daAt_eq hr q b

/-- The activation's gradient is real. -/
theorem Reals.da (q : Fin 8192) (b : Fin 1024) : IsReal (daAt m c q b) :=
  dpK_real (hr.u _ _) (hr.p q b) (hr.dy _ _)

theorem want1_0 (b : Fin 1024) : ∑ p ∈ Finset.range 64, addQ m c p b = want1 m c (ix2 0 b) := by
  refine (sum_rows fun q => dqAt m c q b).trans (Eq.trans ?_ ((pg_bias _ _ _ _ _ b).trans (bias_ref _ _ _ _ _ b)).symm)
  refine Finset.sum_congr rfl fun q _ => (ln_eq _ _ (fun x => (hr.da q x).mul (hr.g x)) b).trans ?_
  exact congrArg (fun D => lnR (qAt m c q) D b) (funext fun x => congrArg (· * gAt m c x) (daAt_eq hr q x))

end

set_option maxHeartbeats 1000000 in
theorem algebraic : Cert.algebraic_MixIdeal_MixRefIdeal_on_gates_pre_finite (hMixIdeal := Cert.MixIdeal.Gen.facts) (hMixRefIdeal := Cert.MixRefIdeal.Gen.facts) := by
  intro m ρ m' ρ' hp hagree
  refine ⟨fun c => want0 m c, fun c => want1 m c, fun _ _ => (0 : EReal), fun _ _ => (0 : EReal), fun _ _ => (0 : EReal), ?_, ?_⟩
  · refine (θ_run Cert.MixIdeal.defs _ _).mono (fun r h c => ⟨fun i hi => ?_, fun i hi => ?_, fun i hi => absurd hi (mask_none _ _ _ _ _ _ _ _ _ _ _ _ _ _ _ i),
      fun i hi => absurd hi (mask_none' _ _ _ _ _ _ _ _ _ _ _ _ _ _ _ i), fun i hi => absurd hi (mask_none'' _ _ _ _ _ _ _ _ _ _ _ _ _ _ _ i),
      args_kept m (fun c => track m c) h.1 c⟩) (run_main m ρ fun c => track m c)
    · obtain ⟨q, b, e | e⟩ := mask_cols _ _ _ _ _ _ _ _ _ _ _ _ _ _ _ i hi
      · exact ((du_end m h.1 c i q b).1 e).trans ((want0_2 (reals m c hp) q b).trans (congrArg (want0 m c) e.symm))
      · exact ((du_end m h.1 c i q b).2 e).trans ((want0_4 (reals m c hp) q b).trans (congrArg (want0 m c) e.symm))
    · obtain ⟨b, rfl | rfl | rfl⟩ := mask_rows _ _ _ _ _ _ _ _ _ _ _ _ _ _ _ i hi
      · exact (pg_end m h.1 c b).2.2.trans (want1_0 (reals m c hp) b)
      · exact (pg_end m h.1 c b).1.trans (want1_1 (reals m c hp) b)
      · exact (pg_end m h.1 c b).2.1.trans (want1_2 (reals m c hp) b)
  · refine (θ_run Cert.MixRefIdeal.defs _ _).mono (fun r h c => ⟨fun i _ => ?_, fun i _ => ?_, fun i hi => absurd hi (mask_none _ _ _ _ _ _ _ _ _ _ _ _ _ _ _ i),
      fun i hi => absurd hi (mask_none' _ _ _ _ _ _ _ _ _ _ _ _ _ _ _ i), fun i hi => absurd hi (mask_none'' _ _ _ _ _ _ _ _ _ _ _ _ _ _ _ i),
      (h c).2.2.2.2.2⟩) (Cert.MixRefIdeal.Value.run (F := Ideal) m' ρ')
    · refine congrFun ((h c).1.trans ((Cert.MixRefIdeal.Read.val_main_v120_eq _).trans ?_)) i
      show Cert.MixRefIdeal.Read.val_main_v120 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) = _
      rw [(hagree c).1, (hagree c).2.1, (hagree c).2.2.1, (hagree c).2.2.2.1, (hagree c).2.2.2.2.2.2.1, (hagree c).2.2.2.2.2.2.2.1]
      rfl
    · refine congrFun ((h c).2.1.trans ((Cert.MixRefIdeal.Read.val_main_v118_eq _).trans ?_)) i
      show Cert.MixRefIdeal.Read.val_main_v118 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) = _
      rw [(hagree c).1, (hagree c).2.1, (hagree c).2.2.2.1, (hagree c).2.2.2.2.2.2.1, (hagree c).2.2.2.2.2.2.2.1]
      rfl

end Cert.MixRun

end
-- ==== Proof.WInValue.lean ====
module

public import proofs.«01_k».proof.Proof.Gen.WInIdeal.Value
public import proofs.«01_k».proof.Proof.Gen.WInRefIdeal.Run
public import proofs.«01_k».proof.Proof.Gen.WInRefIdeal.Read
public import Idealize.ShloMosaic.Lib.Pipeline.ValueKit
public import Idealize.ShloMosaic.Lib.Pipeline.ReadBack

@[expose] public section

set_option maxRecDepth 16384

noncomputable section

namespace Cert.WInOwn

open Cert.WInIdeal Cert.WInIdeal.Gen Idealize.ShloMosaic Idealize.ShloMosaic.TcCoe Idealize.SL.Sem
open Idealize.ShloMosaic.Pipeline (Dat)

variable (m : (ℓ : Loc nD τ sig) → Buf (Elt Ideal) ℓ)

/-- The gradient as the product of the transposed activations with the cotangent, laid out in the result's blocks. -/
def prod (h : FVec Ideal S8192x2048 .bf16) (du : FVec Ideal S8192x5120 .bf16) : FVec Ideal S2x4x2048x640 .bf16 :=
  fun j => ∑ l : Fin 8192, h (ix2 l (j 2)) * du (ix2 l (⟨1280 * (j 1).val + 640 * (j 0).val + (j 3).val, by
    have h0 : (j 0).val < 2 := (j 0).isLt
    have h1 : (j 1).val < 4 := (j 1).isLt
    have h3 : (j 3).val < 640 := (j 3).isLt
    omega⟩ : Fin 5120))

theorem idx : ∀ t : Fin cfg0.N, win0_0.index t = ![t.val % 4, 0] ∧ win0_1.index t = ![t.val % 4, t.val / 4]
    ∧ win0_2.index t = ![0, t.val / 4, 0, 0] ∧ t.val < 16 :=
  (by decide +kernel : ∀ t : Fin grid0.N, _)

theorem hzero (j) : k0_pay1 (F := Ideal) j = 0 := by pointwise [k0_pay1]

theorem hpay (acc : Vec Ideal S2048x1280 .f32) (x0 : Vec Ideal S2048x2048 .bf16) (x1 : Vec Ideal S2048x1280 .bf16) (j) :
    k0_pay2 (F := Ideal) acc x0 x1 j = acc j + ∑ k : Fin 2048, x0 (ix2 k (j 0)) * x1 (ix2 k (j 1)) := by
  pointwise [k0_pay2]

/-- The scratch at the end of a column block's sweep: the sum of the four row blocks' products. -/
theorem scratch (c : Dev nD) (t : Fin cfg0.N) (ht : t.val % 4 = 3) (j) :
    (outsAt0 m c t.val t.isLt).2 j = ∑ s : Fin 4, ∑ k : Fin 2048,
      (show FVec Ideal S2048x2048 .bf16 from iblk m c 0 ⟨4 * (t.val / 4) + s.val, Pipeline.run_point_lt_of_flush t ht s⟩) (ix2 k (j 0))
      * (show FVec Ideal S2048x1280 .bf16 from iblk m c 1 ⟨4 * (t.val / 4) + s.val, Pipeline.run_point_lt_of_flush t ht s⟩) (ix2 k (j 1)) := by
  rw [Pipeline.eq_sum_fin_of_reset_step_apply_of_flush (fun n h => (outsAt0 m c n h).2) 4 (fun _ => 0)
    (fun p j => ∑ k : Fin 2048, (show FVec Ideal S2048x2048 .bf16 from iblk m c 0 p) (ix2 k (j 0)) * (show FVec Ideal S2048x1280 .bf16 from iblk m c 1 p) (ix2 k (j 1)))
    (fun t h j => by
      show (outsAt0 m c t.val t.isLt).2 j = _
      rw [outsAt0_A m c t h (by omega)]; frame_out; rw [hpay, hzero])
    (fun t h j => by
      show (outsAt0 m c t.val t.isLt).2 j = _
      by_cases h3 : t.val % 4 = 3
      · rw [outsAt0_C m c t h h3]; frame_out; rw [hpay, read_unread_whole]
      · rw [outsAt0_B m c t h h3]; frame_out; rw [hpay, read_unread_whole])
    t ht _, zero_add]

theorem point (c : Dev nD) (t : Fin cfg0.N) (ht : t.val % 4 = 3) (y : S2x1x2048x640.Idx) (i : S2048x1280.Idx)
    (h0 : (i 0).val = (y 2).val) (h1 : (i 1).val = 640 * (y 0).val + (y 3).val) :
    (outsAt0 m c t.val t.isLt).1 y = (outsAt0 m c t.val t.isLt).2 i := by
  rw [outsAt0_C m c t (by omega) ht]
  frame_out
  simp (disch := decide) only [View.readCov_fill]
  generalize k0_pay2 (F := Ideal) _ _ _ = A
  canon_tiles x h
  all_goals (open_payloads; pointwise; blk_ext)

theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  blk_simp
  rw [after0_2]
  obtain_idx i : S2048x1280 := [(y 2 : ℕ), 640 * (y 0 : ℕ) + (y 3 : ℕ)] with hi
  rw [point m c t ht y i hi0 hi1, scratch m c t ht]
  unfold prod
  refine Fin.sum_mul_add_congr fun s k hl => ?_
  blk_point [iblk, V, idx t, idx ⟨_, Pipeline.run_point_lt_of_flush t ht s⟩]

end Cert.WInOwn

end
-- ==== Proof.WInClaim.lean ====
module

public import proofs.«01_k».proof.Defs
public import proofs.«01_k».proof.Proof.Gen.WIn.Frame
public import proofs.«01_k».proof.Proof.WInValue

@[expose] public section

set_option maxRecDepth 16384

noncomputable section

namespace Cert.WInOwn

open Idealize.ShloMosaic Idealize.ShloMosaic.TcCoe Idealize.SL.Sem

/-- The reference's composed term, read at an index: one sum over the rows. -/
theorem ref_eq (x0 : FVec Ideal Cert.WInRefIdeal.S8192x2048 .bf16) (x1 : FVec Ideal Cert.WInRefIdeal.S8192x5120 .bf16) :
    Cert.WInRefIdeal.Read.val_main_v8 (F := Ideal) x0 x1 = prod x0 x1 := by
  funext j
  rw [Cert.WInRefIdeal.Read.val_main_v8_apply, Cert.WInRefIdeal.Read.val_main_v7_apply, Cert.WInRefIdeal.Read.val_main_v6_apply,
    Cert.WInRefIdeal.Read.val_main_v5_apply]
  show Cert.WInRefIdeal.Read.val_main_v4 (F := Ideal) x0 x1 _ = _
  rw [Cert.WInRefIdeal.Read.val_main_v4_apply]
  unfold prod
  refine Fin.sum_fin_congr fun l => ?_
  have h0 : (j 0).val < 2 := (j 0).isLt
  have h1 : (j 1).val < 4 := (j 1).isLt
  have h2 : (j 2).val < 2048 := (j 2).isLt
  have h3 : (j 3).val < 640 := (j 3).isLt
  refine (mul_comm _ _).trans ?_
  show x0 _ * x1 _ = _
  refine congrArg₂ (· * ·) (congrArg x0 (funext fun a => Fin.ext ?_)) (congrArg x1 (funext fun a => Fin.ext ?_))
  · match a with
    | ⟨0, _⟩ => rfl
    | ⟨1, _⟩ => show ((((j 2).val * 4 + (j 1).val) * 2 + (j 0).val) * 640 + (j 3).val) / 5120 = (j 2).val; omega
  · match a with
    | ⟨0, _⟩ => rfl
    | ⟨1, _⟩ => show ((((j 2).val * 4 + (j 1).val) * 2 + (j 0).val) * 640 + (j 3).val) % 5120 = 1280 * (j 1).val + 640 * (j 0).val + (j 3).val; omega

theorem frame_kernel : Cert.quiescent_WIn (hWIn := Cert.WIn.Gen.facts) := fun m ρ _ => Cert.WIn.Gen.frame m ρ

theorem frame_ideal : Cert.quiescent_WInIdeal (hWInIdeal := Cert.WInIdeal.Gen.facts) := fun m ρ _ => Cert.WInIdeal.Gen.frame m ρ

theorem frame_ref : Cert.quiescent_WInRefIdeal (hWInRefIdeal := Cert.WInRefIdeal.Gen.facts) := fun m ρ _ =>
  (θ_run Cert.WInRefIdeal.defs _ _).mono (fun r h => ⟨fun c => (h c).2, Idealize.ShloMosaic.sem_eq_zero_of_no_sems (by decide) r.2⟩)
    (Cert.WInRefIdeal.Value.run (F := Ideal) m ρ)

theorem algebraic : Cert.algebraic_WInIdeal_WInRefIdeal (hWInIdeal := Cert.WInIdeal.Gen.facts) (hWInRefIdeal := Cert.WInRefIdeal.Gen.facts) := by
  intro m ρ m' ρ' _ hagree
  refine ⟨fun c => Cert.WInIdeal.Value.G2 m c, Cert.WInIdeal.Value.run m ρ, ?_⟩
  refine (θ_run Cert.WInRefIdeal.defs _ _).mono (fun _ h c => ⟨(h c).1.trans ?_, (h c).2⟩)
    (Cert.WInRefIdeal.Value.run (F := Ideal) m' ρ')
  rw [(hagree c).1, (hagree c).2]
  exact (ref_eq _ _).trans ((final m c).symm.trans (Cert.WInIdeal.Value.final2 m c))

end Cert.WInOwn

end
-- ==== Proof.WOutValue.lean ====
module

public import proofs.«01_k».proof.Proof.Gen.WOutIdeal.Value
public import proofs.«01_k».proof.Proof.Gen.WOutRefIdeal.Run
public import proofs.«01_k».proof.Proof.Gen.WOutRefIdeal.Read
public import Idealize.ShloMosaic.Lib.Pipeline.ValueKit
public import Idealize.ShloMosaic.Lib.Pipeline.ReadBack

@[expose] public section

set_option maxRecDepth 16384

noncomputable section

namespace Cert.WOutOwn

open Cert.WOutIdeal Cert.WOutIdeal.Gen Idealize.ShloMosaic Idealize.ShloMosaic.TcCoe Idealize.SL.Sem
open Idealize.ShloMosaic.Pipeline (Dat)

variable (m : (ℓ : Loc nD τ sig) → Buf (Elt Ideal) ℓ)

/-- The gradient as the product of the transposed activations with the cotangent, laid out in the result's blocks. -/
def prod (h : FVec Ideal S8192x2048 .bf16) (du : FVec Ideal S8192x2048 .bf16) : FVec Ideal S8x256x2048 .bf16 :=
  fun j => ∑ l : Fin 8192, h (ix2 l (⟨512 * ((j 0).val % 4) + 256 * ((j 0).val / 4) + (j 1).val, by
    have h0 : (j 0).val < 8 := (j 0).isLt
    have h1 : (j 1).val < 256 := (j 1).isLt
    omega⟩ : Fin 2048)) * du (ix2 l (j 2))

theorem idx : ∀ t : Fin cfg0.N, win0_0.index t = ![t.val % 4, 0] ∧ win0_1.index t = ![t.val % 4, t.val / 4]
    ∧ win0_2.index t = ![0, 0, t.val / 4] ∧ t.val < 8 :=
  (by decide +kernel : ∀ t : Fin grid0.N, _)

theorem hzero (j) : k0_pay1 (F := Ideal) j = 0 := by pointwise [k0_pay1]

theorem hpay (acc : Vec Ideal S2048x1024 .f32) (x0 : Vec Ideal S2048x2048 .bf16) (x1 : Vec Ideal S2048x1024 .bf16) (j) :
    k0_pay2 (F := Ideal) acc x0 x1 j = acc j + ∑ k : Fin 2048, x0 (ix2 k (j 0)) * x1 (ix2 k (j 1)) := by
  pointwise [k0_pay2]

/-- The scratch at the end of a column block's sweep: the sum of the four row blocks' products. -/
theorem scratch (c : Dev nD) (t : Fin cfg0.N) (ht : t.val % 4 = 3) (j) :
    (outsAt0 m c t.val t.isLt).2 j = ∑ s : Fin 4, ∑ k : Fin 2048,
      (show FVec Ideal S2048x2048 .bf16 from iblk m c 0 ⟨4 * (t.val / 4) + s.val, Pipeline.run_point_lt_of_flush t ht s⟩) (ix2 k (j 0))
      * (show FVec Ideal S2048x1024 .bf16 from iblk m c 1 ⟨4 * (t.val / 4) + s.val, Pipeline.run_point_lt_of_flush t ht s⟩) (ix2 k (j 1)) := by
  rw [Pipeline.eq_sum_fin_of_reset_step_apply_of_flush (fun n h => (outsAt0 m c n h).2) 4 (fun _ => 0)
    (fun p j => ∑ k : Fin 2048, (show FVec Ideal S2048x2048 .bf16 from iblk m c 0 p) (ix2 k (j 0)) * (show FVec Ideal S2048x1024 .bf16 from iblk m c 1 p) (ix2 k (j 1)))
    (fun t h j => by
      show (outsAt0 m c t.val t.isLt).2 j = _
      rw [outsAt0_A m c t h (by omega)]; frame_out; rw [hpay, hzero])
    (fun t h j => by
      show (outsAt0 m c t.val t.isLt).2 j = _
      by_cases h3 : t.val % 4 = 3
      · rw [outsAt0_C m c t h h3]; frame_out; rw [hpay, read_unread_whole]
      · rw [outsAt0_B m c t h h3]; frame_out; rw [hpay, read_unread_whole])
    t ht _, zero_add]

theorem point (c : Dev nD) (t : Fin cfg0.N) (ht : t.val % 4 = 3) (y : S8x256x1024.Idx) (i : S2048x1024.Idx)
    (h0 : (i 0).val = 512 * ((y 0).val % 4) + 256 * ((y 0).val / 4) + (y 1).val) (h1 : (i 1).val = (y 2).val) :
    (outsAt0 m c t.val t.isLt).1 y = (outsAt0 m c t.val t.isLt).2 i := by
  rw [outsAt0_C m c t (by omega) ht]
  frame_out
  simp (disch := decide) only [View.readCov_fill]
  generalize k0_pay2 (F := Ideal) _ _ _ = A
  canon_tiles x h
  all_goals (open_payloads; pointwise; blk_ext)

theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  blk_simp
  rw [after0_2]
  obtain_idx i : S2048x1024 := [512 * ((y 0 : ℕ) % 4) + 256 * ((y 0 : ℕ) / 4) + (y 1 : ℕ), (y 2 : ℕ)] with hi
  rw [point m c t ht y i hi0 hi1, scratch m c t ht]
  unfold prod
  refine Fin.sum_mul_add_congr fun s k hl => ?_
  blk_point [iblk, V, idx t, idx ⟨_, Pipeline.run_point_lt_of_flush t ht s⟩]

end Cert.WOutOwn

end
-- ==== Proof.WOutClaim.lean ====
module

public import proofs.«01_k».proof.Defs
public import proofs.«01_k».proof.Proof.Gen.WOut.Frame
public import proofs.«01_k».proof.Proof.WOutValue

@[expose] public section

set_option maxRecDepth 16384

noncomputable section

namespace Cert.WOutOwn

open Idealize.ShloMosaic Idealize.ShloMosaic.TcCoe Idealize.SL.Sem

/-- The reference's composed term, read at an index: one sum over the rows. -/
theorem ref_eq (x0 : FVec Ideal Cert.WOutRefIdeal.S8192x2048 .bf16) (x1 : FVec Ideal Cert.WOutRefIdeal.S8192x2048 .bf16) :
    Cert.WOutRefIdeal.Read.val_main_v9 (F := Ideal) x0 x1 = prod x0 x1 := by
  funext j
  rw [Cert.WOutRefIdeal.Read.val_main_v9_apply, Cert.WOutRefIdeal.Read.val_main_v8_apply, Cert.WOutRefIdeal.Read.val_main_v7_apply,
    Cert.WOutRefIdeal.Read.val_main_v6_apply, Cert.WOutRefIdeal.Read.val_main_v5_apply]
  show Cert.WOutRefIdeal.Read.val_main_v4 (F := Ideal) x0 x1 _ = _
  rw [Cert.WOutRefIdeal.Read.val_main_v4_apply]
  unfold prod
  refine Fin.sum_fin_congr fun l => ?_
  have h0 : (j 0).val < 8 := (j 0).isLt
  have h1 : (j 1).val < 256 := (j 1).isLt
  have h2 : (j 2).val < 2048 := (j 2).isLt
  obtain ⟨n, hn⟩ : ∃ n, ((j 0).val * 256 + (j 1).val) * 2048 + (j 2).val = n := ⟨_, rfl⟩
  refine (mul_comm _ _).trans ?_
  show x0 _ * x1 _ = _
  refine congrArg₂ (· * ·) (congrArg x0 (funext fun a => Fin.ext ?_)) (congrArg x1 (funext fun a => Fin.ext ?_))
  · match a with
    | ⟨0, _⟩ => rfl
    | ⟨1, _⟩ =>
      show (((((((j 0).val * 256 + (j 1).val) * 2048 + (j 2).val) / 524288 % 4) * 2 + (((j 0).val * 256 + (j 1).val) * 2048 + (j 2).val) / 2097152) * 256
        + (((j 0).val * 256 + (j 1).val) * 2048 + (j 2).val) / 2048 % 256) * 2048 + (((j 0).val * 256 + (j 1).val) * 2048 + (j 2).val) % 2048) / 2048
        = 512 * ((j 0).val % 4) + 256 * ((j 0).val / 4) + (j 1).val
      omega
  · match a with
    | ⟨0, _⟩ => rfl
    | ⟨1, _⟩ =>
      show (((((((j 0).val * 256 + (j 1).val) * 2048 + (j 2).val) / 524288 % 4) * 2 + (((j 0).val * 256 + (j 1).val) * 2048 + (j 2).val) / 2097152) * 256
        + (((j 0).val * 256 + (j 1).val) * 2048 + (j 2).val) / 2048 % 256) * 2048 + (((j 0).val * 256 + (j 1).val) * 2048 + (j 2).val) % 2048) % 2048
        = (j 2).val
      omega

theorem frame_kernel : Cert.quiescent_WOut (hWOut := Cert.WOut.Gen.facts) := fun m ρ _ => Cert.WOut.Gen.frame m ρ

theorem frame_ideal : Cert.quiescent_WOutIdeal (hWOutIdeal := Cert.WOutIdeal.Gen.facts) := fun m ρ _ => Cert.WOutIdeal.Gen.frame m ρ

theorem frame_ref : Cert.quiescent_WOutRefIdeal (hWOutRefIdeal := Cert.WOutRefIdeal.Gen.facts) := fun m ρ _ =>
  (θ_run Cert.WOutRefIdeal.defs _ _).mono (fun r h => ⟨fun c => (h c).2, Idealize.ShloMosaic.sem_eq_zero_of_no_sems (by decide) r.2⟩)
    (Cert.WOutRefIdeal.Value.run (F := Ideal) m ρ)

theorem algebraic : Cert.algebraic_WOutIdeal_WOutRefIdeal (hWOutIdeal := Cert.WOutIdeal.Gen.facts) (hWOutRefIdeal := Cert.WOutRefIdeal.Gen.facts) := by
  intro m ρ m' ρ' _ hagree
  refine ⟨fun c => Cert.WOutIdeal.Value.G2 m c, Cert.WOutIdeal.Value.run m ρ, ?_⟩
  refine (θ_run Cert.WOutRefIdeal.defs _ _).mono (fun _ h c => ⟨(h c).1.trans ?_, (h c).2⟩)
    (Cert.WOutRefIdeal.Value.run (F := Ideal) m' ρ')
  rw [(hagree c).1, (hagree c).2]
  exact (ref_eq _ _).trans ((final m c).symm.trans (Cert.WOutIdeal.Value.final2 m c))

end Cert.WOutOwn

end
-- ==== Proof.InProjValue.lean ====
module

public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import Idealize.ShloMosaic.Lib.Pipeline.ReadBack

@[expose] public section

set_option maxRecDepth 16384

noncomputable section

namespace Cert.InProjOwn

open Cert.InProjIdeal Cert.InProjIdeal.Gen Idealize.ShloMosaic Idealize.ShloMosaic.TcCoe Idealize.SL.Sem
open Idealize.ShloMosaic.Pipeline (Dat)
open Cert.InProjRefIdeal.Read

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- What a grid point stores, at a block index: the reference's product at the array index the block index sits at. -/
theorem point (c : Dev nD) (t : Fin cfg0.N) (y) : k0_pay1 (iblk m c 0 t) (iblk m c 1 t) y
    = val_main_v2 (F := Ideal) (m ((c : Thread nD τ).loc main_arg0)) (m ((c : Thread nD τ).loc main_arg1)) (((cfg0.win 2).blk t).view.emb y) := by
  pointwise [k0_pay1, val_main_v2, val_main_v1, val_main_v0]
  blk_point [iblk, V, idx t]

theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InProjOwn

end
-- ==== Proof.InProjClaim.lean ====
module

public import proofs.«01_k».proof.Defs
public import proofs.«01_k».proof.Proof.Gen.InProj.Frame
public import proofs.«01_k».proof.Proof.InProjValue

@[expose] public section

set_option maxRecDepth 16384

noncomputable section

namespace Cert.InProjOwn

open Idealize.ShloMosaic Idealize.ShloMosaic.TcCoe Idealize.SL.Sem

theorem frame_kernel : Cert.quiescent_InProj (hInProj := Cert.InProj.Gen.facts) := fun m ρ _ => Cert.InProj.Gen.frame m ρ

theorem frame_ideal : Cert.quiescent_InProjIdeal (hInProjIdeal := Cert.InProjIdeal.Gen.facts) := fun m ρ _ => Cert.InProjIdeal.Gen.frame m ρ

theorem frame_ref : Cert.quiescent_InProjRefIdeal (hInProjRefIdeal := Cert.InProjRefIdeal.Gen.facts) := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

theorem algebraic : Cert.algebraic_InProjIdeal_InProjRefIdeal (hInProjIdeal := Cert.InProjIdeal.Gen.facts) (hInProjRefIdeal := Cert.InProjRefIdeal.Gen.facts) := by
  intro m ρ m' ρ' _ hagree
  refine ⟨fun c => (Cert.InProjIdeal.Gen.dats m 0 c).arrAt 2 _, Cert.InProjIdeal.Value.run_blocks m ρ, ?_⟩
  refine (θ_run Cert.InProjRefIdeal.defs _ _).mono (fun _ h c => ⟨(h c).1.trans ?_, (h c).2⟩)
    (Cert.InProjRefIdeal.Value.run (F := Ideal) m' ρ')
  · rw [(hagree c).1, (hagree c).2]; exact (final m c).symm

end Cert.InProjOwn

end
-- ==== Proof.OutProjValue.lean ====
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pipeline.ReadBack

@[expose] public section

set_option maxRecDepth 16384

noncomputable section

namespace Cert.OutProjOwn

open Cert.OutProjIdeal Cert.OutProjIdeal.Gen Idealize.ShloMosaic Idealize.ShloMosaic.TcCoe Idealize.SL.Sem
open Idealize.ShloMosaic.Pipeline (Dat)
open Cert.OutProjRefIdeal.Read

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- What a grid point stores of the residual sum, at a block index. -/
theorem point (c : Dev nD) (t : Fin cfg0.N) (y) : k0_pay1 (iblk m c 0 t) (iblk m c 1 t) (iblk m c 2 t) y
    = val_main_v3 (F := Ideal) (m ((c : Thread nD τ).loc main_arg0)) (m ((c : Thread nD τ).loc main_arg1)) (m ((c : Thread nD τ).loc main_arg2)) (((cfg0.win 4).blk t).view.emb y) := by
  pointwise [k0_pay1, val_main_v3, val_main_v2, val_main_v1, val_main_v0]
  blk_point [iblk, V, idx t]

/-- What a grid point stores of the normalised rows, at a block index. -/
theorem point' (c : Dev nD) (t : Fin cfg0.N) (y) : k0_pay2 (iblk m c 0 t) (iblk m c 1 t) (iblk m c 2 t) (iblk m c 3 t) y
    = val_main_v16 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

theorem final (c : Dev nD) : (dats m 0 c).arrAt 4 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

theorem final' (c : Dev nD) : (dats m 0 c).arrAt 5 (cfgs 0).N
    = val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point' m c t y

end Cert.OutProjOwn

end
-- ==== Proof.OutProjClaim.lean ====
module

public import proofs.«01_k».proof.Defs
public import proofs.«01_k».proof.Proof.Gen.OutProj.Frame
public import proofs.«01_k».proof.Proof.OutProjValue

@[expose] public section

set_option maxRecDepth 16384

noncomputable section

namespace Cert.OutProjOwn

open Idealize.ShloMosaic Idealize.ShloMosaic.TcCoe Idealize.SL.Sem

theorem frame_kernel : Cert.quiescent_OutProj (hOutProj := Cert.OutProj.Gen.facts) := fun m ρ _ => Cert.OutProj.Gen.frame m ρ

theorem frame_ideal : Cert.quiescent_OutProjIdeal (hOutProjIdeal := Cert.OutProjIdeal.Gen.facts) := fun m ρ _ => Cert.OutProjIdeal.Gen.frame m ρ

theorem frame_ref : Cert.quiescent_OutProjRefIdeal (hOutProjRefIdeal := Cert.OutProjRefIdeal.Gen.facts) := fun m ρ _ =>
  (θ_run Cert.OutProjRefIdeal.defs _ _).mono (fun r h => ⟨fun c => (h c).2.2, Idealize.ShloMosaic.sem_eq_zero_of_no_sems (by decide) r.2⟩)
    (Cert.OutProjRefIdeal.Value.run (F := Ideal) m ρ)

theorem algebraic : Cert.algebraic_OutProjIdeal_OutProjRefIdeal (hOutProjIdeal := Cert.OutProjIdeal.Gen.facts) (hOutProjRefIdeal := Cert.OutProjRefIdeal.Gen.facts) := by
  intro m ρ m' ρ' _ hagree
  refine ⟨fun c => (Cert.OutProjIdeal.Gen.dats m 0 c).arrAt 4 _, fun c => (Cert.OutProjIdeal.Gen.dats m 0 c).arrAt 5 _, Cert.OutProjIdeal.Value.run_blocks m ρ, ?_⟩
  refine (θ_run Cert.OutProjRefIdeal.defs _ _).mono (fun _ h c => ⟨(h c).1.trans ?_, (h c).2.1.trans ?_, (h c).2.2⟩)
    (Cert.OutProjRefIdeal.Value.run (F := Ideal) m' ρ')
  · rw [(hagree c).1, (hagree c).2.1, (hagree c).2.2.1]; exact (final m c).symm
  · rw [(hagree c).1, (hagree c).2.1, (hagree c).2.2.1, (hagree c).2.2.2]; exact (final' m c).symm

end Cert.OutProjOwn

end
-- ==== Proof.OutBwdValue.lean ====
module

public import proofs.«01_k».proof.Proof.Gen.OutBwdIdeal.Value
public import proofs.«01_k».proof.Proof.Gen.OutBwdRefIdeal.Run
public import proofs.«01_k».proof.Proof.Gen.OutBwdRefIdeal.Read
public import Idealize.ShloMosaic.Lib.Pipeline.ValueKit
public import Idealize.ShloMosaic.Lib.Pipeline.ReadBack

@[expose] public section

set_option maxRecDepth 16384

noncomputable section

namespace Cert.OutBwdOwn

open Cert.OutBwdIdeal Cert.OutBwdIdeal.Gen Idealize.ShloMosaic Idealize.ShloMosaic.TcCoe Idealize.SL.Sem
open Idealize.ShloMosaic.Pipeline (Dat)
open Cert.OutBwdRefIdeal.Read

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- What a grid point stores of the gradient, at a block index. -/
theorem point (c : Dev nD) (t : Fin cfg0.N) (y) : k0_pay2 (iblk m c 0 t) (iblk m c 1 t) y
    = val_main_v5 (F := Ideal) (m ((c : Thread nD τ).loc main_arg0)) (m ((c : Thread nD τ).loc main_arg1)) (((cfg0.win 2).blk t).view.emb y) := by
  pointwise [k0_pay1, k0_pay2, val_main_v5, val_main_v4, val_main_v2, val_main_v0]
  blk_point [iblk, V, idx t]

/-- What a grid point stores of the converted cotangent, at a block index. -/
theorem point' (c : Dev nD) (t : Fin cfg0.N) (y) : k0_pay1 (iblk m c 0 t) y
    = val_main_v0 (F := Ideal) (m ((c : Thread nD τ).loc main_arg0)) (((cfg0.win 3).blk t).view.emb y) := by
  pointwise [k0_pay1, val_main_v0]
  blk_point [iblk, V, idx t]

theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem final' (c : Dev nD) : (dats m 0 c).arrAt 3 (cfgs 0).N
    = val_main_v0 (F := Ideal) (m ((c : Thread nD τ).loc main_arg0)) := by
  refine (dats m 0 c).arrAt_eq_of_covers 3 _ (by decide +kernel) fun t _ y => ?_
  blk_simp
  rw [after0_3]; frame_out
  exact point' m c t y

end Cert.OutBwdOwn

end
-- ==== Proof.OutBwdClaim.lean ====
module

public import proofs.«01_k».proof.Defs
public import proofs.«01_k».proof.Proof.Gen.OutBwd.Frame
public import proofs.«01_k».proof.Proof.OutBwdValue

@[expose] public section

set_option maxRecDepth 16384

noncomputable section

namespace Cert.OutBwdOwn

open Idealize.ShloMosaic Idealize.ShloMosaic.TcCoe Idealize.SL.Sem

theorem frame_kernel : Cert.quiescent_OutBwd (hOutBwd := Cert.OutBwd.Gen.facts) := fun m ρ _ => Cert.OutBwd.Gen.frame m ρ

theorem frame_ideal : Cert.quiescent_OutBwdIdeal (hOutBwdIdeal := Cert.OutBwdIdeal.Gen.facts) := fun m ρ _ => Cert.OutBwdIdeal.Gen.frame m ρ

theorem frame_ref : Cert.quiescent_OutBwdRefIdeal (hOutBwdRefIdeal := Cert.OutBwdRefIdeal.Gen.facts) := fun m ρ _ =>
  (θ_run Cert.OutBwdRefIdeal.defs _ _).mono (fun r h => ⟨fun c => (h c).2.2, Idealize.ShloMosaic.sem_eq_zero_of_no_sems (by decide) r.2⟩)
    (Cert.OutBwdRefIdeal.Value.run (F := Ideal) m ρ)

theorem algebraic : Cert.algebraic_OutBwdIdeal_OutBwdRefIdeal (hOutBwdIdeal := Cert.OutBwdIdeal.Gen.facts) (hOutBwdRefIdeal := Cert.OutBwdRefIdeal.Gen.facts) := by
  intro m ρ m' ρ' _ hagree
  refine ⟨fun c => (Cert.OutBwdIdeal.Gen.dats m 0 c).arrAt 2 _, fun c => (Cert.OutBwdIdeal.Gen.dats m 0 c).arrAt 3 _, Cert.OutBwdIdeal.Value.run_blocks m ρ, ?_⟩
  refine (θ_run Cert.OutBwdRefIdeal.defs _ _).mono (fun _ h c => ⟨(h c).1.trans ?_, (h c).2.1.trans ?_, (h c).2.2⟩)
    (Cert.OutBwdRefIdeal.Value.run (F := Ideal) m' ρ')
  · rw [(hagree c).1, (hagree c).2]; exact (final m c).symm
  · rw [(hagree c).1]; exact (final' m c).symm

end Cert.OutBwdOwn

end
-- ==== Proof.LossValue.lean ====
module

public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Pipeline.ReadBack
public import proofs.«01_k».proof.Proof.RmsBwd

@[expose] public section

set_option maxRecDepth 16384

noncomputable section

namespace Cert.LossOwn

open Cert.LossIdeal Cert.LossIdeal.Gen Idealize.ShloMosaic Idealize.ShloMosaic.TcCoe Idealize.SL.Sem
open Idealize.ShloMosaic.Pipeline (Dat)
open Cert.LossRefIdeal.Read

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0] ∧ win0_7.index t = ![0, 0] :=
  (by decide +kernel : ∀ t : Fin grid0.N, _)

/-- The stored rows of the gradient, in the form reverse-mode differentiation writes them. -/
theorem hrow (x0 : FVec Ideal S512x2048 .f32) (x1 : FVec Ideal S512x2048 .bf16) (x2 : FVec Ideal S2048x2048 .bf16) (x3 : FVec Ideal S1x2048 .f32) (x4 : FVec Ideal S512x2048 .f32) (a : Fin 512) (b : Fin 2048) :
    k0_pay4 (F := Ideal) x3 (k0_pay8 x0 x1 x2) (k0_pay9 x0 x1 x2) (k0_pay10 x0 x1 x2 x3 x4) (ix2 a b)
      = ((Ideal.div (Ideal.ofBits .f32 0x3F000000#32) (Ideal.ofBits .f32 0x45000000#32) * (Ideal.ofBits .f32 0x40000000#32 * ((x0 (ix2 a b) + ∑ l : Fin 2048, x1 (ix2 a l) * x2 (ix2 l b)) * Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32) * x3 (ix2 0 b) - x4 (ix2 a b)))) * x3 (ix2 0 b)) * Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32)
        + (x0 (ix2 a b) + ∑ l : Fin 2048, x1 (ix2 a l) * x2 (ix2 l b)) * (∑ _x : Fin 1, Ideal.div ((∑ i : Fin 2048, (x0 (ix2 a i) + ∑ l : Fin 2048, x1 (ix2 a l) * x2 (ix2 l i)) * ((Ideal.div (Ideal.ofBits .f32 0x3F000000#32) (Ideal.ofBits .f32 0x45000000#32) * (Ideal.ofBits .f32 0x40000000#32 * ((x0 (ix2 a i) + ∑ l : Fin 2048, x1 (ix2 a l) * x2 (ix2 l i)) * Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32) * x3 (ix2 0 i) - x4 (ix2 a i)))) * x3 (ix2 0 i)))
            * (Ideal.ofBits .f32 0xBF000000#32 * Ideal.div (Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32)) (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32))) (Ideal.ofBits .f32 0x45000000#32))
        + (∑ _x : Fin 1, Ideal.div ((∑ i : Fin 2048, (x0 (ix2 a i) + ∑ l : Fin 2048, x1 (ix2 a l) * x2 (ix2 l i)) * ((Ideal.div (Ideal.ofBits .f32 0x3F000000#32) (Ideal.ofBits .f32 0x45000000#32) * (Ideal.ofBits .f32 0x40000000#32 * ((x0 (ix2 a i) + ∑ l : Fin 2048, x1 (ix2 a l) * x2 (ix2 l i)) * Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32) * x3 (ix2 0 i) - x4 (ix2 a i)))) * x3 (ix2 0 i)))
            * (Ideal.ofBits .f32 0xBF000000#32 * Ideal.div (Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32)) (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32))) (Ideal.ofBits .f32 0x45000000#32)) * (x0 (ix2 a b) + ∑ l : Fin 2048, x1 (ix2 a l) * x2 (ix2 l b)) := by
  refine Eq.trans ?_ (Cert.RmsOwn.row (fun i => (x0 (ix2 a i) + ∑ l : Fin 2048, x1 (ix2 a l) * x2 (ix2 l i))) (fun i => (Ideal.div (Ideal.ofBits .f32 0x3F000000#32) (Ideal.ofBits .f32 0x45000000#32) * (Ideal.ofBits .f32 0x40000000#32 * ((x0 (ix2 a i) + ∑ l : Fin 2048, x1 (ix2 a l) * x2 (ix2 l i)) * Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32) * x3 (ix2 0 i) - x4 (ix2 a i)))) * x3 (ix2 0 i)) b)
  pointwise [k0_pay2, k0_pay4, k0_pay7, k0_pay8, k0_pay9, k0_pay10]
  simp only [Cert.RmsOwn.scale]

/-- What a grid point stores of the gradient, at a block index. -/
theorem point (c : Dev nD) (t : Fin cfg0.N) (y) :
    k0_pay4 (F := Ideal) (iblk m c 3 t) (k0_pay8 (iblk m c 0 t) (iblk m c 1 t) (iblk m c 2 t)) (k0_pay9 (iblk m c 0 t) (iblk m c 1 t) (iblk m c 2 t)) (k0_pay10 (iblk m c 0 t) (iblk m c 1 t) (iblk m c 2 t) (iblk m c 3 t) (iblk m c 4 t)) y
      = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have hy : y = ix2 (show Fin 512 from y 0) (show Fin 2048 from y 1) := by
    funext a; match a with
    | ⟨0, _⟩ => rfl
    | ⟨1, _⟩ => rfl
  refine (congrArg _ hy).trans ((hrow (iblk m c 0 t) (iblk m c 1 t) (iblk m c 2 t) (iblk m c 3 t) (iblk m c 4 t) (y 0) (y 1)).trans ?_)
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  blk_point [iblk, V, idx t]

theorem final_dx (c : Dev nD) : (dats m 0 c).arrAt 6 (cfgs 0).N = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  by_cases h : t.val % 16 = 0
  · rw [outsAt0_A m c t h]; frame_out; exact point m c t y
  · rw [outsAt0_B m c t h]; frame_out; exact point m c t y

theorem hzero6 (j) : k0_pay6 (F := Ideal) j = 0 := by pointwise [k0_pay6]
theorem hzero5 (j) : k0_pay5 (F := Ideal) j = 0 := by pointwise [k0_pay5]

theorem hpay_dg (x0 : FVec Ideal S512x2048 .f32) (x1 : FVec Ideal S512x2048 .bf16) (x2 : FVec Ideal S2048x2048 .bf16) (x3 : FVec Ideal S1x2048 .f32) (x4 : FVec Ideal S512x2048 .f32) (acc : FVec Ideal S1x2048 .f32) (j) :
    k0_pay3 (F := Ideal) (k0_pay9 x0 x1 x2) (k0_pay10 x0 x1 x2 x3 x4) acc j = acc j + ∑ a : Fin 512, ((x0 (ix2 a (j 1)) + ∑ l : Fin 2048, x1 (ix2 a l) * x2 (ix2 l (j 1))) * Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32)) * (Ideal.div (Ideal.ofBits .f32 0x3F000000#32) (Ideal.ofBits .f32 0x45000000#32) * (Ideal.ofBits .f32 0x40000000#32 * ((x0 (ix2 a (j 1)) + ∑ l : Fin 2048, x1 (ix2 a l) * x2 (ix2 l (j 1))) * Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32) * x3 (ix2 0 (j 1)) - x4 (ix2 a (j 1))))) := by
  refine Eq.trans ?_ (congrArg (acc j + ·) (Finset.sum_congr rfl fun a _ => mul_comm _ _))
  pointwise [k0_pay2, k0_pay3, k0_pay7, k0_pay8, k0_pay9, k0_pay10]
  set_option backward.isDefEq.respectTransparency false in simp only [Cert.RmsOwn.scale]

theorem hpay_loss (x0 : FVec Ideal S512x2048 .f32) (x1 : FVec Ideal S512x2048 .bf16) (x2 : FVec Ideal S2048x2048 .bf16) (x3 : FVec Ideal S1x2048 .f32) (x4 : FVec Ideal S512x2048 .f32) (acc : FVec Ideal S8x128 .f32) (j) :
    k0_pay1 (F := Ideal) (k0_pay11 acc) (k0_pay12 x0 x1 x2 x3 x4) j = acc j + ∑ a : Fin 512, Ideal.div (∑ i : Fin 2048, ((x0 (ix2 a i) + ∑ l : Fin 2048, x1 (ix2 a l) * x2 (ix2 l i)) * Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32) * x3 (ix2 0 i) - x4 (ix2 a i)) * ((x0 (ix2 a i) + ∑ l : Fin 2048, x1 (ix2 a l) * x2 (ix2 l i)) * Ideal.rsqrt (Ideal.div (∑ k : Fin 2048, (x0 (ix2 a k) + ∑ l : Fin 2048, x1 (ix2 a l) * x2 (ix2 l k)) * (x0 (ix2 a k) + ∑ l : Fin 2048, x1 (ix2 a l) * x2 (ix2 l k))) (Ideal.ofBits .f32 0x45000000#32) + Ideal.ofBits .f32 0x358637BD#32) * x3 (ix2 0 i) - x4 (ix2 a i))) (Ideal.ofBits .f32 0x45000000#32) * Ideal.ofBits .f32 0x3F000000#32 := by
  refine Eq.trans ?_ (congrArg (acc j + ·) (Cert.RmsOwn.half_sum _))
  pointwise [k0_pay1, k0_pay11, k0_pay12, k0_pay7, k0_pay8, k0_pay9, k0_pay10]
  simp only [Finset.univ_unique, Finset.sum_singleton]

theorem final_dg (c : Dev nD) : (dats m 0 c).arrAt 7 (cfgs 0).N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht := (flush0_7 t).mp hf
  blk_simp
  rw [after0_7, Pipeline.eq_sum_fin_of_reset_step_apply_of_flush (fun n h => (outsAt0 m c n h).2.2) 16 (fun _ => 0)
    (fun p j => ∑ a : Fin 512, (((show FVec Ideal S512x2048 .f32 from iblk m c 0 p) (ix2 a (j 1)) + ∑ l : Fin 2048, (show FVec Ideal S512x2048 .bf16 from iblk m c 1 p) (ix2 a l) * (show FVec Ideal S2048x2048 .bf16 from iblk m c 2 p) (ix2 l (j 1))) * Ideal.rsqrt (Ideal.div (∑ k : Fin 2048, ((show FVec Ideal S512x2048 .f32 from iblk m c 0 p) (ix2 a k) + ∑ l : Fin 2048, (show FVec Ideal S512x2048 .bf16 from iblk m c 1 p) (ix2 a l) * (show FVec Ideal S2048x2048 .bf16 from iblk m c 2 p) (ix2 l k)) * ((show FVec Ideal S512x2048 .f32 from iblk m c 0 p) (ix2 a k) + ∑ l : Fin 2048, (show FVec Ideal S512x2048 .bf16 from iblk m c 1 p) (ix2 a l) * (show FVec Ideal S2048x2048 .bf16 from iblk m c 2 p) (ix2 l k))) (Ideal.ofBits .f32 0x45000000#32) + Ideal.ofBits .f32 0x358637BD#32)) * (Ideal.div (Ideal.ofBits .f32 0x3F000000#32) (Ideal.ofBits .f32 0x45000000#32) * (Ideal.ofBits .f32 0x40000000#32 * (((show FVec Ideal S512x2048 .f32 from iblk m c 0 p) (ix2 a (j 1)) + ∑ l : Fin 2048, (show FVec Ideal S512x2048 .bf16 from iblk m c 1 p) (ix2 a l) * (show FVec Ideal S2048x2048 .bf16 from iblk m c 2 p) (ix2 l (j 1))) * Ideal.rsqrt (Ideal.div (∑ k : Fin 2048, ((show FVec Ideal S512x2048 .f32 from iblk m c 0 p) (ix2 a k) + ∑ l : Fin 2048, (show FVec Ideal S512x2048 .bf16 from iblk m c 1 p) (ix2 a l) * (show FVec Ideal S2048x2048 .bf16 from iblk m c 2 p) (ix2 l k)) * ((show FVec Ideal S512x2048 .f32 from iblk m c 0 p) (ix2 a k) + ∑ l : Fin 2048, (show FVec Ideal S512x2048 .bf16 from iblk m c 1 p) (ix2 a l) * (show FVec Ideal S2048x2048 .bf16 from iblk m c 2 p) (ix2 l k))) (Ideal.ofBits .f32 0x45000000#32) + Ideal.ofBits .f32 0x358637BD#32) * (show FVec Ideal S1x2048 .f32 from iblk m c 3 p) (ix2 0 (j 1)) - (show FVec Ideal S512x2048 .f32 from iblk m c 4 p) (ix2 a (j 1))))))
    (fun t h j => by
      show (outsAt0 m c t.val t.isLt).2.2 j = _
      rw [outsAt0_A m c t h]; frame_out; rw [hpay_dg, hzero6])
    (fun t h j => by
      show (outsAt0 m c t.val t.isLt).2.2 j = _
      rw [outsAt0_B m c t h]; frame_out; rw [hpay_dg])
    t ht _, zero_add]
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  refine Fin.sum_mul_add_congr fun s k hl => ?_
  blk_point [iblk, V, idx t, idx ⟨_, Pipeline.run_point_lt_of_flush t ht s⟩]

theorem final_loss (c : Dev nD) : (dats m 0 c).arrAt 5 (cfgs 0).N = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := (flush0_5 t).mp hf
  blk_simp
  rw [after0_5, Pipeline.eq_sum_fin_of_reset_step_apply_of_flush (fun n h => (outsAt0 m c n h).1) 16 (fun _ => 0)
    (fun p j => ∑ a : Fin 512, Ideal.div (∑ i : Fin 2048, (((show FVec Ideal S512x2048 .f32 from iblk m c 0 p) (ix2 a i) + ∑ l : Fin 2048, (show FVec Ideal S512x2048 .bf16 from iblk m c 1 p) (ix2 a l) * (show FVec Ideal S2048x2048 .bf16 from iblk m c 2 p) (ix2 l i)) * Ideal.rsqrt (Ideal.div (∑ k : Fin 2048, ((show FVec Ideal S512x2048 .f32 from iblk m c 0 p) (ix2 a k) + ∑ l : Fin 2048, (show FVec Ideal S512x2048 .bf16 from iblk m c 1 p) (ix2 a l) * (show FVec Ideal S2048x2048 .bf16 from iblk m c 2 p) (ix2 l k)) * ((show FVec Ideal S512x2048 .f32 from iblk m c 0 p) (ix2 a k) + ∑ l : Fin 2048, (show FVec Ideal S512x2048 .bf16 from iblk m c 1 p) (ix2 a l) * (show FVec Ideal S2048x2048 .bf16 from iblk m c 2 p) (ix2 l k))) (Ideal.ofBits .f32 0x45000000#32) + Ideal.ofBits .f32 0x358637BD#32) * (show FVec Ideal S1x2048 .f32 from iblk m c 3 p) (ix2 0 i) - (show FVec Ideal S512x2048 .f32 from iblk m c 4 p) (ix2 a i)) * (((show FVec Ideal S512x2048 .f32 from iblk m c 0 p) (ix2 a i) + ∑ l : Fin 2048, (show FVec Ideal S512x2048 .bf16 from iblk m c 1 p) (ix2 a l) * (show FVec Ideal S2048x2048 .bf16 from iblk m c 2 p) (ix2 l i)) * Ideal.rsqrt (Ideal.div (∑ k : Fin 2048, ((show FVec Ideal S512x2048 .f32 from iblk m c 0 p) (ix2 a k) + ∑ l : Fin 2048, (show FVec Ideal S512x2048 .bf16 from iblk m c 1 p) (ix2 a l) * (show FVec Ideal S2048x2048 .bf16 from iblk m c 2 p) (ix2 l k)) * ((show FVec Ideal S512x2048 .f32 from iblk m c 0 p) (ix2 a k) + ∑ l : Fin 2048, (show FVec Ideal S512x2048 .bf16 from iblk m c 1 p) (ix2 a l) * (show FVec Ideal S2048x2048 .bf16 from iblk m c 2 p) (ix2 l k))) (Ideal.ofBits .f32 0x45000000#32) + Ideal.ofBits .f32 0x358637BD#32) * (show FVec Ideal S1x2048 .f32 from iblk m c 3 p) (ix2 0 i) - (show FVec Ideal S512x2048 .f32 from iblk m c 4 p) (ix2 a i))) (Ideal.ofBits .f32 0x45000000#32) * Ideal.ofBits .f32 0x3F000000#32)
    (fun t h j => by
      show (outsAt0 m c t.val t.isLt).1 j = _
      rw [outsAt0_A m c t h]; frame_out; rw [hpay_loss, hzero5])
    (fun t h j => by
      show (outsAt0 m c t.val t.isLt).1 j = _
      rw [outsAt0_B m c t h]; frame_out; rw [hpay_loss])
    t ht _, zero_add]
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  refine Eq.trans ?_ (Cert.RmsOwn.half_sum _).symm
  refine Fin.sum_mul_add_congr fun s k hl => ?_
  blk_point [iblk, V, idx t, idx ⟨_, Pipeline.run_point_lt_of_flush t ht s⟩]

end Cert.LossOwn

end
-- ==== Proof.LossClaim.lean ====
module

public import proofs.«01_k».proof.Defs
public import proofs.«01_k».proof.Proof.Gen.Loss.Frame
public import proofs.«01_k».proof.Proof.LossValue

@[expose] public section

set_option maxRecDepth 16384

noncomputable section

namespace Cert.LossOwn

open Idealize.ShloMosaic Idealize.ShloMosaic.TcCoe Idealize.SL.Sem

theorem frame_kernel : Cert.quiescent_Loss (hLoss := Cert.Loss.Gen.facts) := fun m ρ _ => Cert.Loss.Gen.frame m ρ

theorem frame_ideal : Cert.quiescent_LossIdeal (hLossIdeal := Cert.LossIdeal.Gen.facts) := fun m ρ _ => Cert.LossIdeal.Gen.frame m ρ

theorem frame_ref : Cert.quiescent_LossRefIdeal (hLossRefIdeal := Cert.LossRefIdeal.Gen.facts) := fun m ρ _ =>
  (θ_run Cert.LossRefIdeal.defs _ _).mono (fun r h => ⟨fun c => (h c).2.2.2, Idealize.ShloMosaic.sem_eq_zero_of_no_sems (by decide) r.2⟩)
    (Cert.LossRefIdeal.Value.run (F := Ideal) m ρ)

theorem algebraic : Cert.algebraic_LossIdeal_LossRefIdeal (hLossIdeal := Cert.LossIdeal.Gen.facts) (hLossRefIdeal := Cert.LossRefIdeal.Gen.facts) := by
  intro m ρ m' ρ' _ hagree
  refine ⟨fun c => (Cert.LossIdeal.Gen.dats m 0 c).arrAt 5 _, fun c => (Cert.LossIdeal.Gen.dats m 0 c).arrAt 6 _, fun c => (Cert.LossIdeal.Gen.dats m 0 c).arrAt 7 _, Cert.LossIdeal.Value.run_blocks m ρ, ?_⟩
  refine (θ_run Cert.LossRefIdeal.defs _ _).mono (fun _ h c => ⟨(h c).1.trans ?_, (h c).2.1.trans ?_, (h c).2.2.1.trans ?_, (h c).2.2.2⟩)
    (Cert.LossRefIdeal.Value.run (F := Ideal) m' ρ')
  · rw [(hagree c).1, (hagree c).2.1, (hagree c).2.2.1, (hagree c).2.2.2.1, (hagree c).2.2.2.2]; exact (final_loss m c).symm
  · rw [Cert.LossRefIdeal.Read.val_main_v52_eq]; rw [(hagree c).1, (hagree c).2.1, (hagree c).2.2.1, (hagree c).2.2.2.1, (hagree c).2.2.2.2]; exact (final_dx m c).symm
  · rw [(hagree c).1, (hagree c).2.1, (hagree c).2.2.1, (hagree c).2.2.2.1, (hagree c).2.2.2.2]; exact (final_dg m c).symm

end Cert.LossOwn

end
-- ==== Proof.NormBwdValue.lean ====
module

public import proofs.«01_k».proof.Proof.Gen.NormBwdIdeal.Value
public import proofs.«01_k».proof.Proof.Gen.NormBwdRefIdeal.Run
public import proofs.«01_k».proof.Proof.Gen.NormBwdRefIdeal.Read
public import Idealize.ShloMosaic.Lib.Pipeline.ValueKit
public import Idealize.ShloMosaic.Lib.Pipeline.ReadBack
public import proofs.«01_k».proof.Proof.RmsBwd

@[expose] public section

set_option maxRecDepth 16384

noncomputable section

namespace Cert.NormBwdOwn

open Cert.NormBwdIdeal Cert.NormBwdIdeal.Gen Idealize.ShloMosaic Idealize.ShloMosaic.TcCoe Idealize.SL.Sem
open Idealize.ShloMosaic.Pipeline (Dat)
open Cert.NormBwdRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem hdot (x0 : FVec Ideal S256x5120 .bf16) (x1 : FVec Ideal S2048x5120 .bf16) (b : Fin 2048) (a : Fin 256) :
    ∑ l : Fin 5120, x1 (ix2 b l) * x0 (ix2 a l) = ∑ l : Fin 5120, x0 (ix2 a l) * x1 (ix2 b l) :=
  Finset.sum_congr rfl fun l _ => mul_comm _ _

/-- The stored rows of the gradient, in the form reverse-mode differentiation writes them. -/
theorem hrow (x0 : FVec Ideal S256x5120 .bf16) (x1 : FVec Ideal S2048x5120 .bf16) (x2 : FVec Ideal S256x2048 .f32) (x3 : FVec Ideal S1x2048 .f32)
    (x4 : FVec Ideal S256x2048 .f32) (a : Fin 256) (b : Fin 2048) :
    k0_pay1 (F := Ideal) (k0_pay4 x2) (k0_pay5 x2) (k0_pay7 x1 x0 x3) x4 (k0_pay8 x1 x0 x2 x3) (ix2 a b)
      = x4 (ix2 a b) + (((∑ l : Fin 5120, x0 (ix2 a l) * x1 (ix2 b l)) * x3 (ix2 0 b)) * Ideal.rsqrt (Ideal.div (∑ i, x2 (ix2 a i) * x2 (ix2 a i)) (Ideal.ofBits .f32 0x45000000#32) + Ideal.ofBits .f32 0x358637BD#32)
        + x2 (ix2 a b) * (∑ _x : Fin 1, Ideal.div ((∑ i, x2 (ix2 a i) * ((∑ l : Fin 5120, x0 (ix2 a l) * x1 (ix2 i l)) * x3 (ix2 0 i)))
            * (Ideal.ofBits .f32 0xBF000000#32 * Ideal.div (Ideal.rsqrt (Ideal.div (∑ i, x2 (ix2 a i) * x2 (ix2 a i)) (Ideal.ofBits .f32 0x45000000#32) + Ideal.ofBits .f32 0x358637BD#32)) (Ideal.div (∑ i, x2 (ix2 a i) * x2 (ix2 a i)) (Ideal.ofBits .f32 0x45000000#32) + Ideal.ofBits .f32 0x358637BD#32))) (Ideal.ofBits .f32 0x45000000#32))
        + (∑ _x : Fin 1, Ideal.div ((∑ i, x2 (ix2 a i) * ((∑ l : Fin 5120, x0 (ix2 a l) * x1 (ix2 i l)) * x3 (ix2 0 i)))
            * (Ideal.ofBits .f32 0xBF000000#32 * Ideal.div (Ideal.rsqrt (Ideal.div (∑ i, x2 (ix2 a i) * x2 (ix2 a i)) (Ideal.ofBits .f32 0x45000000#32) + Ideal.ofBits .f32 0x358637BD#32)) (Ideal.div (∑ i, x2 (ix2 a i) * x2 (ix2 a i)) (Ideal.ofBits .f32 0x45000000#32) + Ideal.ofBits .f32 0x358637BD#32))) (Ideal.ofBits .f32 0x45000000#32)) * x2 (ix2 a b)) := by
  refine Eq.trans ?_ (congrArg (x4 (ix2 a b) + ·) (Cert.RmsOwn.row (fun i => x2 (ix2 a i))
    (fun i => (∑ l : Fin 5120, x0 (ix2 a l) * x1 (ix2 i l)) * x3 (ix2 0 i)) b))
  pointwise [k0_pay1, k0_pay3, k0_pay4, k0_pay5, k0_pay7, k0_pay8]
  simp only [hdot x0 x1]

/-- What a grid point stores of the gradient, at a block index. -/
theorem point (c : Dev nD) (t : Fin cfg0.N) (y) :
    k0_pay1 (F := Ideal) (k0_pay4 (iblk m c 2 t)) (k0_pay5 (iblk m c 2 t)) (k0_pay7 (iblk m c 1 t) (iblk m c 0 t) (iblk m c 3 t)) (iblk m c 4 t)
        (k0_pay8 (iblk m c 1 t) (iblk m c 0 t) (iblk m c 2 t) (iblk m c 3 t)) y
      = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hy : y = ix2 (show Fin 256 from y 0) (show Fin 2048 from y 1) := by
    funext a; match a with
    | ⟨0, _⟩ => rfl
    | ⟨1, _⟩ => rfl
  refine (congrArg _ hy).trans ((hrow (iblk m c 0 t) (iblk m c 1 t) (iblk m c 2 t) (iblk m c 3 t) (iblk m c 4 t) (y 0) (y 1)).trans ?_)
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v15, val_main_v12, val_main_v11, val_main_v10, val_main_v9, val_main_v8, val_main_v7, val_main_v6, val_main_v5, val_main_v4, val_main_v3, val_main_v2, val_main_v1, val_main_v0, val_main_v17, val_main_cst, val_main_cst_0, val_main_cst_1, val_main_cst_2, val_main_cst_3, val_main_cst_4, val_main_cst_5, val_main_cst_6]
  blk_point [iblk, V, idx t]

theorem final (c : Dev nD) : (dats m 0 c).arrAt 5 (cfgs 0).N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 32 = 0
  · rw [outsAt0_A m c t h]; frame_out; exact point m c t y
  · rw [outsAt0_B m c t h]; frame_out; exact point m c t y

theorem hzero (j) : k0_pay2 (F := Ideal) j = 0 := by pointwise [k0_pay2]

theorem hpay (x0 : FVec Ideal S256x5120 .bf16) (x1 : FVec Ideal S2048x5120 .bf16) (x2 : FVec Ideal S256x2048 .f32) (acc : FVec Ideal S1x2048 .f32) (j) :
    k0_pay6 (F := Ideal) x1 x0 x2 acc j = acc j + ∑ a : Fin 256, (∑ l : Fin 5120, x0 (ix2 a l) * x1 (ix2 (j 1) l))
      * (x2 (ix2 a (j 1)) * Ideal.rsqrt (Ideal.div (∑ i, x2 (ix2 a i) * x2 (ix2 a i)) (Ideal.ofBits .f32 0x45000000#32) + Ideal.ofBits .f32 0x358637BD#32)) := by
  pointwise [k0_pay3, k0_pay4, k0_pay5, k0_pay6]
  set_option backward.isDefEq.respectTransparency false in simp only [hdot x0 x1]

theorem final' (c : Dev nD) : (dats m 0 c).arrAt 6 (cfgs 0).N = val_main_v21 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht := (flush0_6 t).mp hf
  blk_simp
  rw [after0_6, Pipeline.eq_sum_fin_of_reset_step_apply_of_flush (fun n h => (outsAt0 m c n h).2) 32 (fun _ => 0)
    (fun p j => ∑ a : Fin 256, (∑ l : Fin 5120, (show FVec Ideal S256x5120 .bf16 from iblk m c 0 p) (ix2 a l) * (show FVec Ideal S2048x5120 .bf16 from iblk m c 1 p) (ix2 (j 1) l))
      * ((show FVec Ideal S256x2048 .f32 from iblk m c 2 p) (ix2 a (j 1)) * Ideal.rsqrt (Ideal.div (∑ i, (show FVec Ideal S256x2048 .f32 from iblk m c 2 p) (ix2 a i) * (show FVec Ideal S256x2048 .f32 from iblk m c 2 p) (ix2 a i)) (Ideal.ofBits .f32 0x45000000#32) + Ideal.ofBits .f32 0x358637BD#32)))
    (fun t h j => by
      show (outsAt0 m c t.val t.isLt).2 j = _
      rw [outsAt0_A m c t h]; frame_out; rw [hpay, hzero])
    (fun t h j => by
      show (outsAt0 m c t.val t.isLt).2 j = _
      rw [outsAt0_B m c t h]; frame_out; rw [hpay])
    t ht _, zero_add]
  pointwise [val_main_v21, val_main_v20, val_main_v19, val_main_v18, val_main_v17, val_main_v15, val_main_v12, val_main_v11, val_main_v7, val_main_v6, val_main_v5, val_main_v4, val_main_v3, val_main_v2, val_main_v1, val_main_v0, val_main_cst, val_main_cst_0, val_main_cst_1, val_main_cst_3]
  refine Fin.sum_mul_add_congr fun s k hl => ?_
  blk_point [iblk, V, idx t, idx ⟨_, Pipeline.run_point_lt_of_flush t ht s⟩]

end Cert.NormBwdOwn

end
-- ==== Proof.NormBwdClaim.lean ====
module

public import proofs.«01_k».proof.Defs
public import proofs.«01_k».proof.Proof.Gen.NormBwd.Frame
public import proofs.«01_k».proof.Proof.NormBwdValue

@[expose] public section

set_option maxRecDepth 16384

noncomputable section

namespace Cert.NormBwdOwn

open Idealize.ShloMosaic Idealize.ShloMosaic.TcCoe Idealize.SL.Sem

theorem frame_kernel : Cert.quiescent_NormBwd (hNormBwd := Cert.NormBwd.Gen.facts) := fun m ρ _ => Cert.NormBwd.Gen.frame m ρ

theorem frame_ideal : Cert.quiescent_NormBwdIdeal (hNormBwdIdeal := Cert.NormBwdIdeal.Gen.facts) := fun m ρ _ => Cert.NormBwdIdeal.Gen.frame m ρ

theorem frame_ref : Cert.quiescent_NormBwdRefIdeal (hNormBwdRefIdeal := Cert.NormBwdRefIdeal.Gen.facts) := fun m ρ _ =>
  (θ_run Cert.NormBwdRefIdeal.defs _ _).mono (fun r h => ⟨fun c => (h c).2.2, Idealize.ShloMosaic.sem_eq_zero_of_no_sems (by decide) r.2⟩)
    (Cert.NormBwdRefIdeal.Value.run (F := Ideal) m ρ)

theorem algebraic : Cert.algebraic_NormBwdIdeal_NormBwdRefIdeal (hNormBwdIdeal := Cert.NormBwdIdeal.Gen.facts) (hNormBwdRefIdeal := Cert.NormBwdRefIdeal.Gen.facts) := by
  intro m ρ m' ρ' _ hagree
  refine ⟨fun c => (Cert.NormBwdIdeal.Gen.dats m 0 c).arrAt 5 _, fun c => (Cert.NormBwdIdeal.Gen.dats m 0 c).arrAt 6 _, Cert.NormBwdIdeal.Value.run_blocks m ρ, ?_⟩
  refine (θ_run Cert.NormBwdRefIdeal.defs _ _).mono (fun _ h c => ⟨(h c).1.trans ?_, (h c).2.1.trans ?_, (h c).2.2⟩)
    (Cert.NormBwdRefIdeal.Value.run (F := Ideal) m' ρ')
  · rw [Cert.NormBwdRefIdeal.Read.val_main_v38_eq]; rw [(hagree c).1, (hagree c).2.1, (hagree c).2.2.1, (hagree c).2.2.2.1, (hagree c).2.2.2.2]; exact (final m c).symm
  · rw [(hagree c).1, (hagree c).2.1, (hagree c).2.2.1]; exact (final' m c).symm

end Cert.NormBwdOwn

end
-- ==== Proof.FirstNormClaim.lean ====
module

public import proofs.«01_k».proof.Defs
public import proofs.«01_k».proof.Proof.Gen.FirstNorm.Frame
public import proofs.«01_k».proof.Proof.Gen.FirstNormIdeal.Value
public import proofs.«01_k».proof.Proof.Gen.FirstNormRefIdeal.Run
public import proofs.«01_k».proof.Proof.Gen.FirstNormRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.FirstNormOwn

theorem frame_kernel : Cert.quiescent_FirstNorm (hFirstNorm := Cert.FirstNorm.Gen.facts) := fun m ρ _ => Cert.FirstNorm.Gen.frame m ρ

theorem frame_ideal : Cert.quiescent_FirstNormIdeal (hFirstNormIdeal := Cert.FirstNormIdeal.Gen.facts) := fun m ρ _ => Cert.FirstNormIdeal.Gen.frame m ρ

theorem frame_ref : Cert.quiescent_FirstNormRefIdeal (hFirstNormRefIdeal := Cert.FirstNormRefIdeal.Gen.facts) := fun m ρ _ =>
  (θ_run Cert.FirstNormRefIdeal.defs _ _).mono (fun r h => ⟨fun c => (h c).2, sem_eq_zero_of_no_sems (by decide) r.2⟩) (Cert.FirstNormRefIdeal.Value.run (F := Ideal) m ρ)

section
open Cert.FirstNormIdeal Cert.FirstNormIdeal.Gen Cert.FirstNormRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem point (c : Dev nD) (t : Fin cfg0.N) (y) : k0_pay1 (iblk m c 0 t) (iblk m c 1 t) y
    = val_main_v12 (F := Ideal) (m ((c : Thread nD τ).loc main_arg0)) (m ((c : Thread nD τ).loc main_arg1)) (((cfg0.win 2).blk t).view.emb y) := by
  pointwise [k0_pay1, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

theorem final (c : Dev nD) : (dats m 0 c).arrAt 2 (cfgs 0).N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end

theorem algebraic : Cert.algebraic_FirstNormIdeal_FirstNormRefIdeal (hFirstNormIdeal := Cert.FirstNormIdeal.Gen.facts) (hFirstNormRefIdeal := Cert.FirstNormRefIdeal.Gen.facts) := by
  intro m ρ m' ρ' _ hagree
  refine ⟨fun c => (Cert.FirstNormIdeal.Gen.dats m 0 c).arrAt 2 _, Cert.FirstNormIdeal.Value.run_blocks m ρ, ?_⟩
  refine (θ_run Cert.FirstNormRefIdeal.defs _ _).mono (fun _ h c => ⟨(h c).1.trans ?_, (h c).2⟩) (Cert.FirstNormRefIdeal.Value.run (F := Ideal) m' ρ')
  rw [(hagree c).1, (hagree c).2]; exact (final m c).symm

end Cert.FirstNormOwn

end
-- ==== Proof.RowsClaim.lean ====
module

public import proofs.«01_k».proof.Defs
public import proofs.«01_k».proof.Proof.Gen.Rows.Frame
public import proofs.«01_k».proof.Proof.Gen.RowsIdeal.Value
public import proofs.«01_k».proof.Proof.Gen.RowsRefIdeal.Run
public import proofs.«01_k».proof.Proof.Gen.RowsRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.RowsOwn

theorem frame_kernel : Cert.quiescent_Rows (hRows := Cert.Rows.Gen.facts) := fun m ρ _ => Cert.Rows.Gen.frame m ρ

theorem frame_ideal : Cert.quiescent_RowsIdeal (hRowsIdeal := Cert.RowsIdeal.Gen.facts) := fun m ρ _ => Cert.RowsIdeal.Gen.frame m ρ

theorem frame_ref : Cert.quiescent_RowsRefIdeal (hRowsRefIdeal := Cert.RowsRefIdeal.Gen.facts) := fun m ρ _ =>
  (θ_run Cert.RowsRefIdeal.defs _ _).mono (fun r h => ⟨fun c => (h c).2, sem_eq_zero_of_no_sems (by decide) r.2⟩) (Cert.RowsRefIdeal.Value.run (F := Ideal) m ρ)

section
open Cert.RowsIdeal Cert.RowsIdeal.Gen Cert.RowsRefIdeal.Read

variable (m : (ℓ : Loc nD τ sig) → Buf (Elt Ideal) ℓ)

theorem idx : ∀ t : Fin cfg0.N, win0_0.index t = ![t.val, 0, 0] ∧ win0_1.index t = ![0, t.val] ∧ t.val < 8 :=
  (by decide +kernel : ∀ t : Fin grid0.N, _)

theorem point (c : Dev nD) (t : Fin cfg0.N) (y) : k0_pay1 (F := Ideal) (iblk m c 0 t) y
    = val_main_v1 (F := Ideal) (m ((c : Thread nD τ).loc main_arg0)) (((cfg0.win 1).blk t).view.emb y) := by
  have h := (idx t).2.2
  pointwise [k0_pay1, val_main_v1, val_main_v0]
  blk_point [iblk, V, idx t]

theorem final (c : Dev nD) : (dats m 0 c).arrAt 1 (cfgs 0).N = val_main_v1 (F := Ideal) (m ((c : Thread nD τ).loc main_arg0)) := by
  refine (dats m 0 c).arrAt_eq_of_covers 1 _ (by decide +kernel) fun t _ y => ?_
  blk_simp
  rw [after0_1]; frame_out
  exact point m c t y

end

theorem algebraic : Cert.algebraic_RowsIdeal_RowsRefIdeal (hRowsIdeal := Cert.RowsIdeal.Gen.facts) (hRowsRefIdeal := Cert.RowsRefIdeal.Gen.facts) := by
  intro m ρ m' ρ' _ hagree
  refine ⟨fun c => (Cert.RowsIdeal.Gen.dats m 0 c).arrAt 1 _, Cert.RowsIdeal.Value.run_blocks m ρ, ?_⟩
  refine (θ_run Cert.RowsRefIdeal.defs _ _).mono (fun _ h c => ⟨(h c).1.trans ?_, (h c).2⟩) (Cert.RowsRefIdeal.Value.run (F := Ideal) m' ρ')
  rw [hagree c]; exact (final m c).symm

end Cert.RowsOwn

end
-- ==== Proof.CastClaim.lean ====
module

public import proofs.«01_k».proof.Defs
public import proofs.«01_k».proof.Proof.Gen.CastIn.Frame
public import proofs.«01_k».proof.Proof.Gen.CastInIdeal.Value
public import proofs.«01_k».proof.Proof.Gen.CastInRefIdeal.Run
public import proofs.«01_k».proof.Proof.Gen.CastInRefIdeal.Read
public import proofs.«01_k».proof.Proof.Gen.CastOut.Frame
public import proofs.«01_k».proof.Proof.Gen.CastOutIdeal.Value
public import proofs.«01_k».proof.Proof.Gen.CastOutRefIdeal.Run
public import proofs.«01_k».proof.Proof.Gen.CastOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.CastInOwn

theorem frame_kernel : Cert.quiescent_CastIn (hCastIn := Cert.CastIn.Gen.facts) := fun m ρ _ => Cert.CastIn.Gen.frame m ρ

theorem frame_ideal : Cert.quiescent_CastInIdeal (hCastInIdeal := Cert.CastInIdeal.Gen.facts) := fun m ρ _ => Cert.CastInIdeal.Gen.frame m ρ

theorem frame_ref : Cert.quiescent_CastInRefIdeal (hCastInRefIdeal := Cert.CastInRefIdeal.Gen.facts) := fun m ρ _ =>
  (θ_run Cert.CastInRefIdeal.defs _ _).mono (fun r h => ⟨fun c => (h c).2, sem_eq_zero_of_no_sems (by decide) r.2⟩) (Cert.CastInRefIdeal.Value.run (F := Ideal) m ρ)

theorem algebraic : Cert.algebraic_CastInIdeal_CastInRefIdeal (hCastInIdeal := Cert.CastInIdeal.Gen.facts) (hCastInRefIdeal := Cert.CastInRefIdeal.Gen.facts) := by
  intro m ρ m' ρ' _ hagree
  refine ⟨_, Cert.CastInIdeal.Value.run m ρ, (θ_run Cert.CastInRefIdeal.defs _ _).mono (fun _ h c => ?_) (Cert.CastInRefIdeal.Value.run (F := Ideal) m' ρ')⟩
  have h := h c
  rw [hagree c] at h ⊢
  exact h

end Cert.CastInOwn

namespace Cert.CastOutOwn

theorem frame_kernel : Cert.quiescent_CastOut (hCastOut := Cert.CastOut.Gen.facts) := fun m ρ _ => Cert.CastOut.Gen.frame m ρ

theorem frame_ideal : Cert.quiescent_CastOutIdeal (hCastOutIdeal := Cert.CastOutIdeal.Gen.facts) := fun m ρ _ => Cert.CastOutIdeal.Gen.frame m ρ

theorem frame_ref : Cert.quiescent_CastOutRefIdeal (hCastOutRefIdeal := Cert.CastOutRefIdeal.Gen.facts) := fun m ρ _ =>
  (θ_run Cert.CastOutRefIdeal.defs _ _).mono (fun r h => ⟨fun c => (h c).2, sem_eq_zero_of_no_sems (by decide) r.2⟩) (Cert.CastOutRefIdeal.Value.run (F := Ideal) m ρ)

theorem algebraic : Cert.algebraic_CastOutIdeal_CastOutRefIdeal (hCastOutIdeal := Cert.CastOutIdeal.Gen.facts) (hCastOutRefIdeal := Cert.CastOutRefIdeal.Gen.facts) := by
  intro m ρ m' ρ' _ hagree
  refine ⟨_, Cert.CastOutIdeal.Value.run m ρ, (θ_run Cert.CastOutRefIdeal.defs _ _).mono (fun _ h c => ?_) (Cert.CastOutRefIdeal.Value.run (F := Ideal) m' ρ')⟩
  have h := h c
  rw [hagree c] at h ⊢
  exact h

end Cert.CastOutOwn

end
-- ==== Proof.Half.lean ====
module

public import Idealize.ShloMosaic.PureOps.Ideal

@[expose] public section

noncomputable section

/-! # One half of an array's blocks, chosen by a number, plus another array -/

open Idealize.ShloMosaic

namespace Cert.Half

/-- Block `i` of the half `w`, numbered among all blocks: nothing wraps, for the halves 0 and 1. -/
theorem block_index (w : BitVec 32) (k h i : Nat) (hw : w = BitVec.ofNat 32 k) (hk : k < 2) (hh : h < 16) (hi : i < 16) :
    (w * BitVec.ofNat 32 h + BitVec.ofNat 32 i).toNat = k * h + i := by
  subst hw
  have : k * h ≤ 1 * h := Nat.mul_le_mul_right _ (by omega)
  rw [BitVec.toNat_add, BitVec.toNat_mul, BitVec.toNat_ofNat, BitVec.toNat_ofNat, BitVec.toNat_ofNat,
    Nat.mod_eq_of_lt (a := k) (by omega), Nat.mod_eq_of_lt (a := h) (by omega), Nat.mod_eq_of_lt (a := i) (by omega),
    Nat.mod_eq_of_lt (a := k * h) (by omega), Nat.mod_eq_of_lt (by omega)]

/-- The precondition, read: the number is 0 or 1. -/
theorem word_of_or (w : BitVec 32) (h : IntOp.ori (IntOp.cmpi .eq w 0#32) (IntOp.cmpi .eq w 1#32) = 1#1) :
    ∃ k, k < 2 ∧ w = BitVec.ofNat 32 k := by
  by_cases h0 : w = 0#32
  · exact ⟨0, by omega, h0⟩
  by_cases h1 : w = 1#32
  · exact ⟨1, by omega, h1⟩
  exfalso
  simp [IntOp.ori, IntOp.cmpi, beq_eq_false_iff_ne.2 h0, beq_eq_false_iff_ne.2 h1] at h

/-- An entry of the half `k` of `2 h` blocks. -/
abbrev kept {n h r c : Nat} (hn : n = 2 * h) (k : Nat) (hk : k < 2) (i : (⟨3, ![h, r, c]⟩ : Shape).Idx) : (⟨3, ![n, r, c]⟩ : Shape).Idx := fun a => match a with
  | ⟨0, _⟩ => ⟨k * h + (i 0).val, by
    have h0 : (i 0).val < h := (i 0).isLt
    have : k * h ≤ 1 * h := Nat.mul_le_mul_right _ (by omega)
    show _ < n; omega⟩
  | ⟨1, _⟩ => ⟨(i 1).val, (i 1).isLt⟩
  | ⟨2, _⟩ => ⟨(i 2).val, (i 2).isLt⟩

/-- The sum of the half `k` of `src` and of `recv`. -/
def total {n h r c : Nat} (hn : n = 2 * h) (k : Nat) (hk : k < 2) (src : (⟨3, ![n, r, c]⟩ : Shape).Idx → EReal) (recv : (⟨3, ![h, r, c]⟩ : Shape).Idx → EReal) :
    (⟨3, ![h, r, c]⟩ : Shape).Idx → EReal := fun i => src (kept hn k hk i) + recv i

end Cert.Half

end
-- ==== Proof.AddInClaim.lean ====
module

public import proofs.«01_k».proof.Defs
public import proofs.«01_k».proof.Proof.Half
public import proofs.«01_k».proof.Proof.Gen.AddIn0.Frame
public import proofs.«01_k».proof.Proof.Gen.AddIn0Ideal.Frame
public import proofs.«01_k».proof.Proof.Gen.AddIn0RefIdeal.Run
public import proofs.«01_k».proof.Proof.Gen.AddIn0RefIdeal.Read
public import proofs.«01_k».proof.Proof.Gen.AddIn1.Frame
public import proofs.«01_k».proof.Proof.Gen.AddIn1Ideal.Frame
public import proofs.«01_k».proof.Proof.Gen.AddIn1RefIdeal.Run
public import proofs.«01_k».proof.Proof.Gen.AddIn1RefIdeal.Read
public import proofs.«01_k».proof.Proof.Gen.AddIn2.Frame
public import proofs.«01_k».proof.Proof.Gen.AddIn2Ideal.Frame
public import proofs.«01_k».proof.Proof.Gen.AddIn2RefIdeal.Run
public import proofs.«01_k».proof.Proof.Gen.AddIn2RefIdeal.Read
public import Idealize.ShloMosaic.Lib.Affine
public import Idealize.ShloMosaic.Lib.Pipeline.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.AddIn0.Kept

open Cert.AddIn0 Cert.AddIn0.Gen

variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 4 + (i 0).val, (i 1).val, 0] := by
  have h0 : (i 0).val < 4 := (i 0).isLt
  have h1 : (i 1).val < 2 := (i 1).isLt
  unfold cc0_transform_0
  funext a
  match a with
  | ⟨0, _⟩ => exact Cert.Half.block_index _ k 4 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 4 := (i 0).isLt
  have h1 : (i 1).val < 2 := (i 1).isLt
  rw [index0 pf k hk h i]
  match a with
  | ⟨0, _⟩ => show (k * 4 + (i 0).val + 1) * 1 ≤ 8; omega
  | ⟨1, _⟩ => show ((i 1).val + 1) * 1024 ≤ 2048; omega
  | ⟨2, _⟩ => show (0 + 1) * 640 ≤ 640; omega

end Cert.AddIn0.Kept

namespace Cert.AddIn0Ideal.Kept

open Cert.AddIn0Ideal Cert.AddIn0Ideal.Gen
open Cert.Half (total kept)
open Idealize.ShloMosaic.Pipeline (Dat)

section
variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 4 + (i 0).val, (i 1).val, 0] := by
  have h0 : (i 0).val < 4 := (i 0).isLt
  have h1 : (i 1).val < 2 := (i 1).isLt
  unfold cc0_transform_0
  funext a
  match a with
  | ⟨0, _⟩ => exact Cert.Half.block_index _ k 4 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 4 := (i 0).isLt
  have h1 : (i 1).val < 2 := (i 1).isLt
  rw [index0 pf k hk h i]
  match a with
  | ⟨0, _⟩ => show (k * 4 + (i 0).val + 1) * 1 ≤ 8; omega
  | ⟨1, _⟩ => show ((i 1).val + 1) * 1024 ≤ 2048; omega
  | ⟨2, _⟩ => show (0 + 1) * 640 ≤ 640; omega

end

variable (m : (ℓ : Loc nD τ sig) → Buf (Elt Ideal) ℓ)

theorem hpay (x0 x1 : Vec Ideal S1x1024x640 .bf16) (j) : k0_pay1 (F := Ideal) x0 x1 j = (x0 j : EReal) + x1 j := by
  unfold k0_pay1
  show shapeCast _ (fun i => (shapeCast S1024x640 x0 _ i : EReal) + shapeCast S1024x640 x1 _ i) _ j = _
  exact congrFun (shapeCast_shapeCast (fun i => (x0 i : EReal) + x1 i) _ _) j

theorem body (c : Dev nD) (i : grid0.Coords) (arg3 : Memref sig .tc .vmem S1x1024x640 .bf16) (harg3 : arg3.IsWhole) (arg4 : Memref sig .tc .vmem S1x1024x640 .bf16)
    (harg4 : arg4.IsWhole) (arg5 : Memref sig .tc .vmem S1x1024x640 .bf16) (harg5 : arg5.IsWhole) (x0 x1 : Vec Ideal S1x1024x640 .bf16)
    (xt0 : TbBuf0 (F := Ideal) c tbM0_0) (j : S1x1024x640.Idx) :
    out0_A_2 c i arg3 harg3 arg4 harg4 arg5 harg5 x0 x1 xt0 j = (x0 j : EReal) + x1 j := by
  frame_out
  exact hpay x0 x1 j

theorem index2 (i : grid0.Coords) : cc0_transform_2 i = ![(i 0).val, (i 1).val, 0] := by
  have h0 : (i 0).val < 4 := (i 0).isLt
  have h1 : (i 1).val < 2 := (i 1).isLt
  funext a
  match a with
  | ⟨0, _⟩ => exact (BitVec.toNat_ofNat _ _).trans (Nat.mod_eq_of_lt (by omega))
  | ⟨1, _⟩ => exact (BitVec.toNat_ofNat _ _).trans (Nat.mod_eq_of_lt (by omega))
  | ⟨2, _⟩ => rfl

/-- Where point `t` puts its block's entry `y`, and where it takes the two summands from. -/
theorem places (hO : Ok m) (k : Nat) (hk : k < 2) (h : ∀ j, (tbl m 0 j : BitVec 32) = BitVec.ofNat 32 k) (t : Fin (cfgM m hO).N) (y : S1x1024x640.Idx) :
    ((((cfgM m hO).win 0).blk t).view.emb y : S8x2048x640.Idx) = kept (n := 8) (h := 4) rfl k hk ((((cfgM m hO).win 2).blk t).view.emb y) := by
  have e0 := index0 (tbl m) k hk h (grid0.coords t)
  have e2 := index2 (grid0.coords t)
  funext a
  apply Fin.ext
  match a with
  | ⟨0, _⟩ =>
    show cc0_transform_0 (F := Ideal) inb_S1_S1_0 numel1_S1 (tbl m) (grid0.coords t) (0 : Fin 3) * 1 + 1 * (y (0 : Fin 3)).val
      = k * 4 + (cc0_transform_2 (grid0.coords t) (0 : Fin 3) * 1 + 1 * (y (0 : Fin 3)).val)
    rw [e0, e2]; show (k * 4 + (grid0.coords t 0).val) * 1 + 1 * (y (0 : Fin 3)).val = k * 4 + ((grid0.coords t 0).val * 1 + 1 * (y (0 : Fin 3)).val); omega
  | ⟨1, _⟩ =>
    show cc0_transform_0 (F := Ideal) inb_S1_S1_0 numel1_S1 (tbl m) (grid0.coords t) (1 : Fin 3) * 1024 + 1 * (y (1 : Fin 3)).val
      = cc0_transform_2 (grid0.coords t) (1 : Fin 3) * 1024 + 1 * (y (1 : Fin 3)).val
    rw [e0, e2]; rfl
  | ⟨2, _⟩ =>
    show cc0_transform_0 (F := Ideal) inb_S1_S1_0 numel1_S1 (tbl m) (grid0.coords t) (2 : Fin 3) * 640 + 1 * (y (2 : Fin 3)).val
      = cc0_transform_2 (grid0.coords t) (2 : Fin 3) * 640 + 1 * (y (2 : Fin 3)).val
    rw [e0, e2]; rfl

theorem covers (hO : Ok m) : ((cfgM m hO).win 2).Covers := of_decide_eq_true (by sl_kernel_rfl)

theorem final (c : Dev nD) (hO : Ok m) (k : Nat) (hk : k < 2) (h : ∀ j, (tbl m 0 j : BitVec 32) = BitVec.ofNat 32 k) :
    (dats m hO 0 c).arrAt 2 (cfgM m hO).N = total (n := 8) (h := 4) rfl k hk (m ((c : Thread nD τ).loc main_arg0)) (m ((c : Thread nD τ).loc main_arg1)) := by
  refine (dats m hO 0 c).arrAt_eq_of_covers 2 _ (covers m hO) fun t hf y => ?_
  show (dats m hO 0 c).after 2 t y = _
  rw [after0_2]
  refine (body c _ _ _ _ _ _ _ (iblk m hO c 0 t) (iblk m hO c 1 t) _ y).trans ?_
  exact congrArg (fun i => ((show FVec Ideal S8x2048x640 .bf16 from m ((c : Thread nD τ).loc main_arg0)) i : EReal)
    + ((show FVec Ideal S4x2048x640 .bf16 from m ((c : Thread nD τ).loc main_arg1)) ((((cfgM m hO).win 2).blk t).view.emb y) : EReal)) (places m hO k hk h t y)

end Cert.AddIn0Ideal.Kept

namespace Cert.AddIn0Own

open Cert.Half (total kept)

instance : Cert.Pre_half_addin0.Facts := by constructor; decide

theorem word {F : FTy → Type} [FloatOps F] (x0 : FVec F Cert.Pre_half_addin0.S8x2048x640 .bf16) (x1 : FVec F Cert.Pre_half_addin0.S4x2048x640 .bf16)
    (x2 : IVec Cert.Pre_half_addin0.S1 32) (h : Cert.Pre_half_addin0.fn (F := F) x0 x1 x2 = fun _ => 1#1) :
    ∃ k, k < 2 ∧ ∀ j, x2 j = BitVec.ofNat 32 k := by
  obtain ⟨k, hk, e⟩ := Cert.Half.word_of_or _ (congrFun h (fun a => a.elim0))
  refine ⟨k, hk, fun j => Eq.trans (congrArg x2 ?_) e⟩
  funext a
  have : Subsingleton (Fin (Cert.Pre_half_addin0.S1.size a)) := by
    match a with
    | ⟨0, _⟩ => exact (inferInstance : Subsingleton (Fin 1))
  exact Subsingleton.elim _ _

theorem frame_kernel : Cert.quiescent_AddIn0 (hAddIn0 := Cert.AddIn0.Gen.facts) := fun m ρ h => by
  obtain ⟨k, hk, e⟩ := word _ _ _ (h 0)
  exact Cert.AddIn0.Gen.frame m ρ (Cert.AddIn0.Kept.ok_of (Cert.AddIn0.Gen.tbl m) k hk e)

theorem frame_ideal : Cert.quiescent_AddIn0Ideal (hAddIn0Ideal := Cert.AddIn0Ideal.Gen.facts) := fun m ρ h => by
  obtain ⟨k, hk, e⟩ := word _ _ _ (h 0)
  exact Cert.AddIn0Ideal.Gen.frame m ρ (Cert.AddIn0Ideal.Kept.ok_of (Cert.AddIn0Ideal.Gen.tbl m) k hk e)

theorem frame_ref : Cert.quiescent_AddIn0RefIdeal (hAddIn0RefIdeal := Cert.AddIn0RefIdeal.Gen.facts) := fun m ρ _ =>
  (θ_run Cert.AddIn0RefIdeal.defs _ _).mono (fun r h => ⟨fun c => (h c).2, sem_eq_zero_of_no_sems (by decide) r.2⟩) (Cert.AddIn0RefIdeal.Value.run (F := Ideal) m ρ)

theorem frame_ref_half : Cert.quiescent_AddIn0RefIdeal_pre_half_addin0 (hAddIn0RefIdeal := Cert.AddIn0RefIdeal.Gen.facts) := fun m ρ _ => frame_ref m ρ trivial

/-- The reference's choice between the two halves is the half the number names. -/
theorem ref_total (k : Nat) (hk : k < 2) (x0 : FVec Ideal Cert.AddIn0RefIdeal.S8x2048x640 .bf16) (x1 : FVec Ideal Cert.AddIn0RefIdeal.S4x2048x640 .bf16)
    (x2 : IVec Cert.AddIn0RefIdeal.S1 32) (h : ∀ j, x2 j = BitVec.ofNat 32 k) :
    Cert.AddIn0RefIdeal.Read.val_main_v9 (F := Ideal) x0 x1 x2 = total (n := 8) (h := 4) rfl k hk x0 x1 := by
  funext i
  rw [Cert.AddIn0RefIdeal.Read.val_main_v9_apply, Cert.AddIn0RefIdeal.Read.val_main_v8_apply, Cert.AddIn0RefIdeal.Read.val_main_v7_apply]
  show (Cert.AddIn0RefIdeal.Read.val_main_v6 (F := Ideal) x0 x2 i : EReal) + x1 i = x0 (kept (n := 8) (h := 4) rfl k hk i) + x1 i
  refine congrArg (· + x1 i) ?_
  show (if IntOp.cmpi .eq (x2 _) 0#32 = 1#1 then _ else _) = _
  rw [h]
  obtain rfl | rfl : k = 0 ∨ k = 1 := by omega
  · rw [if_pos (by decide), Cert.AddIn0RefIdeal.Read.val_main_v3_apply, Cert.AddIn0RefIdeal.Read.val_main_v2_apply]
    refine congrArg x0 (funext fun a => Fin.ext ?_)
    match a with
    | ⟨0, _⟩ => show (i 0).val = 0 * 4 + (i 0).val; omega
    | ⟨1, _⟩ => rfl
    | ⟨2, _⟩ => rfl
  · rw [if_neg (by decide), Cert.AddIn0RefIdeal.Read.val_main_v5_apply, Cert.AddIn0RefIdeal.Read.val_main_v4_apply]
    refine congrArg x0 (funext fun a => Fin.ext ?_)
    match a with
    | ⟨0, _⟩ => show 4 + (i 0).val = 1 * 4 + (i 0).val; omega
    | ⟨1, _⟩ => rfl
    | ⟨2, _⟩ => rfl

theorem algebraic : Cert.algebraic_AddIn0Ideal_AddIn0RefIdeal (hAddIn0Ideal := Cert.AddIn0Ideal.Gen.facts) (hAddIn0RefIdeal := Cert.AddIn0RefIdeal.Gen.facts) := by
  intro m ρ m' ρ' hpre hagree
  obtain ⟨k, hk, e⟩ := word _ _ _ (hpre 0)
  have hO := Cert.AddIn0Ideal.Kept.ok_of (Cert.AddIn0Ideal.Gen.tbl m) k hk e
  refine ⟨fun c => total (n := 8) (h := 4) rfl k hk (m ((c : Thread Cert.AddIn0Ideal.nD Cert.AddIn0Ideal.τ).loc Cert.AddIn0Ideal.main_arg0)) (m ((c : Thread Cert.AddIn0Ideal.nD Cert.AddIn0Ideal.τ).loc Cert.AddIn0Ideal.main_arg1)),
    (θ_run Cert.AddIn0Ideal.defs _ _).mono (fun r h c => ⟨((h.1 c).1 2).trans (Cert.AddIn0Ideal.Kept.final m c hO k hk e), h.2 c⟩)
      (θ_run_and (Cert.AddIn0Ideal.Gen.run_main m ρ hO) (Cert.AddIn0Ideal.Gen.unchanged m ρ hO)),
    (θ_run Cert.AddIn0RefIdeal.defs _ _).mono (fun r h c => ⟨(h c).1.trans ?_, (h c).2⟩) (Cert.AddIn0RefIdeal.Value.run (F := Ideal) m' ρ')⟩
  obtain ⟨e0, e1, e2⟩ := hagree c
  rw [e0, e1, e2, Cert.AddIn0RefIdeal.Read.val_main_v9_eq]
  obtain rfl : c = 0 := Subsingleton.elim _ _
  exact ref_total k hk _ _ _ e

end Cert.AddIn0Own

namespace Cert.AddIn1.Kept

open Cert.AddIn1 Cert.AddIn1.Gen

variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 2 + (i 0).val, (i 1).val, 0] := by
  have h0 : (i 0).val < 2 := (i 0).isLt
  have h1 : (i 1).val < 2 := (i 1).isLt
  unfold cc0_transform_0
  funext a
  match a with
  | ⟨0, _⟩ => exact Cert.Half.block_index _ k 2 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 2 := (i 0).isLt
  have h1 : (i 1).val < 2 := (i 1).isLt
  rw [index0 pf k hk h i]
  match a with
  | ⟨0, _⟩ => show (k * 2 + (i 0).val + 1) * 1 ≤ 4; omega
  | ⟨1, _⟩ => show ((i 1).val + 1) * 1024 ≤ 2048; omega
  | ⟨2, _⟩ => show (0 + 1) * 640 ≤ 640; omega

end Cert.AddIn1.Kept

namespace Cert.AddIn1Ideal.Kept

open Cert.AddIn1Ideal Cert.AddIn1Ideal.Gen
open Cert.Half (total kept)
open Idealize.ShloMosaic.Pipeline (Dat)

section
variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 2 + (i 0).val, (i 1).val, 0] := by
  have h0 : (i 0).val < 2 := (i 0).isLt
  have h1 : (i 1).val < 2 := (i 1).isLt
  unfold cc0_transform_0
  funext a
  match a with
  | ⟨0, _⟩ => exact Cert.Half.block_index _ k 2 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 2 := (i 0).isLt
  have h1 : (i 1).val < 2 := (i 1).isLt
  rw [index0 pf k hk h i]
  match a with
  | ⟨0, _⟩ => show (k * 2 + (i 0).val + 1) * 1 ≤ 4; omega
  | ⟨1, _⟩ => show ((i 1).val + 1) * 1024 ≤ 2048; omega
  | ⟨2, _⟩ => show (0 + 1) * 640 ≤ 640; omega

end

variable (m : (ℓ : Loc nD τ sig) → Buf (Elt Ideal) ℓ)

theorem hpay (x0 x1 : Vec Ideal S1x1024x640 .bf16) (j) : k0_pay1 (F := Ideal) x0 x1 j = (x0 j : EReal) + x1 j := by
  unfold k0_pay1
  show shapeCast _ (fun i => (shapeCast S1024x640 x0 _ i : EReal) + shapeCast S1024x640 x1 _ i) _ j = _
  exact congrFun (shapeCast_shapeCast (fun i => (x0 i : EReal) + x1 i) _ _) j

theorem body (c : Dev nD) (i : grid0.Coords) (arg3 : Memref sig .tc .vmem S1x1024x640 .bf16) (harg3 : arg3.IsWhole) (arg4 : Memref sig .tc .vmem S1x1024x640 .bf16)
    (harg4 : arg4.IsWhole) (arg5 : Memref sig .tc .vmem S1x1024x640 .bf16) (harg5 : arg5.IsWhole) (x0 x1 : Vec Ideal S1x1024x640 .bf16)
    (xt0 : TbBuf0 (F := Ideal) c tbM0_0) (j : S1x1024x640.Idx) :
    out0_A_2 c i arg3 harg3 arg4 harg4 arg5 harg5 x0 x1 xt0 j = (x0 j : EReal) + x1 j := by
  frame_out
  exact hpay x0 x1 j

theorem index2 (i : grid0.Coords) : cc0_transform_2 i = ![(i 0).val, (i 1).val, 0] := by
  have h0 : (i 0).val < 2 := (i 0).isLt
  have h1 : (i 1).val < 2 := (i 1).isLt
  funext a
  match a with
  | ⟨0, _⟩ => exact (BitVec.toNat_ofNat _ _).trans (Nat.mod_eq_of_lt (by omega))
  | ⟨1, _⟩ => exact (BitVec.toNat_ofNat _ _).trans (Nat.mod_eq_of_lt (by omega))
  | ⟨2, _⟩ => rfl

/-- Where point `t` puts its block's entry `y`, and where it takes the two summands from. -/
theorem places (hO : Ok m) (k : Nat) (hk : k < 2) (h : ∀ j, (tbl m 0 j : BitVec 32) = BitVec.ofNat 32 k) (t : Fin (cfgM m hO).N) (y : S1x1024x640.Idx) :
    ((((cfgM m hO).win 0).blk t).view.emb y : S4x2048x640.Idx) = kept (n := 4) (h := 2) rfl k hk ((((cfgM m hO).win 2).blk t).view.emb y) := by
  have e0 := index0 (tbl m) k hk h (grid0.coords t)
  have e2 := index2 (grid0.coords t)
  funext a
  apply Fin.ext
  match a with
  | ⟨0, _⟩ =>
    show cc0_transform_0 (F := Ideal) inb_S1_S1_0 numel1_S1 (tbl m) (grid0.coords t) (0 : Fin 3) * 1 + 1 * (y (0 : Fin 3)).val
      = k * 2 + (cc0_transform_2 (grid0.coords t) (0 : Fin 3) * 1 + 1 * (y (0 : Fin 3)).val)
    rw [e0, e2]; show (k * 2 + (grid0.coords t 0).val) * 1 + 1 * (y (0 : Fin 3)).val = k * 2 + ((grid0.coords t 0).val * 1 + 1 * (y (0 : Fin 3)).val); omega
  | ⟨1, _⟩ =>
    show cc0_transform_0 (F := Ideal) inb_S1_S1_0 numel1_S1 (tbl m) (grid0.coords t) (1 : Fin 3) * 1024 + 1 * (y (1 : Fin 3)).val
      = cc0_transform_2 (grid0.coords t) (1 : Fin 3) * 1024 + 1 * (y (1 : Fin 3)).val
    rw [e0, e2]; rfl
  | ⟨2, _⟩ =>
    show cc0_transform_0 (F := Ideal) inb_S1_S1_0 numel1_S1 (tbl m) (grid0.coords t) (2 : Fin 3) * 640 + 1 * (y (2 : Fin 3)).val
      = cc0_transform_2 (grid0.coords t) (2 : Fin 3) * 640 + 1 * (y (2 : Fin 3)).val
    rw [e0, e2]; rfl

theorem covers (hO : Ok m) : ((cfgM m hO).win 2).Covers := of_decide_eq_true (by sl_kernel_rfl)

theorem final (c : Dev nD) (hO : Ok m) (k : Nat) (hk : k < 2) (h : ∀ j, (tbl m 0 j : BitVec 32) = BitVec.ofNat 32 k) :
    (dats m hO 0 c).arrAt 2 (cfgM m hO).N = total (n := 4) (h := 2) rfl k hk (m ((c : Thread nD τ).loc main_arg0)) (m ((c : Thread nD τ).loc main_arg1)) := by
  refine (dats m hO 0 c).arrAt_eq_of_covers 2 _ (covers m hO) fun t hf y => ?_
  show (dats m hO 0 c).after 2 t y = _
  rw [after0_2]
  refine (body c _ _ _ _ _ _ _ (iblk m hO c 0 t) (iblk m hO c 1 t) _ y).trans ?_
  exact congrArg (fun i => ((show FVec Ideal S4x2048x640 .bf16 from m ((c : Thread nD τ).loc main_arg0)) i : EReal)
    + ((show FVec Ideal S2x2048x640 .bf16 from m ((c : Thread nD τ).loc main_arg1)) ((((cfgM m hO).win 2).blk t).view.emb y) : EReal)) (places m hO k hk h t y)

end Cert.AddIn1Ideal.Kept

namespace Cert.AddIn1Own

open Cert.Half (total kept)

instance : Cert.Pre_half_addin1.Facts := by constructor; decide

theorem word {F : FTy → Type} [FloatOps F] (x0 : FVec F Cert.Pre_half_addin1.S4x2048x640 .bf16) (x1 : FVec F Cert.Pre_half_addin1.S2x2048x640 .bf16)
    (x2 : IVec Cert.Pre_half_addin1.S1 32) (h : Cert.Pre_half_addin1.fn (F := F) x0 x1 x2 = fun _ => 1#1) :
    ∃ k, k < 2 ∧ ∀ j, x2 j = BitVec.ofNat 32 k := by
  obtain ⟨k, hk, e⟩ := Cert.Half.word_of_or _ (congrFun h (fun a => a.elim0))
  refine ⟨k, hk, fun j => Eq.trans (congrArg x2 ?_) e⟩
  funext a
  have : Subsingleton (Fin (Cert.Pre_half_addin1.S1.size a)) := by
    match a with
    | ⟨0, _⟩ => exact (inferInstance : Subsingleton (Fin 1))
  exact Subsingleton.elim _ _

theorem frame_kernel : Cert.quiescent_AddIn1 (hAddIn1 := Cert.AddIn1.Gen.facts) := fun m ρ h => by
  obtain ⟨k, hk, e⟩ := word _ _ _ (h 0)
  exact Cert.AddIn1.Gen.frame m ρ (Cert.AddIn1.Kept.ok_of (Cert.AddIn1.Gen.tbl m) k hk e)

theorem frame_ideal : Cert.quiescent_AddIn1Ideal (hAddIn1Ideal := Cert.AddIn1Ideal.Gen.facts) := fun m ρ h => by
  obtain ⟨k, hk, e⟩ := word _ _ _ (h 0)
  exact Cert.AddIn1Ideal.Gen.frame m ρ (Cert.AddIn1Ideal.Kept.ok_of (Cert.AddIn1Ideal.Gen.tbl m) k hk e)

theorem frame_ref : Cert.quiescent_AddIn1RefIdeal (hAddIn1RefIdeal := Cert.AddIn1RefIdeal.Gen.facts) := fun m ρ _ =>
  (θ_run Cert.AddIn1RefIdeal.defs _ _).mono (fun r h => ⟨fun c => (h c).2, sem_eq_zero_of_no_sems (by decide) r.2⟩) (Cert.AddIn1RefIdeal.Value.run (F := Ideal) m ρ)

theorem frame_ref_half : Cert.quiescent_AddIn1RefIdeal_pre_half_addin1 (hAddIn1RefIdeal := Cert.AddIn1RefIdeal.Gen.facts) := fun m ρ _ => frame_ref m ρ trivial

/-- The reference's choice between the two halves is the half the number names. -/
theorem ref_total (k : Nat) (hk : k < 2) (x0 : FVec Ideal Cert.AddIn1RefIdeal.S4x2048x640 .bf16) (x1 : FVec Ideal Cert.AddIn1RefIdeal.S2x2048x640 .bf16)
    (x2 : IVec Cert.AddIn1RefIdeal.S1 32) (h : ∀ j, x2 j = BitVec.ofNat 32 k) :
    Cert.AddIn1RefIdeal.Read.val_main_v9 (F := Ideal) x0 x1 x2 = total (n := 4) (h := 2) rfl k hk x0 x1 := by
  funext i
  rw [Cert.AddIn1RefIdeal.Read.val_main_v9_apply, Cert.AddIn1RefIdeal.Read.val_main_v8_apply, Cert.AddIn1RefIdeal.Read.val_main_v7_apply]
  show (Cert.AddIn1RefIdeal.Read.val_main_v6 (F := Ideal) x0 x2 i : EReal) + x1 i = x0 (kept (n := 4) (h := 2) rfl k hk i) + x1 i
  refine congrArg (· + x1 i) ?_
  show (if IntOp.cmpi .eq (x2 _) 0#32 = 1#1 then _ else _) = _
  rw [h]
  obtain rfl | rfl : k = 0 ∨ k = 1 := by omega
  · rw [if_pos (by decide), Cert.AddIn1RefIdeal.Read.val_main_v3_apply, Cert.AddIn1RefIdeal.Read.val_main_v2_apply]
    refine congrArg x0 (funext fun a => Fin.ext ?_)
    match a with
    | ⟨0, _⟩ => show (i 0).val = 0 * 2 + (i 0).val; omega
    | ⟨1, _⟩ => rfl
    | ⟨2, _⟩ => rfl
  · rw [if_neg (by decide), Cert.AddIn1RefIdeal.Read.val_main_v5_apply, Cert.AddIn1RefIdeal.Read.val_main_v4_apply]
    refine congrArg x0 (funext fun a => Fin.ext ?_)
    match a with
    | ⟨0, _⟩ => show 2 + (i 0).val = 1 * 2 + (i 0).val; omega
    | ⟨1, _⟩ => rfl
    | ⟨2, _⟩ => rfl

theorem algebraic : Cert.algebraic_AddIn1Ideal_AddIn1RefIdeal (hAddIn1Ideal := Cert.AddIn1Ideal.Gen.facts) (hAddIn1RefIdeal := Cert.AddIn1RefIdeal.Gen.facts) := by
  intro m ρ m' ρ' hpre hagree
  obtain ⟨k, hk, e⟩ := word _ _ _ (hpre 0)
  have hO := Cert.AddIn1Ideal.Kept.ok_of (Cert.AddIn1Ideal.Gen.tbl m) k hk e
  refine ⟨fun c => total (n := 4) (h := 2) rfl k hk (m ((c : Thread Cert.AddIn1Ideal.nD Cert.AddIn1Ideal.τ).loc Cert.AddIn1Ideal.main_arg0)) (m ((c : Thread Cert.AddIn1Ideal.nD Cert.AddIn1Ideal.τ).loc Cert.AddIn1Ideal.main_arg1)),
    (θ_run Cert.AddIn1Ideal.defs _ _).mono (fun r h c => ⟨((h.1 c).1 2).trans (Cert.AddIn1Ideal.Kept.final m c hO k hk e), h.2 c⟩)
      (θ_run_and (Cert.AddIn1Ideal.Gen.run_main m ρ hO) (Cert.AddIn1Ideal.Gen.unchanged m ρ hO)),
    (θ_run Cert.AddIn1RefIdeal.defs _ _).mono (fun r h c => ⟨(h c).1.trans ?_, (h c).2⟩) (Cert.AddIn1RefIdeal.Value.run (F := Ideal) m' ρ')⟩
  obtain ⟨e0, e1, e2⟩ := hagree c
  rw [e0, e1, e2, Cert.AddIn1RefIdeal.Read.val_main_v9_eq]
  obtain rfl : c = 0 := Subsingleton.elim _ _
  exact ref_total k hk _ _ _ e

end Cert.AddIn1Own

namespace Cert.AddIn2.Kept

open Cert.AddIn2 Cert.AddIn2.Gen

variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 1 + (i 0).val, (i 1).val, 0] := by
  have h0 : (i 0).val < 1 := (i 0).isLt
  have h1 : (i 1).val < 2 := (i 1).isLt
  unfold cc0_transform_0
  funext a
  match a with
  | ⟨0, _⟩ => exact Cert.Half.block_index _ k 1 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 1 := (i 0).isLt
  have h1 : (i 1).val < 2 := (i 1).isLt
  rw [index0 pf k hk h i]
  match a with
  | ⟨0, _⟩ => show (k * 1 + (i 0).val + 1) * 1 ≤ 2; omega
  | ⟨1, _⟩ => show ((i 1).val + 1) * 1024 ≤ 2048; omega
  | ⟨2, _⟩ => show (0 + 1) * 640 ≤ 640; omega

end Cert.AddIn2.Kept

namespace Cert.AddIn2Ideal.Kept

open Cert.AddIn2Ideal Cert.AddIn2Ideal.Gen
open Cert.Half (total kept)
open Idealize.ShloMosaic.Pipeline (Dat)

section
variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 1 + (i 0).val, (i 1).val, 0] := by
  have h0 : (i 0).val < 1 := (i 0).isLt
  have h1 : (i 1).val < 2 := (i 1).isLt
  unfold cc0_transform_0
  funext a
  match a with
  | ⟨0, _⟩ => exact Cert.Half.block_index _ k 1 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 1 := (i 0).isLt
  have h1 : (i 1).val < 2 := (i 1).isLt
  rw [index0 pf k hk h i]
  match a with
  | ⟨0, _⟩ => show (k * 1 + (i 0).val + 1) * 1 ≤ 2; omega
  | ⟨1, _⟩ => show ((i 1).val + 1) * 1024 ≤ 2048; omega
  | ⟨2, _⟩ => show (0 + 1) * 640 ≤ 640; omega

end

variable (m : (ℓ : Loc nD τ sig) → Buf (Elt Ideal) ℓ)

theorem hpay (x0 x1 : Vec Ideal S1x1024x640 .bf16) (j) : k0_pay1 (F := Ideal) x0 x1 j = (x0 j : EReal) + x1 j := by
  unfold k0_pay1
  show shapeCast _ (fun i => (shapeCast S1024x640 x0 _ i : EReal) + shapeCast S1024x640 x1 _ i) _ j = _
  exact congrFun (shapeCast_shapeCast (fun i => (x0 i : EReal) + x1 i) _ _) j

theorem body (c : Dev nD) (i : grid0.Coords) (arg3 : Memref sig .tc .vmem S1x1024x640 .bf16) (harg3 : arg3.IsWhole) (arg4 : Memref sig .tc .vmem S1x1024x640 .bf16)
    (harg4 : arg4.IsWhole) (arg5 : Memref sig .tc .vmem S1x1024x640 .f32) (harg5 : arg5.IsWhole) (x0 x1 : Vec Ideal S1x1024x640 .bf16)
    (xt0 : TbBuf0 (F := Ideal) c tbM0_0) (j : S1x1024x640.Idx) :
    out0_A_2 c i arg3 harg3 arg4 harg4 arg5 harg5 x0 x1 xt0 j = (x0 j : EReal) + x1 j := by
  frame_out
  exact hpay x0 x1 j

theorem index2 (i : grid0.Coords) : cc0_transform_2 i = ![(i 0).val, (i 1).val, 0] := by
  have h0 : (i 0).val < 1 := (i 0).isLt
  have h1 : (i 1).val < 2 := (i 1).isLt
  funext a
  match a with
  | ⟨0, _⟩ => exact (BitVec.toNat_ofNat _ _).trans (Nat.mod_eq_of_lt (by omega))
  | ⟨1, _⟩ => exact (BitVec.toNat_ofNat _ _).trans (Nat.mod_eq_of_lt (by omega))
  | ⟨2, _⟩ => rfl

/-- Where point `t` puts its block's entry `y`, and where it takes the two summands from. -/
theorem places (hO : Ok m) (k : Nat) (hk : k < 2) (h : ∀ j, (tbl m 0 j : BitVec 32) = BitVec.ofNat 32 k) (t : Fin (cfgM m hO).N) (y : S1x1024x640.Idx) :
    ((((cfgM m hO).win 0).blk t).view.emb y : S2x2048x640.Idx) = kept (n := 2) (h := 1) rfl k hk ((((cfgM m hO).win 2).blk t).view.emb y) := by
  have e0 := index0 (tbl m) k hk h (grid0.coords t)
  have e2 := index2 (grid0.coords t)
  funext a
  apply Fin.ext
  match a with
  | ⟨0, _⟩ =>
    show cc0_transform_0 (F := Ideal) inb_S1_S1_0 numel1_S1 (tbl m) (grid0.coords t) (0 : Fin 3) * 1 + 1 * (y (0 : Fin 3)).val
      = k * 1 + (cc0_transform_2 (grid0.coords t) (0 : Fin 3) * 1 + 1 * (y (0 : Fin 3)).val)
    rw [e0, e2]; show (k * 1 + (grid0.coords t 0).val) * 1 + 1 * (y (0 : Fin 3)).val = k * 1 + ((grid0.coords t 0).val * 1 + 1 * (y (0 : Fin 3)).val); omega
  | ⟨1, _⟩ =>
    show cc0_transform_0 (F := Ideal) inb_S1_S1_0 numel1_S1 (tbl m) (grid0.coords t) (1 : Fin 3) * 1024 + 1 * (y (1 : Fin 3)).val
      = cc0_transform_2 (grid0.coords t) (1 : Fin 3) * 1024 + 1 * (y (1 : Fin 3)).val
    rw [e0, e2]; rfl
  | ⟨2, _⟩ =>
    show cc0_transform_0 (F := Ideal) inb_S1_S1_0 numel1_S1 (tbl m) (grid0.coords t) (2 : Fin 3) * 640 + 1 * (y (2 : Fin 3)).val
      = cc0_transform_2 (grid0.coords t) (2 : Fin 3) * 640 + 1 * (y (2 : Fin 3)).val
    rw [e0, e2]; rfl

theorem covers (hO : Ok m) : ((cfgM m hO).win 2).Covers := of_decide_eq_true (by sl_kernel_rfl)

theorem final (c : Dev nD) (hO : Ok m) (k : Nat) (hk : k < 2) (h : ∀ j, (tbl m 0 j : BitVec 32) = BitVec.ofNat 32 k) :
    (dats m hO 0 c).arrAt 2 (cfgM m hO).N = total (n := 2) (h := 1) rfl k hk (m ((c : Thread nD τ).loc main_arg0)) (m ((c : Thread nD τ).loc main_arg1)) := by
  refine (dats m hO 0 c).arrAt_eq_of_covers 2 _ (covers m hO) fun t hf y => ?_
  show (dats m hO 0 c).after 2 t y = _
  rw [after0_2]
  refine (body c _ _ _ _ _ _ _ (iblk m hO c 0 t) (iblk m hO c 1 t) _ y).trans ?_
  exact congrArg (fun i => ((show FVec Ideal S2x2048x640 .bf16 from m ((c : Thread nD τ).loc main_arg0)) i : EReal)
    + ((show FVec Ideal S1x2048x640 .bf16 from m ((c : Thread nD τ).loc main_arg1)) ((((cfgM m hO).win 2).blk t).view.emb y) : EReal)) (places m hO k hk h t y)

end Cert.AddIn2Ideal.Kept

namespace Cert.AddIn2Own

open Cert.Half (total kept)

instance : Cert.Pre_half_addin2.Facts := by constructor; decide

theorem word {F : FTy → Type} [FloatOps F] (x0 : FVec F Cert.Pre_half_addin2.S2x2048x640 .bf16) (x1 : FVec F Cert.Pre_half_addin2.S1x2048x640 .bf16)
    (x2 : IVec Cert.Pre_half_addin2.S1 32) (h : Cert.Pre_half_addin2.fn (F := F) x0 x1 x2 = fun _ => 1#1) :
    ∃ k, k < 2 ∧ ∀ j, x2 j = BitVec.ofNat 32 k := by
  obtain ⟨k, hk, e⟩ := Cert.Half.word_of_or _ (congrFun h (fun a => a.elim0))
  refine ⟨k, hk, fun j => Eq.trans (congrArg x2 ?_) e⟩
  funext a
  have : Subsingleton (Fin (Cert.Pre_half_addin2.S1.size a)) := by
    match a with
    | ⟨0, _⟩ => exact (inferInstance : Subsingleton (Fin 1))
  exact Subsingleton.elim _ _

theorem frame_kernel : Cert.quiescent_AddIn2 (hAddIn2 := Cert.AddIn2.Gen.facts) := fun m ρ h => by
  obtain ⟨k, hk, e⟩ := word _ _ _ (h 0)
  exact Cert.AddIn2.Gen.frame m ρ (Cert.AddIn2.Kept.ok_of (Cert.AddIn2.Gen.tbl m) k hk e)

theorem frame_ideal : Cert.quiescent_AddIn2Ideal (hAddIn2Ideal := Cert.AddIn2Ideal.Gen.facts) := fun m ρ h => by
  obtain ⟨k, hk, e⟩ := word _ _ _ (h 0)
  exact Cert.AddIn2Ideal.Gen.frame m ρ (Cert.AddIn2Ideal.Kept.ok_of (Cert.AddIn2Ideal.Gen.tbl m) k hk e)

theorem frame_ref : Cert.quiescent_AddIn2RefIdeal (hAddIn2RefIdeal := Cert.AddIn2RefIdeal.Gen.facts) := fun m ρ _ =>
  (θ_run Cert.AddIn2RefIdeal.defs _ _).mono (fun r h => ⟨fun c => (h c).2, sem_eq_zero_of_no_sems (by decide) r.2⟩) (Cert.AddIn2RefIdeal.Value.run (F := Ideal) m ρ)

theorem frame_ref_half : Cert.quiescent_AddIn2RefIdeal_pre_half_addin2 (hAddIn2RefIdeal := Cert.AddIn2RefIdeal.Gen.facts) := fun m ρ _ => frame_ref m ρ trivial

/-- The reference's choice between the two halves is the half the number names. -/
theorem ref_total (k : Nat) (hk : k < 2) (x0 : FVec Ideal Cert.AddIn2RefIdeal.S2x2048x640 .bf16) (x1 : FVec Ideal Cert.AddIn2RefIdeal.S1x2048x640 .bf16)
    (x2 : IVec Cert.AddIn2RefIdeal.S1 32) (h : ∀ j, x2 j = BitVec.ofNat 32 k) :
    Cert.AddIn2RefIdeal.Read.val_main_v8 (F := Ideal) x0 x1 x2 = total (n := 2) (h := 1) rfl k hk x0 x1 := by
  funext i
  rw [Cert.AddIn2RefIdeal.Read.val_main_v8_apply, Cert.AddIn2RefIdeal.Read.val_main_v7_apply]
  show (Cert.AddIn2RefIdeal.Read.val_main_v6 (F := Ideal) x0 x2 i : EReal) + x1 i = x0 (kept (n := 2) (h := 1) rfl k hk i) + x1 i
  refine congrArg (· + x1 i) ?_
  show (if IntOp.cmpi .eq (x2 _) 0#32 = 1#1 then _ else _) = _
  rw [h]
  obtain rfl | rfl : k = 0 ∨ k = 1 := by omega
  · rw [if_pos (by decide), Cert.AddIn2RefIdeal.Read.val_main_v3_apply, Cert.AddIn2RefIdeal.Read.val_main_v2_apply]
    refine congrArg x0 (funext fun a => Fin.ext ?_)
    match a with
    | ⟨0, _⟩ => show (i 0).val = 0 * 1 + (i 0).val; omega
    | ⟨1, _⟩ => rfl
    | ⟨2, _⟩ => rfl
  · rw [if_neg (by decide), Cert.AddIn2RefIdeal.Read.val_main_v5_apply, Cert.AddIn2RefIdeal.Read.val_main_v4_apply]
    refine congrArg x0 (funext fun a => Fin.ext ?_)
    match a with
    | ⟨0, _⟩ => show 1 + (i 0).val = 1 * 1 + (i 0).val; omega
    | ⟨1, _⟩ => rfl
    | ⟨2, _⟩ => rfl

theorem algebraic : Cert.algebraic_AddIn2Ideal_AddIn2RefIdeal (hAddIn2Ideal := Cert.AddIn2Ideal.Gen.facts) (hAddIn2RefIdeal := Cert.AddIn2RefIdeal.Gen.facts) := by
  intro m ρ m' ρ' hpre hagree
  obtain ⟨k, hk, e⟩ := word _ _ _ (hpre 0)
  have hO := Cert.AddIn2Ideal.Kept.ok_of (Cert.AddIn2Ideal.Gen.tbl m) k hk e
  refine ⟨fun c => total (n := 2) (h := 1) rfl k hk (m ((c : Thread Cert.AddIn2Ideal.nD Cert.AddIn2Ideal.τ).loc Cert.AddIn2Ideal.main_arg0)) (m ((c : Thread Cert.AddIn2Ideal.nD Cert.AddIn2Ideal.τ).loc Cert.AddIn2Ideal.main_arg1)),
    (θ_run Cert.AddIn2Ideal.defs _ _).mono (fun r h c => ⟨((h.1 c).1 2).trans (Cert.AddIn2Ideal.Kept.final m c hO k hk e), h.2 c⟩)
      (θ_run_and (Cert.AddIn2Ideal.Gen.run_main m ρ hO) (Cert.AddIn2Ideal.Gen.unchanged m ρ hO)),
    (θ_run Cert.AddIn2RefIdeal.defs _ _).mono (fun r h c => ⟨(h c).1.trans ?_, (h c).2⟩) (Cert.AddIn2RefIdeal.Value.run (F := Ideal) m' ρ')⟩
  obtain ⟨e0, e1, e2⟩ := hagree c
  rw [e0, e1, e2, Cert.AddIn2RefIdeal.Read.val_main_v8_eq]
  obtain rfl : c = 0 := Subsingleton.elim _ _
  exact ref_total k hk _ _ _ e

end Cert.AddIn2Own

end
-- ==== Proof.AddOutClaim.lean ====
module

public import proofs.«01_k».proof.Defs
public import proofs.«01_k».proof.Proof.Half
public import proofs.«01_k».proof.Proof.Gen.AddOut0.Frame
public import proofs.«01_k».proof.Proof.Gen.AddOut0Ideal.Frame
public import proofs.«01_k».proof.Proof.Gen.AddOut0RefIdeal.Run
public import proofs.«01_k».proof.Proof.Gen.AddOut0RefIdeal.Read
public import proofs.«01_k».proof.Proof.Gen.AddOut1.Frame
public import proofs.«01_k».proof.Proof.Gen.AddOut1Ideal.Frame
public import proofs.«01_k».proof.Proof.Gen.AddOut1RefIdeal.Run
public import proofs.«01_k».proof.Proof.Gen.AddOut1RefIdeal.Read
public import proofs.«01_k».proof.Proof.Gen.AddOut2.Frame
public import proofs.«01_k».proof.Proof.Gen.AddOut2Ideal.Frame
public import proofs.«01_k».proof.Proof.Gen.AddOut2RefIdeal.Run
public import proofs.«01_k».proof.Proof.Gen.AddOut2RefIdeal.Read
public import Idealize.ShloMosaic.Lib.Affine
public import Idealize.ShloMosaic.Lib.Pipeline.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.AddOut0.Kept

open Cert.AddOut0 Cert.AddOut0.Gen

variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 4 + (i 0).val, (i 1).val, 0] := by
  have h0 : (i 0).val < 4 := (i 0).isLt
  have h1 : (i 1).val < 1 := (i 1).isLt
  unfold cc0_transform_0
  funext a
  match a with
  | ⟨0, _⟩ => exact Cert.Half.block_index _ k 4 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 4 := (i 0).isLt
  have h1 : (i 1).val < 1 := (i 1).isLt
  rw [index0 pf k hk h i]
  match a with
  | ⟨0, _⟩ => show (k * 4 + (i 0).val + 1) * 1 ≤ 8; omega
  | ⟨1, _⟩ => show ((i 1).val + 1) * 256 ≤ 256; omega
  | ⟨2, _⟩ => show (0 + 1) * 2048 ≤ 2048; omega

end Cert.AddOut0.Kept

namespace Cert.AddOut0Ideal.Kept

open Cert.AddOut0Ideal Cert.AddOut0Ideal.Gen
open Cert.Half (total kept)
open Idealize.ShloMosaic.Pipeline (Dat)

section
variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 4 + (i 0).val, (i 1).val, 0] := by
  have h0 : (i 0).val < 4 := (i 0).isLt
  have h1 : (i 1).val < 1 := (i 1).isLt
  unfold cc0_transform_0
  funext a
  match a with
  | ⟨0, _⟩ => exact Cert.Half.block_index _ k 4 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 4 := (i 0).isLt
  have h1 : (i 1).val < 1 := (i 1).isLt
  rw [index0 pf k hk h i]
  match a with
  | ⟨0, _⟩ => show (k * 4 + (i 0).val + 1) * 1 ≤ 8; omega
  | ⟨1, _⟩ => show ((i 1).val + 1) * 256 ≤ 256; omega
  | ⟨2, _⟩ => show (0 + 1) * 2048 ≤ 2048; omega

end

variable (m : (ℓ : Loc nD τ sig) → Buf (Elt Ideal) ℓ)

theorem hpay (x0 x1 : Vec Ideal S1x256x2048 .bf16) (j) : k0_pay1 (F := Ideal) x0 x1 j = (x0 j : EReal) + x1 j := by
  unfold k0_pay1
  show shapeCast _ (fun i => (shapeCast S256x2048 x0 _ i : EReal) + shapeCast S256x2048 x1 _ i) _ j = _
  exact congrFun (shapeCast_shapeCast (fun i => (x0 i : EReal) + x1 i) _ _) j

theorem body (c : Dev nD) (i : grid0.Coords) (arg3 : Memref sig .tc .vmem S1x256x2048 .bf16) (harg3 : arg3.IsWhole) (arg4 : Memref sig .tc .vmem S1x256x2048 .bf16)
    (harg4 : arg4.IsWhole) (arg5 : Memref sig .tc .vmem S1x256x2048 .bf16) (harg5 : arg5.IsWhole) (x0 x1 : Vec Ideal S1x256x2048 .bf16)
    (xt0 : TbBuf0 (F := Ideal) c tbM0_0) (j : S1x256x2048.Idx) :
    out0_A_2 c i arg3 harg3 arg4 harg4 arg5 harg5 x0 x1 xt0 j = (x0 j : EReal) + x1 j := by
  frame_out
  exact hpay x0 x1 j

theorem index2 (i : grid0.Coords) : cc0_transform_2 i = ![(i 0).val, (i 1).val, 0] := by
  have h0 : (i 0).val < 4 := (i 0).isLt
  have h1 : (i 1).val < 1 := (i 1).isLt
  funext a
  match a with
  | ⟨0, _⟩ => exact (BitVec.toNat_ofNat _ _).trans (Nat.mod_eq_of_lt (by omega))
  | ⟨1, _⟩ => exact (BitVec.toNat_ofNat _ _).trans (Nat.mod_eq_of_lt (by omega))
  | ⟨2, _⟩ => rfl

/-- Where point `t` puts its block's entry `y`, and where it takes the two summands from. -/
theorem places (hO : Ok m) (k : Nat) (hk : k < 2) (h : ∀ j, (tbl m 0 j : BitVec 32) = BitVec.ofNat 32 k) (t : Fin (cfgM m hO).N) (y : S1x256x2048.Idx) :
    ((((cfgM m hO).win 0).blk t).view.emb y : S8x256x2048.Idx) = kept (n := 8) (h := 4) rfl k hk ((((cfgM m hO).win 2).blk t).view.emb y) := by
  have e0 := index0 (tbl m) k hk h (grid0.coords t)
  have e2 := index2 (grid0.coords t)
  funext a
  apply Fin.ext
  match a with
  | ⟨0, _⟩ =>
    show cc0_transform_0 (F := Ideal) inb_S1_S1_0 numel1_S1 (tbl m) (grid0.coords t) (0 : Fin 3) * 1 + 1 * (y (0 : Fin 3)).val
      = k * 4 + (cc0_transform_2 (grid0.coords t) (0 : Fin 3) * 1 + 1 * (y (0 : Fin 3)).val)
    rw [e0, e2]; show (k * 4 + (grid0.coords t 0).val) * 1 + 1 * (y (0 : Fin 3)).val = k * 4 + ((grid0.coords t 0).val * 1 + 1 * (y (0 : Fin 3)).val); omega
  | ⟨1, _⟩ =>
    show cc0_transform_0 (F := Ideal) inb_S1_S1_0 numel1_S1 (tbl m) (grid0.coords t) (1 : Fin 3) * 256 + 1 * (y (1 : Fin 3)).val
      = cc0_transform_2 (grid0.coords t) (1 : Fin 3) * 256 + 1 * (y (1 : Fin 3)).val
    rw [e0, e2]; rfl
  | ⟨2, _⟩ =>
    show cc0_transform_0 (F := Ideal) inb_S1_S1_0 numel1_S1 (tbl m) (grid0.coords t) (2 : Fin 3) * 2048 + 1 * (y (2 : Fin 3)).val
      = cc0_transform_2 (grid0.coords t) (2 : Fin 3) * 2048 + 1 * (y (2 : Fin 3)).val
    rw [e0, e2]; rfl

theorem covers (hO : Ok m) : ((cfgM m hO).win 2).Covers := of_decide_eq_true (by sl_kernel_rfl)

theorem final (c : Dev nD) (hO : Ok m) (k : Nat) (hk : k < 2) (h : ∀ j, (tbl m 0 j : BitVec 32) = BitVec.ofNat 32 k) :
    (dats m hO 0 c).arrAt 2 (cfgM m hO).N = total (n := 8) (h := 4) rfl k hk (m ((c : Thread nD τ).loc main_arg0)) (m ((c : Thread nD τ).loc main_arg1)) := by
  refine (dats m hO 0 c).arrAt_eq_of_covers 2 _ (covers m hO) fun t hf y => ?_
  show (dats m hO 0 c).after 2 t y = _
  rw [after0_2]
  refine (body c _ _ _ _ _ _ _ (iblk m hO c 0 t) (iblk m hO c 1 t) _ y).trans ?_
  exact congrArg (fun i => ((show FVec Ideal S8x256x2048 .bf16 from m ((c : Thread nD τ).loc main_arg0)) i : EReal)
    + ((show FVec Ideal S4x256x2048 .bf16 from m ((c : Thread nD τ).loc main_arg1)) ((((cfgM m hO).win 2).blk t).view.emb y) : EReal)) (places m hO k hk h t y)

end Cert.AddOut0Ideal.Kept

namespace Cert.AddOut0Own

open Cert.Half (total kept)

instance : Cert.Pre_half_addout0.Facts := by constructor; decide

theorem word {F : FTy → Type} [FloatOps F] (x0 : FVec F Cert.Pre_half_addout0.S8x256x2048 .bf16) (x1 : FVec F Cert.Pre_half_addout0.S4x256x2048 .bf16)
    (x2 : IVec Cert.Pre_half_addout0.S1 32) (h : Cert.Pre_half_addout0.fn (F := F) x0 x1 x2 = fun _ => 1#1) :
    ∃ k, k < 2 ∧ ∀ j, x2 j = BitVec.ofNat 32 k := by
  obtain ⟨k, hk, e⟩ := Cert.Half.word_of_or _ (congrFun h (fun a => a.elim0))
  refine ⟨k, hk, fun j => Eq.trans (congrArg x2 ?_) e⟩
  funext a
  have : Subsingleton (Fin (Cert.Pre_half_addout0.S1.size a)) := by
    match a with
    | ⟨0, _⟩ => exact (inferInstance : Subsingleton (Fin 1))
  exact Subsingleton.elim _ _

theorem frame_kernel : Cert.quiescent_AddOut0 (hAddOut0 := Cert.AddOut0.Gen.facts) := fun m ρ h => by
  obtain ⟨k, hk, e⟩ := word _ _ _ (h 0)
  exact Cert.AddOut0.Gen.frame m ρ (Cert.AddOut0.Kept.ok_of (Cert.AddOut0.Gen.tbl m) k hk e)

theorem frame_ideal : Cert.quiescent_AddOut0Ideal (hAddOut0Ideal := Cert.AddOut0Ideal.Gen.facts) := fun m ρ h => by
  obtain ⟨k, hk, e⟩ := word _ _ _ (h 0)
  exact Cert.AddOut0Ideal.Gen.frame m ρ (Cert.AddOut0Ideal.Kept.ok_of (Cert.AddOut0Ideal.Gen.tbl m) k hk e)

theorem frame_ref : Cert.quiescent_AddOut0RefIdeal (hAddOut0RefIdeal := Cert.AddOut0RefIdeal.Gen.facts) := fun m ρ _ =>
  (θ_run Cert.AddOut0RefIdeal.defs _ _).mono (fun r h => ⟨fun c => (h c).2, sem_eq_zero_of_no_sems (by decide) r.2⟩) (Cert.AddOut0RefIdeal.Value.run (F := Ideal) m ρ)

theorem frame_ref_half : Cert.quiescent_AddOut0RefIdeal_pre_half_addout0 (hAddOut0RefIdeal := Cert.AddOut0RefIdeal.Gen.facts) := fun m ρ _ => frame_ref m ρ trivial

/-- The reference's choice between the two halves is the half the number names. -/
theorem ref_total (k : Nat) (hk : k < 2) (x0 : FVec Ideal Cert.AddOut0RefIdeal.S8x256x2048 .bf16) (x1 : FVec Ideal Cert.AddOut0RefIdeal.S4x256x2048 .bf16)
    (x2 : IVec Cert.AddOut0RefIdeal.S1 32) (h : ∀ j, x2 j = BitVec.ofNat 32 k) :
    Cert.AddOut0RefIdeal.Read.val_main_v9 (F := Ideal) x0 x1 x2 = total (n := 8) (h := 4) rfl k hk x0 x1 := by
  funext i
  rw [Cert.AddOut0RefIdeal.Read.val_main_v9_apply, Cert.AddOut0RefIdeal.Read.val_main_v8_apply, Cert.AddOut0RefIdeal.Read.val_main_v7_apply]
  show (Cert.AddOut0RefIdeal.Read.val_main_v6 (F := Ideal) x0 x2 i : EReal) + x1 i = x0 (kept (n := 8) (h := 4) rfl k hk i) + x1 i
  refine congrArg (· + x1 i) ?_
  show (if IntOp.cmpi .eq (x2 _) 0#32 = 1#1 then _ else _) = _
  rw [h]
  obtain rfl | rfl : k = 0 ∨ k = 1 := by omega
  · rw [if_pos (by decide), Cert.AddOut0RefIdeal.Read.val_main_v3_apply, Cert.AddOut0RefIdeal.Read.val_main_v2_apply]
    refine congrArg x0 (funext fun a => Fin.ext ?_)
    match a with
    | ⟨0, _⟩ => show (i 0).val = 0 * 4 + (i 0).val; omega
    | ⟨1, _⟩ => rfl
    | ⟨2, _⟩ => rfl
  · rw [if_neg (by decide), Cert.AddOut0RefIdeal.Read.val_main_v5_apply, Cert.AddOut0RefIdeal.Read.val_main_v4_apply]
    refine congrArg x0 (funext fun a => Fin.ext ?_)
    match a with
    | ⟨0, _⟩ => show 4 + (i 0).val = 1 * 4 + (i 0).val; omega
    | ⟨1, _⟩ => rfl
    | ⟨2, _⟩ => rfl

theorem algebraic : Cert.algebraic_AddOut0Ideal_AddOut0RefIdeal (hAddOut0Ideal := Cert.AddOut0Ideal.Gen.facts) (hAddOut0RefIdeal := Cert.AddOut0RefIdeal.Gen.facts) := by
  intro m ρ m' ρ' hpre hagree
  obtain ⟨k, hk, e⟩ := word _ _ _ (hpre 0)
  have hO := Cert.AddOut0Ideal.Kept.ok_of (Cert.AddOut0Ideal.Gen.tbl m) k hk e
  refine ⟨fun c => total (n := 8) (h := 4) rfl k hk (m ((c : Thread Cert.AddOut0Ideal.nD Cert.AddOut0Ideal.τ).loc Cert.AddOut0Ideal.main_arg0)) (m ((c : Thread Cert.AddOut0Ideal.nD Cert.AddOut0Ideal.τ).loc Cert.AddOut0Ideal.main_arg1)),
    (θ_run Cert.AddOut0Ideal.defs _ _).mono (fun r h c => ⟨((h.1 c).1 2).trans (Cert.AddOut0Ideal.Kept.final m c hO k hk e), h.2 c⟩)
      (θ_run_and (Cert.AddOut0Ideal.Gen.run_main m ρ hO) (Cert.AddOut0Ideal.Gen.unchanged m ρ hO)),
    (θ_run Cert.AddOut0RefIdeal.defs _ _).mono (fun r h c => ⟨(h c).1.trans ?_, (h c).2⟩) (Cert.AddOut0RefIdeal.Value.run (F := Ideal) m' ρ')⟩
  obtain ⟨e0, e1, e2⟩ := hagree c
  rw [e0, e1, e2, Cert.AddOut0RefIdeal.Read.val_main_v9_eq]
  obtain rfl : c = 0 := Subsingleton.elim _ _
  exact ref_total k hk _ _ _ e

end Cert.AddOut0Own

namespace Cert.AddOut1.Kept

open Cert.AddOut1 Cert.AddOut1.Gen

variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 2 + (i 0).val, (i 1).val, 0] := by
  have h0 : (i 0).val < 2 := (i 0).isLt
  have h1 : (i 1).val < 1 := (i 1).isLt
  unfold cc0_transform_0
  funext a
  match a with
  | ⟨0, _⟩ => exact Cert.Half.block_index _ k 2 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 2 := (i 0).isLt
  have h1 : (i 1).val < 1 := (i 1).isLt
  rw [index0 pf k hk h i]
  match a with
  | ⟨0, _⟩ => show (k * 2 + (i 0).val + 1) * 1 ≤ 4; omega
  | ⟨1, _⟩ => show ((i 1).val + 1) * 256 ≤ 256; omega
  | ⟨2, _⟩ => show (0 + 1) * 2048 ≤ 2048; omega

end Cert.AddOut1.Kept

namespace Cert.AddOut1Ideal.Kept

open Cert.AddOut1Ideal Cert.AddOut1Ideal.Gen
open Cert.Half (total kept)
open Idealize.ShloMosaic.Pipeline (Dat)

section
variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 2 + (i 0).val, (i 1).val, 0] := by
  have h0 : (i 0).val < 2 := (i 0).isLt
  have h1 : (i 1).val < 1 := (i 1).isLt
  unfold cc0_transform_0
  funext a
  match a with
  | ⟨0, _⟩ => exact Cert.Half.block_index _ k 2 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 2 := (i 0).isLt
  have h1 : (i 1).val < 1 := (i 1).isLt
  rw [index0 pf k hk h i]
  match a with
  | ⟨0, _⟩ => show (k * 2 + (i 0).val + 1) * 1 ≤ 4; omega
  | ⟨1, _⟩ => show ((i 1).val + 1) * 256 ≤ 256; omega
  | ⟨2, _⟩ => show (0 + 1) * 2048 ≤ 2048; omega

end

variable (m : (ℓ : Loc nD τ sig) → Buf (Elt Ideal) ℓ)

theorem hpay (x0 x1 : Vec Ideal S1x256x2048 .bf16) (j) : k0_pay1 (F := Ideal) x0 x1 j = (x0 j : EReal) + x1 j := by
  unfold k0_pay1
  show shapeCast _ (fun i => (shapeCast S256x2048 x0 _ i : EReal) + shapeCast S256x2048 x1 _ i) _ j = _
  exact congrFun (shapeCast_shapeCast (fun i => (x0 i : EReal) + x1 i) _ _) j

theorem body (c : Dev nD) (i : grid0.Coords) (arg3 : Memref sig .tc .vmem S1x256x2048 .bf16) (harg3 : arg3.IsWhole) (arg4 : Memref sig .tc .vmem S1x256x2048 .bf16)
    (harg4 : arg4.IsWhole) (arg5 : Memref sig .tc .vmem S1x256x2048 .bf16) (harg5 : arg5.IsWhole) (x0 x1 : Vec Ideal S1x256x2048 .bf16)
    (xt0 : TbBuf0 (F := Ideal) c tbM0_0) (j : S1x256x2048.Idx) :
    out0_A_2 c i arg3 harg3 arg4 harg4 arg5 harg5 x0 x1 xt0 j = (x0 j : EReal) + x1 j := by
  frame_out
  exact hpay x0 x1 j

theorem index2 (i : grid0.Coords) : cc0_transform_2 i = ![(i 0).val, (i 1).val, 0] := by
  have h0 : (i 0).val < 2 := (i 0).isLt
  have h1 : (i 1).val < 1 := (i 1).isLt
  funext a
  match a with
  | ⟨0, _⟩ => exact (BitVec.toNat_ofNat _ _).trans (Nat.mod_eq_of_lt (by omega))
  | ⟨1, _⟩ => exact (BitVec.toNat_ofNat _ _).trans (Nat.mod_eq_of_lt (by omega))
  | ⟨2, _⟩ => rfl

/-- Where point `t` puts its block's entry `y`, and where it takes the two summands from. -/
theorem places (hO : Ok m) (k : Nat) (hk : k < 2) (h : ∀ j, (tbl m 0 j : BitVec 32) = BitVec.ofNat 32 k) (t : Fin (cfgM m hO).N) (y : S1x256x2048.Idx) :
    ((((cfgM m hO).win 0).blk t).view.emb y : S4x256x2048.Idx) = kept (n := 4) (h := 2) rfl k hk ((((cfgM m hO).win 2).blk t).view.emb y) := by
  have e0 := index0 (tbl m) k hk h (grid0.coords t)
  have e2 := index2 (grid0.coords t)
  funext a
  apply Fin.ext
  match a with
  | ⟨0, _⟩ =>
    show cc0_transform_0 (F := Ideal) inb_S1_S1_0 numel1_S1 (tbl m) (grid0.coords t) (0 : Fin 3) * 1 + 1 * (y (0 : Fin 3)).val
      = k * 2 + (cc0_transform_2 (grid0.coords t) (0 : Fin 3) * 1 + 1 * (y (0 : Fin 3)).val)
    rw [e0, e2]; show (k * 2 + (grid0.coords t 0).val) * 1 + 1 * (y (0 : Fin 3)).val = k * 2 + ((grid0.coords t 0).val * 1 + 1 * (y (0 : Fin 3)).val); omega
  | ⟨1, _⟩ =>
    show cc0_transform_0 (F := Ideal) inb_S1_S1_0 numel1_S1 (tbl m) (grid0.coords t) (1 : Fin 3) * 256 + 1 * (y (1 : Fin 3)).val
      = cc0_transform_2 (grid0.coords t) (1 : Fin 3) * 256 + 1 * (y (1 : Fin 3)).val
    rw [e0, e2]; rfl
  | ⟨2, _⟩ =>
    show cc0_transform_0 (F := Ideal) inb_S1_S1_0 numel1_S1 (tbl m) (grid0.coords t) (2 : Fin 3) * 2048 + 1 * (y (2 : Fin 3)).val
      = cc0_transform_2 (grid0.coords t) (2 : Fin 3) * 2048 + 1 * (y (2 : Fin 3)).val
    rw [e0, e2]; rfl

theorem covers (hO : Ok m) : ((cfgM m hO).win 2).Covers := of_decide_eq_true (by sl_kernel_rfl)

theorem final (c : Dev nD) (hO : Ok m) (k : Nat) (hk : k < 2) (h : ∀ j, (tbl m 0 j : BitVec 32) = BitVec.ofNat 32 k) :
    (dats m hO 0 c).arrAt 2 (cfgM m hO).N = total (n := 4) (h := 2) rfl k hk (m ((c : Thread nD τ).loc main_arg0)) (m ((c : Thread nD τ).loc main_arg1)) := by
  refine (dats m hO 0 c).arrAt_eq_of_covers 2 _ (covers m hO) fun t hf y => ?_
  show (dats m hO 0 c).after 2 t y = _
  rw [after0_2]
  refine (body c _ _ _ _ _ _ _ (iblk m hO c 0 t) (iblk m hO c 1 t) _ y).trans ?_
  exact congrArg (fun i => ((show FVec Ideal S4x256x2048 .bf16 from m ((c : Thread nD τ).loc main_arg0)) i : EReal)
    + ((show FVec Ideal S2x256x2048 .bf16 from m ((c : Thread nD τ).loc main_arg1)) ((((cfgM m hO).win 2).blk t).view.emb y) : EReal)) (places m hO k hk h t y)

end Cert.AddOut1Ideal.Kept

namespace Cert.AddOut1Own

open Cert.Half (total kept)

instance : Cert.Pre_half_addout1.Facts := by constructor; decide

theorem word {F : FTy → Type} [FloatOps F] (x0 : FVec F Cert.Pre_half_addout1.S4x256x2048 .bf16) (x1 : FVec F Cert.Pre_half_addout1.S2x256x2048 .bf16)
    (x2 : IVec Cert.Pre_half_addout1.S1 32) (h : Cert.Pre_half_addout1.fn (F := F) x0 x1 x2 = fun _ => 1#1) :
    ∃ k, k < 2 ∧ ∀ j, x2 j = BitVec.ofNat 32 k := by
  obtain ⟨k, hk, e⟩ := Cert.Half.word_of_or _ (congrFun h (fun a => a.elim0))
  refine ⟨k, hk, fun j => Eq.trans (congrArg x2 ?_) e⟩
  funext a
  have : Subsingleton (Fin (Cert.Pre_half_addout1.S1.size a)) := by
    match a with
    | ⟨0, _⟩ => exact (inferInstance : Subsingleton (Fin 1))
  exact Subsingleton.elim _ _

theorem frame_kernel : Cert.quiescent_AddOut1 (hAddOut1 := Cert.AddOut1.Gen.facts) := fun m ρ h => by
  obtain ⟨k, hk, e⟩ := word _ _ _ (h 0)
  exact Cert.AddOut1.Gen.frame m ρ (Cert.AddOut1.Kept.ok_of (Cert.AddOut1.Gen.tbl m) k hk e)

theorem frame_ideal : Cert.quiescent_AddOut1Ideal (hAddOut1Ideal := Cert.AddOut1Ideal.Gen.facts) := fun m ρ h => by
  obtain ⟨k, hk, e⟩ := word _ _ _ (h 0)
  exact Cert.AddOut1Ideal.Gen.frame m ρ (Cert.AddOut1Ideal.Kept.ok_of (Cert.AddOut1Ideal.Gen.tbl m) k hk e)

theorem frame_ref : Cert.quiescent_AddOut1RefIdeal (hAddOut1RefIdeal := Cert.AddOut1RefIdeal.Gen.facts) := fun m ρ _ =>
  (θ_run Cert.AddOut1RefIdeal.defs _ _).mono (fun r h => ⟨fun c => (h c).2, sem_eq_zero_of_no_sems (by decide) r.2⟩) (Cert.AddOut1RefIdeal.Value.run (F := Ideal) m ρ)

theorem frame_ref_half : Cert.quiescent_AddOut1RefIdeal_pre_half_addout1 (hAddOut1RefIdeal := Cert.AddOut1RefIdeal.Gen.facts) := fun m ρ _ => frame_ref m ρ trivial

/-- The reference's choice between the two halves is the half the number names. -/
theorem ref_total (k : Nat) (hk : k < 2) (x0 : FVec Ideal Cert.AddOut1RefIdeal.S4x256x2048 .bf16) (x1 : FVec Ideal Cert.AddOut1RefIdeal.S2x256x2048 .bf16)
    (x2 : IVec Cert.AddOut1RefIdeal.S1 32) (h : ∀ j, x2 j = BitVec.ofNat 32 k) :
    Cert.AddOut1RefIdeal.Read.val_main_v9 (F := Ideal) x0 x1 x2 = total (n := 4) (h := 2) rfl k hk x0 x1 := by
  funext i
  rw [Cert.AddOut1RefIdeal.Read.val_main_v9_apply, Cert.AddOut1RefIdeal.Read.val_main_v8_apply, Cert.AddOut1RefIdeal.Read.val_main_v7_apply]
  show (Cert.AddOut1RefIdeal.Read.val_main_v6 (F := Ideal) x0 x2 i : EReal) + x1 i = x0 (kept (n := 4) (h := 2) rfl k hk i) + x1 i
  refine congrArg (· + x1 i) ?_
  show (if IntOp.cmpi .eq (x2 _) 0#32 = 1#1 then _ else _) = _
  rw [h]
  obtain rfl | rfl : k = 0 ∨ k = 1 := by omega
  · rw [if_pos (by decide), Cert.AddOut1RefIdeal.Read.val_main_v3_apply, Cert.AddOut1RefIdeal.Read.val_main_v2_apply]
    refine congrArg x0 (funext fun a => Fin.ext ?_)
    match a with
    | ⟨0, _⟩ => show (i 0).val = 0 * 2 + (i 0).val; omega
    | ⟨1, _⟩ => rfl
    | ⟨2, _⟩ => rfl
  · rw [if_neg (by decide), Cert.AddOut1RefIdeal.Read.val_main_v5_apply, Cert.AddOut1RefIdeal.Read.val_main_v4_apply]
    refine congrArg x0 (funext fun a => Fin.ext ?_)
    match a with
    | ⟨0, _⟩ => show 2 + (i 0).val = 1 * 2 + (i 0).val; omega
    | ⟨1, _⟩ => rfl
    | ⟨2, _⟩ => rfl

theorem algebraic : Cert.algebraic_AddOut1Ideal_AddOut1RefIdeal (hAddOut1Ideal := Cert.AddOut1Ideal.Gen.facts) (hAddOut1RefIdeal := Cert.AddOut1RefIdeal.Gen.facts) := by
  intro m ρ m' ρ' hpre hagree
  obtain ⟨k, hk, e⟩ := word _ _ _ (hpre 0)
  have hO := Cert.AddOut1Ideal.Kept.ok_of (Cert.AddOut1Ideal.Gen.tbl m) k hk e
  refine ⟨fun c => total (n := 4) (h := 2) rfl k hk (m ((c : Thread Cert.AddOut1Ideal.nD Cert.AddOut1Ideal.τ).loc Cert.AddOut1Ideal.main_arg0)) (m ((c : Thread Cert.AddOut1Ideal.nD Cert.AddOut1Ideal.τ).loc Cert.AddOut1Ideal.main_arg1)),
    (θ_run Cert.AddOut1Ideal.defs _ _).mono (fun r h c => ⟨((h.1 c).1 2).trans (Cert.AddOut1Ideal.Kept.final m c hO k hk e), h.2 c⟩)
      (θ_run_and (Cert.AddOut1Ideal.Gen.run_main m ρ hO) (Cert.AddOut1Ideal.Gen.unchanged m ρ hO)),
    (θ_run Cert.AddOut1RefIdeal.defs _ _).mono (fun r h c => ⟨(h c).1.trans ?_, (h c).2⟩) (Cert.AddOut1RefIdeal.Value.run (F := Ideal) m' ρ')⟩
  obtain ⟨e0, e1, e2⟩ := hagree c
  rw [e0, e1, e2, Cert.AddOut1RefIdeal.Read.val_main_v9_eq]
  obtain rfl : c = 0 := Subsingleton.elim _ _
  exact ref_total k hk _ _ _ e

end Cert.AddOut1Own

namespace Cert.AddOut2.Kept

open Cert.AddOut2 Cert.AddOut2.Gen

variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 1 + (i 0).val, (i 1).val, 0] := by
  have h0 : (i 0).val < 1 := (i 0).isLt
  have h1 : (i 1).val < 1 := (i 1).isLt
  unfold cc0_transform_0
  funext a
  match a with
  | ⟨0, _⟩ => exact Cert.Half.block_index _ k 1 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 1 := (i 0).isLt
  have h1 : (i 1).val < 1 := (i 1).isLt
  rw [index0 pf k hk h i]
  match a with
  | ⟨0, _⟩ => show (k * 1 + (i 0).val + 1) * 1 ≤ 2; omega
  | ⟨1, _⟩ => show ((i 1).val + 1) * 256 ≤ 256; omega
  | ⟨2, _⟩ => show (0 + 1) * 2048 ≤ 2048; omega

end Cert.AddOut2.Kept

namespace Cert.AddOut2Ideal.Kept

open Cert.AddOut2Ideal Cert.AddOut2Ideal.Gen
open Cert.Half (total kept)
open Idealize.ShloMosaic.Pipeline (Dat)

section
variable {F : FTy → Type} [FloatOps F]

/-- The block of `src` that grid point `i` reads, when the kept half is `k`. -/
theorem index0 (pf : pre0.Contents (Elt F)) (k : Nat) (hk : k < 2) (h : ∀ j, (pf 0 j : BitVec 32) = BitVec.ofNat 32 k) (i : grid0.Coords) :
    cc0_transform_0 (F := F) inb_S1_S1_0 numel1_S1 pf i = ![k * 1 + (i 0).val, (i 1).val, 0] := by
  have h0 : (i 0).val < 1 := (i 0).isLt
  have h1 : (i 1).val < 1 := (i 1).isLt
  unfold cc0_transform_0
  funext a
  match a with
  | ⟨0, _⟩ => exact Cert.Half.block_index _ k 1 _ (h _) hk (by omega) (by omega)
  | ⟨1, _⟩ => exact (BitVec.toNat_ofNat _ _).trans (Nat.mod_eq_of_lt (by omega))
  | ⟨2, _⟩ => rfl

theorem ok_of (pf : pre0.Contents (Elt F)) (k : Nat) (hk : k < 2) (h : ∀ j, (pf 0 j : BitVec 32) = BitVec.ofNat 32 k) : ok0 (F := F) pf := by
  intro i
  refine ⟨fun a => ?_, .inr (Affine.block_words_dvd (of_decide_eq_true rfl) (by decide))⟩
  have h0 : (i 0).val < 1 := (i 0).isLt
  have h1 : (i 1).val < 1 := (i 1).isLt
  rw [index0 pf k hk h i]
  match a with
  | ⟨0, _⟩ => show (k * 1 + (i 0).val + 1) * 1 ≤ 2; omega
  | ⟨1, _⟩ => show ((i 1).val + 1) * 256 ≤ 256; omega
  | ⟨2, _⟩ => show (0 + 1) * 2048 ≤ 2048; omega

end

variable (m : (ℓ : Loc nD τ sig) → Buf (Elt Ideal) ℓ)

theorem hpay (x0 x1 : Vec Ideal S1x256x2048 .bf16) (j) : k0_pay1 (F := Ideal) x0 x1 j = (x0 j : EReal) + x1 j := by
  unfold k0_pay1
  show shapeCast _ (fun i => (shapeCast S256x2048 x0 _ i : EReal) + shapeCast S256x2048 x1 _ i) _ j = _
  exact congrFun (shapeCast_shapeCast (fun i => (x0 i : EReal) + x1 i) _ _) j

theorem body (c : Dev nD) (i : grid0.Coords) (arg3 : Memref sig .tc .vmem S1x256x2048 .bf16) (harg3 : arg3.IsWhole) (arg4 : Memref sig .tc .vmem S1x256x2048 .bf16)
    (harg4 : arg4.IsWhole) (arg5 : Memref sig .tc .vmem S1x256x2048 .f32) (harg5 : arg5.IsWhole) (x0 x1 : Vec Ideal S1x256x2048 .bf16)
    (xt0 : TbBuf0 (F := Ideal) c tbM0_0) (j : S1x256x2048.Idx) :
    out0_A_2 c i arg3 harg3 arg4 harg4 arg5 harg5 x0 x1 xt0 j = (x0 j : EReal) + x1 j := by
  frame_out
  exact hpay x0 x1 j

theorem index2 (i : grid0.Coords) : cc0_transform_2 i = ![(i 0).val, (i 1).val, 0] := by
  have h0 : (i 0).val < 1 := (i 0).isLt
  have h1 : (i 1).val < 1 := (i 1).isLt
  funext a
  match a with
  | ⟨0, _⟩ => exact (BitVec.toNat_ofNat _ _).trans (Nat.mod_eq_of_lt (by omega))
  | ⟨1, _⟩ => exact (BitVec.toNat_ofNat _ _).trans (Nat.mod_eq_of_lt (by omega))
  | ⟨2, _⟩ => rfl

/-- Where point `t` puts its block's entry `y`, and where it takes the two summands from. -/
theorem places (hO : Ok m) (k : Nat) (hk : k < 2) (h : ∀ j, (tbl m 0 j : BitVec 32) = BitVec.ofNat 32 k) (t : Fin (cfgM m hO).N) (y : S1x256x2048.Idx) :
    ((((cfgM m hO).win 0).blk t).view.emb y : S2x256x2048.Idx) = kept (n := 2) (h := 1) rfl k hk ((((cfgM m hO).win 2).blk t).view.emb y) := by
  have e0 := index0 (tbl m) k hk h (grid0.coords t)
  have e2 := index2 (grid0.coords t)
  funext a
  apply Fin.ext
  match a with
  | ⟨0, _⟩ =>
    show cc0_transform_0 (F := Ideal) inb_S1_S1_0 numel1_S1 (tbl m) (grid0.coords t) (0 : Fin 3) * 1 + 1 * (y (0 : Fin 3)).val
      = k * 1 + (cc0_transform_2 (grid0.coords t) (0 : Fin 3) * 1 + 1 * (y (0 : Fin 3)).val)
    rw [e0, e2]; show (k * 1 + (grid0.coords t 0).val) * 1 + 1 * (y (0 : Fin 3)).val = k * 1 + ((grid0.coords t 0).val * 1 + 1 * (y (0 : Fin 3)).val); omega
  | ⟨1, _⟩ =>
    show cc0_transform_0 (F := Ideal) inb_S1_S1_0 numel1_S1 (tbl m) (grid0.coords t) (1 : Fin 3) * 256 + 1 * (y (1 : Fin 3)).val
      = cc0_transform_2 (grid0.coords t) (1 : Fin 3) * 256 + 1 * (y (1 : Fin 3)).val
    rw [e0, e2]; rfl
  | ⟨2, _⟩ =>
    show cc0_transform_0 (F := Ideal) inb_S1_S1_0 numel1_S1 (tbl m) (grid0.coords t) (2 : Fin 3) * 2048 + 1 * (y (2 : Fin 3)).val
      = cc0_transform_2 (grid0.coords t) (2 : Fin 3) * 2048 + 1 * (y (2 : Fin 3)).val
    rw [e0, e2]; rfl

theorem covers (hO : Ok m) : ((cfgM m hO).win 2).Covers := of_decide_eq_true (by sl_kernel_rfl)

theorem final (c : Dev nD) (hO : Ok m) (k : Nat) (hk : k < 2) (h : ∀ j, (tbl m 0 j : BitVec 32) = BitVec.ofNat 32 k) :
    (dats m hO 0 c).arrAt 2 (cfgM m hO).N = total (n := 2) (h := 1) rfl k hk (m ((c : Thread nD τ).loc main_arg0)) (m ((c : Thread nD τ).loc main_arg1)) := by
  refine (dats m hO 0 c).arrAt_eq_of_covers 2 _ (covers m hO) fun t hf y => ?_
  show (dats m hO 0 c).after 2 t y = _
  rw [after0_2]
  refine (body c _ _ _ _ _ _ _ (iblk m hO c 0 t) (iblk m hO c 1 t) _ y).trans ?_
  exact congrArg (fun i => ((show FVec Ideal S2x256x2048 .bf16 from m ((c : Thread nD τ).loc main_arg0)) i : EReal)
    + ((show FVec Ideal S1x256x2048 .bf16 from m ((c : Thread nD τ).loc main_arg1)) ((((cfgM m hO).win 2).blk t).view.emb y) : EReal)) (places m hO k hk h t y)

end Cert.AddOut2Ideal.Kept

namespace Cert.AddOut2Own

open Cert.Half (total kept)

instance : Cert.Pre_half_addout2.Facts := by constructor; decide

theorem word {F : FTy → Type} [FloatOps F] (x0 : FVec F Cert.Pre_half_addout2.S2x256x2048 .bf16) (x1 : FVec F Cert.Pre_half_addout2.S1x256x2048 .bf16)
    (x2 : IVec Cert.Pre_half_addout2.S1 32) (h : Cert.Pre_half_addout2.fn (F := F) x0 x1 x2 = fun _ => 1#1) :
    ∃ k, k < 2 ∧ ∀ j, x2 j = BitVec.ofNat 32 k := by
  obtain ⟨k, hk, e⟩ := Cert.Half.word_of_or _ (congrFun h (fun a => a.elim0))
  refine ⟨k, hk, fun j => Eq.trans (congrArg x2 ?_) e⟩
  funext a
  have : Subsingleton (Fin (Cert.Pre_half_addout2.S1.size a)) := by
    match a with
    | ⟨0, _⟩ => exact (inferInstance : Subsingleton (Fin 1))
  exact Subsingleton.elim _ _

theorem frame_kernel : Cert.quiescent_AddOut2 (hAddOut2 := Cert.AddOut2.Gen.facts) := fun m ρ h => by
  obtain ⟨k, hk, e⟩ := word _ _ _ (h 0)
  exact Cert.AddOut2.Gen.frame m ρ (Cert.AddOut2.Kept.ok_of (Cert.AddOut2.Gen.tbl m) k hk e)

theorem frame_ideal : Cert.quiescent_AddOut2Ideal (hAddOut2Ideal := Cert.AddOut2Ideal.Gen.facts) := fun m ρ h => by
  obtain ⟨k, hk, e⟩ := word _ _ _ (h 0)
  exact Cert.AddOut2Ideal.Gen.frame m ρ (Cert.AddOut2Ideal.Kept.ok_of (Cert.AddOut2Ideal.Gen.tbl m) k hk e)

theorem frame_ref : Cert.quiescent_AddOut2RefIdeal (hAddOut2RefIdeal := Cert.AddOut2RefIdeal.Gen.facts) := fun m ρ _ =>
  (θ_run Cert.AddOut2RefIdeal.defs _ _).mono (fun r h => ⟨fun c => (h c).2, sem_eq_zero_of_no_sems (by decide) r.2⟩) (Cert.AddOut2RefIdeal.Value.run (F := Ideal) m ρ)

theorem frame_ref_half : Cert.quiescent_AddOut2RefIdeal_pre_half_addout2 (hAddOut2RefIdeal := Cert.AddOut2RefIdeal.Gen.facts) := fun m ρ _ => frame_ref m ρ trivial

/-- The reference's choice between the two halves is the half the number names. -/
theorem ref_total (k : Nat) (hk : k < 2) (x0 : FVec Ideal Cert.AddOut2RefIdeal.S2x256x2048 .bf16) (x1 : FVec Ideal Cert.AddOut2RefIdeal.S1x256x2048 .bf16)
    (x2 : IVec Cert.AddOut2RefIdeal.S1 32) (h : ∀ j, x2 j = BitVec.ofNat 32 k) :
    Cert.AddOut2RefIdeal.Read.val_main_v8 (F := Ideal) x0 x1 x2 = total (n := 2) (h := 1) rfl k hk x0 x1 := by
  funext i
  rw [Cert.AddOut2RefIdeal.Read.val_main_v8_apply, Cert.AddOut2RefIdeal.Read.val_main_v7_apply]
  show (Cert.AddOut2RefIdeal.Read.val_main_v6 (F := Ideal) x0 x2 i : EReal) + x1 i = x0 (kept (n := 2) (h := 1) rfl k hk i) + x1 i
  refine congrArg (· + x1 i) ?_
  show (if IntOp.cmpi .eq (x2 _) 0#32 = 1#1 then _ else _) = _
  rw [h]
  obtain rfl | rfl : k = 0 ∨ k = 1 := by omega
  · rw [if_pos (by decide), Cert.AddOut2RefIdeal.Read.val_main_v3_apply, Cert.AddOut2RefIdeal.Read.val_main_v2_apply]
    refine congrArg x0 (funext fun a => Fin.ext ?_)
    match a with
    | ⟨0, _⟩ => show (i 0).val = 0 * 1 + (i 0).val; omega
    | ⟨1, _⟩ => rfl
    | ⟨2, _⟩ => rfl
  · rw [if_neg (by decide), Cert.AddOut2RefIdeal.Read.val_main_v5_apply, Cert.AddOut2RefIdeal.Read.val_main_v4_apply]
    refine congrArg x0 (funext fun a => Fin.ext ?_)
    match a with
    | ⟨0, _⟩ => show 1 + (i 0).val = 1 * 1 + (i 0).val; omega
    | ⟨1, _⟩ => rfl
    | ⟨2, _⟩ => rfl

theorem algebraic : Cert.algebraic_AddOut2Ideal_AddOut2RefIdeal (hAddOut2Ideal := Cert.AddOut2Ideal.Gen.facts) (hAddOut2RefIdeal := Cert.AddOut2RefIdeal.Gen.facts) := by
  intro m ρ m' ρ' hpre hagree
  obtain ⟨k, hk, e⟩ := word _ _ _ (hpre 0)
  have hO := Cert.AddOut2Ideal.Kept.ok_of (Cert.AddOut2Ideal.Gen.tbl m) k hk e
  refine ⟨fun c => total (n := 2) (h := 1) rfl k hk (m ((c : Thread Cert.AddOut2Ideal.nD Cert.AddOut2Ideal.τ).loc Cert.AddOut2Ideal.main_arg0)) (m ((c : Thread Cert.AddOut2Ideal.nD Cert.AddOut2Ideal.τ).loc Cert.AddOut2Ideal.main_arg1)),
    (θ_run Cert.AddOut2Ideal.defs _ _).mono (fun r h c => ⟨((h.1 c).1 2).trans (Cert.AddOut2Ideal.Kept.final m c hO k hk e), h.2 c⟩)
      (θ_run_and (Cert.AddOut2Ideal.Gen.run_main m ρ hO) (Cert.AddOut2Ideal.Gen.unchanged m ρ hO)),
    (θ_run Cert.AddOut2RefIdeal.defs _ _).mono (fun r h c => ⟨(h c).1.trans ?_, (h c).2⟩) (Cert.AddOut2RefIdeal.Value.run (F := Ideal) m' ρ')⟩
  obtain ⟨e0, e1, e2⟩ := hagree c
  rw [e0, e1, e2, Cert.AddOut2RefIdeal.Read.val_main_v8_eq]
  obtain rfl : c = 0 := Subsingleton.elim _ _
  exact ref_total k hk _ _ _ e

end Cert.AddOut2Own

end
-- ==== Proof.AdamClaim.lean ====
module

public import proofs.«01_k».proof.Defs
public import proofs.«01_k».proof.Proof.Gen.AdamWIn.Frame
public import proofs.«01_k».proof.Proof.Gen.AdamWInIdeal.Value
public import proofs.«01_k».proof.Proof.Gen.AdamWInRefIdeal.Run
public import proofs.«01_k».proof.Proof.Gen.AdamWOut.Frame
public import proofs.«01_k».proof.Proof.Gen.AdamWOutIdeal.Value
public import proofs.«01_k».proof.Proof.Gen.AdamWOutRefIdeal.Run
public import proofs.«01_k».proof.Proof.Gen.AdamTaps.Frame
public import proofs.«01_k».proof.Proof.Gen.AdamTapsIdeal.Value
public import proofs.«01_k».proof.Proof.Gen.AdamTapsRefIdeal.Run
public import proofs.«01_k».proof.Proof.Gen.AdamTaps4.Frame
public import proofs.«01_k».proof.Proof.Gen.AdamTaps4Ideal.Value
public import proofs.«01_k».proof.Proof.Gen.AdamTaps4RefIdeal.Run
public import proofs.«01_k».proof.Proof.Gen.AdamGate.Frame
public import proofs.«01_k».proof.Proof.Gen.AdamGateIdeal.Value
public import proofs.«01_k».proof.Proof.Gen.AdamGateRefIdeal.Run
public import proofs.«01_k».proof.Proof.Gen.AdamNorm.Frame
public import proofs.«01_k».proof.Proof.Gen.AdamNormIdeal.Value
public import proofs.«01_k».proof.Proof.Gen.AdamNormRefIdeal.Run
public import proofs.«01_k».proof.Proof.Gen.AdamRow.Frame
public import proofs.«01_k».proof.Proof.Gen.AdamRowIdeal.Value
public import proofs.«01_k».proof.Proof.Gen.AdamRowRefIdeal.Run
public import proofs.«01_k».proof.Proof.Gen.AdamFinal.Frame
public import proofs.«01_k».proof.Proof.Gen.AdamFinalIdeal.Value
public import proofs.«01_k».proof.Proof.Gen.AdamFinalRefIdeal.Run

@[expose] public section

set_option maxRecDepth 16384

noncomputable section

/-! # The optimiser's claims, one call for each shape of parameter

Kernel and reference apply the same operations to each entry. -/

open Idealize.ShloMosaic Idealize.ShloMosaic.TcCoe Idealize.SL.Sem

namespace Cert.AdamWInOwn

theorem frame_kernel : Cert.quiescent_AdamWIn (hAdamWIn := Cert.AdamWIn.Gen.facts) := fun m ρ _ => Cert.AdamWIn.Gen.frame m ρ

theorem frame_ideal : Cert.quiescent_AdamWInIdeal (hAdamWInIdeal := Cert.AdamWInIdeal.Gen.facts) := fun m ρ _ => Cert.AdamWInIdeal.Gen.frame m ρ

theorem frame_ref : Cert.quiescent_AdamWInRefIdeal (hAdamWInRefIdeal := Cert.AdamWInRefIdeal.Gen.facts) := fun m ρ _ =>
  (θ_run Cert.AdamWInRefIdeal.defs _ _).mono (fun r h => ⟨fun c => (h c).2.2.2, sem_eq_zero_of_no_sems (by decide) r.2⟩) (Cert.AdamWInRefIdeal.Value.run (F := Ideal) m ρ)

theorem algebraic : Cert.algebraic_AdamWInIdeal_AdamWInRefIdeal (hAdamWInIdeal := Cert.AdamWInIdeal.Gen.facts) (hAdamWInRefIdeal := Cert.AdamWInRefIdeal.Gen.facts) := by
  intro m ρ m' ρ' _ hagree
  refine ⟨_, _, _, Cert.AdamWInIdeal.Value.run m ρ, (θ_run Cert.AdamWInRefIdeal.defs _ _).mono (fun _ h c => ?_) (Cert.AdamWInRefIdeal.Value.run (F := Ideal) m' ρ')⟩
  have h := h c
  rw [(hagree c).1, (hagree c).2.1, (hagree c).2.2.1, (hagree c).2.2.2] at h ⊢
  exact ⟨h.1, h.2.1, h.2.2.1, h.2.2.2⟩

end Cert.AdamWInOwn

namespace Cert.AdamWOutOwn

theorem frame_kernel : Cert.quiescent_AdamWOut (hAdamWOut := Cert.AdamWOut.Gen.facts) := fun m ρ _ => Cert.AdamWOut.Gen.frame m ρ

theorem frame_ideal : Cert.quiescent_AdamWOutIdeal (hAdamWOutIdeal := Cert.AdamWOutIdeal.Gen.facts) := fun m ρ _ => Cert.AdamWOutIdeal.Gen.frame m ρ

theorem frame_ref : Cert.quiescent_AdamWOutRefIdeal (hAdamWOutRefIdeal := Cert.AdamWOutRefIdeal.Gen.facts) := fun m ρ _ =>
  (θ_run Cert.AdamWOutRefIdeal.defs _ _).mono (fun r h => ⟨fun c => (h c).2.2.2, sem_eq_zero_of_no_sems (by decide) r.2⟩) (Cert.AdamWOutRefIdeal.Value.run (F := Ideal) m ρ)

theorem algebraic : Cert.algebraic_AdamWOutIdeal_AdamWOutRefIdeal (hAdamWOutIdeal := Cert.AdamWOutIdeal.Gen.facts) (hAdamWOutRefIdeal := Cert.AdamWOutRefIdeal.Gen.facts) := by
  intro m ρ m' ρ' _ hagree
  refine ⟨_, _, _, Cert.AdamWOutIdeal.Value.run m ρ, (θ_run Cert.AdamWOutRefIdeal.defs _ _).mono (fun _ h c => ?_) (Cert.AdamWOutRefIdeal.Value.run (F := Ideal) m' ρ')⟩
  have h := h c
  rw [(hagree c).1, (hagree c).2.1, (hagree c).2.2.1, (hagree c).2.2.2] at h ⊢
  exact ⟨h.1, h.2.1, h.2.2.1, h.2.2.2⟩

end Cert.AdamWOutOwn

namespace Cert.AdamTapsOwn

theorem frame_kernel : Cert.quiescent_AdamTaps (hAdamTaps := Cert.AdamTaps.Gen.facts) := fun m ρ _ => Cert.AdamTaps.Gen.frame m ρ

theorem frame_ideal : Cert.quiescent_AdamTapsIdeal (hAdamTapsIdeal := Cert.AdamTapsIdeal.Gen.facts) := fun m ρ _ => Cert.AdamTapsIdeal.Gen.frame m ρ

theorem frame_ref : Cert.quiescent_AdamTapsRefIdeal (hAdamTapsRefIdeal := Cert.AdamTapsRefIdeal.Gen.facts) := fun m ρ _ =>
  (θ_run Cert.AdamTapsRefIdeal.defs _ _).mono (fun r h => ⟨fun c => (h c).2.2.2, sem_eq_zero_of_no_sems (by decide) r.2⟩) (Cert.AdamTapsRefIdeal.Value.run (F := Ideal) m ρ)

theorem algebraic : Cert.algebraic_AdamTapsIdeal_AdamTapsRefIdeal (hAdamTapsIdeal := Cert.AdamTapsIdeal.Gen.facts) (hAdamTapsRefIdeal := Cert.AdamTapsRefIdeal.Gen.facts) := by
  intro m ρ m' ρ' _ hagree
  refine ⟨_, _, _, Cert.AdamTapsIdeal.Value.run m ρ, (θ_run Cert.AdamTapsRefIdeal.defs _ _).mono (fun _ h c => ?_) (Cert.AdamTapsRefIdeal.Value.run (F := Ideal) m' ρ')⟩
  have h := h c
  rw [(hagree c).1, (hagree c).2.1, (hagree c).2.2.1, (hagree c).2.2.2] at h ⊢
  exact ⟨h.1, h.2.1, h.2.2.1, h.2.2.2⟩

end Cert.AdamTapsOwn

namespace Cert.AdamTaps4Own

theorem frame_kernel : Cert.quiescent_AdamTaps4 (hAdamTaps4 := Cert.AdamTaps4.Gen.facts) := fun m ρ _ => Cert.AdamTaps4.Gen.frame m ρ

theorem frame_ideal : Cert.quiescent_AdamTaps4Ideal (hAdamTaps4Ideal := Cert.AdamTaps4Ideal.Gen.facts) := fun m ρ _ => Cert.AdamTaps4Ideal.Gen.frame m ρ

theorem frame_ref : Cert.quiescent_AdamTaps4RefIdeal (hAdamTaps4RefIdeal := Cert.AdamTaps4RefIdeal.Gen.facts) := fun m ρ _ =>
  (θ_run Cert.AdamTaps4RefIdeal.defs _ _).mono (fun r h => ⟨fun c => (h c).2.2.2, sem_eq_zero_of_no_sems (by decide) r.2⟩) (Cert.AdamTaps4RefIdeal.Value.run (F := Ideal) m ρ)

theorem algebraic : Cert.algebraic_AdamTaps4Ideal_AdamTaps4RefIdeal (hAdamTaps4Ideal := Cert.AdamTaps4Ideal.Gen.facts) (hAdamTaps4RefIdeal := Cert.AdamTaps4RefIdeal.Gen.facts) := by
  intro m ρ m' ρ' _ hagree
  refine ⟨_, _, _, Cert.AdamTaps4Ideal.Value.run m ρ, (θ_run Cert.AdamTaps4RefIdeal.defs _ _).mono (fun _ h c => ?_) (Cert.AdamTaps4RefIdeal.Value.run (F := Ideal) m' ρ')⟩
  have h := h c
  rw [(hagree c).1, (hagree c).2.1, (hagree c).2.2.1, (hagree c).2.2.2] at h ⊢
  exact ⟨h.1, h.2.1, h.2.2.1, h.2.2.2⟩

end Cert.AdamTaps4Own

namespace Cert.AdamGateOwn

theorem frame_kernel : Cert.quiescent_AdamGate (hAdamGate := Cert.AdamGate.Gen.facts) := fun m ρ _ => Cert.AdamGate.Gen.frame m ρ

theorem frame_ideal : Cert.quiescent_AdamGateIdeal (hAdamGateIdeal := Cert.AdamGateIdeal.Gen.facts) := fun m ρ _ => Cert.AdamGateIdeal.Gen.frame m ρ

theorem frame_ref : Cert.quiescent_AdamGateRefIdeal (hAdamGateRefIdeal := Cert.AdamGateRefIdeal.Gen.facts) := fun m ρ _ =>
  (θ_run Cert.AdamGateRefIdeal.defs _ _).mono (fun r h => ⟨fun c => (h c).2.2.2, sem_eq_zero_of_no_sems (by decide) r.2⟩) (Cert.AdamGateRefIdeal.Value.run (F := Ideal) m ρ)

theorem algebraic : Cert.algebraic_AdamGateIdeal_AdamGateRefIdeal (hAdamGateIdeal := Cert.AdamGateIdeal.Gen.facts) (hAdamGateRefIdeal := Cert.AdamGateRefIdeal.Gen.facts) := by
  intro m ρ m' ρ' _ hagree
  refine ⟨_, _, _, Cert.AdamGateIdeal.Value.run m ρ, (θ_run Cert.AdamGateRefIdeal.defs _ _).mono (fun _ h c => ?_) (Cert.AdamGateRefIdeal.Value.run (F := Ideal) m' ρ')⟩
  have h := h c
  rw [(hagree c).1, (hagree c).2.1, (hagree c).2.2.1, (hagree c).2.2.2] at h ⊢
  exact ⟨h.1, h.2.1, h.2.2.1, h.2.2.2⟩

end Cert.AdamGateOwn

namespace Cert.AdamNormOwn

theorem frame_kernel : Cert.quiescent_AdamNorm (hAdamNorm := Cert.AdamNorm.Gen.facts) := fun m ρ _ => Cert.AdamNorm.Gen.frame m ρ

theorem frame_ideal : Cert.quiescent_AdamNormIdeal (hAdamNormIdeal := Cert.AdamNormIdeal.Gen.facts) := fun m ρ _ => Cert.AdamNormIdeal.Gen.frame m ρ

theorem frame_ref : Cert.quiescent_AdamNormRefIdeal (hAdamNormRefIdeal := Cert.AdamNormRefIdeal.Gen.facts) := fun m ρ _ =>
  (θ_run Cert.AdamNormRefIdeal.defs _ _).mono (fun r h => ⟨fun c => (h c).2.2.2, sem_eq_zero_of_no_sems (by decide) r.2⟩) (Cert.AdamNormRefIdeal.Value.run (F := Ideal) m ρ)

theorem algebraic : Cert.algebraic_AdamNormIdeal_AdamNormRefIdeal (hAdamNormIdeal := Cert.AdamNormIdeal.Gen.facts) (hAdamNormRefIdeal := Cert.AdamNormRefIdeal.Gen.facts) := by
  intro m ρ m' ρ' _ hagree
  refine ⟨_, _, _, Cert.AdamNormIdeal.Value.run m ρ, (θ_run Cert.AdamNormRefIdeal.defs _ _).mono (fun _ h c => ?_) (Cert.AdamNormRefIdeal.Value.run (F := Ideal) m' ρ')⟩
  have h := h c
  rw [(hagree c).1, (hagree c).2.1, (hagree c).2.2.1, (hagree c).2.2.2] at h ⊢
  exact ⟨h.1, h.2.1, h.2.2.1, h.2.2.2⟩

end Cert.AdamNormOwn

namespace Cert.AdamRowOwn

theorem frame_kernel : Cert.quiescent_AdamRow (hAdamRow := Cert.AdamRow.Gen.facts) := fun m ρ _ => Cert.AdamRow.Gen.frame m ρ

theorem frame_ideal : Cert.quiescent_AdamRowIdeal (hAdamRowIdeal := Cert.AdamRowIdeal.Gen.facts) := fun m ρ _ => Cert.AdamRowIdeal.Gen.frame m ρ

theorem frame_ref : Cert.quiescent_AdamRowRefIdeal (hAdamRowRefIdeal := Cert.AdamRowRefIdeal.Gen.facts) := fun m ρ _ =>
  (θ_run Cert.AdamRowRefIdeal.defs _ _).mono (fun r h => ⟨fun c => (h c).2.2.2, sem_eq_zero_of_no_sems (by decide) r.2⟩) (Cert.AdamRowRefIdeal.Value.run (F := Ideal) m ρ)

theorem algebraic : Cert.algebraic_AdamRowIdeal_AdamRowRefIdeal (hAdamRowIdeal := Cert.AdamRowIdeal.Gen.facts) (hAdamRowRefIdeal := Cert.AdamRowRefIdeal.Gen.facts) := by
  intro m ρ m' ρ' _ hagree
  refine ⟨_, _, _, Cert.AdamRowIdeal.Value.run m ρ, (θ_run Cert.AdamRowRefIdeal.defs _ _).mono (fun _ h c => ?_) (Cert.AdamRowRefIdeal.Value.run (F := Ideal) m' ρ')⟩
  have h := h c
  rw [(hagree c).1, (hagree c).2.1, (hagree c).2.2.1, (hagree c).2.2.2] at h ⊢
  exact ⟨h.1, h.2.1, h.2.2.1, h.2.2.2⟩

end Cert.AdamRowOwn

namespace Cert.AdamFinalOwn

theorem frame_kernel : Cert.quiescent_AdamFinal (hAdamFinal := Cert.AdamFinal.Gen.facts) := fun m ρ _ => Cert.AdamFinal.Gen.frame m ρ

theorem frame_ideal : Cert.quiescent_AdamFinalIdeal (hAdamFinalIdeal := Cert.AdamFinalIdeal.Gen.facts) := fun m ρ _ => Cert.AdamFinalIdeal.Gen.frame m ρ

theorem frame_ref : Cert.quiescent_AdamFinalRefIdeal (hAdamFinalRefIdeal := Cert.AdamFinalRefIdeal.Gen.facts) := fun m ρ _ =>
  (θ_run Cert.AdamFinalRefIdeal.defs _ _).mono (fun r h => ⟨fun c => (h c).2.2.2, sem_eq_zero_of_no_sems (by decide) r.2⟩) (Cert.AdamFinalRefIdeal.Value.run (F := Ideal) m ρ)

theorem algebraic : Cert.algebraic_AdamFinalIdeal_AdamFinalRefIdeal (hAdamFinalIdeal := Cert.AdamFinalIdeal.Gen.facts) (hAdamFinalRefIdeal := Cert.AdamFinalRefIdeal.Gen.facts) := by
  intro m ρ m' ρ' _ hagree
  refine ⟨_, _, _, Cert.AdamFinalIdeal.Value.run m ρ, (θ_run Cert.AdamFinalRefIdeal.defs _ _).mono (fun _ h c => ?_) (Cert.AdamFinalRefIdeal.Value.run (F := Ideal) m' ρ')⟩
  have h := h c
  rw [(hagree c).1, (hagree c).2.1, (hagree c).2.2.1, (hagree c).2.2.2] at h ⊢
  exact ⟨h.1, h.2.1, h.2.2.1, h.2.2.2⟩

end Cert.AdamFinalOwn

end
-- ==== Proof.lean ====
/- The claims of the certificate, put together from the modules that prove them call by call. -/
module

public import proofs.«01_k».proof.Defs
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import proofs.«01_k».proof.Proof.Gen.WIn.Frame
public import proofs.«01_k».proof.Proof.Gen.WInIdeal.Value
public import proofs.«01_k».proof.Proof.Gen.WInRefIdeal.Run
public import proofs.«01_k».proof.Proof.Gen.WInRefIdeal.Read
public import proofs.«01_k».proof.Proof.Gen.WOut.Frame
public import proofs.«01_k».proof.Proof.Gen.WOutIdeal.Value
public import proofs.«01_k».proof.Proof.Gen.WOutRefIdeal.Run
public import proofs.«01_k».proof.Proof.Gen.WOutRefIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.OutBwd.Frame
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.NormBwd.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.FirstNorm.Frame
public import proofs.«01_k».proof.Proof.Gen.FirstNormIdeal.Value
public import proofs.«01_k».proof.Proof.Gen.FirstNormRefIdeal.Run
public import proofs.«01_k».proof.Proof.Gen.FirstNormRefIdeal.Read
public import proofs.«01_k».proof.Proof.Gen.Rows.Frame
public import proofs.«01_k».proof.Proof.Gen.RowsIdeal.Value
public import proofs.«01_k».proof.Proof.Gen.RowsRefIdeal.Run
public import proofs.«01_k».proof.Proof.Gen.RowsRefIdeal.Read
public import proofs.«01_k».proof.Proof.Gen.AddIn0.Frame
public import proofs.«01_k».proof.Proof.Gen.AddIn0Ideal.Frame
public import proofs.«01_k».proof.Proof.Gen.AddIn0RefIdeal.Run
public import proofs.«01_k».proof.Proof.Gen.AddIn0RefIdeal.Read
public import proofs.«01_k».proof.Proof.Gen.AddIn1.Frame
public import proofs.«01_k».proof.Proof.Gen.AddIn1Ideal.Frame
public import proofs.«01_k».proof.Proof.Gen.AddIn1RefIdeal.Run
public import proofs.«01_k».proof.Proof.Gen.AddIn1RefIdeal.Read
public import proofs.«01_k».proof.Proof.Gen.AddIn2.Frame
public import proofs.«01_k».proof.Proof.Gen.AddIn2Ideal.Frame
public import proofs.«01_k».proof.Proof.Gen.AddIn2RefIdeal.Run
public import proofs.«01_k».proof.Proof.Gen.AddIn2RefIdeal.Read
public import proofs.«01_k».proof.Proof.Gen.AddOut0.Frame
public import proofs.«01_k».proof.Proof.Gen.AddOut0Ideal.Frame
public import proofs.«01_k».proof.Proof.Gen.AddOut0RefIdeal.Run
public import proofs.«01_k».proof.Proof.Gen.AddOut0RefIdeal.Read
public import proofs.«01_k».proof.Proof.Gen.AddOut1.Frame
public import proofs.«01_k».proof.Proof.Gen.AddOut1Ideal.Frame
public import proofs.«01_k».proof.Proof.Gen.AddOut1RefIdeal.Run
public import proofs.«01_k».proof.Proof.Gen.AddOut1RefIdeal.Read
public import proofs.«01_k».proof.Proof.Gen.AddOut2.Frame
public import proofs.«01_k».proof.Proof.Gen.AddOut2Ideal.Frame
public import proofs.«01_k».proof.Proof.Gen.AddOut2RefIdeal.Run
public import proofs.«01_k».proof.Proof.Gen.AddOut2RefIdeal.Read
public import proofs.«01_k».proof.Proof.Gen.CastIn.Frame
public import proofs.«01_k».proof.Proof.Gen.CastInIdeal.Value
public import proofs.«01_k».proof.Proof.Gen.CastInRefIdeal.Run
public import proofs.«01_k».proof.Proof.Gen.CastInRefIdeal.Read
public import proofs.«01_k».proof.Proof.Gen.CastOut.Frame
public import proofs.«01_k».proof.Proof.Gen.CastOutIdeal.Value
public import proofs.«01_k».proof.Proof.Gen.CastOutRefIdeal.Run
public import proofs.«01_k».proof.Proof.Gen.CastOutRefIdeal.Read
public import proofs.«01_k».proof.Proof.Gen.AdamWIn.Frame
public import proofs.«01_k».proof.Proof.Gen.AdamWInIdeal.Value
public import proofs.«01_k».proof.Proof.Gen.AdamWInRefIdeal.Run
public import proofs.«01_k».proof.Proof.Gen.AdamWInRefIdeal.Read
public import proofs.«01_k».proof.Proof.Gen.AdamWOut.Frame
public import proofs.«01_k».proof.Proof.Gen.AdamWOutIdeal.Value
public import proofs.«01_k».proof.Proof.Gen.AdamWOutRefIdeal.Run
public import proofs.«01_k».proof.Proof.Gen.AdamWOutRefIdeal.Read
public import proofs.«01_k».proof.Proof.Gen.AdamTaps.Frame
public import proofs.«01_k».proof.Proof.Gen.AdamTapsIdeal.Value
public import proofs.«01_k».proof.Proof.Gen.AdamTapsRefIdeal.Run
public import proofs.«01_k».proof.Proof.Gen.AdamTapsRefIdeal.Read
public import proofs.«01_k».proof.Proof.Gen.AdamTaps4.Frame
public import proofs.«01_k».proof.Proof.Gen.AdamTaps4Ideal.Value
public import proofs.«01_k».proof.Proof.Gen.AdamTaps4RefIdeal.Run
public import proofs.«01_k».proof.Proof.Gen.AdamTaps4RefIdeal.Read
public import proofs.«01_k».proof.Proof.Gen.AdamGate.Frame
public import proofs.«01_k».proof.Proof.Gen.AdamGateIdeal.Value
public import proofs.«01_k».proof.Proof.Gen.AdamGateRefIdeal.Run
public import proofs.«01_k».proof.Proof.Gen.AdamGateRefIdeal.Read
public import proofs.«01_k».proof.Proof.Gen.AdamNorm.Frame
public import proofs.«01_k».proof.Proof.Gen.AdamNormIdeal.Value
public import proofs.«01_k».proof.Proof.Gen.AdamNormRefIdeal.Run
public import proofs.«01_k».proof.Proof.Gen.AdamNormRefIdeal.Read
public import proofs.«01_k».proof.Proof.Gen.AdamRow.Frame
public import proofs.«01_k».proof.Proof.Gen.AdamRowIdeal.Value
public import proofs.«01_k».proof.Proof.Gen.AdamRowRefIdeal.Run
public import proofs.«01_k».proof.Proof.Gen.AdamRowRefIdeal.Read
public import proofs.«01_k».proof.Proof.Gen.AdamFinal.Frame
public import proofs.«01_k».proof.Proof.Gen.AdamFinalIdeal.Value
public import proofs.«01_k».proof.Proof.Gen.AdamFinalRefIdeal.Run
public import proofs.«01_k».proof.Proof.Gen.AdamFinalRefIdeal.Read
public import proofs.«01_k».proof.Proof.MixClaim
public import proofs.«01_k».proof.Proof.WInClaim
public import proofs.«01_k».proof.Proof.WOutClaim
public import proofs.«01_k».proof.Proof.InProjClaim
public import proofs.«01_k».proof.Proof.OutProjClaim
public import proofs.«01_k».proof.Proof.OutBwdClaim
public import proofs.«01_k».proof.Proof.LossClaim
public import proofs.«01_k».proof.Proof.NormBwdClaim
public import proofs.«01_k».proof.Proof.FirstNormClaim
public import proofs.«01_k».proof.Proof.RowsClaim
public import proofs.«01_k».proof.Proof.CastClaim
public import proofs.«01_k».proof.Proof.AddInClaim
public import proofs.«01_k».proof.Proof.AddOutClaim
public import proofs.«01_k».proof.Proof.AdamClaim
public import Idealize.ShloMosaic.Adequacy
public import Idealize.ShloMosaic.Init
public import Idealize.ShloMosaic.Lib.Quiescent

@[expose] public section

noncomputable section

namespace Cert.Proof

theorem claim : Cert.Claim := ⟨Cert.Mix.Gen.facts, Cert.MixIdeal.Gen.facts, Cert.MixRefIdeal.Gen.facts, Cert.WIn.Gen.facts, Cert.WInIdeal.Gen.facts, Cert.WInRefIdeal.Gen.facts, Cert.WOut.Gen.facts, Cert.WOutIdeal.Gen.facts, Cert.WOutRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.OutBwd.Gen.facts, Cert.OutBwdIdeal.Gen.facts, Cert.OutBwdRefIdeal.Gen.facts, Cert.Loss.Gen.facts, Cert.LossIdeal.Gen.facts, Cert.LossRefIdeal.Gen.facts, Cert.NormBwd.Gen.facts, Cert.NormBwdIdeal.Gen.facts, Cert.NormBwdRefIdeal.Gen.facts,
  Cert.FirstNorm.Gen.facts, Cert.FirstNormIdeal.Gen.facts, Cert.FirstNormRefIdeal.Gen.facts, Cert.Rows.Gen.facts, Cert.RowsIdeal.Gen.facts, Cert.RowsRefIdeal.Gen.facts, Cert.CastIn.Gen.facts, Cert.CastInIdeal.Gen.facts, Cert.CastInRefIdeal.Gen.facts, Cert.CastOut.Gen.facts, Cert.CastOutIdeal.Gen.facts, Cert.CastOutRefIdeal.Gen.facts,
  Cert.AddIn0.Gen.facts, Cert.AddIn0Ideal.Gen.facts, Cert.AddIn0RefIdeal.Gen.facts, Cert.AddIn1.Gen.facts, Cert.AddIn1Ideal.Gen.facts, Cert.AddIn1RefIdeal.Gen.facts, Cert.AddIn2.Gen.facts, Cert.AddIn2Ideal.Gen.facts, Cert.AddIn2RefIdeal.Gen.facts, Cert.AddOut0.Gen.facts, Cert.AddOut0Ideal.Gen.facts, Cert.AddOut0RefIdeal.Gen.facts, Cert.AddOut1.Gen.facts, Cert.AddOut1Ideal.Gen.facts, Cert.AddOut1RefIdeal.Gen.facts, Cert.AddOut2.Gen.facts, Cert.AddOut2Ideal.Gen.facts, Cert.AddOut2RefIdeal.Gen.facts,
  Cert.AdamWIn.Gen.facts, Cert.AdamWInIdeal.Gen.facts, Cert.AdamWInRefIdeal.Gen.facts, Cert.AdamWOut.Gen.facts, Cert.AdamWOutIdeal.Gen.facts, Cert.AdamWOutRefIdeal.Gen.facts, Cert.AdamTaps.Gen.facts, Cert.AdamTapsIdeal.Gen.facts, Cert.AdamTapsRefIdeal.Gen.facts, Cert.AdamTaps4.Gen.facts, Cert.AdamTaps4Ideal.Gen.facts, Cert.AdamTaps4RefIdeal.Gen.facts, Cert.AdamGate.Gen.facts, Cert.AdamGateIdeal.Gen.facts, Cert.AdamGateRefIdeal.Gen.facts, Cert.AdamNorm.Gen.facts, Cert.AdamNormIdeal.Gen.facts, Cert.AdamNormRefIdeal.Gen.facts, Cert.AdamRow.Gen.facts, Cert.AdamRowIdeal.Gen.facts, Cert.AdamRowRefIdeal.Gen.facts, Cert.AdamFinal.Gen.facts, Cert.AdamFinalIdeal.Gen.facts, Cert.AdamFinalRefIdeal.Gen.facts, inferInstance, inferInstance, inferInstance, inferInstance, inferInstance, inferInstance, inferInstance, inferInstance,
  Cert.MixRun.frame_kernel, Cert.MixRun.frame_ideal, Cert.MixRun.frame_ideal_finite, Cert.MixRun.frame_ref, Cert.MixRun.frame_ref_finite,
  Cert.WInOwn.frame_kernel, Cert.WInOwn.frame_ideal, Cert.WInOwn.frame_ref, Cert.WOutOwn.frame_kernel, Cert.WOutOwn.frame_ideal, Cert.WOutOwn.frame_ref, Cert.InProjOwn.frame_kernel, Cert.InProjOwn.frame_ideal, Cert.InProjOwn.frame_ref, Cert.OutProjOwn.frame_kernel, Cert.OutProjOwn.frame_ideal, Cert.OutProjOwn.frame_ref, Cert.OutBwdOwn.frame_kernel, Cert.OutBwdOwn.frame_ideal, Cert.OutBwdOwn.frame_ref, Cert.LossOwn.frame_kernel, Cert.LossOwn.frame_ideal, Cert.LossOwn.frame_ref, Cert.NormBwdOwn.frame_kernel, Cert.NormBwdOwn.frame_ideal, Cert.NormBwdOwn.frame_ref,
  Cert.FirstNormOwn.frame_kernel, Cert.FirstNormOwn.frame_ideal, Cert.FirstNormOwn.frame_ref, Cert.RowsOwn.frame_kernel, Cert.RowsOwn.frame_ideal, Cert.RowsOwn.frame_ref, Cert.CastInOwn.frame_kernel, Cert.CastInOwn.frame_ideal, Cert.CastInOwn.frame_ref, Cert.CastOutOwn.frame_kernel, Cert.CastOutOwn.frame_ideal, Cert.CastOutOwn.frame_ref,
  Cert.AddIn0Own.frame_kernel, Cert.AddIn0Own.frame_ideal, Cert.AddIn0Own.frame_ref, Cert.AddIn0Own.frame_ref_half, Cert.AddIn1Own.frame_kernel, Cert.AddIn1Own.frame_ideal, Cert.AddIn1Own.frame_ref, Cert.AddIn1Own.frame_ref_half, Cert.AddIn2Own.frame_kernel, Cert.AddIn2Own.frame_ideal, Cert.AddIn2Own.frame_ref, Cert.AddIn2Own.frame_ref_half, Cert.AddOut0Own.frame_kernel, Cert.AddOut0Own.frame_ideal, Cert.AddOut0Own.frame_ref, Cert.AddOut0Own.frame_ref_half, Cert.AddOut1Own.frame_kernel, Cert.AddOut1Own.frame_ideal, Cert.AddOut1Own.frame_ref, Cert.AddOut1Own.frame_ref_half, Cert.AddOut2Own.frame_kernel, Cert.AddOut2Own.frame_ideal, Cert.AddOut2Own.frame_ref, Cert.AddOut2Own.frame_ref_half,
  Cert.AdamWInOwn.frame_kernel, Cert.AdamWInOwn.frame_ideal, Cert.AdamWInOwn.frame_ref, Cert.AdamWOutOwn.frame_kernel, Cert.AdamWOutOwn.frame_ideal, Cert.AdamWOutOwn.frame_ref, Cert.AdamTapsOwn.frame_kernel, Cert.AdamTapsOwn.frame_ideal, Cert.AdamTapsOwn.frame_ref, Cert.AdamTaps4Own.frame_kernel, Cert.AdamTaps4Own.frame_ideal, Cert.AdamTaps4Own.frame_ref, Cert.AdamGateOwn.frame_kernel, Cert.AdamGateOwn.frame_ideal, Cert.AdamGateOwn.frame_ref, Cert.AdamNormOwn.frame_kernel, Cert.AdamNormOwn.frame_ideal, Cert.AdamNormOwn.frame_ref, Cert.AdamRowOwn.frame_kernel, Cert.AdamRowOwn.frame_ideal, Cert.AdamRowOwn.frame_ref, Cert.AdamFinalOwn.frame_kernel, Cert.AdamFinalOwn.frame_ideal, Cert.AdamFinalOwn.frame_ref,
  trivial, Cert.MixRun.algebraic, trivial, Cert.WInOwn.algebraic, trivial, Cert.WOutOwn.algebraic, trivial, Cert.InProjOwn.algebraic, trivial, Cert.OutProjOwn.algebraic, trivial, Cert.OutBwdOwn.algebraic, trivial, Cert.LossOwn.algebraic, trivial, Cert.NormBwdOwn.algebraic, trivial, Cert.FirstNormOwn.algebraic, trivial, Cert.RowsOwn.algebraic, trivial, Cert.CastInOwn.algebraic, trivial, Cert.CastOutOwn.algebraic,
  trivial, Cert.AddIn0Own.algebraic, trivial, Cert.AddIn1Own.algebraic, trivial, Cert.AddIn2Own.algebraic, trivial, Cert.AddOut0Own.algebraic, trivial, Cert.AddOut1Own.algebraic, trivial, Cert.AddOut2Own.algebraic,
  trivial, Cert.AdamWInOwn.algebraic, trivial, Cert.AdamWOutOwn.algebraic, trivial, Cert.AdamTapsOwn.algebraic, trivial, Cert.AdamTaps4Own.algebraic, trivial, Cert.AdamGateOwn.algebraic, trivial, Cert.AdamNormOwn.algebraic, trivial, Cert.AdamRowOwn.algebraic, trivial, Cert.AdamFinalOwn.algebraic⟩

end Cert.Proof

end
